-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite [hPre_gates_finite : Cert.Pre_gates_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite [hPre_gates_finite : Cert.Pre_gates_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_gates_finite [hKernelIdeal : Cert.KernelIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_gates_finite [hReferenceIdeal : Cert.ReferenceIdeal.Facts] [hPre_gates_finite : Cert.Pre_gates_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "log2e_over_tau" .f32 0x3DB8AA3B#32 (((Real.log 2)⁻¹ * 16⁻¹ : ℝ) : EReal)

def algebraic_KernelIdeal_ReferenceIdeal_pre_gates_finite [hKernelIdeal : Cert.KernelIdeal.Facts] [hReferenceIdeal : Cert.ReferenceIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_gates_finite : Cert.Pre_gates_finite.Facts),
    quiescent_Kernel (hKernel := hKernel)
    ∧ quiescent_KernelIdeal (hKernelIdeal := hKernelIdeal)
    ∧ quiescent_KernelIdeal_pre_gates_finite (hKernelIdeal := hKernelIdeal) (hPre_gates_finite := hPre_gates_finite)
    ∧ quiescent_ReferenceIdeal (hReferenceIdeal := hReferenceIdeal)
    ∧ quiescent_ReferenceIdeal_pre_gates_finite (hReferenceIdeal := hReferenceIdeal) (hPre_gates_finite := hPre_gates_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_gates_finite (hKernelIdeal := hKernelIdeal) (hReferenceIdeal := hReferenceIdeal) (hPre_gates_finite := hPre_gates_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_gates_finite.lean ====
abbrev S1024x9216 : Shape := ⟨2, ![1024, 9216]⟩
abbrev S1024x16 : Shape := ⟨2, ![1024, 16]⟩
abbrev S1024x1024 : Shape := ⟨2, ![1024, 1024]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x1024 : Shape := ⟨2, ![1, 1024]⟩
abbrev S1x1024x2048 : Shape := ⟨3, ![1, 1024, 2048]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S1x16x512 : S_.BroadcastsInDim S1x16x512 (![] : Fin 0 → Fin S1x16x512.rank)
  reducesTo_S1x16x512_S_d0_1_2 : S1x16x512.ReducesTo [0, 1, 2] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S1024x9216 .f32) (main_arg1 : FVec F S1024x16 .f32) (main_arg2 : FVec F S1024x1024 .bf16) (main_arg3 : FVec F S1x128x4x128x256 .f32) (main_arg4 : FVec F S1x16x512 .f32) (main_arg5 : FVec F S1x512 .f32) (main_arg6 : FVec F S1x1024 .f32) (main_arg7 : FVec F S1x1024x2048 .f32) (main_arg8 : FVec F S1x1024x2048 .f32) : IVec S_ 1 :=
  let main_v0 : FVec F S1024x16 .f32 := Host.absf main_arg1
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S1x16x512 .f32 := Host.absf main_arg4
  let main_cst_0 : FVec F S_ .f32 := constant S_ .f32 0x7F800000#32
  let main_v5 : FVec F S1x16x512 .f32 := broadcastInDim S1x16x512 ![] bcast_S_S1x16x512 main_cst_0
  let main_v6 : IVec S1x16x512 1 := cmpf .olt main_v4 main_v5
  let main_c_1 : IVec S_ 1 := constantI S_ 1 1#1
  let main_v7 : IVec S_ 1 := (fun x v => Host.reduce IntOp.andi x v reducesTo_S1x16x512_S_d0_1_2 h_S_) main_v6 main_c_1
  let main_v8 : IVec S_ 1 := andi main_v3 main_v7
  let main_v9 : FVec F S1x512 .f32 := Host.absf main_arg5
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  main_v13
-- ==== Kernel.lean ====
abbrev S1024x9216 : Shape := ⟨2, ![1024, 9216]⟩
abbrev S1024x16 : Shape := ⟨2, ![1024, 16]⟩
abbrev S1024x1024 : Shape := ⟨2, ![1024, 1024]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x1024 : Shape := ⟨2, ![1, 1024]⟩
abbrev S1x1024x2048 : Shape := ⟨3, ![1, 1024, 2048]⟩
abbrev S16x512 : Shape := ⟨2, ![16, 512]⟩
abbrev S1024x2048 : Shape := ⟨2, ![1024, 2048]⟩
abbrev S128x4x128x256 : Shape := ⟨4, ![128, 4, 128, 256]⟩
abbrev S128x128 : Shape := ⟨2, ![128, 128]⟩
abbrev S_ : Shape := ⟨0, ![]⟩
abbrev S640x128 : Shape := ⟨2, ![640, 128]⟩
abbrev S128x512 : Shape := ⟨2, ![128, 512]⟩
abbrev S128x1024 : Shape := ⟨2, ![128, 1024]⟩
abbrev S128x16 : Shape := ⟨2, ![128, 16]⟩
abbrev S16x4x128x256 : Shape := ⟨4, ![16, 4, 128, 256]⟩
abbrev S128x2048 : Shape := ⟨2, ![128, 2048]⟩
abbrev S4x128x256 : Shape := ⟨3, ![4, 128, 256]⟩
abbrev S128x1 : Shape := ⟨2, ![128, 1]⟩
abbrev S640x512 : Shape := ⟨2, ![640, 512]⟩
abbrev S16x8x512 : Shape := ⟨3, ![16, 8, 512]⟩
abbrev S16x1x512 : Shape := ⟨3, ![16, 1, 512]⟩
abbrev S8x512 : Shape := ⟨2, ![8, 512]⟩
abbrev S128x256 : Shape := ⟨2, ![128, 256]⟩
abbrev S128 : Shape := ⟨1, ![128]⟩
abbrev S1x1x128x256 : Shape := ⟨4, ![1, 1, 128, 256]⟩
abbrev S8x128 : Shape := ⟨2, ![8, 128]⟩
abbrev S8x256 : Shape := ⟨2, ![8, 256]⟩
abbrev S1x128 : Shape := ⟨2, ![1, 128]⟩

abbrev nBuf : Space → Nat
  | .hbm => 69
  | .vmem => 33
  | .smem => 0
  | _ => 0

abbrev bufTy : (tb : Table) → Fin (tcTables nBuf tb) → BufTy
  | .hbm, ⟨0, _⟩ => ⟨S1024x9216, .f32⟩
  | .hbm, ⟨1, _⟩ => ⟨S1024x16, .f32⟩
  | .hbm, ⟨2, _⟩ => ⟨S1024x1024, .bf16⟩
  | .hbm, ⟨3, _⟩ => ⟨S1x128x4x128x256, .f32⟩
  | .hbm, ⟨4, _⟩ => ⟨S1x16x512, .f32⟩
  | .hbm, ⟨5, _⟩ => ⟨S1x512, .f32⟩
  | .hbm, ⟨6, _⟩ => ⟨S1x1024, .f32⟩
  | .hbm, ⟨7, _⟩ => ⟨S1x1024x2048, .f32⟩
  | .hbm, ⟨8, _⟩ => ⟨S1x1024x2048, .f32⟩
  | .hbm, ⟨9, _⟩ => ⟨S16x512, .f32⟩
  | .hbm, ⟨10, _⟩ => ⟨S16x512, .bf16⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S128x4x128x256, .f32⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S128x128, .i1⟩
  | .hbm, ⟨26, _⟩ => ⟨S128x128, .i1⟩
  | .hbm, ⟨27, _⟩ => ⟨S_, .i32⟩
  | .hbm, ⟨28, _⟩ => ⟨S128x128, .i32⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S128x128, .i1⟩
  | .hbm, ⟨35, _⟩ => ⟨S128x128, .i1⟩
  | .hbm, ⟨36, _⟩ => ⟨S_, .i32⟩
  | .hbm, ⟨37, _⟩ => ⟨S128x128, .i32⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i1⟩
  | .hbm, ⟨43, _⟩ => ⟨S_, .i32⟩
  | .hbm, ⟨44, _⟩ => ⟨S128x128, .i32⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S128x128, .i1⟩
  | .hbm, ⟨51, _⟩ => ⟨S128x128, .i1⟩
  | .hbm, ⟨52, _⟩ => ⟨S_, .i32⟩
  | .hbm, ⟨53, _⟩ => ⟨S128x128, .i32⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S128x128, .i1⟩
  | .hbm, ⟨59, _⟩ => ⟨S640x128, .i1⟩
  | .hbm, ⟨60, _⟩ => ⟨S_, .f32⟩
  | .hbm, ⟨61, _⟩ => ⟨S_, .f32⟩
  | .hbm, ⟨62, _⟩ => ⟨S640x128, .f32⟩
  | .hbm, ⟨63, _⟩ => ⟨S640x128, .f32⟩
  | .hbm, ⟨64, _⟩ => ⟨S640x128, .f32⟩
  | .hbm, ⟨65, _⟩ => ⟨S640x128, .f32⟩
  | .hbm, ⟨66, _⟩ => ⟨S640x128, .bf16⟩
  | .hbm, ⟨67, _⟩ => ⟨S1024x2048, .bf16⟩
  | .hbm, ⟨68, _⟩ => ⟨S128x4x128x256, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x16, .f32⟩
  | .local _ .vmem, ⟨17, _⟩ => ⟨S128x16, .f32⟩
  | .local _ .vmem, ⟨18, _⟩ => ⟨S128x1024, .bf16⟩
  | .local _ .vmem, ⟨19, _⟩ => ⟨S128x1024, .bf16⟩
  | .local _ .vmem, ⟨20, _⟩ => ⟨S16x4x128x256, .f32⟩
  | .local _ .vmem, ⟨21, _⟩ => ⟨S16x4x128x256, .f32⟩
  | .local _ .vmem, ⟨22, _⟩ => ⟨S640x128, .bf16⟩
  | .local _ .vmem, ⟨23, _⟩ => ⟨S16x512, .bf16⟩
  | .local _ .vmem, ⟨24, _⟩ => ⟨S1x512, .f32⟩
  | .local _ .vmem, ⟨25, _⟩ => ⟨S1x1024, .f32⟩
  | .local _ .vmem, ⟨26, _⟩ => ⟨S1024x2048, .bf16⟩
  | .local _ .vmem, ⟨27, _⟩ => ⟨S1024x2048, .bf16⟩
  | .local _ .vmem, ⟨28, _⟩ => ⟨S128x2048, .bf16⟩
  | .local _ .vmem, ⟨29, _⟩ => ⟨S128x2048, .bf16⟩
  | .local _ .vmem, ⟨30, _⟩ => ⟨S16x4x128x256, .f32⟩
  | .local _ .vmem, ⟨31, _⟩ => ⟨S16x4x128x256, .f32⟩
  | .local _ .vmem, ⟨32, _⟩ => ⟨S4x128x256, .f32⟩
  | _, _ => ⟨S1024x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_cst_9 : Ref sig .tc := ⟨.hbm, 61, rfl⟩
abbrev main_call0_v0 : Ref sig .tc := ⟨.hbm, 62, rfl⟩
abbrev main_call0_v1 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44_0 : Ref sig .tc := ⟨.hbm, 67, rfl⟩
abbrev main_v44_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S640x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S16x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S128x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S16x4x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== KernelIdeal.lean ====
variable {F : FTy → Type} [FloatOps F] [Named F]
def κ : String → Option EReal := fun
  | "log2e_over_tau" => some (((Real.log 2)⁻¹ * 16⁻¹ : ℝ) : EReal)
  | _ => none
-- ==== ReferenceIdeal.lean ====
abbrev S1024x9216 : Shape := ⟨2, ![1024, 9216]⟩
abbrev S1024x16 : Shape := ⟨2, ![1024, 16]⟩
abbrev S1024x1024 : Shape := ⟨2, ![1024, 1024]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x1024 : Shape := ⟨2, ![1, 1024]⟩
abbrev S1x1024x2048 : Shape := ⟨3, ![1, 1024, 2048]⟩
abbrev S1024x512 : Shape := ⟨2, ![1024, 512]⟩
abbrev S1024x2048 : Shape := ⟨2, ![1024, 2048]⟩
abbrev S16x512 : Shape := ⟨2, ![16, 512]⟩
abbrev S512 : Shape := ⟨1, ![512]⟩
abbrev S_ : Shape := ⟨0, ![]⟩
abbrev S128x8x4x128 : Shape := ⟨4, ![128, 8, 4, 128]⟩
abbrev S128x8x4x256 : Shape := ⟨4, ![128, 8, 4, 256]⟩
abbrev S128x1x4x128 : Shape := ⟨4, ![128, 1, 4, 128]⟩
abbrev S128x4x128 : Shape := ⟨3, ![128, 4, 128]⟩
abbrev S8x8 : Shape := ⟨2, ![8, 8]⟩
abbrev S1x8x8x1x1 : Shape := ⟨5, ![1, 8, 8, 1, 1]⟩
abbrev S128x8x1x4x128 : Shape := ⟨5, ![128, 8, 1, 4, 128]⟩
abbrev S128x1x8x4x128 : Shape := ⟨5, ![128, 1, 8, 4, 128]⟩
abbrev S128x8x8x4x128 : Shape := ⟨5, ![128, 8, 8, 4, 128]⟩
abbrev S128x8x8x4 : Shape := ⟨4, ![128, 8, 8, 4]⟩
abbrev S128x4x256x8 : Shape := ⟨4, ![128, 4, 256, 8]⟩
abbrev S128x4x128x256 : Shape := ⟨4, ![128, 4, 128, 256]⟩
abbrev S128x4x128x1 : Shape := ⟨4, ![128, 4, 128, 1]⟩
abbrev S128x8x4 : Shape := ⟨3, ![128, 8, 4]⟩
abbrev S128x8x4x1 : Shape := ⟨4, ![128, 8, 4, 1]⟩
abbrev S1024 : Shape := ⟨1, ![1024]⟩

abbrev nBuf : Space → Nat
  | .hbm => 162
  | .vmem => 0
  | .smem => 0
  | _ => 0

abbrev hbmTy0_0 (i : Nat) : BufTy := match i % 128 with
  | 0 => ⟨S1024x9216, .f32⟩
  | 1 => ⟨S1024x16, .f32⟩
  | 2 => ⟨S1024x1024, .bf16⟩
  | 3 => ⟨S1x128x4x128x256, .f32⟩
  | 4 => ⟨S1x16x512, .f32⟩
  | 5 => ⟨S1x512, .f32⟩
  | 6 => ⟨S1x1024, .f32⟩
  | 7 => ⟨S1x1024x2048, .f32⟩
  | 8 => ⟨S1x1024x2048, .f32⟩
  | 9 => ⟨S1024x1024, .f32⟩
  | 10 => ⟨S1024x1024, .f32⟩
  | 11 => ⟨S1024x512, .f32⟩
  | 12 => ⟨S1024x512, .f32⟩
  | 13 => ⟨S1024x1024, .f32⟩
  | 14 => ⟨S1024x1024, .f32⟩
  | 15 => ⟨S1024x2048, .f32⟩
  | 16 => ⟨S1024x2048, .f32⟩
  | 17 => ⟨S1024x1024, .f32⟩
  | 18 => ⟨S1024x2048, .f32⟩
  | 19 => ⟨S1024x2048, .f32⟩
  | 20 => ⟨S16x512, .f32⟩
  | 21 => ⟨S1024x512, .f32⟩
  | 22 => ⟨S512, .f32⟩
  | 23 => ⟨S1x512, .f32⟩
  | 24 => ⟨S1024x512, .f32⟩
  | 25 => ⟨S1024x512, .f32⟩
  | 26 => ⟨S1024x512, .f32⟩
  | 27 => ⟨S_, .f32⟩
  | 28 => ⟨S1024x512, .f32⟩
  | 29 => ⟨S1024x512, .f32⟩
  | 30 => ⟨S1024x512, .f32⟩
  | 31 => ⟨S1024x512, .f32⟩
  | 32 => ⟨S1024x512, .i1⟩
  | 33 => ⟨S1024x512, .f32⟩
  | 34 => ⟨S1024x512, .f32⟩
  | 35 => ⟨S1024x512, .f32⟩
  | 36 => ⟨S1024x512, .f32⟩
  | 37 => ⟨S1024x512, .f32⟩
  | 38 => ⟨S1024x512, .f32⟩
  | 39 => ⟨S1024x512, .f32⟩
  | 40 => ⟨S1024x512, .f32⟩
  | 41 => ⟨S1024x512, .f32⟩
  | 42 => ⟨S_, .f32⟩
  | 43 => ⟨S1024x512, .f32⟩
  | 44 => ⟨S1024x512, .f32⟩
  | 45 => ⟨S128x8x4x128, .f32⟩
  | 46 => ⟨S_, .f32⟩
  | 47 => ⟨S128x8x4x128, .f32⟩
  | 48 => ⟨S128x8x4x128, .f32⟩
  | 49 => ⟨S128x8x4x128, .f32⟩
  | 50 => ⟨S128x8x4x256, .f32⟩
  | 51 => ⟨S128x8x4x128, .f32⟩
  | 52 => ⟨S_, .f32⟩
  | 53 => ⟨S_, .f32⟩
  | 54 => ⟨S128x8x4x128, .f32⟩
  | 55 => ⟨S128x1x4x128, .f32⟩
  | 56 => ⟨S128x4x128, .f32⟩
  | 57 => ⟨S_, .i1⟩
  | 58 => ⟨S8x8, .i1⟩
  | 59 => ⟨S8x8, .i32⟩
  | 60 => ⟨S_, .i32⟩
  | 61 => ⟨S8x8, .i32⟩
  | 62 => ⟨S8x8, .i32⟩
  | 63 => ⟨S8x8, .i32⟩
  | 64 => ⟨S8x8, .i1⟩
  | 65 => ⟨S_, .i1⟩
  | 66 => ⟨S8x8, .i1⟩
  | 67 => ⟨S8x8, .i1⟩
  | 68 => ⟨S1x8x8x1x1, .i1⟩
  | 69 => ⟨S128x8x1x4x128, .f32⟩
  | 70 => ⟨S128x1x8x4x128, .f32⟩
  | 71 => ⟨S128x8x8x4x128, .f32⟩
  | 72 => ⟨S128x8x8x4x128, .f32⟩
  | 73 => ⟨S128x8x8x4x128, .f32⟩
  | 74 => ⟨S_, .f32⟩
  | 75 => ⟨S_, .f32⟩
  | 76 => ⟨S128x8x8x4x128, .i1⟩
  | 77 => ⟨S128x8x8x4x128, .f32⟩
  | 78 => ⟨S128x8x8x4x128, .f32⟩
  | 79 => ⟨S128x8x8x4x128, .f32⟩
  | 80 => ⟨S_, .f32⟩
  | 81 => ⟨S_, .f32⟩
  | 82 => ⟨S128x8x8x4x128, .i1⟩
  | 83 => ⟨S128x8x8x4x128, .f32⟩
  | 84 => ⟨S128x8x8x4x128, .f32⟩
  | 85 => ⟨S128x8x1x4x128, .f32⟩
  | 86 => ⟨S128x8x8x4x128, .f32⟩
  | 87 => ⟨S128x8x8x4x128, .f32⟩
  | 88 => ⟨S128x1x8x4x128, .f32⟩
  | 89 => ⟨S128x8x8x4x128, .f32⟩
  | 90 => ⟨S128x8x8x4x128, .f32⟩
  | 91 => ⟨S_, .f32⟩
  | 92 => ⟨S128x8x8x4, .f32⟩
  | 93 => ⟨S128x4x256x8, .f32⟩
  | 94 => ⟨S128x8x4x256, .f32⟩
  | 95 => ⟨S128x8x4x128, .f32⟩
  | 96 => ⟨S128x8x4x128, .f32⟩
  | 97 => ⟨S128x1x4x128, .f32⟩
  | 98 => ⟨S128x8x4x128, .f32⟩
  | 99 => ⟨S128x8x4x128, .f32⟩
  | 100 => ⟨S128x8x4x128, .f32⟩
  | 101 => ⟨S128x8x4x128, .f32⟩
  | 102 => ⟨S128x4x128, .f32⟩
  | 103 => ⟨S128x4x128x256, .f32⟩
  | 104 => ⟨S128x4x256x8, .f32⟩
  | 105 => ⟨S128x8x4x256, .f32⟩
  | 106 => ⟨S128x4x128x1, .f32⟩
  | 107 => ⟨S128x4x128x256, .f32⟩
  | 108 => ⟨S128x4x128x256, .f32⟩
  | 109 => ⟨S128x4x128x256, .f32⟩
  | 110 => ⟨S128x4x128x256, .f32⟩
  | 111 => ⟨S128x8x4x256, .f32⟩
  | 112 => ⟨S128x8x4x256, .f32⟩
  | 113 => ⟨S_, .f32⟩
  | 114 => ⟨S128x8x4, .f32⟩
  | 115 => ⟨S128x8x4x1, .f32⟩
  | 116 => ⟨S_, .f32⟩
  | 117 => ⟨S128x8x4x1, .f32⟩
  | 118 => ⟨S128x8x4x1, .f32⟩
  | 119 => ⟨S_, .f32⟩
  | 120 => ⟨S128x8x4x1, .f32⟩
  | 121 => ⟨S128x8x4x1, .f32⟩
  | 122 => ⟨S128x8x4x1, .f32⟩
  | 123 => ⟨S128x8x4x256, .f32⟩
  | 124 => ⟨S128x8x4x256, .f32⟩
  | 125 => ⟨S1024x1024, .f32⟩
  | 126 => ⟨S1024, .f32⟩
  | 127 => ⟨S1x1024, .f32⟩
  | _ => ⟨S1024x9216, .f32⟩

abbrev hbmTy0_1 (i : Nat) : BufTy := match i % 128 with
  | 0 => ⟨S1024x1024, .f32⟩
  | 1 => ⟨S1024x1024, .f32⟩
  | 2 => ⟨S1024x1024, .f32⟩
  | 3 => ⟨S1024x1024, .f32⟩
  | 4 => ⟨S_, .f32⟩
  | 5 => ⟨S1024x1024, .f32⟩
  | 6 => ⟨S1024x1024, .f32⟩
  | 7 => ⟨S_, .f32⟩
  | 8 => ⟨S1024x1024, .f32⟩
  | 9 => ⟨S1024x1024, .f32⟩
  | 10 => ⟨S1024x1024, .f32⟩
  | 11 => ⟨S1024x1024, .f32⟩
  | 12 => ⟨S1024x2048, .f32⟩
  | 13 => ⟨S1024x2048, .f32⟩
  | 14 => ⟨S1024x2048, .f32⟩
  | 15 => ⟨S1024x2048, .f32⟩
  | 16 => ⟨S_, .f32⟩
  | 17 => ⟨S1024x2048, .f32⟩
  | 18 => ⟨S1024x2048, .f32⟩
  | 19 => ⟨S_, .f32⟩
  | 20 => ⟨S1024x2048, .f32⟩
  | 21 => ⟨S1024x2048, .f32⟩
  | 22 => ⟨S1024x2048, .f32⟩
  | 23 => ⟨S1024x2048, .f32⟩
  | 24 => ⟨S1024x2048, .f32⟩
  | 25 => ⟨S_, .f32⟩
  | 26 => ⟨S1024x2048, .f32⟩
  | 27 => ⟨S1024x2048, .f32⟩
  | 28 => ⟨S_, .f32⟩
  | 29 => ⟨S1024x2048, .f32⟩
  | 30 => ⟨S1024x2048, .f32⟩
  | 31 => ⟨S1024x2048, .f32⟩
  | 32 => ⟨S1024x2048, .f32⟩
  | 33 => ⟨S1024x2048, .bf16⟩
  | _ => ⟨S1024x9216, .f32⟩

abbrev hbmTy (i : Nat) : BufTy := match i / 128 with
  | 0 => hbmTy0_0 i
  | 1 => hbmTy0_1 i
  | _ => ⟨S1024x9216, .f32⟩

abbrev bufTy : (tb : Table) → Fin (tcTables nBuf tb) → BufTy
  | .hbm, ⟨i, _⟩ => hbmTy i
  | _, _ => ⟨S1024x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v17 : Ref sig .tc := ⟨.hbm, 41, rfl⟩
abbrev main_cst : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_call1_call0_cst : Ref sig .tc := ⟨.hbm, 52, rfl⟩
abbrev main_call1_call0_v0 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c : Ref sig .tc := ⟨.hbm, 57, rfl⟩
abbrev main_v29 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_0 : Ref sig .tc := ⟨.hbm, 65, rfl⟩
abbrev main_call2_v5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_1 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v37 : Ref sig .tc := ⟨.hbm, 78, rfl⟩
abbrev main_v38 : Ref sig .tc := ⟨.hbm, 79, rfl⟩
abbrev main_cst_2 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_3 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_4 : Ref sig .tc := ⟨.hbm, 113, rfl⟩
abbrev main_v67 : Ref sig .tc := ⟨.hbm, 114, rfl⟩
abbrev main_v68 : Ref sig .tc := ⟨.hbm, 115, rfl⟩
abbrev main_cst_5 : Ref sig .tc := ⟨.hbm, 116, rfl⟩
abbrev main_v69 : Ref sig .tc := ⟨.hbm, 117, rfl⟩
abbrev main_v70 : Ref sig .tc := ⟨.hbm, 118, rfl⟩
abbrev main_cst_6 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_call5_v0 : Ref sig .tc := ⟨.hbm, 130, rfl⟩
abbrev main_call5_v1 : Ref sig .tc := ⟨.hbm, 131, rfl⟩
abbrev main_call5_cst : Ref sig .tc := ⟨.hbm, 132, rfl⟩
abbrev main_call5_v2 : Ref sig .tc := ⟨.hbm, 133, rfl⟩
abbrev main_call5_v3 : Ref sig .tc := ⟨.hbm, 134, rfl⟩
abbrev main_call5_cst_0 : Ref sig .tc := ⟨.hbm, 135, rfl⟩
abbrev main_call5_v4 : Ref sig .tc := ⟨.hbm, 136, rfl⟩
abbrev main_call5_v5 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst_7 : Ref sig .tc := ⟨.hbm, 144, rfl⟩
abbrev main_v87 : Ref sig .tc := ⟨.hbm, 145, rfl⟩
abbrev main_v88 : Ref sig .tc := ⟨.hbm, 146, rfl⟩
abbrev main_cst_8 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_9 : Ref sig .tc := ⟨.hbm, 153, rfl⟩
abbrev main_v94 : Ref sig .tc := ⟨.hbm, 154, rfl⟩
abbrev main_v95 : Ref sig .tc := ⟨.hbm, 155, rfl⟩
abbrev main_cst_10 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩

abbrev nD : Nat := 1
abbrev τ : Topo := Topo.v7x

variable {F : FTy → Type} [FloatOps F]
-- ==== Kernel2.lean ====
abbrev S128x8x2048 : Shape := ⟨3, ![128, 8, 2048]⟩
abbrev S132x6144 : Shape := ⟨2, ![132, 6144]⟩
abbrev S1x2048 : Shape := ⟨2, ![1, 2048]⟩
abbrev S1x2048x9232 : Shape := ⟨3, ![1, 2048, 9232]⟩
abbrev S1x9232x2048 : Shape := ⟨3, ![1, 9232, 2048]⟩
abbrev S9232x2048 : Shape := ⟨2, ![9232, 2048]⟩
abbrev S1024x2048 : Shape := ⟨2, ![1024, 2048]⟩
abbrev S1024x9216 : Shape := ⟨2, ![1024, 9216]⟩
abbrev S1024x16 : Shape := ⟨2, ![1024, 16]⟩
abbrev S132x2048 : Shape := ⟨2, ![132, 2048]⟩
abbrev S16x2048 : Shape := ⟨2, ![16, 2048]⟩
abbrev S1024x1024 : Shape := ⟨2, ![1024, 1024]⟩
abbrev S_ : Shape := ⟨0, ![]⟩
abbrev S64x2048 : Shape := ⟨2, ![64, 2048]⟩
abbrev S64 : Shape := ⟨1, ![64]⟩
abbrev S64x1 : Shape := ⟨2, ![64, 1]⟩
abbrev S8x2048 : Shape := ⟨2, ![8, 2048]⟩

abbrev nBuf : Space → Nat
  | .hbm => 9
  | .vmem => 12
  | .smem => 0
  | _ => 0

abbrev bufTy : (tb : Table) → Fin (tcTables nBuf tb) → BufTy
  | .hbm, ⟨0, _⟩ => ⟨S128x8x2048, .f32⟩
  | .hbm, ⟨1, _⟩ => ⟨S132x6144, .f32⟩
  | .hbm, ⟨2, _⟩ => ⟨S1x2048, .f32⟩
  | .hbm, ⟨3, _⟩ => ⟨S1x2048x9232, .f32⟩
  | .hbm, ⟨4, _⟩ => ⟨S1x9232x2048, .f32⟩
  | .hbm, ⟨5, _⟩ => ⟨S9232x2048, .f32⟩
  | .hbm, ⟨6, _⟩ => ⟨S1024x2048, .f32⟩
  | .hbm, ⟨7, _⟩ => ⟨S1024x9216, .f32⟩
  | .hbm, ⟨8, _⟩ => ⟨S1024x16, .f32⟩
  | .local _ .vmem, ⟨0, _⟩ => ⟨S132x2048, .f32⟩
  | .local _ .vmem, ⟨1, _⟩ => ⟨S132x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | .local _ .vmem, ⟨5, _⟩ => ⟨S16x2048, .f32⟩
  | .local _ .vmem, ⟨6, _⟩ => ⟨S1024x1024, .f32⟩
  | .local _ .vmem, ⟨7, _⟩ => ⟨S1024x1024, .f32⟩
  | .local _ .vmem, ⟨8, _⟩ => ⟨S1024x16, .f32⟩
  | .local _ .vmem, ⟨9, _⟩ => ⟨S1024x2048, .bf16⟩
  | .local _ .vmem, ⟨10, _⟩ => ⟨S1024x2048, .bf16⟩
  | .local _ .vmem, ⟨11, _⟩ => ⟨S1024x2048, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨2, ![1, 9], ![false, false]⟩

def k0_cond1 (i : grid0.Coords) : BitVec 1 :=
  let arg0 : BitVec 32 := BitVec.ofNat 32 (i 0).val
  let c2_i32 : BitVec 32 := 2#32
  let v0 : BitVec 32 := Scalar.remsi arg0 c2_i32
  let c0_i32 : BitVec 32 := 0#32
  let v1 : BitVec 1 := Scalar.cmpi .eq v0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def k0_cond3 (i : grid0.Coords) : BitVec 1 :=
  let arg0 : BitVec 32 := BitVec.ofNat 32 (i 0).val
  let c0_i32_10 : BitVec 32 := 0#32
  let v17 : BitVec 1 := Scalar.cmpi .eq arg0 c0_i32_10
  let v18 : BitVec 32 := Scalar.extui v17
  let c0_i32_11 : BitVec 32 := 0#32
  let v19 : BitVec 1 := Scalar.cmpi .ne v18 c0_i32_11
  v19

def k0_mult1 : BitVec 32 :=
  let c0_i32_22 : BitVec 32 := 0#32
  c0_i32_22
def k0_mult2 : BitVec 32 :=
  let c0_i32_24 : BitVec 32 := 0#32
  c0_i32_24
@[reducible] def k0_t1_loop : Scf.Loop 32 :=
  let c0_i32_26 : BitVec 32 := 0#32
  let c16_i32 : BitVec 32 := 16#32
  let v34 : BitVec 32 := Scalar.addi c0_i32_26 c16_i32
  let c1_i32_27 : BitVec 32 := 1#32
  ⟨c0_i32_26, v34, c1_i32_27⟩
def k0_mult3 (k0_t1 : Fin k0_t1_loop.trips) : BitVec 32 :=
  let c0_i32_26 : BitVec 32 := 0#32
  let c1_i32_27 : BitVec 32 := 1#32
  let arg14 : BitVec 32 := Scf.iv c0_i32_26 c1_i32_27 k0_t1
  let c64_i32 : BitVec 32 := 64#32
  let v35 : BitVec 32 := Scalar.muli arg14 c64_i32
  v35
def k0_off1 (k0_t1 : Fin k0_t1_loop.trips) : Fin 2 → Nat :=
  let c0_i32_26 : BitVec 32 := 0#32
  let c1_i32_27 : BitVec 32 := 1#32
  let arg14 : BitVec 32 := Scf.iv c0_i32_26 c1_i32_27 k0_t1
  let c64_i32 : BitVec 32 := 64#32
  let v35 : BitVec 32 := Scalar.muli arg14 c64_i32
  let v36 : BitVec 32 := v35
  let v38 : Index := Scalar.indexCast v36
  let c0_30 : Index := 0#32
  ![v38.toNat, 0]
def k0_off2 (k0_t1 : Fin k0_t1_loop.trips) (c0_i32_34 : BitVec 32) : Fin 2 → Nat :=
  let c4_i32 : BitVec 32 := 4#32
  let c0_i32_29 : BitVec 32 := 0#32
  let c0_i32_26 : BitVec 32 := 0#32
  let c1_i32_27 : BitVec 32 := 1#32
  let arg14 : BitVec 32 := Scf.iv c0_i32_26 c1_i32_27 k0_t1
  let c64_i32 : BitVec 32 := 64#32
  let v35 : BitVec 32 := Scalar.muli arg14 c64_i32
  let v36 : BitVec 32 := v35
  let v37 : BitVec 32 := Scalar.addi c0_i32_29 v36
  let c8_i32 : BitVec 32 := 8#32
  let v50 : BitVec 32 := Scalar.divsi v37 c8_i32
  let v51 : BitVec 32 := Scalar.addi c4_i32 v50
  let v52 : BitVec 32 := Scalar.addi v51 c0_i32_34
  let v53 : Index := Scalar.indexCast v52
  let c0_35 : Index := 0#32
  ![v53.toNat, 0]
def k0_cond4 (i : grid0.Coords) : BitVec 1 :=
  let arg0 : BitVec 32 := BitVec.ofNat 32 (i 0).val
  let c1_i32_12 : BitVec 32 := 1#32
  let v20 : BitVec 32 := Scalar.addi arg0 c1_i32_12
  let c1_i32_13 : BitVec 32 := 1#32
  let v21 : BitVec 1 := Scalar.cmpi .slt v20 c1_i32_13
  let v22 : BitVec 32 := Scalar.extui v21
  let c0_i32_14 : BitVec 32 := 0#32
  let v23 : BitVec 1 := Scalar.cmpi .ne v22 c0_i32_14
  v23

def k0_mult4 (i : grid0.Coords) : BitVec 32 :=
  let arg0 : BitVec 32 := BitVec.ofNat 32 (i 0).val
  let c1_i32_22 : BitVec 32 := 1#32
  let v30 : BitVec 32 := Scalar.addi arg0 c1_i32_22
  let c1024_i32 : BitVec 32 := 1024#32
  let v31 : BitVec 32 := Scalar.muli v30 c1024_i32
  v31
def k0_off3 (i : grid0.Coords) : Fin 2 → Nat :=
  let arg0 : BitVec 32 := BitVec.ofNat 32 (i 0).val
  let c1_i32_22 : BitVec 32 := 1#32
  let v30 : BitVec 32 := Scalar.addi arg0 c1_i32_22
  let c1024_i32 : BitVec 32 := 1024#32
  let v31 : BitVec 32 := Scalar.muli v30 c1024_i32
  let v32 : BitVec 32 := v31
  let c0_i32_23 : BitVec 32 := 0#32
  ![v32.toNat, 0]
def k0_cond5 (i : grid0.Coords) : BitVec 1 :=
  let arg0 : BitVec 32 := BitVec.ofNat 32 (i 0).val
  let c2_i32_1 : BitVec 32 := 2#32
  let v4 : BitVec 32 := Scalar.remsi arg0 c2_i32_1
  let c1_i32 : BitVec 32 := 1#32
  let v5 : BitVec 1 := Scalar.cmpi .eq v4 c1_i32
  let v6 : BitVec 32 := Scalar.extui v5
  let c0_i32_2 : BitVec 32 := 0#32
  let v7 : BitVec 1 := Scalar.cmpi .ne v6 c0_i32_2
  v7

def k0_cond6 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def k0_cond7 (i : grid0.Coords) : BitVec 1 :=
  let arg0 : BitVec 32 := BitVec.ofNat 32 (i 0).val
  let c1_i32_10 : BitVec 32 := 1#32
  let v17 : BitVec 32 := Scalar.addi arg0 c1_i32_10
  let c1_i32_11 : BitVec 32 := 1#32
  let v18 : BitVec 1 := Scalar.cmpi .slt v17 c1_i32_11
  let v19 : BitVec 32 := Scalar.extui v18
  let c0_i32_12 : BitVec 32 := 0#32
  let v20 : BitVec 1 := Scalar.cmpi .ne v19 c0_i32_12
  v20

def k0_mult5 (i : grid0.Coords) : BitVec 32 :=
  let arg0 : BitVec 32 := BitVec.ofNat 32 (i 0).val
  let c1_i32_20 : BitVec 32 := 1#32
  let v27 : BitVec 32 := Scalar.addi arg0 c1_i32_20
  let c1024_i32 : BitVec 32 := 1024#32
  let v28 : BitVec 32 := Scalar.muli v27 c1024_i32
  v28
def k0_off4 (i : grid0.Coords) : Fin 2 → Nat :=
  let arg0 : BitVec 32 := BitVec.ofNat 32 (i 0).val
  let c1_i32_20 : BitVec 32 := 1#32
  let v27 : BitVec 32 := Scalar.addi arg0 c1_i32_20
  let c1024_i32 : BitVec 32 := 1024#32
  let v28 : BitVec 32 := Scalar.muli v27 c1024_i32
  let v29 : BitVec 32 := v28
  let c0_i32_21 : BitVec 32 := 0#32
  ![v29.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .slt arg1 c5_i32
  let c128_i32 : BitVec 32 := 128#32
  let v1 : BitVec 32 := Scalar.muli arg1 c128_i32
  let c5_i32_0 : BitVec 32 := 5#32
  let v2 : BitVec 32 := Scalar.subi arg1 c5_i32_0
  let c128_i32_1 : BitVec 32 := 128#32
  let v3 : BitVec 32 := Scalar.muli v2 c128_i32_1
  let c642_i32 : BitVec 32 := 642#32
  let v4 : BitVec 32 := Scalar.addi c642_i32 v3
  let v5 : BitVec 32 := Scalar.select v0 v1 v4
  let c8_i32 : BitVec 32 := 8#32
  let v6 : BitVec 32 := Scalar.muli v5 c8_i32
  let c0_i32 : BitVec 32 := 0#32
  let c0_i32_2 : BitVec 32 := 0#32
  ![v6.toNat, c0_i32.toNat]

def cc0_transform_5 (i : grid0.Coords) : Fin 2 → Nat :=
  let arg0 : BitVec 32 := BitVec.ofNat 32 (i 0).val
  let arg1 : BitVec 32 := BitVec.ofNat 32 (i 1).val
  let c320_i32 : BitVec 32 := 320#32
  let c0_i32 : BitVec 32 := 0#32
  let c0_i32_0 : BitVec 32 := 0#32
  ![c320_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S132x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S132x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference2Ideal.lean ====
abbrev S128x8x2048 : Shape := ⟨3, ![128, 8, 2048]⟩
abbrev S132x6144 : Shape := ⟨2, ![132, 6144]⟩
abbrev S1x2048 : Shape := ⟨2, ![1, 2048]⟩
abbrev S1x2048x9232 : Shape := ⟨3, ![1, 2048, 9232]⟩
abbrev S128x6144 : Shape := ⟨2, ![128, 6144]⟩
abbrev S128x2048 : Shape := ⟨2, ![128, 2048]⟩
abbrev S_ : Shape := ⟨0, ![]⟩
abbrev S128x8 : Shape := ⟨2, ![128, 8]⟩
abbrev S128x8x1 : Shape := ⟨3, ![128, 8, 1]⟩
abbrev S2048 : Shape := ⟨1, ![2048]⟩
abbrev S1x1x2048 : Shape := ⟨3, ![1, 1, 2048]⟩
abbrev S128x1x2048 : Shape := ⟨3, ![128, 1, 2048]⟩
abbrev S2048x9232 : Shape := ⟨2, ![2048, 9232]⟩
abbrev S128x8x9232 : Shape := ⟨3, ![128, 8, 9232]⟩
abbrev S128x8x1024 : Shape := ⟨3, ![128, 8, 1024]⟩
abbrev S128x8x512 : Shape := ⟨3, ![128, 8, 512]⟩
abbrev S128x8x16 : Shape := ⟨3, ![128, 8, 16]⟩
abbrev S128x8x9216 : Shape := ⟨3, ![128, 8, 9216]⟩
abbrev S1024x9216 : Shape := ⟨2, ![1024, 9216]⟩
abbrev S1024x16 : Shape := ⟨2, ![1024, 16]⟩

abbrev nBuf : Space → Nat
  | .hbm => 48
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S132x6144, .f32⟩
  | .hbm, ⟨2, _⟩ => ⟨S1x2048, .f32⟩
  | .hbm, ⟨3, _⟩ => ⟨S1x2048x9232, .f32⟩
  | .hbm, ⟨4, _⟩ => ⟨S128x6144, .f32⟩
  | .hbm, ⟨5, _⟩ => ⟨S128x2048, .f32⟩
  | .hbm, ⟨6, _⟩ => ⟨S128x2048, .f32⟩
  | .hbm, ⟨7, _⟩ => ⟨S128x2048, .f32⟩
  | .hbm, ⟨8, _⟩ => ⟨S128x8x2048, .f32⟩
  | .hbm, ⟨9, _⟩ => ⟨S_, .f32⟩
  | .hbm, ⟨10, _⟩ => ⟨S128x8, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S128x8x1, .f32⟩
  | .hbm, ⟨19, _⟩ => ⟨S128x8x2048, .f32⟩
  | .hbm, ⟨20, _⟩ => ⟨S128x8x2048, .f32⟩
  | .hbm, ⟨21, _⟩ => ⟨S2048, .f32⟩
  | .hbm, ⟨22, _⟩ => ⟨S1x1x2048, .f32⟩
  | .hbm, ⟨23, _⟩ => ⟨S128x8x2048, .f32⟩
  | .hbm, ⟨24, _⟩ => ⟨S128x8x2048, .f32⟩
  | .hbm, ⟨25, _⟩ => ⟨S128x1x2048, .f32⟩
  | .hbm, ⟨26, _⟩ => ⟨S_, .f32⟩
  | .hbm, ⟨27, _⟩ => ⟨S128x1x2048, .f32⟩
  | .hbm, ⟨28, _⟩ => ⟨S128x1x2048, .f32⟩
  | .hbm, ⟨29, _⟩ => ⟨S128x8x2048, .f32⟩
  | .hbm, ⟨30, _⟩ => ⟨S128x8x2048, .f32⟩
  | .hbm, ⟨31, _⟩ => ⟨S128x1x2048, .f32⟩
  | .hbm, ⟨32, _⟩ => ⟨S128x8x2048, .f32⟩
  | .hbm, ⟨33, _⟩ => ⟨S128x8x2048, .f32⟩
  | .hbm, ⟨34, _⟩ => ⟨S2048x9232, .f32⟩
  | .hbm, ⟨35, _⟩ => ⟨S128x8x9232, .f32⟩
  | .hbm, ⟨36, _⟩ => ⟨S128x8x1024, .f32⟩
  | .hbm, ⟨37, _⟩ => ⟨S128x8x1024, .f32⟩
  | .hbm, ⟨38, _⟩ => ⟨S128x8x512, .f32⟩
  | .hbm, ⟨39, _⟩ => ⟨S128x8x512, .f32⟩
  | .hbm, ⟨40, _⟩ => ⟨S128x8x1024, .f32⟩
  | .hbm, ⟨41, _⟩ => ⟨S128x8x1024, .f32⟩
  | .hbm, ⟨42, _⟩ => ⟨S128x8x16, .f32⟩
  | .hbm, ⟨43, _⟩ => ⟨S128x8x2048, .f32⟩
  | .hbm, ⟨44, _⟩ => ⟨S128x8x2048, .f32⟩
  | .hbm, ⟨45, _⟩ => ⟨S128x8x9216, .f32⟩
  | .hbm, ⟨46, _⟩ => ⟨S1024x9216, .f32⟩
  | .hbm, ⟨47, _⟩ => ⟨S1024x16, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel3.lean ====
abbrev S8192x2048 : Shape := ⟨2, ![8192, 2048]⟩
abbrev S4x2048x2048 : Shape := ⟨3, ![4, 2048, 2048]⟩
abbrev S132x6144 : Shape := ⟨2, ![132, 6144]⟩
abbrev S1x2048x2048 : Shape := ⟨3, ![1, 2048, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S132x2048 : Shape := ⟨2, ![132, 2048]⟩
abbrev S128x2048 : Shape := ⟨2, ![128, 2048]⟩
abbrev S128 : Shape := ⟨1, ![128]⟩
abbrev S128x1 : Shape := ⟨2, ![128, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S132x6144, .f32⟩
  | .hbm, ⟨3, _⟩ => ⟨S1x2048x2048, .f32⟩
  | .hbm, ⟨4, _⟩ => ⟨S2048, .f32⟩
  | .hbm, ⟨5, _⟩ => ⟨S8192x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S132x2048, .f32⟩
  | .local _ .vmem, ⟨5, _⟩ => ⟨S2048x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c16_i32 : BitVec 32 := 16#32
  let v4 : BitVec 1 := Scalar.cmpi .slt arg0 c16_i32
  let v5 : BitVec 1 := Scalar.andi v3 v4
  let c2_i32 : BitVec 32 := 2#32
  let v6 : BitVec 32 := Scalar.remsi arg0 c2_i32
  let c0_i32_2 : BitVec 32 := 0#32
  let v7 : BitVec 1 := Scalar.cmpi .eq v6 c0_i32_2
  let v8 : BitVec 1 := Scalar.andi v5 v7
  let v9 : BitVec 32 := Scalar.extui v8
  let c0_i32_3 : BitVec 32 := 0#32
  let v10 : BitVec 1 := Scalar.cmpi .ne v9 c0_i32_3
  v10

def k0_off1 (i : grid0.Coords) (c0_i32_18 : BitVec 32) : Fin 2 → Nat :=
  let c0_i32_19 : BitVec 32 := 0#32
  let arg0 : BitVec 32 := BitVec.ofNat 32 (i 0).val
  let c1_i32_17 : BitVec 32 := 1#32
  let v31 : BitVec 32 := Scalar.subi arg0 c1_i32_17
  let c512_i32 : BitVec 32 := 512#32
  let v32 : BitVec 32 := Scalar.muli v31 c512_i32
  let v33 : BitVec 32 := Scalar.addi v32 c0_i32_18
  let c2048_i32 : BitVec 32 := 2048#32
  let v34 : BitVec 32 := Scalar.divsi v33 c2048_i32
  let v35 : BitVec 32 := Scalar.addi c0_i32_19 v34
  let v36 : Index := Scalar.indexCast v35
  let c0_20 : Index := 0#32
  ![v36.toNat, 0]
def k0_cond3 (i : grid0.Coords) : BitVec 1 :=
  let arg0 : BitVec 32 := BitVec.ofNat 32 (i 0).val
  let c0_i32_4 : BitVec 32 := 0#32
  let v11 : BitVec 1 := Scalar.cmpi .sgt arg0 c0_i32_4
  let c16_i32_5 : BitVec 32 := 16#32
  let v12 : BitVec 1 := Scalar.cmpi .slt arg0 c16_i32_5
  let v13 : BitVec 1 := Scalar.andi v11 v12
  let c2_i32_6 : BitVec 32 := 2#32
  let v14 : BitVec 32 := Scalar.remsi arg0 c2_i32_6
  let c1_i32 : BitVec 32 := 1#32
  let v15 : BitVec 1 := Scalar.cmpi .eq v14 c1_i32
  let v16 : BitVec 1 := Scalar.andi v13 v15
  let v17 : BitVec 32 := Scalar.extui v16
  let c0_i32_7 : BitVec 32 := 0#32
  let v18 : BitVec 1 := Scalar.cmpi .ne v17 c0_i32_7
  v18

def k0_off2 (i : grid0.Coords) (c0_i32_18 : BitVec 32) : Fin 2 → Nat :=
  let c0_i32_19 : BitVec 32 := 0#32
  let arg0 : BitVec 32 := BitVec.ofNat 32 (i 0).val
  let c1_i32_17 : BitVec 32 := 1#32
  let v31 : BitVec 32 := Scalar.subi arg0 c1_i32_17
  let c512_i32 : BitVec 32 := 512#32
  let v32 : BitVec 32 := Scalar.muli v31 c512_i32
  let v33 : BitVec 32 := Scalar.addi v32 c0_i32_18
  let c2048_i32 : BitVec 32 := 2048#32
  let v34 : BitVec 32 := Scalar.divsi v33 c2048_i32
  let v35 : BitVec 32 := Scalar.addi c0_i32_19 v34
  let v36 : Index := Scalar.indexCast v35
  let c0_20 : Index := 0#32
  ![v36.toNat, 0]
def k0_cond4 (i : grid0.Coords) : BitVec 1 :=
  let arg0 : BitVec 32 := BitVec.ofNat 32 (i 0).val
  let c16_i32_8 : BitVec 32 := 16#32
  let v19 : BitVec 1 := Scalar.cmpi .eq arg0 c16_i32_8
  let v20 : BitVec 32 := Scalar.extui v19
  let c0_i32_9 : BitVec 32 := 0#32
  let v21 : BitVec 1 := Scalar.cmpi .ne v20 c0_i32_9
  v21

def k0_off3 (i : grid0.Coords) (c0_i32_12 : BitVec 32) : Fin 2 → Nat :=
  let c0_i32_13 : BitVec 32 := 0#32
  let arg0 : BitVec 32 := BitVec.ofNat 32 (i 0).val
  let c1_i32_11 : BitVec 32 := 1#32
  let v24 : BitVec 32 := Scalar.subi arg0 c1_i32_11
  let c512_i32 : BitVec 32 := 512#32
  let v25 : BitVec 32 := Scalar.muli v24 c512_i32
  let v26 : BitVec 32 := Scalar.addi v25 c0_i32_12
  let c2048_i32 : BitVec 32 := 2048#32
  let v27 : BitVec 32 := Scalar.divsi v26 c2048_i32
  let v28 : BitVec 32 := Scalar.addi c0_i32_13 v27
  let v29 : Index := Scalar.indexCast v28
  let c0_14 : Index := 0#32
  ![v29.toNat, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S132x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x2048 : Shape := ⟨2, ![8192, 2048]⟩
abbrev S4x2048x2048 : Shape := ⟨3, ![4, 2048, 2048]⟩
abbrev S132x6144 : Shape := ⟨2, ![132, 6144]⟩
abbrev S1x2048x2048 : Shape := ⟨3, ![1, 2048, 2048]⟩
abbrev S2048 : Shape := ⟨1, ![2048]⟩
abbrev S4x6144 : Shape := ⟨2, ![4, 6144]⟩
abbrev S4x2048 : Shape := ⟨2, ![4, 2048]⟩
abbrev S4x1x2048 : Shape := ⟨3, ![4, 1, 2048]⟩
abbrev S2048x2048 : Shape := ⟨2, ![2048, 2048]⟩
abbrev S_ : Shape := ⟨0, ![]⟩
abbrev S4x2048x1 : Shape := ⟨3, ![4, 2048, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S132x6144, .f32⟩
  | .hbm, ⟨3, _⟩ => ⟨S1x2048x2048, .f32⟩
  | .hbm, ⟨4, _⟩ => ⟨S2048, .f32⟩
  | .hbm, ⟨5, _⟩ => ⟨S4x6144, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x1x2048, .f32⟩
  | .hbm, ⟨10, _⟩ => ⟨S8192x2048, .f32⟩
  | .hbm, ⟨11, _⟩ => ⟨S4x2048x2048, .f32⟩
  | .hbm, ⟨12, _⟩ => ⟨S2048x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel4.lean ====
abbrev S1024x2048 : Shape := ⟨2, ![1024, 2048]⟩
abbrev S128x8x2048 : Shape := ⟨3, ![128, 8, 2048]⟩
abbrev S132x6144 : Shape := ⟨2, ![132, 6144]⟩
abbrev S1x2048x2048 : Shape := ⟨3, ![1, 2048, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S132x2048 : Shape := ⟨2, ![132, 2048]⟩
abbrev S8x2048 : Shape := ⟨2, ![8, 2048]⟩
abbrev S64x2048 : Shape := ⟨2, ![64, 2048]⟩
abbrev S64 : Shape := ⟨1, ![64]⟩
abbrev S64x1 : Shape := ⟨2, ![64, 1]⟩

abbrev nBuf : Space → Nat
  | .hbm => 10
  | .vmem => 11
  | .smem => 0
  | _ => 0

abbrev bufTy : (tb : Table) → Fin (tcTables nBuf tb) → BufTy
  | .hbm, ⟨0, _⟩ => ⟨S1024x2048, .bf16⟩
  | .hbm, ⟨1, _⟩ => ⟨S128x8x2048, .f32⟩
  | .hbm, ⟨2, _⟩ => ⟨S132x6144, .f32⟩
  | .hbm, ⟨3, _⟩ => ⟨S1x2048x2048, .f32⟩
  | .hbm, ⟨4, _⟩ => ⟨S2048, .f32⟩
  | .hbm, ⟨5, _⟩ => ⟨S1024x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S1024x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S132x2048, .f32⟩
  | .local _ .vmem, ⟨5, _⟩ => ⟨S2048x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![3], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let v4 : BitVec 1 := Scalar.cmpi .slt arg0 c2_i32
  let v5 : BitVec 1 := Scalar.andi v3 v4
  let c2_i32_2 : BitVec 32 := 2#32
  let v6 : BitVec 32 := Scalar.remsi arg0 c2_i32_2
  let c0_i32_3 : BitVec 32 := 0#32
  let v7 : BitVec 1 := Scalar.cmpi .eq v6 c0_i32_3
  let v8 : BitVec 1 := Scalar.andi v5 v7
  let v9 : BitVec 32 := Scalar.extui v8
  let c0_i32_4 : BitVec 32 := 0#32
  let v10 : BitVec 1 := Scalar.cmpi .ne v9 c0_i32_4
  v10

def k0_off1 (i : grid0.Coords) (c0_i32_19 : BitVec 32) (c0_i32_20 : BitVec 32) : Fin 2 → Nat :=
  let c4_i32 : BitVec 32 := 4#32
  let arg0 : BitVec 32 := BitVec.ofNat 32 (i 0).val
  let c1_i32_18 : BitVec 32 := 1#32
  let v31 : BitVec 32 := Scalar.subi arg0 c1_i32_18
  let c512_i32 : BitVec 32 := 512#32
  let v32 : BitVec 32 := Scalar.muli v31 c512_i32
  let v33 : BitVec 32 := Scalar.addi v32 c0_i32_19
  let c8_i32 : BitVec 32 := 8#32
  let v34 : BitVec 32 := Scalar.divsi v33 c8_i32
  let v35 : BitVec 32 := Scalar.addi c4_i32 v34
  let v36 : BitVec 32 := Scalar.addi v35 c0_i32_20
  let v37 : Index := Scalar.indexCast v36
  let c0_21 : Index := 0#32
  ![v37.toNat, 0]
def k0_cond3 (i : grid0.Coords) : BitVec 1 :=
  let arg0 : BitVec 32 := BitVec.ofNat 32 (i 0).val
  let c0_i32_5 : BitVec 32 := 0#32
  let v11 : BitVec 1 := Scalar.cmpi .sgt arg0 c0_i32_5
  let c2_i32_6 : BitVec 32 := 2#32
  let v12 : BitVec 1 := Scalar.cmpi .slt arg0 c2_i32_6
  let v13 : BitVec 1 := Scalar.andi v11 v12
  let c2_i32_7 : BitVec 32 := 2#32
  let v14 : BitVec 32 := Scalar.remsi arg0 c2_i32_7
  let c1_i32 : BitVec 32 := 1#32
  let v15 : BitVec 1 := Scalar.cmpi .eq v14 c1_i32
  let v16 : BitVec 1 := Scalar.andi v13 v15
  let v17 : BitVec 32 := Scalar.extui v16
  let c0_i32_8 : BitVec 32 := 0#32
  let v18 : BitVec 1 := Scalar.cmpi .ne v17 c0_i32_8
  v18

def k0_off2 (i : grid0.Coords) (c0_i32_19 : BitVec 32) (c0_i32_20 : BitVec 32) : Fin 2 → Nat :=
  let c4_i32 : BitVec 32 := 4#32
  let arg0 : BitVec 32 := BitVec.ofNat 32 (i 0).val
  let c1_i32_18 : BitVec 32 := 1#32
  let v31 : BitVec 32 := Scalar.subi arg0 c1_i32_18
  let c512_i32 : BitVec 32 := 512#32
  let v32 : BitVec 32 := Scalar.muli v31 c512_i32
  let v33 : BitVec 32 := Scalar.addi v32 c0_i32_19
  let c8_i32 : BitVec 32 := 8#32
  let v34 : BitVec 32 := Scalar.divsi v33 c8_i32
  let v35 : BitVec 32 := Scalar.addi c4_i32 v34
  let v36 : BitVec 32 := Scalar.addi v35 c0_i32_20
  let v37 : Index := Scalar.indexCast v36
  let c0_21 : Index := 0#32
  ![v37.toNat, 0]
def k0_cond4 (i : grid0.Coords) : BitVec 1 :=
  let arg0 : BitVec 32 := BitVec.ofNat 32 (i 0).val
  let c2_i32_9 : BitVec 32 := 2#32
  let v19 : BitVec 1 := Scalar.cmpi .eq arg0 c2_i32_9
  let v20 : BitVec 32 := Scalar.extui v19
  let c0_i32_10 : BitVec 32 := 0#32
  let v21 : BitVec 1 := Scalar.cmpi .ne v20 c0_i32_10
  v21

def k0_off3 (i : grid0.Coords) (c0_i32_13 : BitVec 32) (c0_i32_14 : BitVec 32) : Fin 2 → Nat :=
  let c4_i32 : BitVec 32 := 4#32
  let arg0 : BitVec 32 := BitVec.ofNat 32 (i 0).val
  let c1_i32_12 : BitVec 32 := 1#32
  let v24 : BitVec 32 := Scalar.subi arg0 c1_i32_12
  let c512_i32 : BitVec 32 := 512#32
  let v25 : BitVec 32 := Scalar.muli v24 c512_i32
  let v26 : BitVec 32 := Scalar.addi v25 c0_i32_13
  let c8_i32 : BitVec 32 := 8#32
  let v27 : BitVec 32 := Scalar.divsi v26 c8_i32
  let v28 : BitVec 32 := Scalar.addi c4_i32 v27
  let v29 : BitVec 32 := Scalar.addi v28 c0_i32_14
  let v30 : Index := Scalar.indexCast v29
  let c0_15 : Index := 0#32
  ![v30.toNat, 0]
def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S132x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S1024x2048 : Shape := ⟨2, ![1024, 2048]⟩
abbrev S128x8x2048 : Shape := ⟨3, ![128, 8, 2048]⟩
abbrev S132x6144 : Shape := ⟨2, ![132, 6144]⟩
abbrev S1x2048x2048 : Shape := ⟨3, ![1, 2048, 2048]⟩
abbrev S2048 : Shape := ⟨1, ![2048]⟩
abbrev S128x6144 : Shape := ⟨2, ![128, 6144]⟩
abbrev S128x2048 : Shape := ⟨2, ![128, 2048]⟩
abbrev S128x1x2048 : Shape := ⟨3, ![128, 1, 2048]⟩
abbrev S2048x2048 : Shape := ⟨2, ![2048, 2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S128x8x2048, .f32⟩
  | .hbm, ⟨2, _⟩ => ⟨S132x6144, .f32⟩
  | .hbm, ⟨3, _⟩ => ⟨S1x2048x2048, .f32⟩
  | .hbm, ⟨4, _⟩ => ⟨S2048, .f32⟩
  | .hbm, ⟨5, _⟩ => ⟨S128x6144, .f32⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S128x1x2048, .f32⟩
  | .hbm, ⟨10, _⟩ => ⟨S1024x2048, .f32⟩
  | .hbm, ⟨11, _⟩ => ⟨S128x8x2048, .f32⟩
  | .hbm, ⟨12, _⟩ => ⟨S2048x2048, .f32⟩
  | .hbm, ⟨13, _⟩ => ⟨S128x8x2048, .f32⟩
  | .hbm, ⟨14, _⟩ => ⟨S128x8x2048, .f32⟩
  | .hbm, ⟨15, _⟩ => ⟨S128x8x2048, .f32⟩
  | .hbm, ⟨16, _⟩ => ⟨S128x8x2048, .f32⟩
  | .hbm, ⟨17, _⟩ => ⟨S128x8x2048, .f32⟩
  | .hbm, ⟨18, _⟩ => ⟨S_, .f32⟩
  | .hbm, ⟨19, _⟩ => ⟨S128x8, .f32⟩
  | .hbm, ⟨20, _⟩ => ⟨S128x8x1, .f32⟩
  | .hbm, ⟨21, _⟩ => ⟨S_, .f32⟩
  | .hbm, ⟨22, _⟩ => ⟨S128x8x1, .f32⟩
  | .hbm, ⟨23, _⟩ => ⟨S128x8x1, .f32⟩
  | .hbm, ⟨24, _⟩ => ⟨S_, .f32⟩
  | .hbm, ⟨25, _⟩ => ⟨S128x8x1, .f32⟩
  | .hbm, ⟨26, _⟩ => ⟨S128x8x1, .f32⟩
  | .hbm, ⟨27, _⟩ => ⟨S128x8x1, .f32⟩
  | .hbm, ⟨28, _⟩ => ⟨S128x8x2048, .f32⟩
  | .hbm, ⟨29, _⟩ => ⟨S128x8x2048, .f32⟩
  | .hbm, ⟨30, _⟩ => ⟨S1x1x2048, .f32⟩
  | .hbm, ⟨31, _⟩ => ⟨S128x8x2048, .f32⟩
  | .hbm, ⟨32, _⟩ => ⟨S128x8x2048, .f32⟩
  | .hbm, ⟨33, _⟩ => ⟨S1024x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel5.lean ====
abbrev S4x2048 : Shape := ⟨2, ![4, 2048]⟩
abbrev S128x2048 : Shape := ⟨2, ![128, 2048]⟩
abbrev S1x2048x6144 : Shape := ⟨3, ![1, 2048, 6144]⟩
abbrev S1x6144 : Shape := ⟨2, ![1, 6144]⟩
abbrev S132x2048 : Shape := ⟨2, ![132, 2048]⟩
abbrev S2048x6144 : Shape := ⟨2, ![2048, 6144]⟩
abbrev S132x6144 : Shape := ⟨2, ![132, 6144]⟩
abbrev S2048x1024 : Shape := ⟨2, ![2048, 1024]⟩
abbrev S1x1024 : Shape := ⟨2, ![1, 1024]⟩
abbrev S132x1024 : Shape := ⟨2, ![132, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S128x2048, .f32⟩
  | .hbm, ⟨2, _⟩ => ⟨S1x2048x6144, .f32⟩
  | .hbm, ⟨3, _⟩ => ⟨S1x6144, .f32⟩
  | .hbm, ⟨4, _⟩ => ⟨S132x2048, .f32⟩
  | .hbm, ⟨5, _⟩ => ⟨S2048x6144, .f32⟩
  | .hbm, ⟨6, _⟩ => ⟨S132x6144, .f32⟩
  | .local _ .vmem, ⟨0, _⟩ => ⟨S132x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S132x1024, .f32⟩
  | .local _ .vmem, ⟨6, _⟩ => ⟨S132x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S132x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S132x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x2048 : Shape := ⟨2, ![4, 2048]⟩
abbrev S128x2048 : Shape := ⟨2, ![128, 2048]⟩
abbrev S1x2048x6144 : Shape := ⟨3, ![1, 2048, 6144]⟩
abbrev S1x6144 : Shape := ⟨2, ![1, 6144]⟩
abbrev S_ : Shape := ⟨0, ![]⟩
abbrev S2048x6144 : Shape := ⟨2, ![2048, 6144]⟩
abbrev S4x6144 : Shape := ⟨2, ![4, 6144]⟩
abbrev S6144 : Shape := ⟨1, ![6144]⟩
abbrev S128x6144 : Shape := ⟨2, ![128, 6144]⟩
abbrev S132x6144 : Shape := ⟨2, ![132, 6144]⟩

abbrev nBuf : Space → Nat
  | .hbm => 35
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S128x2048, .f32⟩
  | .hbm, ⟨2, _⟩ => ⟨S1x2048x6144, .f32⟩
  | .hbm, ⟨3, _⟩ => ⟨S1x6144, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S2048x6144, .f32⟩
  | .hbm, ⟨14, _⟩ => ⟨S4x6144, .f32⟩
  | .hbm, ⟨15, _⟩ => ⟨S6144, .f32⟩
  | .hbm, ⟨16, _⟩ => ⟨S1x6144, .f32⟩
  | .hbm, ⟨17, _⟩ => ⟨S4x6144, .f32⟩
  | .hbm, ⟨18, _⟩ => ⟨S4x6144, .f32⟩
  | .hbm, ⟨19, _⟩ => ⟨S128x2048, .f32⟩
  | .hbm, ⟨20, _⟩ => ⟨S128x2048, .f32⟩
  | .hbm, ⟨21, _⟩ => ⟨S_, .f32⟩
  | .hbm, ⟨22, _⟩ => ⟨S128x2048, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S128x2048, .f32⟩
  | .hbm, ⟨28, _⟩ => ⟨S2048x6144, .f32⟩
  | .hbm, ⟨29, _⟩ => ⟨S128x6144, .f32⟩
  | .hbm, ⟨30, _⟩ => ⟨S6144, .f32⟩
  | .hbm, ⟨31, _⟩ => ⟨S1x6144, .f32⟩
  | .hbm, ⟨32, _⟩ => ⟨S128x6144, .f32⟩
  | .hbm, ⟨33, _⟩ => ⟨S128x6144, .f32⟩
  | .hbm, ⟨34, _⟩ => ⟨S132x6144, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel6.lean ====
abbrev S4x2048x2048 : Shape := ⟨3, ![4, 2048, 2048]⟩
abbrev S132x6144 : Shape := ⟨2, ![132, 6144]⟩
abbrev S1x2048 : Shape := ⟨2, ![1, 2048]⟩
abbrev S1x2048x9232 : Shape := ⟨3, ![1, 2048, 9232]⟩
abbrev S1x9232x2048 : Shape := ⟨3, ![1, 9232, 2048]⟩
abbrev S9232x2048 : Shape := ⟨2, ![9232, 2048]⟩
abbrev S8192x2048 : Shape := ⟨2, ![8192, 2048]⟩
abbrev S8192x9216 : Shape := ⟨2, ![8192, 9216]⟩
abbrev S8192x16 : Shape := ⟨2, ![8192, 16]⟩
abbrev S132x2048 : Shape := ⟨2, ![132, 2048]⟩
abbrev S512x2048 : Shape := ⟨2, ![512, 2048]⟩
abbrev S16x2048 : Shape := ⟨2, ![16, 2048]⟩
abbrev S2048x512 : Shape := ⟨2, ![2048, 512]⟩
abbrev S2048x16 : Shape := ⟨2, ![2048, 16]⟩
abbrev S2048x2048 : Shape := ⟨2, ![2048, 2048]⟩
abbrev S_ : Shape := ⟨0, ![]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S132x6144, .f32⟩
  | .hbm, ⟨2, _⟩ => ⟨S1x2048, .f32⟩
  | .hbm, ⟨3, _⟩ => ⟨S1x2048x9232, .f32⟩
  | .hbm, ⟨4, _⟩ => ⟨S1x9232x2048, .f32⟩
  | .hbm, ⟨5, _⟩ => ⟨S9232x2048, .f32⟩
  | .hbm, ⟨6, _⟩ => ⟨S8192x2048, .f32⟩
  | .hbm, ⟨7, _⟩ => ⟨S8192x9216, .f32⟩
  | .hbm, ⟨8, _⟩ => ⟨S8192x16, .f32⟩
  | .local _ .vmem, ⟨0, _⟩ => ⟨S132x2048, .f32⟩
  | .local _ .vmem, ⟨1, _⟩ => ⟨S132x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S16x2048, .f32⟩
  | .local _ .vmem, ⟨6, _⟩ => ⟨S2048x512, .f32⟩
  | .local _ .vmem, ⟨7, _⟩ => ⟨S2048x512, .f32⟩
  | .local _ .vmem, ⟨8, _⟩ => ⟨S2048x16, .f32⟩
  | .local _ .vmem, ⟨9, _⟩ => ⟨S2048x16, .f32⟩
  | .local _ .vmem, ⟨10, _⟩ => ⟨S2048x2048, .bf16⟩
  | .local _ .vmem, ⟨11, _⟩ => ⟨S2048x2048, .bf16⟩
  | .local _ .vmem, ⟨12, _⟩ => ⟨S2048x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 18], ![false, false]⟩

def k0_cond1 (i : grid0.Coords) : BitVec 1 :=
  let arg0 : BitVec 32 := BitVec.ofNat 32 (i 0).val
  let c2_i32 : BitVec 32 := 2#32
  let v0 : BitVec 32 := Scalar.remsi arg0 c2_i32
  let c0_i32 : BitVec 32 := 0#32
  let v1 : BitVec 1 := Scalar.cmpi .eq v0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def k0_cond3 (i : grid0.Coords) : BitVec 1 :=
  let arg0 : BitVec 32 := BitVec.ofNat 32 (i 0).val
  let c0_i32_13 : BitVec 32 := 0#32
  let v25 : BitVec 1 := Scalar.cmpi .eq arg0 c0_i32_13
  let v26 : BitVec 32 := Scalar.extui v25
  let c0_i32_14 : BitVec 32 := 0#32
  let v27 : BitVec 1 := Scalar.cmpi .ne v26 c0_i32_14
  v27

def k0_mult1 : BitVec 32 :=
  let c0_i32_25 : BitVec 32 := 0#32
  c0_i32_25
def k0_mult2 : BitVec 32 :=
  let c0_i32_27 : BitVec 32 := 0#32
  c0_i32_27
@[reducible] def k0_t1_loop : Scf.Loop 32 :=
  let c0_i32_29 : BitVec 32 := 0#32
  let c16_i32 : BitVec 32 := 16#32
  let v42 : BitVec 32 := Scalar.addi c0_i32_29 c16_i32
  let c1_i32_30 : BitVec 32 := 1#32
  ⟨c0_i32_29, v42, c1_i32_30⟩
def k0_mult3 (k0_t1 : Fin k0_t1_loop.trips) : BitVec 32 :=
  let c0_i32_29 : BitVec 32 := 0#32
  let c1_i32_30 : BitVec 32 := 1#32
  let arg14 : BitVec 32 := Scf.iv c0_i32_29 c1_i32_30 k0_t1
  let c128_i32 : BitVec 32 := 128#32
  let v43 : BitVec 32 := Scalar.muli arg14 c128_i32
  v43
def k0_off1 (k0_t1 : Fin k0_t1_loop.trips) : Fin 2 → Nat :=
  let c0_i32_29 : BitVec 32 := 0#32
  let c1_i32_30 : BitVec 32 := 1#32
  let arg14 : BitVec 32 := Scf.iv c0_i32_29 c1_i32_30 k0_t1
  let c128_i32 : BitVec 32 := 128#32
  let v43 : BitVec 32 := Scalar.muli arg14 c128_i32
  let v44 : BitVec 32 := v43
  let v46 : Index := Scalar.indexCast v44
  let c0_33 : Index := 0#32
  ![v46.toNat, 0]
def k0_off2 (k0_t1 : Fin k0_t1_loop.trips) : Fin 2 → Nat :=
  let c0_i32_37 : BitVec 32 := 0#32
  let c0_i32_32 : BitVec 32 := 0#32
  let c0_i32_29 : BitVec 32 := 0#32
  let c1_i32_30 : BitVec 32 := 1#32
  let arg14 : BitVec 32 := Scf.iv c0_i32_29 c1_i32_30 k0_t1
  let c128_i32 : BitVec 32 := 128#32
  let v43 : BitVec 32 := Scalar.muli arg14 c128_i32
  let v44 : BitVec 32 := v43
  let v45 : BitVec 32 := Scalar.addi c0_i32_32 v44
  let c2048_i32 : BitVec 32 := 2048#32
  let v58 : BitVec 32 := Scalar.divsi v45 c2048_i32
  let v59 : BitVec 32 := Scalar.addi c0_i32_37 v58
  let v60 : Index := Scalar.indexCast v59
  let c0_38 : Index := 0#32
  ![v60.toNat, 0]
def k0_cond4 (i : grid0.Coords) : BitVec 1 :=
  let arg0 : BitVec 32 := BitVec.ofNat 32 (i 0).val
  let c1_i32_15 : BitVec 32 := 1#32
  let v28 : BitVec 32 := Scalar.addi arg0 c1_i32_15
  let c4_i32_16 : BitVec 32 := 4#32
  let v29 : BitVec 1 := Scalar.cmpi .slt v28 c4_i32_16
  let v30 : BitVec 32 := Scalar.extui v29
  let c0_i32_17 : BitVec 32 := 0#32
  let v31 : BitVec 1 := Scalar.cmpi .ne v30 c0_i32_17
  v31

def k0_mult4 (i : grid0.Coords) : BitVec 32 :=
  let arg0 : BitVec 32 := BitVec.ofNat 32 (i 0).val
  let c1_i32_25 : BitVec 32 := 1#32
  let v38 : BitVec 32 := Scalar.addi arg0 c1_i32_25
  let c2048_i32 : BitVec 32 := 2048#32
  let v39 : BitVec 32 := Scalar.muli v38 c2048_i32
  v39
def k0_off3 (i : grid0.Coords) : Fin 2 → Nat :=
  let arg0 : BitVec 32 := BitVec.ofNat 32 (i 0).val
  let c1_i32_25 : BitVec 32 := 1#32
  let v38 : BitVec 32 := Scalar.addi arg0 c1_i32_25
  let c2048_i32 : BitVec 32 := 2048#32
  let v39 : BitVec 32 := Scalar.muli v38 c2048_i32
  let v40 : BitVec 32 := v39
  let c0_i32_26 : BitVec 32 := 0#32
  ![v40.toNat, 0]
def k0_cond5 (i : grid0.Coords) : BitVec 1 :=
  let arg1 : BitVec 32 := BitVec.ofNat 32 (i 1).val
  let c2_i32_5 : BitVec 32 := 2#32
  let v11 : BitVec 1 := Scalar.cmpi .sge arg1 c2_i32_5
  let c18_i32 : BitVec 32 := 18#32
  let v12 : BitVec 1 := Scalar.cmpi .slt arg1 c18_i32
  let v13 : BitVec 1 := Scalar.andi v11 v12
  let arg0 : BitVec 32 := BitVec.ofNat 32 (i 0).val
  let c1_i32_6 : BitVec 32 := 1#32
  let v14 : BitVec 32 := Scalar.addi arg0 c1_i32_6
  let c4_i32 : BitVec 32 := 4#32
  let v15 : BitVec 1 := Scalar.cmpi .slt v14 c4_i32
  let v16 : BitVec 1 := Scalar.andi v13 v15
  let v17 : BitVec 32 := Scalar.extui v16
  let c0_i32_7 : BitVec 32 := 0#32
  let v18 : BitVec 1 := Scalar.cmpi .ne v17 c0_i32_7
  v18

def k0_cond6 (i : grid0.Coords) : BitVec 1 :=
  let arg1 : BitVec 32 := BitVec.ofNat 32 (i 1).val
  let c2_i32_13 : BitVec 32 := 2#32
  let v25 : BitVec 1 := Scalar.cmpi .eq arg1 c2_i32_13
  let v26 : BitVec 32 := Scalar.extui v25
  let c0_i32_14 : BitVec 32 := 0#32
  let v27 : BitVec 1 := Scalar.cmpi .ne v26 c0_i32_14
  v27

def k0_mult5 (i : grid0.Coords) : BitVec 32 :=
  let arg0 : BitVec 32 := BitVec.ofNat 32 (i 0).val
  let c1_i32_33 : BitVec 32 := 1#32
  let v69 : BitVec 32 := Scalar.addi arg0 c1_i32_33
  let c2048_i32_34 : BitVec 32 := 2048#32
  let v70 : BitVec 32 := Scalar.muli v69 c2048_i32_34
  v70
def k0_off4 (i : grid0.Coords) : Fin 2 → Nat :=
  let arg0 : BitVec 32 := BitVec.ofNat 32 (i 0).val
  let c1_i32_33 : BitVec 32 := 1#32
  let v69 : BitVec 32 := Scalar.addi arg0 c1_i32_33
  let c2048_i32_34 : BitVec 32 := 2048#32
  let v70 : BitVec 32 := Scalar.muli v69 c2048_i32_34
  let v71 : BitVec 32 := v70
  let c0_i32_35 : BitVec 32 := 0#32
  ![v71.toNat, 0]
def k0_mult6 (i : grid0.Coords) : BitVec 32 :=
  let arg1 : BitVec 32 := BitVec.ofNat 32 (i 1).val
  let c2_i32_15 : BitVec 32 := 2#32
  let v28 : BitVec 32 := Scalar.subi arg1 c2_i32_15
  let c1_i32_16 : BitVec 32 := 1#32
  let v29 : BitVec 32 := Scalar.muli v28 c1_i32_16
  let c0_i32_17 : BitVec 32 := 0#32
  let v30 : BitVec 32 := Scalar.addi v29 c0_i32_17
  let c128_i32 : BitVec 32 := 128#32
  let v32 : BitVec 32 := Scalar.muli v30 c128_i32
  v32
def k0_off5 (i : grid0.Coords) : Fin 2 → Nat :=
  let arg1 : BitVec 32 := BitVec.ofNat 32 (i 1).val
  let c2_i32_15 : BitVec 32 := 2#32
  let v28 : BitVec 32 := Scalar.subi arg1 c2_i32_15
  let c1_i32_16 : BitVec 32 := 1#32
  let v29 : BitVec 32 := Scalar.muli v28 c1_i32_16
  let c0_i32_17 : BitVec 32 := 0#32
  let v30 : BitVec 32 := Scalar.addi v29 c0_i32_17
  let c128_i32 : BitVec 32 := 128#32
  let v32 : BitVec 32 := Scalar.muli v30 c128_i32
  let v33 : BitVec 32 := v32
  let v36 : Index := Scalar.indexCast v33
  let c0_19 : Index := 0#32
  ![v36.toNat, 0]
def k0_off6 (i : grid0.Coords) : Fin 2 → Nat :=
  let c0_i32_24 : BitVec 32 := 0#32
  let arg0 : BitVec 32 := BitVec.ofNat 32 (i 0).val
  let c1_i32_18 : BitVec 32 := 1#32
  let v31 : BitVec 32 := Scalar.addi arg0 c1_i32_18
  let c2048_i32 : BitVec 32 := 2048#32
  let v34 : BitVec 32 := Scalar.muli v31 c2048_i32
  let arg1 : BitVec 32 := BitVec.ofNat 32 (i 1).val
  let c2_i32_15 : BitVec 32 := 2#32
  let v28 : BitVec 32 := Scalar.subi arg1 c2_i32_15
  let c1_i32_16 : BitVec 32 := 1#32
  let v29 : BitVec 32 := Scalar.muli v28 c1_i32_16
  let c0_i32_17 : BitVec 32 := 0#32
  let v30 : BitVec 32 := Scalar.addi v29 c0_i32_17
  let c128_i32 : BitVec 32 := 128#32
  let v32 : BitVec 32 := Scalar.muli v30 c128_i32
  let v33 : BitVec 32 := v32
  let v35 : BitVec 32 := Scalar.addi v34 v33
  let c2048_i32_23 : BitVec 32 := 2048#32
  let v48 : BitVec 32 := Scalar.divsi v35 c2048_i32_23
  let v49 : BitVec 32 := Scalar.addi c0_i32_24 v48
  let v50 : Index := Scalar.indexCast v49
  let c0_25 : Index := 0#32
  ![v50.toNat, 0]
def k0_cond7 (i : grid0.Coords) : BitVec 1 :=
  let arg0 : BitVec 32 := BitVec.ofNat 32 (i 0).val
  let c2_i32_1 : BitVec 32 := 2#32
  let v4 : BitVec 32 := Scalar.remsi arg0 c2_i32_1
  let c1_i32 : BitVec 32 := 1#32
  let v5 : BitVec 1 := Scalar.cmpi .eq v4 c1_i32
  let v6 : BitVec 32 := Scalar.extui v5
  let c0_i32_2 : BitVec 32 := 0#32
  let v7 : BitVec 1 := Scalar.cmpi .ne v6 c0_i32_2
  v7

def k0_cond8 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def k0_cond9 (i : grid0.Coords) : BitVec 1 :=
  let arg0 : BitVec 32 := BitVec.ofNat 32 (i 0).val
  let c1_i32_13 : BitVec 32 := 1#32
  let v25 : BitVec 32 := Scalar.addi arg0 c1_i32_13
  let c4_i32_14 : BitVec 32 := 4#32
  let v26 : BitVec 1 := Scalar.cmpi .slt v25 c4_i32_14
  let v27 : BitVec 32 := Scalar.extui v26
  let c0_i32_15 : BitVec 32 := 0#32
  let v28 : BitVec 1 := Scalar.cmpi .ne v27 c0_i32_15
  v28

def k0_mult7 (i : grid0.Coords) : BitVec 32 :=
  let arg0 : BitVec 32 := BitVec.ofNat 32 (i 0).val
  let c1_i32_23 : BitVec 32 := 1#32
  let v35 : BitVec 32 := Scalar.addi arg0 c1_i32_23
  let c2048_i32 : BitVec 32 := 2048#32
  let v36 : BitVec 32 := Scalar.muli v35 c2048_i32
  v36
def k0_off7 (i : grid0.Coords) : Fin 2 → Nat :=
  let arg0 : BitVec 32 := BitVec.ofNat 32 (i 0).val
  let c1_i32_23 : BitVec 32 := 1#32
  let v35 : BitVec 32 := Scalar.addi arg0 c1_i32_23
  let c2048_i32 : BitVec 32 := 2048#32
  let v36 : BitVec 32 := Scalar.muli v35 c2048_i32
  let v37 : BitVec 32 := v36
  let c0_i32_24 : BitVec 32 := 0#32
  ![v37.toNat, 0]
def k0_cond10 (i : grid0.Coords) : BitVec 1 :=
  let arg1 : BitVec 32 := BitVec.ofNat 32 (i 1).val
  let c2_i32_5 : BitVec 32 := 2#32
  let v11 : BitVec 1 := Scalar.cmpi .sge arg1 c2_i32_5
  let c18_i32 : BitVec 32 := 18#32
  let v12 : BitVec 1 := Scalar.cmpi .slt arg1 c18_i32
  let v13 : BitVec 1 := Scalar.andi v11 v12
  let arg0 : BitVec 32 := BitVec.ofNat 32 (i 0).val
  let c1_i32_6 : BitVec 32 := 1#32
  let v14 : BitVec 32 := Scalar.addi arg0 c1_i32_6
  let c4_i32 : BitVec 32 := 4#32
  let v15 : BitVec 1 := Scalar.cmpi .slt v14 c4_i32
  let v16 : BitVec 1 := Scalar.andi v13 v15
  let v17 : BitVec 32 := Scalar.extui v16
  let c0_i32_7 : BitVec 32 := 0#32
  let v18 : BitVec 1 := Scalar.cmpi .ne v17 c0_i32_7
  v18

def k0_cond11 (i : grid0.Coords) : BitVec 1 :=
  let arg1 : BitVec 32 := BitVec.ofNat 32 (i 1).val
  let c2_i32_13 : BitVec 32 := 2#32
  let v25 : BitVec 1 := Scalar.cmpi .eq arg1 c2_i32_13
  let v26 : BitVec 32 := Scalar.extui v25
  let c0_i32_14 : BitVec 32 := 0#32
  let v27 : BitVec 1 := Scalar.cmpi .ne v26 c0_i32_14
  v27

def k0_mult8 (i : grid0.Coords) : BitVec 32 :=
  let arg0 : BitVec 32 := BitVec.ofNat 32 (i 0).val
  let c1_i32_33 : BitVec 32 := 1#32
  let v69 : BitVec 32 := Scalar.addi arg0 c1_i32_33
  let c2048_i32_34 : BitVec 32 := 2048#32
  let v70 : BitVec 32 := Scalar.muli v69 c2048_i32_34
  v70
def k0_off8 (i : grid0.Coords) : Fin 2 → Nat :=
  let arg0 : BitVec 32 := BitVec.ofNat 32 (i 0).val
  let c1_i32_33 : BitVec 32 := 1#32
  let v69 : BitVec 32 := Scalar.addi arg0 c1_i32_33
  let c2048_i32_34 : BitVec 32 := 2048#32
  let v70 : BitVec 32 := Scalar.muli v69 c2048_i32_34
  let v71 : BitVec 32 := v70
  let c0_i32_35 : BitVec 32 := 0#32
  ![v71.toNat, 0]
def k0_mult9 (i : grid0.Coords) : BitVec 32 :=
  let arg1 : BitVec 32 := BitVec.ofNat 32 (i 1).val
  let c2_i32_15 : BitVec 32 := 2#32
  let v28 : BitVec 32 := Scalar.subi arg1 c2_i32_15
  let c1_i32_16 : BitVec 32 := 1#32
  let v29 : BitVec 32 := Scalar.muli v28 c1_i32_16
  let c0_i32_17 : BitVec 32 := 0#32
  let v30 : BitVec 32 := Scalar.addi v29 c0_i32_17
  let c128_i32 : BitVec 32 := 128#32
  let v32 : BitVec 32 := Scalar.muli v30 c128_i32
  v32
def k0_off9 (i : grid0.Coords) : Fin 2 → Nat :=
  let arg1 : BitVec 32 := BitVec.ofNat 32 (i 1).val
  let c2_i32_15 : BitVec 32 := 2#32
  let v28 : BitVec 32 := Scalar.subi arg1 c2_i32_15
  let c1_i32_16 : BitVec 32 := 1#32
  let v29 : BitVec 32 := Scalar.muli v28 c1_i32_16
  let c0_i32_17 : BitVec 32 := 0#32
  let v30 : BitVec 32 := Scalar.addi v29 c0_i32_17
  let c128_i32 : BitVec 32 := 128#32
  let v32 : BitVec 32 := Scalar.muli v30 c128_i32
  let v33 : BitVec 32 := v32
  let v36 : Index := Scalar.indexCast v33
  let c0_19 : Index := 0#32
  ![v36.toNat, 0]
def k0_off10 (i : grid0.Coords) : Fin 2 → Nat :=
  let c0_i32_24 : BitVec 32 := 0#32
  let arg0 : BitVec 32 := BitVec.ofNat 32 (i 0).val
  let c1_i32_18 : BitVec 32 := 1#32
  let v31 : BitVec 32 := Scalar.addi arg0 c1_i32_18
  let c2048_i32 : BitVec 32 := 2048#32
  let v34 : BitVec 32 := Scalar.muli v31 c2048_i32
  let arg1 : BitVec 32 := BitVec.ofNat 32 (i 1).val
  let c2_i32_15 : BitVec 32 := 2#32
  let v28 : BitVec 32 := Scalar.subi arg1 c2_i32_15
  let c1_i32_16 : BitVec 32 := 1#32
  let v29 : BitVec 32 := Scalar.muli v28 c1_i32_16
  let c0_i32_17 : BitVec 32 := 0#32
  let v30 : BitVec 32 := Scalar.addi v29 c0_i32_17
  let c128_i32 : BitVec 32 := 128#32
  let v32 : BitVec 32 := Scalar.muli v30 c128_i32
  let v33 : BitVec 32 := v32
  let v35 : BitVec 32 := Scalar.addi v34 v33
  let c2048_i32_23 : BitVec 32 := 2048#32
  let v48 : BitVec 32 := Scalar.divsi v35 c2048_i32_23
  let v49 : BitVec 32 := Scalar.addi c0_i32_24 v48
  let v50 : Index := Scalar.indexCast v49
  let c0_25 : Index := 0#32
  ![v50.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .slt arg1 c10_i32
  let c64_i32 : BitVec 32 := 64#32
  let v1 : BitVec 32 := Scalar.muli arg1 c64_i32
  let c10_i32_0 : BitVec 32 := 10#32
  let v2 : BitVec 32 := Scalar.subi arg1 c10_i32_0
  let c64_i32_1 : BitVec 32 := 64#32
  let v3 : BitVec 32 := Scalar.muli v2 c64_i32_1
  let c642_i32 : BitVec 32 := 642#32
  let v4 : BitVec 32 := Scalar.addi c642_i32 v3
  let v5 : BitVec 32 := Scalar.select v0 v1 v4
  let c8_i32 : BitVec 32 := 8#32
  let v6 : BitVec 32 := Scalar.muli v5 c8_i32
  let c0_i32 : BitVec 32 := 0#32
  let c0_i32_2 : BitVec 32 := 0#32
  ![v6.toNat, c0_i32.toNat]

def cc0_transform_5 (i : grid0.Coords) : Fin 2 → Nat :=
  let arg0 : BitVec 32 := BitVec.ofNat 32 (i 0).val
  let arg1 : BitVec 32 := BitVec.ofNat 32 (i 1).val
  let c320_i32 : BitVec 32 := 320#32
  let c0_i32 : BitVec 32 := 0#32
  let c0_i32_0 : BitVec 32 := 0#32
  ![c320_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S132x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S132x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S4x2048x2048 : Shape := ⟨3, ![4, 2048, 2048]⟩
abbrev S132x6144 : Shape := ⟨2, ![132, 6144]⟩
abbrev S1x2048 : Shape := ⟨2, ![1, 2048]⟩
abbrev S1x2048x9232 : Shape := ⟨3, ![1, 2048, 9232]⟩
abbrev S4x6144 : Shape := ⟨2, ![4, 6144]⟩
abbrev S4x2048 : Shape := ⟨2, ![4, 2048]⟩
abbrev S_ : Shape := ⟨0, ![]⟩
abbrev S4x2048x1 : Shape := ⟨3, ![4, 2048, 1]⟩
abbrev S2048 : Shape := ⟨1, ![2048]⟩
abbrev S1x1x2048 : Shape := ⟨3, ![1, 1, 2048]⟩
abbrev S4x1x2048 : Shape := ⟨3, ![4, 1, 2048]⟩
abbrev S2048x9232 : Shape := ⟨2, ![2048, 9232]⟩
abbrev S4x2048x9232 : Shape := ⟨3, ![4, 2048, 9232]⟩
abbrev S4x2048x1024 : Shape := ⟨3, ![4, 2048, 1024]⟩
abbrev S4x2048x512 : Shape := ⟨3, ![4, 2048, 512]⟩
abbrev S4x2048x16 : Shape := ⟨3, ![4, 2048, 16]⟩
abbrev S4x2048x9216 : Shape := ⟨3, ![4, 2048, 9216]⟩
abbrev S8192x9216 : Shape := ⟨2, ![8192, 9216]⟩
abbrev S8192x16 : Shape := ⟨2, ![8192, 16]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S132x6144, .f32⟩
  | .hbm, ⟨2, _⟩ => ⟨S1x2048, .f32⟩
  | .hbm, ⟨3, _⟩ => ⟨S1x2048x9232, .f32⟩
  | .hbm, ⟨4, _⟩ => ⟨S4x6144, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S4x1x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x2048x2048, .f32⟩
  | .hbm, ⟨30, _⟩ => ⟨S4x2048x2048, .f32⟩
  | .hbm, ⟨31, _⟩ => ⟨S4x1x2048, .f32⟩
  | .hbm, ⟨32, _⟩ => ⟨S4x2048x2048, .f32⟩
  | .hbm, ⟨33, _⟩ => ⟨S4x2048x2048, .f32⟩
  | .hbm, ⟨34, _⟩ => ⟨S2048x9232, .f32⟩
  | .hbm, ⟨35, _⟩ => ⟨S4x2048x9232, .f32⟩
  | .hbm, ⟨36, _⟩ => ⟨S4x2048x1024, .f32⟩
  | .hbm, ⟨37, _⟩ => ⟨S4x2048x1024, .f32⟩
  | .hbm, ⟨38, _⟩ => ⟨S4x2048x512, .f32⟩
  | .hbm, ⟨39, _⟩ => ⟨S4x2048x512, .f32⟩
  | .hbm, ⟨40, _⟩ => ⟨S4x2048x1024, .f32⟩
  | .hbm, ⟨41, _⟩ => ⟨S4x2048x1024, .f32⟩
  | .hbm, ⟨42, _⟩ => ⟨S4x2048x16, .f32⟩
  | .hbm, ⟨43, _⟩ => ⟨S4x2048x2048, .f32⟩
  | .hbm, ⟨44, _⟩ => ⟨S4x2048x2048, .f32⟩
  | .hbm, ⟨45, _⟩ => ⟨S4x2048x9216, .f32⟩
  | .hbm, ⟨46, _⟩ => ⟨S8192x9216, .f32⟩
  | .hbm, ⟨47, _⟩ => ⟨S8192x16, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Proof.Gla.Stages.lean ====
/- The stages of the gated-linear-attention kernel, as functions of whole blocks: what its body computes for one tile of
   sixteen sequences, written once per stage at variable offsets, over every float instance. -/
module

public import proofs.«01_k».proof.Proof.Gen.KernelIdeal.Skeleton

@[expose] public section

set_option maxRecDepth 16384

noncomputable section

namespace Gla

open Idealize.ShloMosaic Idealize.SL.Sem
open Cert.KernelIdeal Cert.KernelIdeal.Gen

variable {F : FTy → Type} [FloatOps F] [Named F]

/-- The zero vector a sequence's running total starts from. -/
def zero1 : FVec F S1x512 .f32 := broadcast S1x512 (Scalar.ofBits .f32 0x00000000#32)

/-- Eight rows of zeros: what is added to the running sums of one sequence. -/
def zero8 : FVec F S8x512 .f32 :=
  broadcastTo S8x512 (shapeCast S1x512 zero1 shapeCasts_S1x512_S1x512) broadcasts_S1x512_S8x512

/-- One sequence's total, on its eight rows. -/
def row8 (T : FVec F S16x512 .f32) (j : ℕ) (hj : S16x512.Slices ![j, 0] S1x512) : FVec F S8x512 .f32 :=
  broadcastTo S8x512 (shapeCast S1x512 (addf zero1 (extractStridedSlice S1x512 ![j, 0] T hj)) shapeCasts_S1x512_S1x512)
    broadcasts_S1x512_S8x512

/-- The running sums of the gates inside each sequence. -/
def cum8 (C : FVec F S128x512 .f32) : FVec F S128x512 .f32 :=
  addf C (concatenate S128x512 0 [⟨S8x512, zero8⟩, ⟨S8x512, zero8⟩, ⟨S8x512, zero8⟩, ⟨S8x512, zero8⟩, ⟨S8x512, zero8⟩, ⟨S8x512, zero8⟩, ⟨S8x512, zero8⟩, ⟨S8x512, zero8⟩, ⟨S8x512, zero8⟩, ⟨S8x512, zero8⟩, ⟨S8x512, zero8⟩, ⟨S8x512, zero8⟩, ⟨S8x512, zero8⟩, ⟨S8x512, zero8⟩, ⟨S8x512, zero8⟩, ⟨S8x512, zero8⟩] concatenates_S8x512_S8x512_S8x512_S8x512_S8x512_S8x512_S8x512_S8x512_S8x512_S8x512_S8x512_S8x512_S8x512_S8x512_S8x512_S8x512_S128x512_d0)

/-- Each sequence's total of the gates, on its eight rows. -/
def tot8 (T : FVec F S16x512 .f32) : FVec F S128x512 .f32 :=
  concatenate S128x512 0 [⟨S8x512, row8 T 0 slices_S16x512_o0_0_S1x512⟩, ⟨S8x512, row8 T 1 slices_S16x512_o1_0_S1x512⟩, ⟨S8x512, row8 T 2 slices_S16x512_o2_0_S1x512⟩, ⟨S8x512, row8 T 3 slices_S16x512_o3_0_S1x512⟩, ⟨S8x512, row8 T 4 slices_S16x512_o4_0_S1x512⟩, ⟨S8x512, row8 T 5 slices_S16x512_o5_0_S1x512⟩, ⟨S8x512, row8 T 6 slices_S16x512_o6_0_S1x512⟩, ⟨S8x512, row8 T 7 slices_S16x512_o7_0_S1x512⟩, ⟨S8x512, row8 T 8 slices_S16x512_o8_0_S1x512⟩, ⟨S8x512, row8 T 9 slices_S16x512_o9_0_S1x512⟩, ⟨S8x512, row8 T 10 slices_S16x512_o10_0_S1x512⟩, ⟨S8x512, row8 T 11 slices_S16x512_o11_0_S1x512⟩, ⟨S8x512, row8 T 12 slices_S16x512_o12_0_S1x512⟩, ⟨S8x512, row8 T 13 slices_S16x512_o13_0_S1x512⟩, ⟨S8x512, row8 T 14 slices_S16x512_o14_0_S1x512⟩, ⟨S8x512, row8 T 15 slices_S16x512_o15_0_S1x512⟩] concatenates_S8x512_S8x512_S8x512_S8x512_S8x512_S8x512_S8x512_S8x512_S8x512_S8x512_S8x512_S8x512_S8x512_S8x512_S8x512_S8x512_S128x512_d0

/-- A head's 128 columns. -/
def col (X : FVec F S128x512 .f32) (o : ℕ) (ho : S128x512.Slices ![0, o] S128x128) : FVec F S128x128 .f32 :=
  extractStridedSlice S128x128 ![0, o] X ho

/-- A head's scaled queries. -/
def qs (X : FVec F S128x512 .f32) (o : ℕ) (ho : S128x512.Slices ![0, o] S128x128) : FVec F S128x128 .f32 :=
  mulf (col X o ho) (broadcast S128x128 (Scalar.ofBits .f32 0x3DB504F3#32))

/-- A head's 256 columns of the values. -/
def vcol (X : FVec F S128x1024 .f32) (p : ℕ) (hp : S128x1024.Slices ![0, p] S128x256) : FVec F S128x256 .f32 :=
  extractStridedSlice S128x256 ![0, p] X hp

/-- Queries weighted by two to the power of a running sum. -/
def qdec (Q c : FVec F S128x128 .f32) : FVec F S128x128 .bf16 := truncf .bf16 (mulf Q (exp2 c)) bitsLt_bf16_f32

/-- Keys weighted by two to the power of the rest of the total. -/
def kdec (K t c : FVec F S128x128 .f32) : FVec F S128x128 .f32 := mulf K (exp2 (subf t c))

/-- The products of weighted queries and keys. -/
def prods (Q K : FVec F S128x128 .bf16) : FVec F S128x128 .f32 :=
  matmul dot_S128x128_S128x128_S128x128_1_1_0_0_n_n none Q K (constant S128x128 .f32 0x00000000#32)

/-- The scores of a head's queries against its keys: each pair at the level where their places part. -/
def scores (Q K C4 T4 C2 T2 G : FVec F S128x128 .f32) : FVec F S128x128 .f32 :=
  select (k0_pay5 (iota .tc S128x128 32 [0] iota_S128x128_d0_w32) (iota .tc S128x128 32 [1] iota_S128x128_d1_w32) k0_pay4)
    (prods (qdec Q G) (truncf .bf16 K bitsLt_bf16_f32))
    (select k0_pay3 (prods (qdec Q C2) (truncf .bf16 (kdec K T2 C2) bitsLt_bf16_f32))
      (select k0_pay2 (prods (qdec Q C4) (truncf .bf16 (kdec K T4 C4) bitsLt_bf16_f32))
        (broadcast S128x128 (Scalar.ofBits .f32 0x00000000#32))))

/-- What a head reads from its own tile: the earlier tokens by the scores, the token itself by the plain product. -/
def intra (S Q K : FVec F S128x128 .f32) (V : FVec F S128x256 .f32) : FVec F S128x256 .f32 :=
  addf (matmul dot_S128x128_S128x256_S128x256_1_0_0_1_n_n none (truncf .bf16 S bitsLt_bf16_f32) (truncf .bf16 V bitsLt_bf16_f32)
      (constant S128x256 .f32 0x00000000#32))
    (mulf (broadcastTo S128x256 (shapeCast S128x1 (multiReduction .add [1] S128 (mulf Q K) 0x00000000#32 reduces_S128x128_S128 (.inl rfl) rfl)
      shapeCasts_S128_S128x1) broadcasts_S128x1_S128x256) V)

/-- What one sequence's eight queries read from its carried state. -/
def seqRow (QD : FVec F S128x128 .bf16) (s : Vec F S1x1x128x256 .f32) (r : ℕ) (hr : S128x128.Slices ![r, 0] S8x128) : FVec F S8x256 .f32 :=
  matmul dot_S8x128_S128x256_S8x256_1_0_0_1_n_n none (extractStridedSlice S8x128 ![r, 0] QD hr)
    (truncf .bf16 (shapeCast S128x256 s shapeCasts_S1x1x128x256_S128x256) bitsLt_bf16_f32) (constant S8x256 .f32 0x00000000#32)

/-- What the sixteen sequences read from their carried states, one below the other. -/
def inter (QD : FVec F S128x128 .bf16) (s : Fin 16 → Vec F S1x1x128x256 .f32) : FVec F S128x256 .f32 :=
  concatenate S128x256 0 [⟨S8x256, seqRow QD (s 0) 0 slices_S128x128_o0_0_S8x128⟩, ⟨S8x256, seqRow QD (s 1) 8 slices_S128x128_o8_0_S8x128⟩, ⟨S8x256, seqRow QD (s 2) 16 slices_S128x128_o16_0_S8x128⟩, ⟨S8x256, seqRow QD (s 3) 24 slices_S128x128_o24_0_S8x128⟩, ⟨S8x256, seqRow QD (s 4) 32 slices_S128x128_o32_0_S8x128⟩, ⟨S8x256, seqRow QD (s 5) 40 slices_S128x128_o40_0_S8x128⟩, ⟨S8x256, seqRow QD (s 6) 48 slices_S128x128_o48_0_S8x128⟩, ⟨S8x256, seqRow QD (s 7) 56 slices_S128x128_o56_0_S8x128⟩, ⟨S8x256, seqRow QD (s 8) 64 slices_S128x128_o64_0_S8x128⟩, ⟨S8x256, seqRow QD (s 9) 72 slices_S128x128_o72_0_S8x128⟩, ⟨S8x256, seqRow QD (s 10) 80 slices_S128x128_o80_0_S8x128⟩, ⟨S8x256, seqRow QD (s 11) 88 slices_S128x128_o88_0_S8x128⟩, ⟨S8x256, seqRow QD (s 12) 96 slices_S128x128_o96_0_S8x128⟩, ⟨S8x256, seqRow QD (s 13) 104 slices_S128x128_o104_0_S8x128⟩, ⟨S8x256, seqRow QD (s 14) 112 slices_S128x128_o112_0_S8x128⟩, ⟨S8x256, seqRow QD (s 15) 120 slices_S128x128_o120_0_S8x128⟩] concatenates_S8x256_S8x256_S8x256_S8x256_S8x256_S8x256_S8x256_S8x256_S8x256_S8x256_S8x256_S8x256_S8x256_S8x256_S8x256_S8x256_S128x256_d0

/-- A row divided by the root of its mean square. -/
def rms (X : FVec F S128x256 .f32) : FVec F S128x256 .f32 :=
  mulf X (broadcastTo S128x256 (rsqrt (addf (divf (shapeCast S128x1 (multiReduction .add [1] S128 (mulf X X) 0x00000000#32 reduces_S128x256_S128 (.inl rfl) rfl)
      shapeCasts_S128_S128x1) (broadcast S128x1 (Scalar.ofBits .f32 0x43800000#32)))
    (broadcast S128x1 (Scalar.ofBits .f32 0x358637BD#32)))) broadcasts_S128x1_S128x256)

/-- One head's output before its normalisation. -/
def headO (Q K C T C4 T4 C2 T2 G : FVec F S128x128 .f32) (V : FVec F S128x256 .f32) (s : Fin 16 → Vec F S1x1x128x256 .f32) : FVec F S128x256 .f32 :=
  addf (intra (scores Q K C4 T4 C2 T2 G) Q K V) (inter (qdec Q C) s)

/-- The four normalised heads side by side, with the gain and the gating of the output branch. -/
def gated (h0 h1 h2 h3 : FVec F S128x256 .f32) (gain : Vec F S1x1024 .f32) (zb : Vec F S128x1024 .f32) : FVec F S128x1024 .bf16 :=
  truncf .bf16 (mulf (mulf (concatenate S128x1024 1 [⟨S128x256, rms h0⟩, ⟨S128x256, rms h1⟩, ⟨S128x256, rms h2⟩, ⟨S128x256, rms h3⟩]
      concatenates_S128x256_S128x256_S128x256_S128x256_S128x1024_d1)
    (broadcastTo S128x1024 gain broadcasts_S1x1024_S128x1024)) (mulf zb (logistic zb))) bitsLt_bf16_f32

/-- One branch projected and weighted by its merge gate. -/
def branch (ma mb : Vec F S128x1024 .f32) (y : FVec F S128x1024 .bf16) (w : Vec F S1024x2048 .bf16) : FVec F S128x2048 .f32 :=
  mulf (logistic (concatenate S128x2048 1 [⟨S128x1024, ma⟩, ⟨S128x1024, mb⟩] concatenates_S128x1024_S128x1024_S128x2048_d1))
    (matmul dot_S128x1024_S1024x2048_S128x2048_1_0_0_1_n_n none y (shapeCast S1024x2048 w shapeCasts_S1024x2048_S1024x2048)
      (constant S128x2048 .f32 0x00000000#32))

/-- The two branches merged. -/
def merged (a b : FVec F S128x2048 .f32) : FVec F S128x2048 .bf16 := truncf .bf16 (addf a b) bitsLt_bf16_f32

/-- Which rows of the tile are of the sequence between `lo` and `hi`. -/
def ofSeq (lo hi : BitVec 32) : IVec S128x1 1 :=
  shapeCast S128x1 (andi (cmpi .sge (iota .tc S128x1 32 [0] iota_S128x1_d0_w32) (broadcast S128x1 lo))
    (cmpi .slt (iota .tc S128x1 32 [0] iota_S128x1_d0_w32) (broadcast S128x1 hi))) shapeCasts_S128x1_S128x1

/-- The decay of a carried state over its eight tokens. -/
def decay (T : FVec F S128x128 .f32) (r : ℕ) (hr : S128x128.Slices ![r, 0] S1x128) : FVec F S128x128 .f32 :=
  transpose S128x128 [1, 0] (broadcastTo S128x128 (shapeCast S1x128 (exp2 (extractStridedSlice S1x128 ![r, 0] T hr)) shapeCasts_S1x128_S1x128)
    broadcasts_S1x128_S128x128) transposes_S128x128_p1_0_S128x128

/-- The state a sequence leaves in a head: the carried one decayed, and the tile's weighted keys against its values. -/
def newState (T KD : FVec F S128x128 .f32) (V : FVec F S128x256 .f32) (s : Vec F S1x1x128x256 .f32) (r : ℕ) (hr : S128x128.Slices ![r, 0] S1x128)
    (lo hi : BitVec 32) : FVec F S1x1x128x256 .f32 :=
  shapeCast S1x1x128x256 (addf
    (mulf (concatenate S128x256 1 [⟨S128x128, decay T r hr⟩, ⟨S128x128, decay T r hr⟩] concatenates_S128x128_S128x128_S128x256_d1)
      (shapeCast S128x256 s shapeCasts_S1x1x128x256_S128x256))
    (matmul dot_S128x128_S128x256_S128x256_0_0_1_1_n_n none
      (truncf .bf16 (select (broadcastTo S128x128 (ofSeq lo hi) broadcasts_S128x1_S128x128) KD (broadcast S128x128 (Scalar.ofBits .f32 0x00000000#32))) bitsLt_bf16_f32)
      (truncf .bf16 V bitsLt_bf16_f32) (constant S128x256 .f32 0x00000000#32))) shapeCasts_S128x256_S1x1x128x256

end Gla
-- ==== Proof.Gla.Tile.lean ====
/- One tile of the gated-linear-attention kernel put together from its stages. -/
module

public import proofs.«01_k».proof.Proof.Gla.Stages
public import Idealize.ShloMosaic.Lib.Pipeline.Frame

@[expose] public section

set_option maxRecDepth 16384

noncomputable section

namespace Gla

open Idealize.ShloMosaic Idealize.SL.Sem
open Cert.KernelIdeal Cert.KernelIdeal.Gen

variable {F : FTy → Type} [FloatOps F] [Named F]

theorem inbPiece : ∀ (i : Fin 16) (h : Fin 4) (a : Fin 4), (![i.val, h.val, 0, 0] : Fin 4 → ℕ) a + S1x1x128x256.size a ≤ S16x4x128x256.size a := by
  decide

/-- The carried state of sequence `i`, head `h`. -/
def piece (x10 : Vec F S16x4x128x256 .f32) (h : Fin 4) (i : Fin 16) : Vec F S1x1x128x256 .f32 :=
  fun y => x10 ((Rect.unit (s := S16x4x128x256) ![i.val, h.val, 0, 0] S1x1x128x256.size (inbPiece i h)).idx y)

/-- What a load of a whole staged block reads. -/
def rd {s : Shape} {e : EltTy} (v : Vec F s e) (off : Fin s.rank → ℕ) (inb : ∀ a, off a + s.size a ≤ s.size a) : Vec F s e :=
  fun y => v ((Rect.unit off s.size inb).idx y)

theorem rd_eq {s : Shape} {e : EltTy} (v : Vec F s e) (off : Fin s.rank → ℕ) (inb : ∀ a, off a + s.size a ≤ s.size a) : rd v off inb = v := by
  funext y
  refine congrArg v (funext fun a => Fin.ext ?_)
  have h1 := inb a
  show off a + 1 * (y a).val = (y a).val
  omega

/-- The gates' running sums inside each sequence, of a tile. -/
def cumK (g : FVec F S128x512 .f32) (x11 : Vec F S640x128 .bf16) : FVec F S128x512 .f32 := cum8 (k0_pay10 g x11)

/-- The gates' totals of each sequence, of a tile. -/
def totK (g : FVec F S128x512 .f32) (x11 : Vec F S640x128 .bf16) : FVec F S128x512 .f32 := tot8 (k0_pay11 g x11)

/-- The part of the table sums from row `r`. -/
def level (g : FVec F S128x512 .f32) (x11 : Vec F S640x128 .bf16) (r : ℕ) (hr : S640x512.Slices ![r, 0] S128x512) : FVec F S128x512 .f32 :=
  extractStridedSlice S128x512 ![r, 0] (k0_pay8 g x11) hr

/-- One head of a tile before its normalisation. -/
def headK (g : FVec F S128x512 .f32) (x0 x1 : Vec F S128x512 .f32) (x2 : Vec F S128x1024 .f32) (x10 : Vec F S16x4x128x256 .f32)
    (x11 : Vec F S640x128 .bf16) (h : Fin 4) (o : ℕ) (ho : S128x512.Slices ![0, o] S128x128) (p : ℕ) (hp : S128x1024.Slices ![0, p] S128x256) :
    FVec F S128x256 .f32 :=
  headO (qs x0 o ho) (col x1 o ho) (col (cumK g x11) o ho) (col (totK g x11) o ho)
    (col (level g x11 128 slices_S640x512_o128_0_S128x512) o ho) (col (level g x11 256 slices_S640x512_o256_0_S128x512) o ho)
    (col (level g x11 384 slices_S640x512_o384_0_S128x512) o ho) (col (level g x11 512 slices_S640x512_o512_0_S128x512) o ho)
    (col (k0_pay9 g) o ho) (vcol x2 p hp) (piece x10 h)

/-- The merged output of a tile. -/
def mergedK (x0 x1 : Vec F S128x512 .f32) (x2 x3 x4 x5 x6 x7 : Vec F S128x1024 .f32) (x8 : Vec F S128x16 .f32) (x9 : Vec F S128x1024 .bf16)
    (x10 : Vec F S16x4x128x256 .f32) (x11 : Vec F S640x128 .bf16) (x12 : Vec F S16x512 .bf16) (x13 : Vec F S1x512 .f32)
    (x14 : Vec F S1x1024 .f32) (x15 x16 : Vec F S1024x2048 .bf16) : FVec F S128x2048 .bf16 :=
  merged (branch x4 x5 x9 x15)
    (branch x6 x7 (gated
      (headK (k0_pay6 x8 x12 x13) x0 x1 x2 x10 x11 0 0 slices_S128x512_o0_0_S128x128 0 slices_S128x1024_o0_0_S128x256)
      (headK (k0_pay6 x8 x12 x13) x0 x1 x2 x10 x11 1 128 slices_S128x512_o0_128_S128x128 256 slices_S128x1024_o0_256_S128x256)
      (headK (k0_pay6 x8 x12 x13) x0 x1 x2 x10 x11 2 256 slices_S128x512_o0_256_S128x128 512 slices_S128x1024_o0_512_S128x256)
      (headK (k0_pay6 x8 x12 x13) x0 x1 x2 x10 x11 3 384 slices_S128x512_o0_384_S128x128 768 slices_S128x1024_o0_768_S128x256)
      x14 x3) x16)

/-- The state a sequence leaves in a head of a tile. -/
def stateK (g : FVec F S128x512 .f32) (x1 : Vec F S128x512 .f32) (x2 : Vec F S128x1024 .f32) (x10 : Vec F S16x4x128x256 .f32)
    (x11 : Vec F S640x128 .bf16) (h : Fin 4) (i : Fin 16) (o : ℕ) (ho : S128x512.Slices ![0, o] S128x128) (p : ℕ)
    (hp : S128x1024.Slices ![0, p] S128x256) (r : ℕ) (hr : S128x128.Slices ![r, 0] S1x128) (lo hi : BitVec 32) : FVec F S1x1x128x256 .f32 :=
  newState (col (totK g x11) o ho) (kdec (col x1 o ho) (col (totK g x11) o ho) (col (cumK g x11) o ho)) (vcol x2 p hp) (piece x10 h i) r hr lo hi

end Gla
-- ==== Proof.Gla.Masks.lean ====
/- The masks of the gated-linear-attention kernel as facts about rows. -/
module

public import proofs.«01_k».proof.Proof.Gla.Tile
public import Idealize.ShloMosaic.Lib.Pointwise

@[expose] public section

set_option maxRecDepth 16384

noncomputable section

namespace Gla

open Idealize.ShloMosaic Idealize.SL.Sem
open Cert.KernelIdeal Cert.KernelIdeal.Gen

theorem shr0 : ∀ r : Fin 128, IntOp.shrsi .vector (BitVec.ofNat 32 r.val) 0#32 = BitVec.ofNat 32 (r.val / 1) := by decide +kernel

theorem shr1 : ∀ r : Fin 128, IntOp.shrsi .vector (BitVec.ofNat 32 r.val) 1#32 = BitVec.ofNat 32 (r.val / 2) := by decide +kernel

theorem shr2 : ∀ r : Fin 128, IntOp.shrsi .vector (BitVec.ofNat 32 r.val) 2#32 = BitVec.ofNat 32 (r.val / 4) := by decide +kernel

theorem shr3 : ∀ r : Fin 128, IntOp.shrsi .vector (BitVec.ofNat 32 r.val) 3#32 = BitVec.ofNat 32 (r.val / 8) := by decide +kernel

theorem low_bit (n : ℕ) (hn : n < 128) : IntOp.andi (BitVec.ofNat 32 n) 1#32 = BitVec.ofNat 32 (n % 2) :=
  (by decide +kernel : ∀ n : Fin 128, IntOp.andi (BitVec.ofNat 32 n.val) 1#32 = BitVec.ofNat 32 (n.val % 2)) ⟨n, hn⟩

/-- Two small numbers compared as words. -/
theorem eq_word (a b : ℕ) (ha : a < 128) (hb : b < 128) :
    IntOp.cmpi .eq (BitVec.ofNat 32 a) (BitVec.ofNat 32 b) = if a = b then 1#1 else 0#1 :=
  (by decide +kernel : ∀ a b : Fin 128, IntOp.cmpi .eq (BitVec.ofNat 32 a.val) (BitVec.ofNat 32 b.val) = if a.val = b.val then 1#1 else 0#1) ⟨a, ha⟩ ⟨b, hb⟩

/-- Three comparisons joined. -/
theorem and3 (p q r : Prop) [Decidable p] [Decidable q] [Decidable r] :
    IntOp.andi (IntOp.andi (if p then 1#1 else 0#1) (if q then 1#1 else 0#1)) (if r then 1#1 else 0#1)
      = if p ∧ q ∧ r then 1#1 else 0#1 := by
  by_cases hp : p <;> by_cases hq : q <;> by_cases hr : r <;> simp only [hp, hq, hr, if_true, if_false, and_self, and_true, true_and, and_false, false_and] <;> decide

/-- Two rows of one block of 8, in neighbouring blocks of 4. -/
theorem mask4 (r s : Fin 128) : k0_pay2 (ix2 r s)
    = if r.val / 8 = s.val / 8 ∧ r.val / 4 % 2 = 1 ∧ s.val / 4 % 2 = 0 then 1#1 else 0#1 := by
  pointwise [k0_pay2]
  rw [shr3 r, shr3 s, shr2 r, shr2 s, low_bit _ (by omega), low_bit _ (by omega), eq_word _ _ (by omega) (by omega),
    eq_word _ 1 (by omega) (by omega), eq_word _ 0 (by omega) (by omega), and3]

/-- Two rows of one block of 4, in neighbouring blocks of 2. -/
theorem mask2 (r s : Fin 128) : k0_pay3 (ix2 r s)
    = if r.val / 4 = s.val / 4 ∧ r.val / 2 % 2 = 1 ∧ s.val / 2 % 2 = 0 then 1#1 else 0#1 := by
  pointwise [k0_pay3]
  rw [shr2 r, shr2 s, shr1 r, shr1 s, low_bit _ (by omega), low_bit _ (by omega), eq_word _ _ (by omega) (by omega),
    eq_word _ 1 (by omega) (by omega), eq_word _ 0 (by omega) (by omega), and3]

/-- Two rows of one block of 2, in neighbouring blocks of 1. -/
theorem mask1 (r s : Fin 128) : k0_pay5 (iota .tc S128x128 32 [0] iota_S128x128_d0_w32) (iota .tc S128x128 32 [1] iota_S128x128_d1_w32) k0_pay4 (ix2 r s)
    = if r.val / 2 = s.val / 2 ∧ r.val / 1 % 2 = 1 ∧ s.val / 1 % 2 = 0 then 1#1 else 0#1 := by
  pointwise [k0_pay5, k0_pay4]
  rw [shr1 r, shr1 s, shr0 r, shr0 s, low_bit _ (by omega), low_bit _ (by omega), eq_word _ _ (by omega) (by omega),
    eq_word _ 1 (by omega) (by omega), eq_word _ 0 (by omega) (by omega), and3, Nat.div_one, Nat.div_one]

/-- A sequence's rows. -/
theorem ofSeq_bit (j : Fin 16) (lo hi : BitVec 32) (hlo : lo = BitVec.ofNat 32 (8 * j.val)) (hhi : hi = BitVec.ofNat 32 (8 * j.val + 8)) (k : Fin 128) :
    IntOp.andi (IntOp.cmpi .sge (BitVec.ofNat 32 k.val) lo) (IntOp.cmpi .slt (BitVec.ofNat 32 k.val) hi)
      = if k.val / 8 = j.val then 1#1 else 0#1 := by
  subst hlo hhi
  revert j k
  decide +kernel

end Gla
-- ==== Proof.Gla.Spec.lean ====
/- What one sequence of eight tokens of gated linear attention computes, in plain sums over the extended reals, and the
   arithmetic of the decays: the logarithms of the gates are real numbers, so their running sums cancel as reals do. -/
module

public import Idealize.ShloMosaic.Lib.Pointwise
public import Mathlib.Analysis.SpecialFunctions.Pow.Real

@[expose] public section

set_option maxRecDepth 16384

noncomputable section

namespace Gla

open Idealize.ShloMosaic

/-- The running sum of a sequence's log gates up to token `t`. -/
def cumS (l : Fin 8 → ℝ) (t : Fin 8) : ℝ := ∑ u : Fin 8, if u.val ≤ t.val then l u else 0

/-- A head's output for token `t` of a sequence: the carried state read through the decayed query, and the tokens up to
    `t` read by their decayed scores. -/
def oS (Q K : Fin 8 → Fin 128 → EReal) (l : Fin 8 → Fin 128 → ℝ) (V : Fin 8 → EReal) (s0 : Fin 128 → EReal) (t : Fin 8) : EReal :=
  ∑ k : Fin 128, Q t k * ((Real.exp (cumS (fun u => l u k) t) : ℝ) : EReal) * s0 k
    + ∑ u : Fin 8, (if u.val ≤ t.val then
        ∑ k : Fin 128, ((Real.exp (cumS (fun w => l w k) t - cumS (fun w => l w k) u) : ℝ) : EReal) * Q t k * K u k else 0) * V u

/-- The state a sequence leaves at one place of a head: the carried one decayed, and the tokens' keys, decayed to the end,
    against their values. -/
def sS (K : Fin 8 → EReal) (l : Fin 8 → ℝ) (V : Fin 8 → EReal) (s0 : EReal) : EReal :=
  ((Real.exp (cumS l 7) : ℝ) : EReal) * s0
    + ∑ u : Fin 8, K u * ((Real.exp (cumS l 7 - cumS l u) : ℝ) : EReal) * V u

/-- Row `u` of sequence `j` in a tile of sixteen sequences. -/
def row (j : Fin 16) (u : Fin 8) : Fin 128 := ⟨j.val * 8 + u.val, by omega⟩

@[simp] theorem row_val (j : Fin 16) (u : Fin 8) : (row j u).val = j.val * 8 + u.val := rfl

/-- Every row of a tile is a token of a sequence. -/
theorem exists_row (r : Fin 128) : ∃ (j : Fin 16) (t : Fin 8), r = row j t :=
  ⟨⟨r.val / 8, by omega⟩, ⟨r.val % 8, by omega⟩, Fin.ext (by simp only [row_val]; omega)⟩

/-- A sum over a tile's rows of terms that vanish outside one sequence is the sum over its eight rows. -/
theorem sum_rows {M : Type} [AddCommMonoid M] (f : Fin 128 → M) (j : Fin 16) (h : ∀ k : Fin 128, k.val / 8 ≠ j.val → f k = 0) :
    ∑ k, f k = ∑ u : Fin 8, f (row j u) := by
  rw [Fin.sum_univ_tiles 16 8 rfl f]
  refine (Finset.sum_eq_single j (fun b _ hb => ?_) (fun hj => absurd (Finset.mem_univ j) hj)).trans rfl
  refine Finset.sum_eq_zero fun u _ => h _ ?_
  intro e
  apply hb
  apply Fin.ext
  rw [← e]
  show b.val = (b.val * 8 + u.val) / 8
  omega

/-- The real sum of the terms a predicate picks. -/
def pick (P : ℕ → Prop) [DecidablePred P] (f : Fin 128 → ℝ) : ℝ := ∑ k : Fin 128, if P k.val then f k else 0

theorem pick_row (P : ℕ → Prop) [DecidablePred P] (f : Fin 128 → ℝ) (j : Fin 16) (h : ∀ k, P k → k / 8 = j.val) :
    pick P f = ∑ u : Fin 8, if P (j.val * 8 + u.val) then f (row j u) else 0 :=
  sum_rows _ j fun k hk => if_neg fun hp => hk (h _ hp)

/-- The running sum inside the sequence, as a pick of the tile's rows. -/
theorem pick_cum (f : Fin 128 → ℝ) (j : Fin 16) (t : Fin 8) :
    pick (fun k => k / 8 = (row j t).val / 8 ∧ k ≤ (row j t).val) f = cumS (fun u => f (row j u)) t := by
  rw [pick_row _ f j (by intro k hk; have h1 := hk.1; simp only [row_val] at h1; omega)]
  refine Finset.sum_congr rfl fun u _ => ?_
  refine if_congr ?_ rfl rfl
  simp only [row_val]
  omega

/-- The whole sequence's sum, likewise. -/
theorem pick_tot (f : Fin 128 → ℝ) (j : Fin 16) (t : Fin 8) :
    pick (fun k => k / 8 = (row j t).val / 8) f = cumS (fun u => f (row j u)) 7 := by
  rw [pick_row _ f j (by intro k hk; simp only [row_val] at hk; omega)]
  refine Finset.sum_congr rfl fun u _ => ?_
  refine if_congr ?_ rfl rfl
  simp only [row_val]
  show _ ↔ u.val ≤ 7
  omega

/-- The sum of the gates after token `s` up to token `t`. -/
theorem pick_between (f : Fin 128 → ℝ) (j : Fin 16) (t s : Fin 8) (hst : s.val ≤ t.val) :
    pick (fun k => (row j s).val < k ∧ k ≤ (row j t).val) f = cumS (fun u => f (row j u)) t - cumS (fun u => f (row j u)) s := by
  rw [pick_row _ f j (by intro k hk; have h1 := hk.1; have h2 := hk.2; simp only [row_val] at h1 h2; omega)]
  unfold cumS
  rw [← Finset.sum_sub_distrib]
  refine Finset.sum_congr rfl fun u _ => ?_
  have e : (((row j s).val < j.val * 8 + u.val ∧ j.val * 8 + u.val ≤ (row j t).val) ↔ (s.val < u.val ∧ u.val ≤ t.val)) := by
    simp only [row_val]; omega
  rw [if_congr e rfl rfl]
  by_cases h1 : u.val ≤ t.val <;> by_cases h2 : u.val ≤ s.val
  · rw [if_neg (by omega), if_pos h1, if_pos h2]; ring
  · rw [if_pos ⟨by omega, h1⟩, if_pos h1, if_neg h2]; ring
  · omega
  · rw [if_neg (by omega), if_neg h1, if_neg h2]; ring

/-- One level of the scores: where two tokens part between neighbouring blocks `A ∪ B` and `C` (the rest of the earlier
    token's block, the later token's block up to it), the picks add up. -/
theorem pick_split (f : Fin 128 → ℝ) (A B C D : ℕ → Prop) [DecidablePred A] [DecidablePred B] [DecidablePred C] [DecidablePred D]
    (h : ∀ k, (D k ↔ A k ∨ (B k ∧ ¬ C k)) ∧ (C k → B k) ∧ ¬ (A k ∧ B k)) :
    pick A f + (pick B f - pick C f) = pick D f := by
  unfold pick
  rw [← Finset.sum_sub_distrib, ← Finset.sum_add_distrib]
  refine Finset.sum_congr rfl fun k _ => ?_
  obtain ⟨h1, h2, h3⟩ := h k.val
  by_cases hA : A k.val <;> by_cases hB : B k.val <;> by_cases hC : C k.val <;> by_cases hD : D k.val <;>
    simp only [hA, hB, hC, hD, if_true, if_false] <;> first | (exfalso; tauto) | ring

/-- Two to the power of a logarithm in base two. -/
theorem exp2_log (x : ℝ) : Ideal.exp2 ((x / Real.log 2 : ℝ) : EReal) = ((Real.exp x : ℝ) : EReal) := by
  rw [Ideal.exp2_coe]
  congr 1
  show (2 : ℝ) ^ (x / Real.log 2) = Real.exp x
  rw [Real.rpow_def_of_pos (by norm_num)]
  congr 1
  have : Real.log 2 ≠ 0 := ne_of_gt (Real.log_pos (by norm_num))
  field_simp

theorem sub_log (x y : ℝ) : ((x / Real.log 2 : ℝ) : EReal) - ((y / Real.log 2 : ℝ) : EReal) = (((x - y) / Real.log 2 : ℝ) : EReal) := by
  rw [← EReal.coe_sub, sub_div]

/-- A decayed query times a decayed key. -/
theorem mul_decay (q k : EReal) (x y z : ℝ) (h : x + y = z) :
    q * ((Real.exp x : ℝ) : EReal) * (k * ((Real.exp y : ℝ) : EReal)) = ((Real.exp z : ℝ) : EReal) * q * k := by
  rw [← h, Real.exp_add, EReal.coe_mul]
  ac_rfl

end Gla
-- ==== Proof.Gla.Sums.lean ====
/- The table sums of the gated-linear-attention kernel read at a row: the gates' logarithms, as real numbers, summed over
   the rows the table picks. -/
module

public import proofs.«01_k».proof.Proof.Gla.Masks
public import proofs.«01_k».proof.Proof.Gla.Spec

@[expose] public section

set_option maxRecDepth 16384

noncomputable section

namespace Gla

open Idealize.ShloMosaic Idealize.SL.Sem
open Cert.KernelIdeal Cert.KernelIdeal.Gen

/-- The kernel's gates are the real log gates in base two. -/
def GatesAre (g : FVec Ideal S128x512 .f32) (l : Fin 128 → Fin 512 → ℝ) : Prop :=
  ∀ (k : Fin 128) (c : Fin 512), k0_pay9 g (ix2 k c) = ((l k c / Real.log 2 : ℝ) : EReal)

/-- The table's part from row `o` picks, at row `r`, the rows `P r` holds of. -/
def PicksAt (x11 : Vec Ideal S640x128 .bf16) (o : ℕ) (ho : o + 128 ≤ 640) (P : ℕ → ℕ → Prop) [∀ r, DecidablePred (P r)] : Prop :=
  ∀ r k : Fin 128, (x11 (ix2 ⟨o + r.val, by omega⟩ k) : EReal) = if P r.val k.val then 1 else 0

/-- The table: the running sums inside a sequence, and the running sums and totals of blocks of four and of two rows. -/
structure Table (x11 : Vec Ideal S640x128 .bf16) : Prop where
  c8 : PicksAt x11 0 (by omega) fun r k => k / 8 = r / 8 ∧ k ≤ r
  c4 : PicksAt x11 128 (by omega) fun r k => k / 4 = r / 4 ∧ k ≤ r
  t4 : PicksAt x11 256 (by omega) fun r k => k / 4 = r / 4
  c2 : PicksAt x11 384 (by omega) fun r k => k / 2 = r / 2 ∧ k ≤ r
  t2 : PicksAt x11 512 (by omega) fun r k => k / 2 = r / 2

theorem coe_sum (f : Fin 128 → ℝ) : ((∑ k, f k : ℝ) : EReal) = ∑ k, ((f k : ℝ) : EReal) :=
  map_sum (⟨⟨(fun x : ℝ => (x : EReal)), rfl⟩, EReal.coe_add⟩ : ℝ →+ EReal) f Finset.univ

variable {g : FVec Ideal S128x512 .f32} {l : Fin 128 → Fin 512 → ℝ} {x11 : Vec Ideal S640x128 .bf16}

/-- A row of the table times the gates. -/
theorem pay8_at (hg : GatesAre g l) {o : ℕ} {ho : o + 128 ≤ 640} {P : ℕ → ℕ → Prop} [∀ r, DecidablePred (P r)] (hP : PicksAt x11 o ho P)
    (r : Fin 128) (c : Fin 512) :
    k0_pay8 g x11 (ix2 ⟨o + r.val, by omega⟩ c) = ((pick (P r.val) (fun k => l k c) / Real.log 2 : ℝ) : EReal) := by
  have e : k0_pay8 g x11 (ix2 ⟨o + r.val, by omega⟩ c) = ∑ k, x11 (ix2 ⟨o + r.val, by omega⟩ k) * k0_pay9 g (ix2 k c) := by
    pointwise [k0_pay8, k0_pay9, k0_pay7]
  rw [e]
  unfold pick
  rw [Finset.sum_div, coe_sum]
  refine Finset.sum_congr rfl fun k _ => ?_
  rw [hg k c]
  refine (congrArg (fun z : EReal => z * ((l k c / Real.log 2 : ℝ) : EReal)) (hP r k)).trans ?_
  by_cases h : P r.val k.val
  · simp only [h, if_true, one_mul]
  · simp only [h, if_false, zero_mul, zero_div, EReal.coe_zero]

theorem level_at (hg : GatesAre g l) {o : ℕ} {ho : o + 128 ≤ 640} {P : ℕ → ℕ → Prop} [∀ r, DecidablePred (P r)] (hP : PicksAt x11 o ho P)
    (hs : S640x512.Slices ![o, 0] S128x512) (r : Fin 128) (c : Fin 512) :
    level g x11 o hs (ix2 r c) = ((pick (P r.val) (fun k => l k c) / Real.log 2 : ℝ) : EReal) := by
  rw [← pay8_at hg hP r c]
  pointwise [level]

set_option maxHeartbeats 1600000 in
theorem cumK_eq (r : Fin 128) (c : Fin 512) : cumK g x11 (ix2 r c) = k0_pay8 g x11 (ix2 ⟨0 + r.val, by omega⟩ c) := by
  have e : cumK g x11 (ix2 r c) = k0_pay8 g x11 (ix2 ⟨r.val, by omega⟩ c) := by
    pointwise [cumK, cum8, k0_pay10, zero8, zero1]
    simp only [dite_eq_ite, ite_self, add_zero]
  rw [e]
  exact congrArg (fun z : Fin 640 => k0_pay8 g x11 (ix2 z c)) (Fin.ext (Nat.zero_add _).symm)

/-- The running sum inside a sequence. -/
theorem cumK_at (hg : GatesAre g l) (ht : Table x11) (j : Fin 16) (t : Fin 8) (c : Fin 512) :
    cumK g x11 (ix2 (row j t) c) = ((cumS (fun u => l (row j u) c) t / Real.log 2 : ℝ) : EReal) := by
  rw [cumK_eq, pay8_at hg ht.c8, pick_cum (fun k => l k c) j t]

theorem dite_of {α : Type} {p : Prop} [Decidable p] {a : p → α} {b : ¬ p → α} {z : α} (h1 : ∀ h, a h = z) (h2 : ∀ h, b h = z) : dite p a b = z := by
  by_cases h : p
  · rw [dif_pos h]; exact h1 h
  · rw [dif_neg h]; exact h2 h

set_option maxHeartbeats 3200000 in
theorem tot8_eq (T : FVec Ideal S16x512 .f32) (r : Fin 128) (c : Fin 512) : tot8 T (ix2 r c) = T (ix2 ⟨r.val / 8, by omega⟩ c) := by
  have leaf : ∀ a b : Fin 16, a.val = b.val → T (ix2 a c) = T (ix2 b c) := fun a b e => congrArg (fun z : Fin 16 => T (ix2 z c)) (Fin.ext e)
  pointwise [tot8, row8, zero1]
  refine dite_of (fun hi => leaf _ _ (by simp only; omega)) (fun _ => ?_)
  refine dite_of (fun hi => leaf _ _ (by simp only; omega)) (fun _ => ?_)
  refine dite_of (fun hi => leaf _ _ (by simp only; omega)) (fun _ => ?_)
  refine dite_of (fun hi => leaf _ _ (by simp only; omega)) (fun _ => ?_)
  refine dite_of (fun hi => leaf _ _ (by simp only; omega)) (fun _ => ?_)
  refine dite_of (fun hi => leaf _ _ (by simp only; omega)) (fun _ => ?_)
  refine dite_of (fun hi => leaf _ _ (by simp only; omega)) (fun _ => ?_)
  refine dite_of (fun hi => leaf _ _ (by simp only; omega)) (fun _ => ?_)
  refine dite_of (fun hi => leaf _ _ (by simp only; omega)) (fun _ => ?_)
  refine dite_of (fun hi => leaf _ _ (by simp only; omega)) (fun _ => ?_)
  refine dite_of (fun hi => leaf _ _ (by simp only; omega)) (fun _ => ?_)
  refine dite_of (fun hi => leaf _ _ (by simp only; omega)) (fun _ => ?_)
  refine dite_of (fun hi => leaf _ _ (by simp only; omega)) (fun _ => ?_)
  refine dite_of (fun hi => leaf _ _ (by simp only; omega)) (fun _ => ?_)
  refine dite_of (fun hi => leaf _ _ (by simp only; omega)) (fun _ => ?_)
  exact leaf _ _ (by simp only; omega)

theorem totK_eq (r : Fin 128) (c : Fin 512) : totK g x11 (ix2 r c) = k0_pay8 g x11 (ix2 ⟨0 + (r.val / 8 * 8 + 7), by omega⟩ c) := by
  unfold totK
  rw [tot8_eq]
  pointwise [k0_pay11, k0_pay10]

/-- A sequence's total. -/
theorem totK_at (hg : GatesAre g l) (ht : Table x11) (j : Fin 16) (t : Fin 8) (c : Fin 512) :
    totK g x11 (ix2 (row j t) c) = ((cumS (fun u => l (row j u) c) 7 / Real.log 2 : ℝ) : EReal) := by
  rw [totK_eq]
  have e : (⟨0 + ((row j t).val / 8 * 8 + 7), by omega⟩ : Fin 640) = ⟨0 + (row j 7).val, by have := (row j 7).isLt; omega⟩ :=
    Fin.ext (by simp only [row_val]; show 0 + ((j.val * 8 + t.val) / 8 * 8 + 7) = 0 + (j.val * 8 + 7); omega)
  rw [e, pay8_at hg ht.c8, pick_cum (fun k => l k c) j 7]

end Gla
-- ==== Proof.Gla.Head.lean ====
/- One head of a tile of the gated-linear-attention kernel read at a token: the sums of its sequence. -/
module

public import proofs.«01_k».proof.Proof.Gla.Sums

@[expose] public section

set_option maxRecDepth 16384

noncomputable section

namespace Gla

open Idealize.ShloMosaic Idealize.SL.Sem
open Cert.KernelIdeal Cert.KernelIdeal.Gen

/-- The products of a query decayed up to its block's start and a key decayed to its block's end. -/
theorem prod_level (Q K CL TL : FVec Ideal S128x128 .f32) (r s : Fin 128) (x y z w : Fin 128 → ℝ)
    (hx : ∀ k, CL (ix2 r k) = ((x k / Real.log 2 : ℝ) : EReal)) (hy : ∀ k, CL (ix2 s k) = ((y k / Real.log 2 : ℝ) : EReal))
    (hz : ∀ k, TL (ix2 s k) = ((z k / Real.log 2 : ℝ) : EReal)) (hw : ∀ k, x k + (z k - y k) = w k) :
    prods (qdec Q CL) (truncf .bf16 (kdec K TL CL) bitsLt_bf16_f32) (ix2 r s)
      = ∑ k : Fin 128, ((Real.exp (w k) : ℝ) : EReal) * Q (ix2 r k) * K (ix2 s k) := by
  have e : prods (qdec Q CL) (truncf .bf16 (kdec K TL CL) bitsLt_bf16_f32) (ix2 r s)
      = ∑ k : Fin 128, Q (ix2 r k) * Ideal.exp2 (CL (ix2 r k)) * (K (ix2 s k) * Ideal.exp2 (TL (ix2 s k) - CL (ix2 s k))) := by
    pointwise [prods, qdec, kdec]
    rfl
  rw [e]
  refine Finset.sum_congr rfl fun k _ => ?_
  rw [hx, hy, hz, sub_log, exp2_log, exp2_log]
  exact mul_decay _ _ _ _ _ (hw k)

/-- The same where the two rows are neighbours: the key undecayed. -/
theorem prod_next (Q K G : FVec Ideal S128x128 .f32) (r s : Fin 128) (w : Fin 128 → ℝ)
    (hw : ∀ k, G (ix2 r k) = ((w k / Real.log 2 : ℝ) : EReal)) :
    prods (qdec Q G) (truncf .bf16 K bitsLt_bf16_f32) (ix2 r s)
      = ∑ k : Fin 128, ((Real.exp (w k) : ℝ) : EReal) * Q (ix2 r k) * K (ix2 s k) := by
  have e : prods (qdec Q G) (truncf .bf16 K bitsLt_bf16_f32) (ix2 r s)
      = ∑ k : Fin 128, Q (ix2 r k) * Ideal.exp2 (G (ix2 r k)) * K (ix2 s k) := by
    pointwise [prods, qdec]
    rfl
  rw [e]
  refine Finset.sum_congr rfl fun k _ => ?_
  rw [hw, exp2_log, mul_comm (Q _)]

theorem col_at (X : FVec Ideal S128x512 .f32) (o : ℕ) (ho : S128x512.Slices ![0, o] S128x128) (hb : o + 128 ≤ 512) (r k : Fin 128) :
    col X o ho (ix2 r k) = X (ix2 r ⟨o + k.val, by omega⟩) := by
  pointwise [col]

variable {g : FVec Ideal S128x512 .f32} {l : Fin 128 → Fin 512 → ℝ} {x11 : Vec Ideal S640x128 .bf16}

/-- The scores: of two tokens of one sequence, the earlier one's key against the later one's query; otherwise nothing. -/
theorem scores_at (hg : GatesAre g l) (ht : Table x11) (Q K : FVec Ideal S128x128 .f32) (o : ℕ) (ho : S128x512.Slices ![0, o] S128x128)
    (hb : o + 128 ≤ 512) (r s : Fin 128) :
    scores Q K (col (level g x11 128 slices_S640x512_o128_0_S128x512) o ho) (col (level g x11 256 slices_S640x512_o256_0_S128x512) o ho)
        (col (level g x11 384 slices_S640x512_o384_0_S128x512) o ho) (col (level g x11 512 slices_S640x512_o512_0_S128x512) o ho)
        (col (k0_pay9 g) o ho) (ix2 r s)
      = if s.val / 8 = r.val / 8 ∧ s.val < r.val then
          ∑ k : Fin 128, ((Real.exp (pick (fun i => s.val < i ∧ i ≤ r.val) fun i => l i ⟨o + k.val, by omega⟩) : ℝ) : EReal) * Q (ix2 r k) * K (ix2 s k)
        else 0 := by
  generalize hC4 : col (level g x11 128 slices_S640x512_o128_0_S128x512) o ho = C4
  generalize hT4 : col (level g x11 256 slices_S640x512_o256_0_S128x512) o ho = T4
  generalize hC2 : col (level g x11 384 slices_S640x512_o384_0_S128x512) o ho = C2
  generalize hT2 : col (level g x11 512 slices_S640x512_o512_0_S128x512) o ho = T2
  generalize hG : col (k0_pay9 g) o ho = G
  have e : scores Q K C4 T4 C2 T2 G (ix2 r s) =
      Scalar.select (k0_pay5 (iota .tc S128x128 32 [0] iota_S128x128_d0_w32) (iota .tc S128x128 32 [1] iota_S128x128_d1_w32) k0_pay4 (ix2 r s))
        (prods (qdec Q G) (truncf .bf16 K bitsLt_bf16_f32) (ix2 r s))
        (Scalar.select (k0_pay3 (ix2 r s)) (prods (qdec Q C2) (truncf .bf16 (kdec K T2 C2) bitsLt_bf16_f32) (ix2 r s))
          (Scalar.select (k0_pay2 (ix2 r s)) (prods (qdec Q C4) (truncf .bf16 (kdec K T4 C4) bitsLt_bf16_f32) (ix2 r s)) (0 : EReal))) := by
    generalize hP : prods (qdec Q G) (truncf .bf16 K bitsLt_bf16_f32) = P
    generalize hP2 : prods (qdec Q C2) (truncf .bf16 (kdec K T2 C2) bitsLt_bf16_f32) = P2
    generalize hP4 : prods (qdec Q C4) (truncf .bf16 (kdec K T4 C4) bitsLt_bf16_f32) = P4
    unfold scores
    rw [hP, hP2, hP4]
    pointwise
  rw [e, mask1, mask2, mask4, Nat.div_one, Nat.div_one]
  have sel : ∀ (p : Prop) [Decidable p] (a b : EReal), Scalar.select (if p then 1#1 else 0#1) a b = if p then a else b := by
    intro p _ a b
    by_cases hp : p <;> simp only [hp, if_true, if_false] <;> rfl
  rw [sel, sel, sel]
  by_cases h1 : r.val / 2 = s.val / 2 ∧ r.val % 2 = 1 ∧ s.val % 2 = 0
  · rw [if_pos h1, if_pos (by omega)]
    refine prod_next _ _ _ _ _ _ fun k => ?_
    rw [← hG, col_at _ _ _ hb, hg]
    congr 2
    unfold pick
    symm
    refine (Finset.sum_eq_single r (fun i _ hi => if_neg fun h => hi (Fin.ext (by omega))) (fun h => absurd (Finset.mem_univ r) h)).trans ?_
    rw [if_pos (by omega)]
  · rw [if_neg h1]
    by_cases h2 : r.val / 4 = s.val / 4 ∧ r.val / 2 % 2 = 1 ∧ s.val / 2 % 2 = 0
    · rw [if_pos h2, if_pos (by omega)]
      refine prod_level _ _ _ _ _ _ (fun k => pick (fun i => i / 2 = r.val / 2 ∧ i ≤ r.val) fun i => l i ⟨o + k.val, by omega⟩)
        (fun k => pick (fun i => i / 2 = s.val / 2 ∧ i ≤ s.val) fun i => l i ⟨o + k.val, by omega⟩)
        (fun k => pick (fun i => i / 2 = s.val / 2) fun i => l i ⟨o + k.val, by omega⟩) _ (fun k => ?_) (fun k => ?_) (fun k => ?_) (fun k => ?_)
      · rw [← hC2, col_at _ _ _ hb, level_at hg ht.c2]
      · rw [← hC2, col_at _ _ _ hb, level_at hg ht.c2]
      · rw [← hT2, col_at _ _ _ hb, level_at hg ht.t2]
      · exact pick_split _ _ _ _ _ fun i => by omega
    · rw [if_neg h2]
      by_cases h4 : r.val / 8 = s.val / 8 ∧ r.val / 4 % 2 = 1 ∧ s.val / 4 % 2 = 0
      · rw [if_pos h4, if_pos (by omega)]
        refine prod_level _ _ _ _ _ _ (fun k => pick (fun i => i / 4 = r.val / 4 ∧ i ≤ r.val) fun i => l i ⟨o + k.val, by omega⟩)
          (fun k => pick (fun i => i / 4 = s.val / 4 ∧ i ≤ s.val) fun i => l i ⟨o + k.val, by omega⟩)
          (fun k => pick (fun i => i / 4 = s.val / 4) fun i => l i ⟨o + k.val, by omega⟩) _ (fun k => ?_) (fun k => ?_) (fun k => ?_) (fun k => ?_)
        · rw [← hC4, col_at _ _ _ hb, level_at hg ht.c4]
        · rw [← hC4, col_at _ _ _ hb, level_at hg ht.c4]
        · rw [← hT4, col_at _ _ _ hb, level_at hg ht.t4]
        · exact pick_split _ _ _ _ _ fun i => by omega
      · rw [if_neg h4, if_neg (by omega)]

end Gla
-- ==== Proof.Gla.HeadAt.lean ====
/- A head of a tile of the gated-linear-attention kernel, and the state it leaves, as the sums of one sequence. -/
module

public import proofs.«01_k».proof.Proof.Gla.Head

@[expose] public section

set_option maxRecDepth 16384

noncomputable section

namespace Gla

open Idealize.ShloMosaic Idealize.SL.Sem
open Cert.KernelIdeal Cert.KernelIdeal.Gen

theorem seqRow_at (QD : FVec Ideal S128x128 .bf16) (s : Vec Ideal S1x1x128x256 .f32) (o : ℕ) (ho : S128x128.Slices ![o, 0] S8x128)
    (hb : o + 8 ≤ 128) (r : Fin 8) (v : Fin 256) :
    seqRow QD s o ho (ix2 r v) = ∑ k : Fin 128, QD (ix2 ⟨o + r.val, by omega⟩ k) * s (ix4 0 0 k v) := by
  pointwise [seqRow]

theorem cat_at (f : Fin 16 → FVec Ideal S8x256 .f32) (r : Fin 128) (v : Fin 256)
    (hc : Shape.Concatenates ((List.ofFn fun n : Fin 16 => (⟨S8x256, f n⟩ : (s : Shape) × FVec Ideal s .f32)).map (·.1)) S128x256 0) :
    concatenate S128x256 0 (List.ofFn fun n : Fin 16 => (⟨S8x256, f n⟩ : (s : Shape) × FVec Ideal s .f32)) hc (ix2 r v)
      = f ⟨r.val / 8, by omega⟩ (ix2 ⟨r.val % 8, by omega⟩ v) := by
  refine concatenate_ofFn_apply 0 f hc rfl 8 rfl (ix2 r v) ⟨r.val / 8, by omega⟩ rfl (ix2 ⟨r.val % 8, by omega⟩ v) rfl fun b hb => ?_
  fin_cases b
  · exact absurd rfl hb
  · rfl

theorem inter_at (QD : FVec Ideal S128x128 .bf16) (s : Fin 16 → Vec Ideal S1x1x128x256 .f32) (r : Fin 128) (v : Fin 256) :
    inter QD s (ix2 r v) = ∑ k : Fin 128, QD (ix2 r k) * s ⟨r.val / 8, by omega⟩ (ix4 0 0 k v) := by
  have sl : ∀ a : Fin 16, S128x128.Slices ![a.val * 8, 0] S8x128 := by decide
  refine (cat_at (fun a => seqRow QD (s a) (a.val * 8) (sl a)) r v concatenates_S8x256_S8x256_S8x256_S8x256_S8x256_S8x256_S8x256_S8x256_S8x256_S8x256_S8x256_S8x256_S8x256_S8x256_S8x256_S8x256_S128x256_d0).trans ?_
  refine (seqRow_at _ _ _ _ (by show r.val / 8 * 8 + 8 ≤ 128; omega) _ _).trans ?_
  refine Finset.sum_congr rfl fun k _ => ?_
  exact congrArg (fun z : Fin 128 => QD (ix2 z k) * s ⟨r.val / 8, by omega⟩ (ix4 0 0 k v)) (Fin.ext (by show r.val / 8 * 8 + r.val % 8 = r.val; omega))

theorem piece_at (x10 : Vec Ideal S16x4x128x256 .f32) (h : Fin 4) (i : Fin 16) (k : Fin 128) (v : Fin 256) :
    piece x10 h i (ix4 0 0 k v) = x10 (ix4 i h k v) := by
  refine congrArg x10 (funext fun a => Fin.ext ?_)
  fin_cases a
  · show i.val + 1 * 0 = i.val; omega
  · show h.val + 1 * 0 = h.val; omega
  · show 0 + 1 * k.val = k.val; omega
  · show 0 + 1 * v.val = v.val; omega

variable {g : FVec Ideal S128x512 .f32} {l : Fin 128 → Fin 512 → ℝ} {x11 : Vec Ideal S640x128 .bf16}

/-- A head at token `t` of sequence `j`. -/
theorem headK_at (hg : GatesAre g l) (ht : Table x11) (x0 x1 : FVec Ideal S128x512 .f32) (x2 : FVec Ideal S128x1024 .f32)
    (x10 : Vec Ideal S16x4x128x256 .f32) (h : Fin 4) (o : ℕ) (ho : S128x512.Slices ![0, o] S128x128) (ob : o + 128 ≤ 512) (p : ℕ)
    (hp : S128x1024.Slices ![0, p] S128x256) (pb : p + 256 ≤ 1024) (j : Fin 16) (t : Fin 8) (v : Fin 256) :
    headK g x0 x1 x2 x10 x11 h o ho p hp (ix2 (row j t) v)
      = oS (fun u k => x0 (ix2 (row j u) ⟨o + k.val, by omega⟩) * Scalar.ofBits (F := Ideal) .f32 0x3DB504F3#32)
          (fun u k => x1 (ix2 (row j u) ⟨o + k.val, by omega⟩)) (fun u k => l (row j u) ⟨o + k.val, by omega⟩)
          (fun u => x2 (ix2 (row j u) ⟨p + v.val, by omega⟩)) (fun k => x10 (ix4 j h k v)) t := by
  generalize hQ : qs x0 o ho = Q
  generalize hK : col x1 o ho = K
  have eQ : ∀ u k, Q (ix2 (row j u) k) = x0 (ix2 (row j u) ⟨o + k.val, by omega⟩) * Scalar.ofBits (F := Ideal) .f32 0x3DB504F3#32 := by
    intro u k
    rw [← hQ]
    pointwise [qs, col]
  have eK : ∀ u k, K (ix2 (row j u) k) = x1 (ix2 (row j u) ⟨o + k.val, by omega⟩) := by
    intro u k
    rw [← hK, col_at _ _ _ ob]
  have eV : ∀ r, vcol x2 p hp (ix2 r v) = x2 (ix2 r ⟨p + v.val, by omega⟩) := by
    intro r
    pointwise [vcol]
  have e : ∀ (S C : FVec Ideal S128x128 .f32) (V : FVec Ideal S128x256 .f32) (s : Fin 16 → Vec Ideal S1x1x128x256 .f32),
      addf (intra S Q K V) (inter (qdec Q C) s) (ix2 (row j t) v)
        = (∑ x, S (ix2 (row j t) x) * V (ix2 x v) + (∑ k, Q (ix2 (row j t) k) * K (ix2 (row j t) k)) * V (ix2 (row j t) v))
          + inter (qdec Q C) s (ix2 (row j t) v) := by
    intro S C V s
    pointwise [intra]
  unfold headK headO
  rw [hQ, hK, e, inter_at]
  have e2 : ∀ k, qdec Q (col (cumK g x11) o ho) (ix2 (row j t) k)
      = Q (ix2 (row j t) k) * ((Real.exp (cumS (fun u => l (row j u) ⟨o + k.val, by omega⟩) t) : ℝ) : EReal) := by
    intro k
    have e3 : qdec Q (col (cumK g x11) o ho) (ix2 (row j t) k) = Q (ix2 (row j t) k) * Ideal.exp2 (col (cumK g x11) o ho (ix2 (row j t) k)) := by
      pointwise [qdec]
      rfl
    rw [e3, col_at _ _ _ ob, cumK_at hg ht, exp2_log]
  have ej : (⟨(row j t).val / 8, by omega⟩ : Fin 16) = j := Fin.ext (by simp only [row_val]; omega)
  rw [ej, add_comm]
  unfold oS
  congr 1
  · refine Finset.sum_congr rfl fun k _ => ?_
    rw [e2, eQ, piece_at]
  · rw [sum_rows _ j (by
      intro k hk
      rw [scores_at hg ht Q K o ho ob, if_neg (by simp only [row_val]; omega), zero_mul])]
    have one : ∀ u : Fin 8, (if u.val ≤ t.val then
        ∑ k : Fin 128, ((Real.exp (cumS (fun w => l (row j w) ⟨o + k.val, by omega⟩) t - cumS (fun w => l (row j w) ⟨o + k.val, by omega⟩) u) : ℝ) : EReal)
          * (x0 (ix2 (row j t) ⟨o + k.val, by omega⟩) * Scalar.ofBits (F := Ideal) .f32 0x3DB504F3#32) * x1 (ix2 (row j u) ⟨o + k.val, by omega⟩) else 0)
          * x2 (ix2 (row j u) ⟨p + v.val, by omega⟩)
        = scores Q K (col (level g x11 128 slices_S640x512_o128_0_S128x512) o ho) (col (level g x11 256 slices_S640x512_o256_0_S128x512) o ho)
          (col (level g x11 384 slices_S640x512_o384_0_S128x512) o ho) (col (level g x11 512 slices_S640x512_o512_0_S128x512) o ho)
          (col (k0_pay9 g) o ho) (ix2 (row j t) (row j u)) * vcol x2 p hp (ix2 (row j u) v)
          + if u = t then (∑ k, Q (ix2 (row j t) k) * K (ix2 (row j t) k)) * vcol x2 p hp (ix2 (row j t) v) else 0 := by
      intro u
      rw [scores_at hg ht Q K o ho ob, eV, eV]
      rcases lt_trichotomy u.val t.val with hlt | heq | hgt
      · rw [if_pos (by omega), if_pos ⟨by simp only [row_val]; omega, by simp only [row_val]; omega⟩, if_neg (by intro hut; rw [hut] at hlt; omega), add_zero]
        congr 1
        refine Finset.sum_congr rfl fun k _ => ?_
        rw [pick_between _ j t u (by omega), eQ, eK]
      · have hut : u = t := Fin.ext heq
        subst hut
        rw [if_pos (le_refl _), if_neg (by omega), if_pos rfl, zero_mul, zero_add]
        congr 1
        refine Finset.sum_congr rfl fun k _ => ?_
        rw [sub_self, Real.exp_zero, EReal.coe_one, one_mul, eQ, eK]
      · rw [if_neg (by omega), if_neg (by simp only [row_val]; omega), if_neg (by intro hut; rw [hut] at hgt; omega), zero_mul, add_zero]
    refine Eq.trans ?_ (Finset.sum_congr rfl fun u _ => (one u).symm)
    rw [Finset.sum_add_distrib, Finset.sum_ite_eq' Finset.univ t, if_pos (Finset.mem_univ t)]

/-- The state a sequence leaves in a head. -/
theorem stateK_at (hg : GatesAre g l) (ht : Table x11) (x1 : FVec Ideal S128x512 .f32) (x2 : FVec Ideal S128x1024 .f32)
    (x10 : Vec Ideal S16x4x128x256 .f32) (h : Fin 4) (j : Fin 16) (o : ℕ) (ho : S128x512.Slices ![0, o] S128x128) (ob : o + 128 ≤ 512) (p : ℕ)
    (hp : S128x1024.Slices ![0, p] S128x256) (pb : p + 256 ≤ 1024) (r : ℕ) (hr : S128x128.Slices ![r, 0] S1x128) (er : r = j.val * 8) (lo hi : BitVec 32)
    (hlo : lo = BitVec.ofNat 32 (8 * j.val)) (hhi : hi = BitVec.ofNat 32 (8 * j.val + 8)) (k : Fin 128) (v : Fin 256) :
    stateK g x1 x2 x10 x11 h j o ho p hp r hr lo hi (ix4 0 0 k v)
      = sS (fun u => x1 (ix2 (row j u) ⟨o + k.val, by omega⟩)) (fun u => l (row j u) ⟨o + k.val, by omega⟩)
          (fun u => x2 (ix2 (row j u) ⟨p + v.val, by omega⟩)) (x10 (ix4 j h k v)) := by
  subst er
  have e : ∀ (T KD : FVec Ideal S128x128 .f32) (V : FVec Ideal S128x256 .f32) (s : Vec Ideal S1x1x128x256 .f32),
      newState T KD V s (j.val * 8) hr lo hi (ix4 0 0 k v)
        = Ideal.exp2 (T (ix2 (row j 0) k)) * s (ix4 0 0 k v)
          + ∑ x : Fin 128, Scalar.select (IntOp.andi (IntOp.cmpi .sge (BitVec.ofNat 32 x.val) lo) (IntOp.cmpi .slt (BitVec.ofNat 32 x.val) hi))
              (KD (ix2 x k)) (0 : EReal) * V (ix2 x v) := by
    intro T KD V s
    have er0 : (⟨j.val * 8, by omega⟩ : Fin 128) = row j 0 := Fin.ext (by simp only [row_val]; show j.val * 8 = j.val * 8 + 0; omega)
    rw [← er0]
    pointwise [newState, decay, ofSeq]
    rw [dite_eq_ite, ite_self]
    rfl
  unfold stateK
  rw [e]
  unfold sS
  congr 1
  · rw [col_at _ _ _ ob, totK_at hg ht, exp2_log, piece_at]
  · rw [sum_rows _ j (by
      intro x hx
      rw [ofSeq_bit j lo hi hlo hhi, if_neg hx]
      exact zero_mul _)]
    refine Finset.sum_congr rfl fun u _ => ?_
    rw [ofSeq_bit j lo hi hlo hhi, if_pos (by simp only [row_val]; omega)]
    have e3 : ∀ (K T C : FVec Ideal S128x128 .f32) (r : Fin 128), kdec K T C (ix2 r k) = K (ix2 r k) * Ideal.exp2 (T (ix2 r k) - C (ix2 r k)) := by
      intro K T C r
      pointwise [kdec]
      rfl
    have eV : ∀ r, vcol x2 p hp (ix2 r v) = x2 (ix2 r ⟨p + v.val, by omega⟩) := by
      intro r
      pointwise [vcol]
    show kdec _ _ _ _ * _ = _
    rw [e3, col_at _ _ _ ob, col_at _ _ _ ob, col_at _ _ _ ob, totK_at hg ht, cumK_at hg ht, sub_log, exp2_log, eV]

end Gla
-- ==== Proof.Gla.Elems.lean ====
/- The last stages of a tile read at an index: the normalised and gated heads, the branches and their merge. -/
module

public import proofs.«01_k».proof.Proof.Gla.HeadAt

@[expose] public section

set_option maxRecDepth 65536

noncomputable section

namespace Gla

open Idealize.ShloMosaic Idealize.SL.Sem
open Cert.KernelIdeal Cert.KernelIdeal.Gen

/-- The normalisation of a head's output at a row, from the row's values. -/
def rmsOf (f : Fin 256 → EReal) (v : Fin 256) : EReal :=
  f v * Ideal.rsqrt (Ideal.div (∑ u : Fin 256, f u * f u) (Scalar.ofBits (F := Ideal) .f32 0x43800000#32) + Scalar.ofBits (F := Ideal) .f32 0x358637BD#32)

theorem rms_at (X : FVec Ideal S128x256 .f32) (r : Fin 128) (v : Fin 256) : rms X (ix2 r v) = rmsOf (fun u => X (ix2 r u)) v := by
  pointwise [rms, rmsOf]

theorem gated_at (h0 h1 h2 h3 : FVec Ideal S128x256 .f32) (gain : FVec Ideal S1x1024 .f32) (zb : FVec Ideal S128x1024 .f32)
    (f : Fin 4 → FVec Ideal S128x256 .f32) (e0 : f 0 = h0) (e1 : f 1 = h1) (e2 : f 2 = h2) (e3 : f 3 = h3)
    (r : Fin 128) (h : Fin 4) (v : Fin 256) (p : Fin 1024) (hp : p.val = h.val * 256 + v.val) :
    gated (F := Ideal) h0 h1 h2 h3 gain zb (ix2 r p)
      = rmsOf (fun u => f h (ix2 r u)) v * gain (ix2 0 p) * (zb (ix2 r p) * Ideal.logistic (zb (ix2 r p))) := by
  have cat : concatenate S128x1024 1 [⟨S128x256, rms h0⟩, ⟨S128x256, rms h1⟩, ⟨S128x256, rms h2⟩, ⟨S128x256, rms h3⟩]
      concatenates_S128x256_S128x256_S128x256_S128x256_S128x1024_d1 (ix2 r p) = rms (f h) (ix2 r v) := by
    subst e0 e1 e2 e3
    refine concatenate_ofFn_apply 1 (fun a => rms (f a)) concatenates_S128x256_S128x256_S128x256_S128x256_S128x1024_d1 rfl 256 rfl (ix2 r p) h
      (show p.val / 256 = h.val by omega) (ix2 r v) (show v.val = p.val % 256 by omega) fun b hb => ?_
    fin_cases b
    · rfl
    · exact absurd rfl hb
  have e : gated (F := Ideal) h0 h1 h2 h3 gain zb (ix2 r p)
      = concatenate S128x1024 1 [⟨S128x256, rms h0⟩, ⟨S128x256, rms h1⟩, ⟨S128x256, rms h2⟩, ⟨S128x256, rms h3⟩]
          concatenates_S128x256_S128x256_S128x256_S128x256_S128x1024_d1 (ix2 r p) * gain (ix2 0 p) * (zb (ix2 r p) * Ideal.logistic (zb (ix2 r p))) := by
    unfold gated
    generalize concatenate S128x1024 1 [⟨S128x256, rms h0⟩, ⟨S128x256, rms h1⟩, ⟨S128x256, rms h2⟩, ⟨S128x256, rms h3⟩]
          concatenates_S128x256_S128x256_S128x256_S128x256_S128x1024_d1 = w
    pointwise
  rw [e, cat, rms_at]

theorem branch_at (ma mb : FVec Ideal S128x1024 .f32) (y : FVec Ideal S128x1024 .bf16) (w : FVec Ideal S1024x2048 .bf16)
    (r : Fin 128) (p : Fin 2048) :
    branch (F := Ideal) ma mb y w (ix2 r p)
      = Ideal.logistic (if h : p.val < 1024 then ma (ix2 r ⟨p.val, h⟩) else mb (ix2 r ⟨p.val - 1024, by omega⟩)) * ∑ k, y (ix2 r k) * w (ix2 k p) := by
  pointwise [branch]

theorem merged_at (a b : FVec Ideal S128x2048 .f32) (r : Fin 128) (p : Fin 2048) :
    merged (F := Ideal) a b (ix2 r p) = a (ix2 r p) + b (ix2 r p) := by
  pointwise [merged]

end Gla

end
-- ==== Proof.Gla.RefStages.lean ====
/- The reference's results, named step by step: the gate projection, the log gates and their running sums, the states, the
   outputs of a head, their normalisation and gate, and the merge of the two branches. -/
module

public import proofs.«01_k».proof.Proof.Gen.ReferenceIdeal.Run
public import Idealize.ShloMosaic.PureOps.Ideal

@[expose] public section

set_option maxRecDepth 16384

noncomputable section

namespace Gla.Ref

open Idealize.ShloMosaic Idealize.ShloMosaic.TcCoe Idealize.SL.Sem
open Cert.ReferenceIdeal Cert.ReferenceIdeal.Gen Cert.ReferenceIdeal.Value

/-- The projection the gates are made of. -/
def gateProj (a1 : FVec Ideal S1024x16 .f32) (a4 : FVec Ideal S1x16x512 .f32) (a5 : FVec Ideal S1x512 .f32) : FVec Ideal S1024x512 .f32 :=
  addf (Host.dotGeneral dot_S1024x16_S16x512_S1024x512_1_0_0_1_n_n none a1 (shapeCast _ a4 shapeCasts_S1x16x512_S16x512))
    (broadcastInDim S1024x512 ![0, 1] bcast_S1x512_S1024x512_0_1 (broadcastInDim S1x512 ![1] bcast_S512_S1x512_1 (shapeCast _ a5 shapeCasts_S1x512_S512)))

/-- The zero array of the softplus. -/
def zero : FVec Ideal S1024x512 .f32 := broadcastInDim S1024x512 ![] bcast_S_S1024x512 (constant S_ .f32 0x00000000#32)

/-- The log gates of the projection, before they are laid out by sequence and head. -/
def logGate2 (z : FVec Ideal S1024x512 .f32) : FVec Ideal S1024x512 .f32 :=
  Host.divf (Host.negf (select (cmpf .une (subf (Host.negf z) zero) (subf (Host.negf z) zero)) (addf (Host.negf z) zero)
    (addf (maximumf (Host.negf z) zero) (Host.log1p (Host.exp (Host.negf (Host.absf (subf (Host.negf z) zero))))))))
    (broadcastInDim S1024x512 ![] bcast_S_S1024x512 (constant S_ .f32 0x41800000#32))

/-- The log gates, by sequence, step, head and column. -/
def logGate (z : FVec Ideal S1024x512 .f32) : FVec Ideal S128x8x4x128 .f32 :=
  shapeCast _ (logGate2 z) shapeCasts_S1024x512_S128x8x4x128

/-- Their running sums over the steps. -/
def cum (e : FVec Ideal S128x8x4x128 .f32) : FVec Ideal S128x8x4x128 .f32 :=
  Host.reduceWindowAdd ![1, 8, 1, 1] ![1, 1, 1, 1] ![0, 7, 0, 0] ![0, 0, 0, 0] e (broadcastInDim S_ ![] bcast_S_S_ (constant S_ .f32 0x00000000#32))
    reduceWindows_S128x8x4x128_S128x8x4x128_w1s1p0_0_w8s1p7_0_w1s1p0_0_w1s1p0_0 h_S_

/-- The keys by sequence, step, head and column. -/
def keys (a0 : FVec Ideal S1024x9216 .f32) : FVec Ideal S128x8x4x128 .f32 :=
  shapeCast _ (extractStridedSlice S1024x512 ![0, 2560] a0 slices_S1024x9216_S1024x512_0_2560) shapeCasts_S1024x512_S128x8x4x128

/-- The values. -/
def vals (a0 : FVec Ideal S1024x9216 .f32) : FVec Ideal S128x8x4x256 .f32 :=
  shapeCast _ (extractStridedSlice S1024x1024 ![0, 3072] a0 slices_S1024x9216_S1024x1024_0_3072) shapeCasts_S1024x1024_S128x8x4x256

/-- The queries, scaled. -/
def queries (a0 : FVec Ideal S1024x9216 .f32) : FVec Ideal S128x8x4x128 .f32 :=
  mulf (shapeCast _ (extractStridedSlice S1024x512 ![0, 2048] a0 slices_S1024x9216_S1024x512_0_2048) shapeCasts_S1024x512_S128x8x4x128)
    (broadcastInDim S128x8x4x128 ![] bcast_S_S128x8x4x128 (constant S_ .f32 0x3DB504F3#32))

/-- The states coming in. -/
def stateIn (a3 : FVec Ideal S1x128x4x128x256 .f32) : FVec Ideal S128x4x128x256 .f32 :=
  shapeCast _ a3 shapeCasts_S1x128x4x128x256_S128x4x128x256

/-- The running sums at the last step. -/
def lastCum (b : FVec Ideal S128x8x4x128 .f32) : FVec Ideal S128x4x128 .f32 :=
  shapeCast _ (extractStridedSlice S128x1x4x128 ![0, 7, 0, 0] b slices_S128x8x4x128_S128x1x4x128_0_7_0_0) shapeCasts_S128x1x4x128_S128x4x128

/-- The states coming out. -/
def stateOut (k4 b : FVec Ideal S128x8x4x128 .f32) (v4 : FVec Ideal S128x8x4x256 .f32) (S0 : FVec Ideal S128x4x128x256 .f32) : FVec Ideal S128x4x128x256 .f32 :=
  addf (mulf (broadcastInDim S128x4x128x256 ![0, 1, 2, 3] bcast_S128x4x128x1_S128x4x128x256_0_1_2_3 (broadcastInDim S128x4x128x1 ![0, 1, 2] bcast_S128x4x128_S128x4x128x1_0_1_2 (Host.exp (lastCum b)))) S0)
    (Host.dotGeneral dot_S128x8x4x128_S128x8x4x256_S128x4x128x256_1_1_3_3_02_02 none
      (mulf k4 (Host.exp (subf (broadcastInDim S128x8x4x128 ![0, 1, 2, 3] bcast_S128x1x4x128_S128x8x4x128_0_1_2_3 (broadcastInDim S128x1x4x128 ![0, 2, 3] bcast_S128x4x128_S128x1x4x128_0_2_3 (lastCum b))) b))) v4)

/-- The causal mask over two steps. -/
def mask : IVec S128x8x8x4x128 1 :=
  (broadcastInDim S128x8x8x4x128 ![0, 1, 2, 3, 4] bcast_S1x8x8x1x1_S128x8x8x4x128_0_1_2_3_4 (broadcastInDim S1x8x8x1x1 ![1, 2] bcast_S8x8_S1x8x8x1x1_1_2 (select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1)))))

/-- Zero at every pair of steps. -/
def zero5 : FVec Ideal S128x8x8x4x128 .f32 := broadcastInDim S128x8x8x4x128 ![] bcast_S_S128x8x8x4x128 (id (constant S_ .f32 0x00000000#32))

/-- An array at the first of two steps. -/
def fst5 (x : FVec Ideal S128x8x4x128 .f32) : FVec Ideal S128x8x8x4x128 .f32 :=
  broadcastInDim S128x8x8x4x128 ![0, 1, 2, 3, 4] bcast_S128x8x1x4x128_S128x8x8x4x128_0_1_2_3_4 (broadcastInDim S128x8x1x4x128 ![0, 1, 3, 4] bcast_S128x8x4x128_S128x8x1x4x128_0_1_3_4 x)

/-- An array at the second of two steps. -/
def snd5 (x : FVec Ideal S128x8x4x128 .f32) : FVec Ideal S128x8x8x4x128 .f32 :=
  broadcastInDim S128x8x8x4x128 ![0, 1, 2, 3, 4] bcast_S128x1x8x4x128_S128x8x8x4x128_0_1_2_3_4 (broadcastInDim S128x1x8x4x128 ![0, 2, 3, 4] bcast_S128x8x4x128_S128x1x8x4x128_0_2_3_4 x)

/-- The scores inside a sequence. -/
def scores (q4 k4 b : FVec Ideal S128x8x4x128 .f32) : FVec Ideal S128x8x8x4 .f32 :=
  Host.reduceAdd (mulf (mulf (select mask (Host.exp (select mask (subf (fst5 b) (snd5 b)) zero5)) zero5) (fst5 q4)) (snd5 k4))
    (constant S_ .f32 0x00000000#32) reducesTo_S128x8x8x4x128_S128x8x8x4_d4 h_S_

/-- A head's outputs. -/
def outs (q4 k4 b : FVec Ideal S128x8x4x128 .f32) (v4 : FVec Ideal S128x8x4x256 .f32) (S0 : FVec Ideal S128x4x128x256 .f32) : FVec Ideal S128x8x4x256 .f32 :=
  addf (transpose S128x8x4x256 [0, 3, 1, 2] (Host.dotGeneral dot_S128x4x128x256_S128x8x4x128_S128x4x256x8_2_3_3_1_01_02 none S0 (mulf q4 (Host.exp b))) transposes_S128x4x256x8_S128x8x4x256_0_3_1_2)
    (transpose S128x8x4x256 [0, 3, 1, 2] (Host.dotGeneral dot_S128x8x4x256_S128x8x8x4_S128x4x256x8_1_2_3_1_02_03 none v4 (scores q4 k4 b)) transposes_S128x4x256x8_S128x8x4x256_0_3_1_2)

/-- Their normalisation. -/
def norm (o : FVec Ideal S128x8x4x256 .f32) : FVec Ideal S128x8x4x256 .f32 :=
  mulf o (broadcastInDim S128x8x4x256 ![0, 1, 2, 3] bcast_S128x8x4x1_S128x8x4x256_0_1_2_3 (Host.rsqrt (addf
    (Host.divf (broadcastInDim S128x8x4x1 ![0, 1, 2] bcast_S128x8x4_S128x8x4x1_0_1_2 (Host.reduceAdd (mulf o o) (constant S_ .f32 0x00000000#32) reducesTo_S128x8x4x256_S128x8x4_d3 h_S_)) (broadcastInDim S128x8x4x1 ![] bcast_S_S128x8x4x1 (constant S_ .f32 0x43800000#32)))
    (broadcastInDim S128x8x4x1 ![] bcast_S_S128x8x4x1 (constant S_ .f32 0x358637BD#32)))))

/-- The normalised outputs of all heads, gained and gated. -/
def gatedOut (n : FVec Ideal S128x8x4x256 .f32) (a6 : FVec Ideal S1x1024 .f32) (zb : FVec Ideal S1024x1024 .f32) : FVec Ideal S1024x1024 .f32 :=
  mulf (mulf (shapeCast _ n shapeCasts_S128x8x4x256_S1024x1024) (broadcastInDim S1024x1024 ![0, 1] bcast_S1x1024_S1024x1024_0_1 (broadcastInDim S1x1024 ![1] bcast_S1024_S1x1024_1 (shapeCast _ a6 shapeCasts_S1x1024_S1024))))
    (mulf zb (Host.divf (broadcastInDim S1024x1024 ![] bcast_S_S1024x1024 (constant S_ .f32 0x3F800000#32)) (addf (broadcastInDim S1024x1024 ![] bcast_S_S1024x1024 (constant S_ .f32 0x3F800000#32)) (Host.exp (Host.negf zb)))))

/-- A branch: its gate times its projection. -/
def side (ma : FVec Ideal S1024x2048 .f32) (y : FVec Ideal S1024x1024 .f32) (w : FVec Ideal S1x1024x2048 .f32) : FVec Ideal S1024x2048 .f32 :=
  mulf (Host.divf (broadcastInDim S1024x2048 ![] bcast_S_S1024x2048 (constant S_ .f32 0x3F800000#32)) (addf (broadcastInDim S1024x2048 ![] bcast_S_S1024x2048 (constant S_ .f32 0x3F800000#32)) (Host.exp (Host.negf ma))))
    (Host.dotGeneral dot_S1024x1024_S1024x2048_S1024x2048_1_0_0_1_n_n none y (shapeCast _ w shapeCasts_S1x1024x2048_S1024x2048))

/-- The merge of the two branches. -/
def merge (a0 : FVec Ideal S1024x9216 .f32) (a2 : FVec Ideal S1024x1024 .bf16) (yb : FVec Ideal S1024x1024 .f32) (a7 a8 : FVec Ideal S1x1024x2048 .f32) :
    FVec Ideal S1024x2048 .bf16 :=
  truncf .bf16 (addf (side (extractStridedSlice S1024x2048 ![0, 5120] a0 slices_S1024x9216_S1024x2048_0_5120) (extf .f32 a2 bitsLt_bf16_f32) a7)
    (side (extractStridedSlice S1024x2048 ![0, 7168] a0 slices_S1024x9216_S1024x2048_0_7168) yb a8)) bitsLt_bf16_f32

/-- The running sums of the log gates of the arguments. -/
def cumOf (a1 : FVec Ideal S1024x16 .f32) (a4 : FVec Ideal S1x16x512 .f32) (a5 : FVec Ideal S1x512 .f32) : FVec Ideal S128x8x4x128 .f32 :=
  cum (logGate (gateProj a1 a4 a5))

variable (m : (ℓ : Loc nD τ sig) → Buf (Elt Ideal) ℓ) (c : Dev nD)

set_option maxHeartbeats 4000000 in
theorem out1_eq : res_main_v64 m c = stateOut (keys (m ((c.tc : Thread nD τ).loc main_arg0)))
    (cumOf (m ((c.tc : Thread nD τ).loc main_arg1)) (m ((c.tc : Thread nD τ).loc main_arg4)) (m ((c.tc : Thread nD τ).loc main_arg5)))
    (vals (m ((c.tc : Thread nD τ).loc main_arg0))) (stateIn (m ((c.tc : Thread nD τ).loc main_arg3))) := rfl

set_option maxHeartbeats 4000000 in
theorem out0_eq : res_main_v100 m c = merge (m ((c.tc : Thread nD τ).loc main_arg0)) (m ((c.tc : Thread nD τ).loc main_arg2))
    (gatedOut (norm (outs (queries (m ((c.tc : Thread nD τ).loc main_arg0))) (keys (m ((c.tc : Thread nD τ).loc main_arg0)))
      (cumOf (m ((c.tc : Thread nD τ).loc main_arg1)) (m ((c.tc : Thread nD τ).loc main_arg4)) (m ((c.tc : Thread nD τ).loc main_arg5)))
      (vals (m ((c.tc : Thread nD τ).loc main_arg0))) (stateIn (m ((c.tc : Thread nD τ).loc main_arg3)))))
      (m ((c.tc : Thread nD τ).loc main_arg6)) (extractStridedSlice S1024x1024 ![0, 4096] (m ((c.tc : Thread nD τ).loc main_arg0)) slices_S1024x9216_S1024x1024_0_4096))
    (m ((c.tc : Thread nD τ).loc main_arg7)) (m ((c.tc : Thread nD τ).loc main_arg8)) := rfl

end Gla.Ref

end
-- ==== Proof.Gla.Consts.lean ====
/- The float constants that the gates' lemmas read, as the extended reals their patterns denote. -/
module

public import Idealize.ShloMosaic.PureOps.Ideal

@[expose] public section

noncomputable section

namespace Gla

open Idealize.ShloMosaic

theorem ofBits_zero : Ideal.ofBits .f32 0x00000000#32 = 0 := by
  simp [Ideal.ofBits, Ideal.ieee]

theorem ofBits_16 : Ideal.ofBits .f32 0x41800000#32 = ((16 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul, -EReal.coe_one]; norm_num

theorem ofBits_inf : Ideal.ofBits .f32 0x7F800000#32 = ⊤ := by
  simp [Ideal.ofBits, Ideal.ieee]

end Gla

end
-- ==== Proof.Gla.Gate.lean ====
/- The gates: under the precondition the projection they are made of is a real number, and then the kernel's gate is the
   real log gate over log 2, and the reference's is the log gate itself. -/
module

public import proofs.«01_k».proof.Defs
public import proofs.«01_k».proof.Proof.Gla.Sums
public import proofs.«01_k».proof.Proof.Gla.Consts
public import proofs.«01_k».proof.Proof.Gen.Pre_gates_finite
public import Idealize.ShloMosaic.Lib.ReduceAll

@[expose] public section

set_option maxRecDepth 16384

noncomputable section

namespace Gla

open Idealize.ShloMosaic Idealize.SL.Sem
open Cert.KernelIdeal Cert.KernelIdeal.Gen

/-- The log gate of a real projection: minus the softplus of its negation, over sixteen. -/
def lgate (z : ℝ) : ℝ := -(max (-z) 0 + Real.log (1 + Real.exp (-|(-z)|))) / 16

theorem named_log2e :
    Named.named (F := Ideal) Cert.KernelIdeal.κ "log2e_over_tau" (φ := .f32) 0x3DB8AA3B#32 = (((Real.log 2)⁻¹ * 16⁻¹ : ℝ) : EReal) :=
  IdealRules.named_const.ideal_named_scalar _ _ _ _ rfl

theorem coe_max (x y : ℝ) : ((max x y : ℝ) : EReal) = max (x : EReal) (y : EReal) :=
  EReal.coe_strictMono.monotone.map_max

theorem softplus_coe (z : ℝ) :
    max ((-z : ℝ) : EReal) 0 + Ideal.log1p (Ideal.exp (0 - max ((-z : ℝ) : EReal) (-((-z : ℝ) : EReal))))
      = ((max (-z) 0 + Real.log (1 + Real.exp (-|(-z)|)) : ℝ) : EReal) := by
  have a : max ((-z : ℝ) : EReal) (-((-z : ℝ) : EReal)) = ((|(-z)| : ℝ) : EReal) := by
    rw [← EReal.coe_neg, ← coe_max]; rfl
  have b : (0 : EReal) - ((|(-z)| : ℝ) : EReal) = ((-|(-z)| : ℝ) : EReal) := by
    rw [sub_eq_add_neg, zero_add, EReal.coe_neg]
  have hp : (0 : ℝ) < 1 + Real.exp (-|(-z)|) := by positivity
  have d : Ideal.log1p ((Real.exp (-|(-z)|) : ℝ) : EReal) = ((Real.log (1 + Real.exp (-|(-z)|)) : ℝ) : EReal) := by
    unfold Ideal.log1p
    rw [← EReal.coe_one, ← EReal.coe_add, Ideal.log_coe, if_neg (not_le.mpr hp)]
  rw [a, b, Ideal.exp_coe, d, ← EReal.coe_zero, ← coe_max, ← EReal.coe_add]

theorem zero_sub_coe (z : ℝ) : (0 : EReal) - (z : EReal) = ((-z : ℝ) : EReal) := by
  rw [sub_eq_add_neg, zero_add, EReal.coe_neg]

/-- The kernel's gate of a real projection. -/
theorem gate_coe (z : ℝ) :
    (0 - (max (0 - (z : EReal)) 0 + Ideal.log1p (Ideal.exp (0 - FloatOps.absf (F := Ideal) (φ := .f32) (0 - (z : EReal))))))
        * Named.named (F := Ideal) Cert.KernelIdeal.κ "log2e_over_tau" (φ := .f32) 0x3DB8AA3B#32
      = ((lgate z / Real.log 2 : ℝ) : EReal) := by
  rw [named_log2e, zero_sub_coe]
  refine (congrArg (fun w : EReal => (0 - w) * (((Real.log 2)⁻¹ * 16⁻¹ : ℝ) : EReal)) (softplus_coe z)).trans ?_
  show (0 - ((_ : ℝ) : EReal)) * _ = _
  rw [zero_sub_coe, ← EReal.coe_mul]
  refine congrArg _ ?_
  unfold lgate
  ring

theorem gate_at (x8 : FVec Ideal S128x16 .f32) (x12 : FVec Ideal S16x512 .bf16) (x13 : FVec Ideal S1x512 .f32)
    (r : Fin 128) (c : Fin 512) (z : ℝ) (hz : (∑ x, x8 (ix2 r x) * x12 (ix2 x c) + x13 (ix2 0 c) : EReal) = z) :
    k0_pay9 (F := Ideal) (k0_pay6 x8 x12 x13) (ix2 r c) = ((lgate z / Real.log 2 : ℝ) : EReal) := by
  rw [← gate_coe, ← hz]
  pointwise [k0_pay9, k0_pay7, k0_pay6]
  simp only [ne_eq, not_true_eq_false, if_false]

/-! ## What the precondition says -/

theorem real_of_abs {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : ∃ r : ℝ, x i = r := by
  have h' : max (x i : EReal) (-(x i)) < ⊤ := by
    have := (Ideal.cmp_olt_eq_one _ _).1 (show Ideal.cmp .olt (max (x i : EReal) (-(x i))) (Ideal.ofBits .f32 0x7F800000#32) = 1 from h)
    rwa [ofBits_inf] at this
  induction h'' : (x i : EReal) using EReal.rec with
  | bot => rw [h''] at h'; simp at h'
  | top => rw [h''] at h'; simp at h'
  | coe r => exact ⟨r, rfl⟩

instance : Subsingleton S_.Idx := ⟨fun a b => funext fun i => i.elim0⟩

theorem pre_real (a0 : FVec Ideal S1024x9216 .f32) (a1 : FVec Ideal S1024x16 .f32) (a2 : FVec Ideal S1024x1024 .bf16)
    (a3 : FVec Ideal S1x128x4x128x256 .f32) (a4 : FVec Ideal S1x16x512 .f32) (a5 : FVec Ideal S1x512 .f32) (a6 : FVec Ideal S1x1024 .f32)
    (a7 a8 : FVec Ideal S1x1024x2048 .f32)
    (h : Cert.Pre_gates_finite.fn (F := Ideal) a0 a1 a2 a3 a4 a5 a6 a7 a8 = fun _ => 1#1) :
    (∀ i, ∃ r : ℝ, a1 i = r) ∧ (∀ i, ∃ r : ℝ, a4 i = r) ∧ ∀ i, ∃ r : ℝ, a5 i = r := by
  have j : S_.Idx := fun i => i.elim0
  have h0 := congrFun h j
  unfold Cert.Pre_gates_finite.fn at h0
  obtain ⟨h1, h5⟩ := IntOp.andi_eq_one.1 h0
  obtain ⟨h1, h4⟩ := IntOp.andi_eq_one.1 h1
  exact ⟨fun i => real_of_abs a1 _ i (Host.reduce_andi_all _ _ _ _ j h1 i),
    fun i => real_of_abs a4 _ i (Host.reduce_andi_all _ _ _ _ j h4 i),
    fun i => real_of_abs a5 _ i (Host.reduce_andi_all _ _ _ _ j h5 i)⟩

/-- The projection a gate is made of, of a token and a column. -/
def proj (a1 : FVec Ideal S1024x16 .f32) (a4 : FVec Ideal S1x16x512 .f32) (a5 : FVec Ideal S1x512 .f32) (n : Fin 1024) (c : Fin 512) : EReal :=
  ∑ x : Fin 16, a1 (ix2 n x) * a4 (ix3 0 x c) + a5 (ix2 0 c)

theorem coe_sum16 (f : Fin 16 → ℝ) : ((∑ k, f k : ℝ) : EReal) = ∑ k, ((f k : ℝ) : EReal) :=
  map_sum (⟨⟨(fun x : ℝ => (x : EReal)), rfl⟩, EReal.coe_add⟩ : ℝ →+ EReal) f Finset.univ

theorem proj_real (a1 : FVec Ideal S1024x16 .f32) (a4 : FVec Ideal S1x16x512 .f32) (a5 : FVec Ideal S1x512 .f32)
    (h : (∀ i, ∃ r : ℝ, a1 i = r) ∧ (∀ i, ∃ r : ℝ, a4 i = r) ∧ ∀ i, ∃ r : ℝ, a5 i = r) :
    ∃ z : Fin 1024 → Fin 512 → ℝ, ∀ n c, proj a1 a4 a5 n c = ((z n c : ℝ) : EReal) := by
  obtain ⟨h1, h4, h5⟩ := h
  choose r1 h1 using h1
  choose r4 h4 using h4
  choose r5 h5 using h5
  refine ⟨fun n c => ∑ x : Fin 16, r1 (ix2 n x) * r4 (ix3 0 x c) + r5 (ix2 0 c), fun n c => ?_⟩
  unfold proj
  rw [EReal.coe_add, coe_sum16, h5]
  refine congrArg (· + _) (Finset.sum_congr rfl fun x _ => ?_)
  rw [h1, h4, EReal.coe_mul]

end Gla

end
-- ==== Proof.Gla.RefAt.lean ====
/- The reference's steps read at an index. -/
module

public import proofs.«01_k».proof.Proof.Gla.RefStages
public import proofs.«01_k».proof.Proof.Gla.Gate

@[expose] public section

set_option maxRecDepth 16384

noncomputable section

namespace Gla.Ref

open Idealize.ShloMosaic Idealize.ShloMosaic.TcCoe Idealize.SL.Sem
open Cert.ReferenceIdeal Cert.ReferenceIdeal.Gen

/-- The token of a sequence's step. -/
def tok (b : Fin 128) (t : Fin 8) : Fin 1024 := ⟨b.val * 8 + t.val, by omega⟩
/-- The column of a head's column. -/
def hcol (h : Fin 4) (k : Fin 128) : Fin 512 := ⟨h.val * 128 + k.val, by omega⟩
/-- The column of a head's value column. -/
def vcol (h : Fin 4) (v : Fin 256) : Fin 1024 := ⟨h.val * 256 + v.val, by omega⟩

theorem gateProj_at (a1 : FVec Ideal S1024x16 .f32) (a4 : FVec Ideal S1x16x512 .f32) (a5 : FVec Ideal S1x512 .f32) (n : Fin 1024) (c : Fin 512) :
    gateProj a1 a4 a5 (ix2 n c) = proj a1 a4 a5 n c := by
  pointwise [gateProj, proj]

theorem logGate2_at (z : FVec Ideal S1024x512 .f32) (n : Fin 1024) (c : Fin 512) (x : ℝ) (hx : (z (ix2 n c) : EReal) = x) :
    logGate2 z (ix2 n c) = ((lgate x : ℝ) : EReal) := by
  have e : logGate2 z (ix2 n c) = Ideal.div (-(max (-(z (ix2 n c))) 0 + Ideal.log1p (Ideal.exp (-FloatOps.absf (F := Ideal) (φ := .f32) (-(z (ix2 n c)))))))
      (Ideal.ofBits FTy.f32 1098907648#32) := by
    pointwise [logGate2, zero]
    simp only [ne_eq, not_true_eq_false, if_false]
  rw [e, hx, ofBits_16, Ideal.div_coe (by norm_num), ← EReal.coe_neg]
  refine (congrArg (fun w : EReal => -w * ((1 / 16 : ℝ) : EReal)) ?_).trans
    (show -(((max (-x) 0 + Real.log (1 + Real.exp (-|(-x)|)) : ℝ)) : EReal) * ((1 / 16 : ℝ) : EReal) = _ from ?_)
  · rw [← softplus_coe x, zero_sub]
    rfl
  · rw [← EReal.coe_neg, ← EReal.coe_mul]
    refine congrArg _ ?_
    unfold lgate
    ring

theorem logGate_at (z : FVec Ideal S1024x512 .f32) (b : Fin 128) (t : Fin 8) (h : Fin 4) (k : Fin 128) :
    logGate z (ix4 b t h k) = logGate2 z (ix2 (tok b t) (hcol h k)) := by
  pointwise [logGate, tok, hcol]

/-- The running sums of real log gates. -/
theorem cum_at (e : FVec Ideal S128x8x4x128 .f32) (b : Fin 128) (t : Fin 8) (h : Fin 4) (k : Fin 128) (l : Fin 8 → ℝ)
    (he : ∀ u : Fin 8, (e (ix4 b u h k) : EReal) = l u) : cum e (ix4 b t h k) = ((cumS l t : ℝ) : EReal) := by
  have step : ∀ n : Fin 8, (if hin : ∀ a : Fin 4, (![0, 7, 0, 0] : Fin 4 → ℕ) a ≤ ((ix4 b t h k : S128x8x4x128.Idx) a).val * (![1, 1, 1, 1] : Fin 4 → ℕ) a + ((⟨4, ![1, 8, 1, 1]⟩ : Shape).rowMajor.symm n a).val
      ∧ ((ix4 b t h k : S128x8x4x128.Idx) a).val * (![1, 1, 1, 1] : Fin 4 → ℕ) a + ((⟨4, ![1, 8, 1, 1]⟩ : Shape).rowMajor.symm n a).val - (![0, 7, 0, 0] : Fin 4 → ℕ) a < S128x8x4x128.size a
      then e (fun a => ⟨_, (hin a).2⟩) else (0 : EReal)) = ((if h7 : 7 ≤ t.val + n.val then l ⟨t.val + n.val - 7, by omega⟩ else 0 : ℝ) : EReal) := by
    intro n
    have w0 : ((⟨4, ![1, 8, 1, 1]⟩ : Shape).rowMajor.symm n 0).val = 0 := by revert n; decide
    have w1 : ((⟨4, ![1, 8, 1, 1]⟩ : Shape).rowMajor.symm n 1).val = n.val := by revert n; decide
    have w2 : ((⟨4, ![1, 8, 1, 1]⟩ : Shape).rowMajor.symm n 2).val = 0 := by revert n; decide
    have w3 : ((⟨4, ![1, 8, 1, 1]⟩ : Shape).rowMajor.symm n 3).val = 0 := by revert n; decide
    by_cases h7 : 7 ≤ t.val + n.val
    · rw [dif_pos h7, ← he, dif_pos]
      · refine congrArg e (funext fun a => Fin.ext ?_)
        fin_cases a
        · show b.val * 1 + ((⟨4, ![1, 8, 1, 1]⟩ : Shape).rowMajor.symm n 0).val - 0 = b.val
          omega
        · show t.val * 1 + ((⟨4, ![1, 8, 1, 1]⟩ : Shape).rowMajor.symm n 1).val - 7 = t.val + n.val - 7
          omega
        · show h.val * 1 + ((⟨4, ![1, 8, 1, 1]⟩ : Shape).rowMajor.symm n 2).val - 0 = h.val
          omega
        · show k.val * 1 + ((⟨4, ![1, 8, 1, 1]⟩ : Shape).rowMajor.symm n 3).val - 0 = k.val
          omega
      · intro a
        fin_cases a
        · show 0 ≤ b.val * 1 + ((⟨4, ![1, 8, 1, 1]⟩ : Shape).rowMajor.symm n 0).val ∧ b.val * 1 + ((⟨4, ![1, 8, 1, 1]⟩ : Shape).rowMajor.symm n 0).val - 0 < 128
          omega
        · show 7 ≤ t.val * 1 + ((⟨4, ![1, 8, 1, 1]⟩ : Shape).rowMajor.symm n 1).val ∧ t.val * 1 + ((⟨4, ![1, 8, 1, 1]⟩ : Shape).rowMajor.symm n 1).val - 7 < 8
          omega
        · show 0 ≤ h.val * 1 + ((⟨4, ![1, 8, 1, 1]⟩ : Shape).rowMajor.symm n 2).val ∧ h.val * 1 + ((⟨4, ![1, 8, 1, 1]⟩ : Shape).rowMajor.symm n 2).val - 0 < 4
          omega
        · show 0 ≤ k.val * 1 + ((⟨4, ![1, 8, 1, 1]⟩ : Shape).rowMajor.symm n 3).val ∧ k.val * 1 + ((⟨4, ![1, 8, 1, 1]⟩ : Shape).rowMajor.symm n 3).val - 0 < 128
          omega
    · rw [dif_neg h7, EReal.coe_zero, dif_neg]
      intro hin
      have h1 : 7 ≤ t.val * 1 + ((⟨4, ![1, 8, 1, 1]⟩ : Shape).rowMajor.symm n 1).val := (hin 1).1
      omega
  have z0 : (broadcastInDim S_ ![] bcast_S_S_ (constant (F := Ideal) S_ .f32 0x00000000#32)) (Shape.Idx.first h_S_) = (0 : EReal) := ofBits_zero
  have fold : cum e (ix4 b t h k) = (List.finRange 8).foldl (fun r n => r + ((if h7 : 7 ≤ t.val + n.val then l ⟨t.val + n.val - 7, by omega⟩ else 0 : ℝ) : EReal)) 0 := by
    refine Eq.trans ?_ (congrArg (fun f => (List.finRange 8).foldl f (0 : EReal)) (funext fun r => funext fun n => congrArg (r + ·) (step n)))
    show List.foldl _ ((broadcastInDim S_ ![] bcast_S_S_ (constant (F := Ideal) S_ .f32 0x00000000#32)) (Shape.Idx.first h_S_)) _ = _
    rw [z0]
    show List.foldl _ (0 : EReal) (List.finRange 8) = _
    exact congrArg (fun f => (List.finRange 8).foldl f (0 : EReal)) (funext fun r => funext fun n => congrArg (r + ·)
      (dite_congr rfl (fun _ => rfl) (fun _ => rfl)))
  rw [fold]
  unfold cumS
  simp only [List.finRange_succ, List.finRange_zero, List.foldl_cons, List.map_cons, List.map_nil, List.foldl_nil, zero_add, ← EReal.coe_add, ← EReal.coe_zero]
  refine congrArg _ ?_
  simp only [Fin.sum_univ_eight]
  fin_cases t <;> simp <;> rfl

theorem keys_at (a0 : FVec Ideal S1024x9216 .f32) (b : Fin 128) (t : Fin 8) (h : Fin 4) (k : Fin 128) :
    keys a0 (ix4 b t h k) = a0 (ix2 (tok b t) ⟨2560 + (hcol h k).val, by omega⟩) := by
  pointwise [keys, tok, hcol]

theorem queries_at (a0 : FVec Ideal S1024x9216 .f32) (b : Fin 128) (t : Fin 8) (h : Fin 4) (k : Fin 128) :
    queries a0 (ix4 b t h k) = a0 (ix2 (tok b t) ⟨2048 + (hcol h k).val, by omega⟩) * Scalar.ofBits (F := Ideal) .f32 0x3DB504F3#32 := by
  pointwise [queries, tok, hcol]

theorem vals_at (a0 : FVec Ideal S1024x9216 .f32) (b : Fin 128) (t : Fin 8) (h : Fin 4) (v : Fin 256) :
    vals a0 (ix4 b t h v) = a0 (ix2 (tok b t) ⟨3072 + (vcol h v).val, by omega⟩) := by
  pointwise [vals, tok, vcol]

theorem stateIn_at (a3 : FVec Ideal S1x128x4x128x256 .f32) (b : Fin 128) (h : Fin 4) (k : Fin 128) (v : Fin 256) :
    stateIn a3 (ix4 b h k v) = a3 (ix5 0 b h k v) := by
  pointwise [stateIn]

theorem lastCum_at (x : FVec Ideal S128x8x4x128 .f32) (b : Fin 128) (h : Fin 4) (k : Fin 128) :
    lastCum x (ix3 b h k) = x (ix4 b 7 h k) := by
  pointwise [lastCum]

theorem stateOut_at (k4 x : FVec Ideal S128x8x4x128 .f32) (v4 : FVec Ideal S128x8x4x256 .f32) (S0 : FVec Ideal S128x4x128x256 .f32)
    (b : Fin 128) (h : Fin 4) (k : Fin 128) (v : Fin 256) :
    stateOut k4 x v4 S0 (ix4 b h k v) = Ideal.exp (x (ix4 b 7 h k)) * S0 (ix4 b h k v)
      + ∑ t : Fin 8, (k4 (ix4 b t h k) * Ideal.exp (x (ix4 b 7 h k) - x (ix4 b t h k))) * v4 (ix4 b t h v) := by
  pointwise [stateOut, lastCum]

/-- The mask's word. -/
theorem mask_word (t s : Fin 8) :
    Scalar.select (IntOp.cmpi CmpIPredicate.sge (IntOp.addi (BitVec.ofNat 32 t.val) 0#32) (BitVec.ofNat 32 s.val)) 1#1 0#1
      = if s ≤ t then 1#1 else 0#1 := by
  revert t s; decide

theorem scores_at (q4 k4 x : FVec Ideal S128x8x4x128 .f32) (b : Fin 128) (t s : Fin 8) (h : Fin 4) :
    scores q4 k4 x (ix4 b t s h) = ∑ k : Fin 128,
      ((if s ≤ t then Ideal.exp (x (ix4 b t h k) - x (ix4 b s h k)) else 0) * q4 (ix4 b t h k)) * k4 (ix4 b s h k) := by
  pointwise [scores, mask, zero5, fst5, snd5]
  rw [mask_word t s]
  refine Finset.sum_congr rfl fun k _ => ?_
  refine congrArg (fun w : EReal => w * q4 (ix4 b t h k) * k4 (ix4 b s h k)) ?_
  by_cases hs : s ≤ t
  · simp only [hs, if_true]
    rfl
  · simp only [hs, if_false]
    exact ofBits_zero

theorem outs_at (q4 k4 x : FVec Ideal S128x8x4x128 .f32) (v4 : FVec Ideal S128x8x4x256 .f32) (S0 : FVec Ideal S128x4x128x256 .f32)
    (b : Fin 128) (t : Fin 8) (h : Fin 4) (v : Fin 256) :
    outs q4 k4 x v4 S0 (ix4 b t h v) = (∑ k : Fin 128, S0 (ix4 b h k v) * (q4 (ix4 b t h k) * Ideal.exp (x (ix4 b t h k))))
      + ∑ s : Fin 8, v4 (ix4 b s h v) * scores q4 k4 x (ix4 b t s h) := by
  pointwise [outs]

theorem norm_at (o : FVec Ideal S128x8x4x256 .f32) (b : Fin 128) (t : Fin 8) (h : Fin 4) (v : Fin 256) :
    norm o (ix4 b t h v) = o (ix4 b t h v) * Ideal.rsqrt (Ideal.div (∑ u : Fin 256, o (ix4 b t h u) * o (ix4 b t h u)) (Scalar.ofBits (F := Ideal) .f32 0x43800000#32) + Scalar.ofBits (F := Ideal) .f32 0x358637BD#32) := by
  pointwise [norm]

theorem gatedOut_at (n : FVec Ideal S128x8x4x256 .f32) (a6 : FVec Ideal S1x1024 .f32) (zb : FVec Ideal S1024x1024 .f32)
    (b : Fin 128) (t : Fin 8) (h : Fin 4) (v : Fin 256) :
    gatedOut n a6 zb (ix2 (tok b t) (vcol h v)) = n (ix4 b t h v) * a6 (ix2 0 (vcol h v)) * (zb (ix2 (tok b t) (vcol h v)) * Ideal.logistic (zb (ix2 (tok b t) (vcol h v)))) := by
  pointwise [gatedOut, tok, vcol]
  rfl

theorem merge_at (a0 : FVec Ideal S1024x9216 .f32) (a2 : FVec Ideal S1024x1024 .bf16) (yb : FVec Ideal S1024x1024 .f32) (a7 a8 : FVec Ideal S1x1024x2048 .f32)
    (n : Fin 1024) (p : Fin 2048) :
    merge a0 a2 yb a7 a8 (ix2 n p) = Ideal.logistic (a0 (ix2 n ⟨5120 + p.val, by omega⟩)) * (∑ k, a2 (ix2 n k) * a7 (ix3 0 k p))
      + Ideal.logistic (a0 (ix2 n ⟨7168 + p.val, by omega⟩)) * (∑ k, yb (ix2 n k) * a8 (ix3 0 k p)) := by
  pointwise [merge, side]
  rfl

end Gla.Ref

end
-- ==== Proof.Gla.RefForm.lean ====
/- The reference's outputs and states of a sequence, in the plain sums the kernel's are in. -/
module

public import proofs.«01_k».proof.Proof.Gla.RefAt

@[expose] public section

set_option maxRecDepth 16384

noncomputable section

namespace Gla.Ref

open Idealize.ShloMosaic Idealize.ShloMosaic.TcCoe Idealize.SL.Sem
open Cert.ReferenceIdeal Cert.ReferenceIdeal.Gen

variable (a0 : FVec Ideal S1024x9216 .f32) (a1 : FVec Ideal S1024x16 .f32) (a3 : FVec Ideal S1x128x4x128x256 .f32)
  (a4 : FVec Ideal S1x16x512 .f32) (a5 : FVec Ideal S1x512 .f32) (z : Fin 1024 → Fin 512 → ℝ)

theorem cumOf_at (hz : ∀ n c, proj a1 a4 a5 n c = ((z n c : ℝ) : EReal)) (b : Fin 128) (t : Fin 8) (h : Fin 4) (k : Fin 128) :
    cumOf a1 a4 a5 (ix4 b t h k) = ((cumS (fun u => lgate (z (tok b u) (hcol h k))) t : ℝ) : EReal) :=
  cum_at _ b t h k _ fun u => (logGate_at _ b u h k).trans
    (logGate2_at _ _ _ _ ((gateProj_at a1 a4 a5 _ _).trans (hz _ _)))

theorem state_form (hz : ∀ n c, proj a1 a4 a5 n c = ((z n c : ℝ) : EReal)) (b : Fin 128) (h : Fin 4) (k : Fin 128) (v : Fin 256) :
    stateOut (keys a0) (cumOf a1 a4 a5) (vals a0) (stateIn a3) (ix4 b h k v)
      = sS (fun u => a0 (ix2 (tok b u) ⟨2560 + (hcol h k).val, by omega⟩)) (fun u => lgate (z (tok b u) (hcol h k)))
          (fun u => a0 (ix2 (tok b u) ⟨3072 + (vcol h v).val, by omega⟩)) (a3 (ix5 0 b h k v)) := by
  rw [stateOut_at, stateIn_at]
  unfold sS
  simp only [cumOf_at a1 a4 a5 z hz, keys_at, vals_at, Ideal.exp_coe, ← EReal.coe_sub]

theorem outs_form (hz : ∀ n c, proj a1 a4 a5 n c = ((z n c : ℝ) : EReal)) (b : Fin 128) (t : Fin 8) (h : Fin 4) (v : Fin 256) :
    outs (queries a0) (keys a0) (cumOf a1 a4 a5) (vals a0) (stateIn a3) (ix4 b t h v)
      = oS (fun u k => a0 (ix2 (tok b u) ⟨2048 + (hcol h k).val, by omega⟩) * Scalar.ofBits (F := Ideal) .f32 0x3DB504F3#32)
          (fun u k => a0 (ix2 (tok b u) ⟨2560 + (hcol h k).val, by omega⟩)) (fun u k => lgate (z (tok b u) (hcol h k)))
          (fun u => a0 (ix2 (tok b u) ⟨3072 + (vcol h v).val, by omega⟩)) (fun k => a3 (ix5 0 b h k v)) t := by
  rw [outs_at]
  unfold oS
  refine congrArg₂ (· + ·) (Finset.sum_congr rfl fun k _ => ?_) (Finset.sum_congr rfl fun s _ => ?_)
  · simp only [cumOf_at a1 a4 a5 z hz, queries_at, stateIn_at, Ideal.exp_coe]
    exact mul_comm _ _
  · rw [mul_comm, vals_at]
    refine congrArg (· * _) ?_
    rw [scores_at]
    by_cases hs : s ≤ t
    · rw [if_pos (show s.val ≤ t.val from hs)]
      refine Finset.sum_congr rfl fun k _ => ?_
      simp only [if_pos hs, cumOf_at a1 a4 a5 z hz, queries_at, keys_at, ← EReal.coe_sub, Ideal.exp_coe]
    · rw [if_neg (show ¬ s.val ≤ t.val from hs)]
      refine Finset.sum_eq_zero fun k _ => ?_
      simp only [if_neg hs, zero_mul]

end Gla.Ref

end
-- ==== Proof.Gla.Out17.lean ====
/- The first result's block, as the stages put together. -/
module

public import proofs.«01_k».proof.Proof.Gen.KernelIdeal.Value
public import proofs.«01_k».proof.Proof.Gla.Tile
import Idealize.ShloMosaic.Lib.Pipeline.ValueKit

@[expose] public section

set_option maxRecDepth 65536

noncomputable section

namespace Gla

open Idealize.ShloMosaic Idealize.ShloMosaic.TcCoe Idealize.ShloMosaic.Tactic Idealize.SL.Sem
open Cert.KernelIdeal Cert.KernelIdeal.Gen

variable {F : FTy → Type} [FloatOps F] [Named F]

set_option maxHeartbeats 4000000 in
theorem out17 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x16 .f32) (harg10 : arg10.IsWhole) (arg11 : Memref sig .tc .vmem S128x1024 .bf16) (harg11 : arg11.IsWhole) (arg12 : Memref sig .tc .vmem S16x4x128x256 .f32) (harg12 : arg12.IsWhole) (arg13 : Memref sig .tc .vmem S640x128 .bf16) (harg13 : arg13.IsWhole) (arg14 : Memref sig .tc .vmem S16x512 .bf16) (harg14 : arg14.IsWhole) (arg15 : Memref sig .tc .vmem S1x512 .f32) (harg15 : arg15.IsWhole) (arg16 : Memref sig .tc .vmem S1x1024 .f32) (harg16 : arg16.IsWhole) (arg17 : Memref sig .tc .vmem S1024x2048 .bf16) (harg17 : arg17.IsWhole) (arg18 : Memref sig .tc .vmem S1024x2048 .bf16) (harg18 : arg18.IsWhole) (arg19 : Memref sig .tc .vmem S128x2048 .bf16) (harg19 : arg19.IsWhole) (arg20 : Memref sig .tc .vmem S16x4x128x256 .f32) (harg20 : arg20.IsWhole) (arg21 : Memref sig .tc .vmem S4x128x256 .f32) (harg21 : arg21.IsWhole)
    (x0 : Vec F S128x512 .f32) (x1 : Vec F S128x512 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S128x16 .f32) (x9 : Vec F S128x1024 .bf16) (x10 : Vec F S16x4x128x256 .f32) (x11 : Vec F S640x128 .bf16) (x12 : Vec F S16x512 .bf16) (x13 : Vec F S1x512 .f32) (x14 : Vec F S1x1024 .f32) (x15 : Vec F S1024x2048 .bf16) (x16 : Vec F S1024x2048 .bf16) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 = mergedK x0 x1 x2 x3 x4 x5 x6 x7 x8 x9 x10 x11 x12 x13 x14 x15 x16 := by
  frame_open
  rw [View.read_writes_junk_eq_canon]
  refine (View.canon_unit_zero (View.eq_zero_of_forall (by decide)) _ _).trans ?_
  refine Eq.trans (show _ = mergedK (rd (arg2.view.read (Elt F) (harg2.unread x0)) ![0, 0] inb_S128x512_S128x512_0_0) (rd (arg3.view.read (Elt F) (harg3.unread x1)) ![0, 0] inb_S128x512_S128x512_0_0) (rd (arg4.view.read (Elt F) (harg4.unread x2)) ![0, 0] inb_S128x1024_S128x1024_0_0) (rd (arg5.view.read (Elt F) (harg5.unread x3)) ![0, 0] inb_S128x1024_S128x1024_0_0) (rd (arg6.view.read (Elt F) (harg6.unread x4)) ![0, 0] inb_S128x1024_S128x1024_0_0) (rd (arg7.view.read (Elt F) (harg7.unread x5)) ![0, 0] inb_S128x1024_S128x1024_0_0) (rd (arg8.view.read (Elt F) (harg8.unread x6)) ![0, 0] inb_S128x1024_S128x1024_0_0) (rd (arg9.view.read (Elt F) (harg9.unread x7)) ![0, 0] inb_S128x1024_S128x1024_0_0) (rd (arg10.view.read (Elt F) (harg10.unread x8)) ![0, 0] inb_S128x16_S128x16_0_0) (rd (arg11.view.read (Elt F) (harg11.unread x9)) ![0, 0] inb_S128x1024_S128x1024_0_0) (arg12.view.read (Elt F) (harg12.unread x10)) (rd (arg13.view.read (Elt F) (harg13.unread x11)) ![0, 0] inb_S640x128_S640x128_0_0) (rd (arg14.view.read (Elt F) (harg14.unread x12)) ![0, 0] inb_S16x512_S16x512_0_0) (rd (arg15.view.read (Elt F) (harg15.unread x13)) ![0, 0] inb_S1x512_S1x512_0_0) (rd (arg16.view.read (Elt F) (harg16.unread x14)) ![0, 0] inb_S1x1024_S1x1024_0_0) (rd (arg17.view.read (Elt F) (harg17.unread x15)) ![0, 0] inb_S1024x2048_S1024x2048_0_0) (rd (arg18.view.read (Elt F) (harg18.unread x16)) ![0, 0] inb_S1024x2048_S1024x2048_0_0) from rfl) ?_
  simp only [rd_eq, Memref.IsWhole.read_unread]

end Gla
-- ==== Proof.Gla.Out18.lean ====
/- The second result's block, as the states its sixteen sequences leave in their four heads. -/
module

public import proofs.«01_k».proof.Proof.Gen.KernelIdeal.Value
public import proofs.«01_k».proof.Proof.Gla.Tile
public import Idealize.ShloMosaic.Lib.Pointwise
import Idealize.ShloMosaic.Lib.Pipeline.ValueKit

@[expose] public section

set_option maxRecDepth 65536

noncomputable section

namespace Gla

open Idealize.ShloMosaic Idealize.ShloMosaic.TcCoe Idealize.ShloMosaic.Tactic Idealize.SL.Sem
open Cert.KernelIdeal Cert.KernelIdeal.Gen

variable {F : FTy → Type} [FloatOps F] [Named F]

theorem slicesCol : ∀ h : Fin 4, S128x512.Slices ![0, h.val * 128] S128x128 := by decide
theorem slicesVal : ∀ h : Fin 4, S128x1024.Slices ![0, h.val * 256] S128x256 := by decide
theorem slicesSeq : ∀ i : Fin 16, S128x128.Slices ![i.val * 8, 0] S1x128 := by decide

/-- The state sequence `i` leaves in head `h`. -/
def stateB (g : FVec F S128x512 .f32) (x1 : Vec F S128x512 .f32) (x2 : Vec F S128x1024 .f32) (x10 : Vec F S16x4x128x256 .f32)
    (x11 : Vec F S640x128 .bf16) (i : Fin 16) (h : Fin 4) : FVec F S1x1x128x256 .f32 :=
  stateK g x1 x2 x10 x11 h i (h.val * 128) (slicesCol h) (h.val * 256) (slicesVal h) (i.val * 8) (slicesSeq i)
    (BitVec.ofNat 32 (8 * i.val)) (BitVec.ofNat 32 (8 * i.val + 8))

theorem at_piece {α : Type} (G : Fin 16 → Fin 4 → S1x1x128x256.Idx → α) (y : S16x4x128x256.Idx) (x : S1x1x128x256.Idx) (i : Fin 16) (h : Fin 4)
    (h0 : (y 0).val = i.val) (h1 : (y 1).val = h.val) (h2 : (x 2).val = (y 2).val) (h3 : (x 3).val = (y 3).val) :
    G i h x = G (y 0) (y 1) (ix4 0 0 (y 2) (y 3)) := by
  have e0 : y 0 = i := Fin.ext h0
  have e1 : y 1 = h := Fin.ext h1
  have ex : x = ix4 0 0 (y 2) (y 3) := by
    funext a
    apply Fin.ext
    fin_cases a
    · have := (x 0).isLt
      show (x 0).val = 0
      change (x 0).val < 1 at this
      omega
    · have := (x 1).isLt
      show (x 1).val = 0
      change (x 1).val < 1 at this
      omega
    · exact h2
    · exact h3
  rw [e0, e1]
  exact congrArg (G i h) ex

theorem of_piece {α : Type} (G : Fin 16 → Fin 4 → S1x1x128x256.Idx → α) (y : S16x4x128x256.Idx) (x : S1x1x128x256.Idx) (i : Fin 16) (h : Fin 4) {v : α}
    (e : v = G i h x) (h0 : (y 0).val = i.val) (h1 : (y 1).val = h.val) (h2 : (x 2).val = (y 2).val) (h3 : (x 3).val = (y 3).val) :
    v = G (y 0) (y 1) (ix4 0 0 (y 2) (y 3)) :=
  e.trans (at_piece G y x i h h0 h1 h2 h3)

set_option maxHeartbeats 40000000 in
theorem out18 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x16 .f32) (harg10 : arg10.IsWhole) (arg11 : Memref sig .tc .vmem S128x1024 .bf16) (harg11 : arg11.IsWhole) (arg12 : Memref sig .tc .vmem S16x4x128x256 .f32) (harg12 : arg12.IsWhole) (arg13 : Memref sig .tc .vmem S640x128 .bf16) (harg13 : arg13.IsWhole) (arg14 : Memref sig .tc .vmem S16x512 .bf16) (harg14 : arg14.IsWhole) (arg15 : Memref sig .tc .vmem S1x512 .f32) (harg15 : arg15.IsWhole) (arg16 : Memref sig .tc .vmem S1x1024 .f32) (harg16 : arg16.IsWhole) (arg17 : Memref sig .tc .vmem S1024x2048 .bf16) (harg17 : arg17.IsWhole) (arg18 : Memref sig .tc .vmem S1024x2048 .bf16) (harg18 : arg18.IsWhole) (arg19 : Memref sig .tc .vmem S128x2048 .bf16) (harg19 : arg19.IsWhole) (arg20 : Memref sig .tc .vmem S16x4x128x256 .f32) (harg20 : arg20.IsWhole) (arg21 : Memref sig .tc .vmem S4x128x256 .f32) (harg21 : arg21.IsWhole)
    (x0 : Vec F S128x512 .f32) (x1 : Vec F S128x512 .f32) (x2 : Vec F S128x1024 .f32) (x3 : Vec F S128x1024 .f32) (x4 : Vec F S128x1024 .f32) (x5 : Vec F S128x1024 .f32) (x6 : Vec F S128x1024 .f32) (x7 : Vec F S128x1024 .f32) (x8 : Vec F S128x16 .f32) (x9 : Vec F S128x1024 .bf16) (x10 : Vec F S16x4x128x256 .f32) (x11 : Vec F S640x128 .bf16) (x12 : Vec F S16x512 .bf16) (x13 : Vec F S1x512 .f32) (x14 : Vec F S1x1024 .f32) (x15 : Vec F S1024x2048 .bf16) (x16 : Vec F S1024x2048 .bf16)
    (y : S16x4x128x256.Idx) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y
      = stateB (k0_pay6 x8 x12 x13) x1 x2 x10 x11 (y 0) (y 1) (ix4 0 0 (y 2) (y 3)) := by
  have e : stateB (k0_pay6 x8 x12 x13) x1 x2 x10 x11 = stateB (k0_pay6 (rd (arg10.view.read (Elt F) (harg10.unread x8)) ![0, 0] inb_S128x16_S128x16_0_0) (rd (arg14.view.read (Elt F) (harg14.unread x12)) ![0, 0] inb_S16x512_S16x512_0_0) (rd (arg15.view.read (Elt F) (harg15.unread x13)) ![0, 0] inb_S1x512_S1x512_0_0)) (rd (arg3.view.read (Elt F) (harg3.unread x1)) ![0, 0] inb_S128x512_S128x512_0_0) (rd (arg4.view.read (Elt F) (harg4.unread x2)) ![0, 0] inb_S128x1024_S128x1024_0_0) (arg12.view.read (Elt F) (harg12.unread x10)) (rd (arg13.view.read (Elt F) (harg13.unread x11)) ![0, 0] inb_S640x128_S640x128_0_0) := by
    simp only [rd_eq, Memref.IsWhole.read_unread]
  rw [e]
  clear e
  frame_open
  rw [View.read_writes_junk_eq_canon]
  canon_tiles x tl
  · exact of_piece _ y x 15 3 rfl (by omega) (by omega) (by omega) (by omega)
  · exact of_piece _ y x 14 3 rfl (by omega) (by omega) (by omega) (by omega)
  · exact of_piece _ y x 13 3 rfl (by omega) (by omega) (by omega) (by omega)
  · exact of_piece _ y x 12 3 rfl (by omega) (by omega) (by omega) (by omega)
  · exact of_piece _ y x 11 3 rfl (by omega) (by omega) (by omega) (by omega)
  · exact of_piece _ y x 10 3 rfl (by omega) (by omega) (by omega) (by omega)
  · exact of_piece _ y x 9 3 rfl (by omega) (by omega) (by omega) (by omega)
  · exact of_piece _ y x 8 3 rfl (by omega) (by omega) (by omega) (by omega)
  · exact of_piece _ y x 7 3 rfl (by omega) (by omega) (by omega) (by omega)
  · exact of_piece _ y x 6 3 rfl (by omega) (by omega) (by omega) (by omega)
  · exact of_piece _ y x 5 3 rfl (by omega) (by omega) (by omega) (by omega)
  · exact of_piece _ y x 4 3 rfl (by omega) (by omega) (by omega) (by omega)
  · exact of_piece _ y x 3 3 rfl (by omega) (by omega) (by omega) (by omega)
  · exact of_piece _ y x 2 3 rfl (by omega) (by omega) (by omega) (by omega)
  · exact of_piece _ y x 1 3 rfl (by omega) (by omega) (by omega) (by omega)
  · exact of_piece _ y x 0 3 rfl (by omega) (by omega) (by omega) (by omega)
  · exact of_piece _ y x 15 2 rfl (by omega) (by omega) (by omega) (by omega)
  · exact of_piece _ y x 14 2 rfl (by omega) (by omega) (by omega) (by omega)
  · exact of_piece _ y x 13 2 rfl (by omega) (by omega) (by omega) (by omega)
  · exact of_piece _ y x 12 2 rfl (by omega) (by omega) (by omega) (by omega)
  · exact of_piece _ y x 11 2 rfl (by omega) (by omega) (by omega) (by omega)
  · exact of_piece _ y x 10 2 rfl (by omega) (by omega) (by omega) (by omega)
  · exact of_piece _ y x 9 2 rfl (by omega) (by omega) (by omega) (by omega)
  · exact of_piece _ y x 8 2 rfl (by omega) (by omega) (by omega) (by omega)
  · exact of_piece _ y x 7 2 rfl (by omega) (by omega) (by omega) (by omega)
  · exact of_piece _ y x 6 2 rfl (by omega) (by omega) (by omega) (by omega)
  · exact of_piece _ y x 5 2 rfl (by omega) (by omega) (by omega) (by omega)
  · exact of_piece _ y x 4 2 rfl (by omega) (by omega) (by omega) (by omega)
  · exact of_piece _ y x 3 2 rfl (by omega) (by omega) (by omega) (by omega)
  · exact of_piece _ y x 2 2 rfl (by omega) (by omega) (by omega) (by omega)
  · exact of_piece _ y x 1 2 rfl (by omega) (by omega) (by omega) (by omega)
  · exact of_piece _ y x 0 2 rfl (by omega) (by omega) (by omega) (by omega)
  · exact of_piece _ y x 15 1 rfl (by omega) (by omega) (by omega) (by omega)
  · exact of_piece _ y x 14 1 rfl (by omega) (by omega) (by omega) (by omega)
  · exact of_piece _ y x 13 1 rfl (by omega) (by omega) (by omega) (by omega)
  · exact of_piece _ y x 12 1 rfl (by omega) (by omega) (by omega) (by omega)
  · exact of_piece _ y x 11 1 rfl (by omega) (by omega) (by omega) (by omega)
  · exact of_piece _ y x 10 1 rfl (by omega) (by omega) (by omega) (by omega)
  · exact of_piece _ y x 9 1 rfl (by omega) (by omega) (by omega) (by omega)
  · exact of_piece _ y x 8 1 rfl (by omega) (by omega) (by omega) (by omega)
  · exact of_piece _ y x 7 1 rfl (by omega) (by omega) (by omega) (by omega)
  · exact of_piece _ y x 6 1 rfl (by omega) (by omega) (by omega) (by omega)
  · exact of_piece _ y x 5 1 rfl (by omega) (by omega) (by omega) (by omega)
  · exact of_piece _ y x 4 1 rfl (by omega) (by omega) (by omega) (by omega)
  · exact of_piece _ y x 3 1 rfl (by omega) (by omega) (by omega) (by omega)
  · exact of_piece _ y x 2 1 rfl (by omega) (by omega) (by omega) (by omega)
  · exact of_piece _ y x 1 1 rfl (by omega) (by omega) (by omega) (by omega)
  · exact of_piece _ y x 0 1 rfl (by omega) (by omega) (by omega) (by omega)
  · exact of_piece _ y x 15 0 rfl (by omega) (by omega) (by omega) (by omega)
  · exact of_piece _ y x 14 0 rfl (by omega) (by omega) (by omega) (by omega)
  · exact of_piece _ y x 13 0 rfl (by omega) (by omega) (by omega) (by omega)
  · exact of_piece _ y x 12 0 rfl (by omega) (by omega) (by omega) (by omega)
  · exact of_piece _ y x 11 0 rfl (by omega) (by omega) (by omega) (by omega)
  · exact of_piece _ y x 10 0 rfl (by omega) (by omega) (by omega) (by omega)
  · exact of_piece _ y x 9 0 rfl (by omega) (by omega) (by omega) (by omega)
  · exact of_piece _ y x 8 0 rfl (by omega) (by omega) (by omega) (by omega)
  · exact of_piece _ y x 7 0 rfl (by omega) (by omega) (by omega) (by omega)
  · exact of_piece _ y x 6 0 rfl (by omega) (by omega) (by omega) (by omega)
  · exact of_piece _ y x 5 0 rfl (by omega) (by omega) (by omega) (by omega)
  · exact of_piece _ y x 4 0 rfl (by omega) (by omega) (by omega) (by omega)
  · exact of_piece _ y x 3 0 rfl (by omega) (by omega) (by omega) (by omega)
  · exact of_piece _ y x 2 0 rfl (by omega) (by omega) (by omega) (by omega)
  · exact of_piece _ y x 1 0 rfl (by omega) (by omega) (by omega) (by omega)
  · exact of_piece _ y x 0 0 rfl (by omega) (by omega) (by omega) (by omega)

end Gla
-- ==== Proof.Gla.Blocks.lean ====
/- The input blocks of a grid point, read at an index: the argument arrays at the block's place. -/
module

public import proofs.«01_k».proof.Proof.Gen.KernelIdeal.Value
public import Idealize.ShloMosaic.Lib.Pointwise
import Idealize.ShloMosaic.Lib.Pipeline.ValueKit

@[expose] public section

set_option maxRecDepth 65536

noncomputable section

namespace Gla

open Idealize.ShloMosaic Idealize.ShloMosaic.TcCoe Idealize.ShloMosaic.Tactic Idealize.SL.Sem
open Cert.KernelIdeal Cert.KernelIdeal.Gen

theorem idx : ∀ t : Fin cfg0.N, win0_0.index t = ![t.val, 4] ∧ win0_1.index t = ![t.val, 5] ∧ win0_2.index t = ![t.val, 3] ∧ win0_3.index t = ![t.val, 4] ∧ win0_4.index t = ![t.val, 5] ∧ win0_5.index t = ![t.val, 6] ∧ win0_6.index t = ![t.val, 7] ∧ win0_7.index t = ![t.val, 8] ∧ win0_8.index t = ![t.val, 0] ∧ win0_9.index t = ![t.val, 0] ∧ win0_10.index t = ![t.val, 0, 0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![t.val, 0] ∧ win0_18.index t = ![t.val, 0, 0, 0] := by
  decide +kernel

variable (m : (ℓ : Loc nD τ sig) → Buf (Elt Ideal) ℓ) (c : Dev nD) (t : Fin cfg0.N)

theorem state_at (x : Vec Ideal S1x128x4x128x256 .f32) (a : Fin 128) (h : Fin 4) (k : Fin 128) (v : Fin 256) :
    shapeCast S128x4x128x256 x shapeCasts_S1x128x4x128x256_S128x4x128x256 (ix4 a h k v) = x (ix5 0 a h k v) := by
  pointwise

theorem gatew_at (x : FVec Ideal S1x16x512 .f32) (r : Fin 16) (d : Fin 512) :
    (truncf .bf16 (shapeCast S16x512 x shapeCasts_S1x16x512_S16x512) bitsLt_bf16_f32 : FVec Ideal S16x512 .bf16) (ix2 r d) = x (ix3 0 r d) := by
  pointwise

theorem outw_at (x : FVec Ideal S1x1024x2048 .f32) (r : Fin 1024) (d : Fin 2048) :
    (truncf .bf16 (shapeCast S1024x2048 x shapeCasts_S1x1024x2048_S1024x2048) bitsLt_bf16_f32 : FVec Ideal S1024x2048 .bf16) (ix2 r d) = x (ix3 0 r d) := by
  pointwise

theorem lt8 : t.val < 8 := lt_of_lt_of_eq t.isLt N_0

/-- Row `r` of tile `t`. -/
def trow (r : Fin 128) : Fin 1024 := ⟨t.val * 128 + r.val, by have := lt8 t; omega⟩

theorem blk0 (r : Fin 128) (d : Fin 512) : (iblk m c 0 t : Vec Ideal S128x512 .f32) (ix2 r d)
    = m ((c : Thread nD τ).loc main_arg0) (ix2 (trow t r) ⟨2048 + d.val, by omega⟩) := by
  have ht := lt8 t
  unfold trow
  blk_ext [iblk, V, idx t]

theorem blk1 (r : Fin 128) (d : Fin 512) : (iblk m c 1 t : Vec Ideal S128x512 .f32) (ix2 r d)
    = m ((c : Thread nD τ).loc main_arg0) (ix2 (trow t r) ⟨2560 + d.val, by omega⟩) := by
  have ht := lt8 t
  unfold trow
  blk_ext [iblk, V, idx t]

theorem blk2 (r : Fin 128) (d : Fin 1024) : (iblk m c 2 t : Vec Ideal S128x1024 .f32) (ix2 r d)
    = m ((c : Thread nD τ).loc main_arg0) (ix2 (trow t r) ⟨3072 + d.val, by omega⟩) := by
  have ht := lt8 t
  unfold trow
  blk_ext [iblk, V, idx t]

theorem blk3 (r : Fin 128) (d : Fin 1024) : (iblk m c 3 t : Vec Ideal S128x1024 .f32) (ix2 r d)
    = m ((c : Thread nD τ).loc main_arg0) (ix2 (trow t r) ⟨4096 + d.val, by omega⟩) := by
  have ht := lt8 t
  unfold trow
  blk_ext [iblk, V, idx t]

theorem blk4 (r : Fin 128) (d : Fin 1024) : (iblk m c 4 t : Vec Ideal S128x1024 .f32) (ix2 r d)
    = m ((c : Thread nD τ).loc main_arg0) (ix2 (trow t r) ⟨5120 + d.val, by omega⟩) := by
  have ht := lt8 t
  unfold trow
  blk_ext [iblk, V, idx t]

theorem blk5 (r : Fin 128) (d : Fin 1024) : (iblk m c 5 t : Vec Ideal S128x1024 .f32) (ix2 r d)
    = m ((c : Thread nD τ).loc main_arg0) (ix2 (trow t r) ⟨6144 + d.val, by omega⟩) := by
  have ht := lt8 t
  unfold trow
  blk_ext [iblk, V, idx t]

theorem blk6 (r : Fin 128) (d : Fin 1024) : (iblk m c 6 t : Vec Ideal S128x1024 .f32) (ix2 r d)
    = m ((c : Thread nD τ).loc main_arg0) (ix2 (trow t r) ⟨7168 + d.val, by omega⟩) := by
  have ht := lt8 t
  unfold trow
  blk_ext [iblk, V, idx t]

theorem blk7 (r : Fin 128) (d : Fin 1024) : (iblk m c 7 t : Vec Ideal S128x1024 .f32) (ix2 r d)
    = m ((c : Thread nD τ).loc main_arg0) (ix2 (trow t r) ⟨8192 + d.val, by omega⟩) := by
  have ht := lt8 t
  unfold trow
  blk_ext [iblk, V, idx t]

theorem blk8 (r : Fin 128) (d : Fin 16) : (iblk m c 8 t : Vec Ideal S128x16 .f32) (ix2 r d) = m ((c : Thread nD τ).loc main_arg1) (ix2 (trow t r) d) := by
  have ht := lt8 t
  unfold trow
  blk_ext [iblk, V, idx t]

theorem blk9 (r : Fin 128) (d : Fin 1024) : (iblk m c 9 t : Vec Ideal S128x1024 .bf16) (ix2 r d) = m ((c : Thread nD τ).loc main_arg2) (ix2 (trow t r) d) := by
  have ht := lt8 t
  unfold trow
  blk_ext [iblk, V, idx t]

theorem blk10 (i : Fin 16) (h : Fin 4) (k : Fin 128) (v : Fin 256) : (iblk m c 10 t : Vec Ideal S16x4x128x256 .f32) (ix4 i h k v)
    = m ((c : Thread nD τ).loc main_arg3) (ix5 0 ⟨t.val * 16 + i.val, by have := lt8 t; omega⟩ h k v) := by
  have ht := lt8 t
  have e : (iblk m c 10 t : Vec Ideal S16x4x128x256 .f32) (ix4 i h k v) = (V m c main_v6 : Vec Ideal S128x4x128x256 .f32) (ix4 ⟨t.val * 16 + i.val, by omega⟩ h k v) := by
    blk_ext [iblk, idx t]
  rw [e]
  have e2 : (V m c main_v6 : Vec Ideal S128x4x128x256 .f32) = shapeCast S128x4x128x256 (m ((c : Thread nD τ).loc main_arg3) : Vec Ideal S1x128x4x128x256 .f32) shapeCasts_S1x128x4x128x256_S128x4x128x256 := by
    rfl
  rw [e2]
  exact state_at _ _ _ _ _

theorem blk12 (r : Fin 16) (d : Fin 512) : (iblk m c 12 t : Vec Ideal S16x512 .bf16) (ix2 r d) = m ((c : Thread nD τ).loc main_arg4) (ix3 0 r d) := by
  have e : (iblk m c 12 t : Vec Ideal S16x512 .bf16) (ix2 r d) = (V m c main_v1 : Vec Ideal S16x512 .bf16) (ix2 r d) := by
    blk_ext [iblk, idx t]
  rw [e]
  have e2 : @Eq (FVec Ideal S16x512 .bf16) (V m c main_v1) (truncf .bf16 (shapeCast S16x512 (m ((c : Thread nD τ).loc main_arg4) : FVec Ideal S1x16x512 .f32) shapeCasts_S1x16x512_S16x512) bitsLt_bf16_f32) := by
    rfl
  exact (congrFun e2 _).trans (gatew_at _ _ _)

theorem blk13 (r : Fin 1) (d : Fin 512) : (iblk m c 13 t : Vec Ideal S1x512 .f32) (ix2 r d) = m ((c : Thread nD τ).loc main_arg5) (ix2 r d) := by
  blk_ext [iblk, V, idx t]

theorem blk14 (r : Fin 1) (d : Fin 1024) : (iblk m c 14 t : Vec Ideal S1x1024 .f32) (ix2 r d) = m ((c : Thread nD τ).loc main_arg6) (ix2 r d) := by
  blk_ext [iblk, V, idx t]

theorem blk15 (r : Fin 1024) (d : Fin 2048) : (iblk m c 15 t : Vec Ideal S1024x2048 .bf16) (ix2 r d) = m ((c : Thread nD τ).loc main_arg7) (ix3 0 r d) := by
  have e : (iblk m c 15 t : Vec Ideal S1024x2048 .bf16) (ix2 r d) = (V m c main_v3 : Vec Ideal S1024x2048 .bf16) (ix2 r d) := by
    blk_ext [iblk, idx t]
  rw [e]
  have e2 : @Eq (FVec Ideal S1024x2048 .bf16) (V m c main_v3) (truncf .bf16 (shapeCast S1024x2048 (m ((c : Thread nD τ).loc main_arg7) : FVec Ideal S1x1024x2048 .f32) shapeCasts_S1x1024x2048_S1024x2048) bitsLt_bf16_f32) := by
    rfl
  exact (congrFun e2 _).trans (outw_at _ _ _)

theorem blk16 (r : Fin 1024) (d : Fin 2048) : (iblk m c 16 t : Vec Ideal S1024x2048 .bf16) (ix2 r d) = m ((c : Thread nD τ).loc main_arg8) (ix3 0 r d) := by
  have e : (iblk m c 16 t : Vec Ideal S1024x2048 .bf16) (ix2 r d) = (V m c main_v5 : Vec Ideal S1024x2048 .bf16) (ix2 r d) := by
    blk_ext [iblk, idx t]
  rw [e]
  have e2 : @Eq (FVec Ideal S1024x2048 .bf16) (V m c main_v5) (truncf .bf16 (shapeCast S1024x2048 (m ((c : Thread nD τ).loc main_arg8) : FVec Ideal S1x1024x2048 .f32) shapeCasts_S1x1024x2048_S1024x2048) bitsLt_bf16_f32) := by
    rfl
  exact (congrFun e2 _).trans (outw_at _ _ _)

/-- The table as the host builds it: the 0/1 matrices of its five parts one below the other. -/
def tableH : FVec Ideal S640x128 .bf16 :=
  truncf .bf16 (select (concatenate S640x128 0 [⟨S128x128, andi (cmpi .eq (Host.shrsi (iotaInDim S128x128 32 0) (broadcastInDim S128x128 ![] bcast_S_S128x128 (constantI S_ 32 3#32))) (Host.shrsi (iotaInDim S128x128 32 1) (broadcastInDim S128x128 ![] bcast_S_S128x128 (constantI S_ 32 3#32)))) (cmpi .sle (iotaInDim S128x128 32 1) (iotaInDim S128x128 32 0))⟩, ⟨S128x128, andi (cmpi .eq (Host.shrsi (iotaInDim S128x128 32 0) (broadcastInDim S128x128 ![] bcast_S_S128x128 (constantI S_ 32 2#32))) (Host.shrsi (iotaInDim S128x128 32 1) (broadcastInDim S128x128 ![] bcast_S_S128x128 (constantI S_ 32 2#32)))) (cmpi .sle (iotaInDim S128x128 32 1) (iotaInDim S128x128 32 0))⟩, ⟨S128x128, cmpi .eq (Host.shrsi (iotaInDim S128x128 32 0) (broadcastInDim S128x128 ![] bcast_S_S128x128 (constantI S_ 32 2#32))) (Host.shrsi (iotaInDim S128x128 32 1) (broadcastInDim S128x128 ![] bcast_S_S128x128 (constantI S_ 32 2#32)))⟩, ⟨S128x128, andi (cmpi .eq (Host.shrsi (iotaInDim S128x128 32 0) (broadcastInDim S128x128 ![] bcast_S_S128x128 (constantI S_ 32 1#32))) (Host.shrsi (iotaInDim S128x128 32 1) (broadcastInDim S128x128 ![] bcast_S_S128x128 (constantI S_ 32 1#32)))) (cmpi .sle (iotaInDim S128x128 32 1) (iotaInDim S128x128 32 0))⟩, ⟨S128x128, cmpi .eq (Host.shrsi (iotaInDim S128x128 32 0) (broadcastInDim S128x128 ![] bcast_S_S128x128 (constantI S_ 32 1#32))) (Host.shrsi (iotaInDim S128x128 32 1) (broadcastInDim S128x128 ![] bcast_S_S128x128 (constantI S_ 32 1#32)))⟩] concatenates_S128x128_S128x128_S128x128_S128x128_S128x128_S640x128_d0)
    (broadcastInDim S640x128 ![] bcast_S_S640x128 (constant (F := Ideal) S_ .f32 0x3F800000#32))
    (broadcastInDim S640x128 ![] bcast_S_S640x128 (constant (F := Ideal) S_ .f32 0x00000000#32))) bitsLt_bf16_f32

theorem table_eq : @Eq (FVec Ideal S640x128 .bf16) (V m c main_v43) tableH := by
  rfl

end Gla
-- ==== Proof.Gla.TableAt.lean ====
/- The table of zeros and ones the host builds, read at an index. -/
module

public import proofs.«01_k».proof.Proof.Gla.Blocks
public import proofs.«01_k».proof.Proof.Gla.Sums
import Idealize.ShloMosaic.Lib.Pipeline.ValueKit

@[expose] public section

set_option maxRecDepth 65536

noncomputable section

namespace Gla

open Idealize.ShloMosaic Idealize.ShloMosaic.TcCoe Idealize.ShloMosaic.Tactic Idealize.SL.Sem
open Cert.KernelIdeal Cert.KernelIdeal.Gen

theorem select_bit (p : Prop) [Decidable p] : Scalar.select (if p then 1#1 else 0#1) (1 : EReal) 0 = if p then 1 else 0 := by
  by_cases hp : p <;> simp only [hp, if_true, if_false] <;> rfl

theorem same_bit8 : ∀ r k : Fin 128, IntOp.cmpi CmpIPredicate.eq (IntOp.shrsi ArithUnit.host (BitVec.ofNat 32 r.val) 3#32)
    (IntOp.shrsi ArithUnit.host (BitVec.ofNat 32 k.val) 3#32) = if k.val / 8 = r.val / 8 then 1#1 else 0#1 := by
  decide +kernel

theorem same_bit4 : ∀ r k : Fin 128, IntOp.cmpi CmpIPredicate.eq (IntOp.shrsi ArithUnit.host (BitVec.ofNat 32 r.val) 2#32)
    (IntOp.shrsi ArithUnit.host (BitVec.ofNat 32 k.val) 2#32) = if k.val / 4 = r.val / 4 then 1#1 else 0#1 := by
  decide +kernel

theorem same_bit2 : ∀ r k : Fin 128, IntOp.cmpi CmpIPredicate.eq (IntOp.shrsi ArithUnit.host (BitVec.ofNat 32 r.val) 1#32)
    (IntOp.shrsi ArithUnit.host (BitVec.ofNat 32 k.val) 1#32) = if k.val / 2 = r.val / 2 then 1#1 else 0#1 := by
  decide +kernel

theorem le_bit : ∀ r k : Fin 128, IntOp.cmpi CmpIPredicate.sle (BitVec.ofNat 32 k.val) (BitVec.ofNat 32 r.val)
    = if k.val ≤ r.val then 1#1 else 0#1 := by
  decide +kernel

theorem and_bit (p q : Prop) [Decidable p] [Decidable q] :
    IntOp.andi (if p then 1#1 else 0#1) (if q then 1#1 else 0#1) = if p ∧ q then 1#1 else 0#1 := by
  by_cases hp : p <;> by_cases hq : q <;> simp only [hp, hq, if_true, if_false, and_self, and_true, true_and, and_false, false_and] <;> decide

theorem cat5_at (f : Fin 5 → IVec S128x128 1) (n : Fin 5) (r k : Fin 128)
    (hc : Shape.Concatenates ((List.ofFn fun n : Fin 5 => (⟨S128x128, f n⟩ : (s : Shape) × IVec s 1)).map (·.1)) S640x128 0) :
    concatenate S640x128 0 (List.ofFn fun n : Fin 5 => (⟨S128x128, f n⟩ : (s : Shape) × IVec s 1)) hc (ix2 ⟨n.val * 128 + r.val, by omega⟩ k)
      = f n (ix2 r k) := by
  refine concatenate_ofFn_apply 0 f hc rfl 128 rfl (ix2 ⟨n.val * 128 + r.val, by omega⟩ k) n ?_ (ix2 r k) ?_ fun b hb => ?_
  · show (n.val * 128 + r.val) / 128 = n.val; omega
  · show r.val = (n.val * 128 + r.val) % 128; omega
  · fin_cases b
    · exact absurd rfl hb
    · rfl

theorem table_word (B : IVec S640x128 1) (r : Fin 640) (k : Fin 128) :
    (truncf .bf16 (select B (broadcastInDim S640x128 ![] bcast_S_S640x128 (constant (F := Ideal) S_ .f32 0x3F800000#32))
      (broadcastInDim S640x128 ![] bcast_S_S640x128 (constant (F := Ideal) S_ .f32 0x00000000#32))) bitsLt_bf16_f32 : FVec Ideal S640x128 .bf16) (ix2 r k)
      = Scalar.select (B (ix2 r k)) (1 : EReal) 0 := by
  pointwise

/-- The five parts of the table, as words of one bit. -/
def parts : Fin 5 → IVec S128x128 1 :=
  ![andi (cmpi .eq (Host.shrsi (iotaInDim S128x128 32 0) (broadcastInDim S128x128 ![] bcast_S_S128x128 (constantI S_ 32 3#32))) (Host.shrsi (iotaInDim S128x128 32 1) (broadcastInDim S128x128 ![] bcast_S_S128x128 (constantI S_ 32 3#32)))) (cmpi .sle (iotaInDim S128x128 32 1) (iotaInDim S128x128 32 0)),
    andi (cmpi .eq (Host.shrsi (iotaInDim S128x128 32 0) (broadcastInDim S128x128 ![] bcast_S_S128x128 (constantI S_ 32 2#32))) (Host.shrsi (iotaInDim S128x128 32 1) (broadcastInDim S128x128 ![] bcast_S_S128x128 (constantI S_ 32 2#32)))) (cmpi .sle (iotaInDim S128x128 32 1) (iotaInDim S128x128 32 0)),
    cmpi .eq (Host.shrsi (iotaInDim S128x128 32 0) (broadcastInDim S128x128 ![] bcast_S_S128x128 (constantI S_ 32 2#32))) (Host.shrsi (iotaInDim S128x128 32 1) (broadcastInDim S128x128 ![] bcast_S_S128x128 (constantI S_ 32 2#32))),
    andi (cmpi .eq (Host.shrsi (iotaInDim S128x128 32 0) (broadcastInDim S128x128 ![] bcast_S_S128x128 (constantI S_ 32 1#32))) (Host.shrsi (iotaInDim S128x128 32 1) (broadcastInDim S128x128 ![] bcast_S_S128x128 (constantI S_ 32 1#32)))) (cmpi .sle (iotaInDim S128x128 32 1) (iotaInDim S128x128 32 0)),
    cmpi .eq (Host.shrsi (iotaInDim S128x128 32 0) (broadcastInDim S128x128 ![] bcast_S_S128x128 (constantI S_ 32 1#32))) (Host.shrsi (iotaInDim S128x128 32 1) (broadcastInDim S128x128 ![] bcast_S_S128x128 (constantI S_ 32 1#32)))]

theorem tableH_at (n : Fin 5) (r k : Fin 128) : tableH (ix2 ⟨n.val * 128 + r.val, by omega⟩ k) = Scalar.select (parts n (ix2 r k)) (1 : EReal) 0 := by
  rw [← cat5_at parts n r k concatenates_S128x128_S128x128_S128x128_S128x128_S128x128_S640x128_d0]
  exact table_word _ _ _

theorem table_c8 (r k : Fin 128) : tableH (ix2 ⟨0 + r.val, by omega⟩ k) = if k.val / 8 = r.val / 8 ∧ k.val ≤ r.val then 1 else 0 := by
  refine (tableH_at 0 r k).trans ?_
  have e : parts 0 (ix2 r k) = (andi (cmpi .eq (Host.shrsi (iotaInDim S128x128 32 0) (broadcastInDim S128x128 ![] bcast_S_S128x128 (constantI S_ 32 3#32))) (Host.shrsi (iotaInDim S128x128 32 1) (broadcastInDim S128x128 ![] bcast_S_S128x128 (constantI S_ 32 3#32)))) (cmpi .sle (iotaInDim S128x128 32 1) (iotaInDim S128x128 32 0)) : IVec S128x128 1) (ix2 r k) := rfl
  rw [e]
  pointwise
  rw [same_bit8, le_bit, and_bit, select_bit]

theorem table_c4 (r k : Fin 128) : tableH (ix2 ⟨128 + r.val, by omega⟩ k) = if k.val / 4 = r.val / 4 ∧ k.val ≤ r.val then 1 else 0 := by
  refine (tableH_at 1 r k).trans ?_
  have e : parts 1 (ix2 r k) = (andi (cmpi .eq (Host.shrsi (iotaInDim S128x128 32 0) (broadcastInDim S128x128 ![] bcast_S_S128x128 (constantI S_ 32 2#32))) (Host.shrsi (iotaInDim S128x128 32 1) (broadcastInDim S128x128 ![] bcast_S_S128x128 (constantI S_ 32 2#32)))) (cmpi .sle (iotaInDim S128x128 32 1) (iotaInDim S128x128 32 0)) : IVec S128x128 1) (ix2 r k) := rfl
  rw [e]
  pointwise
  rw [same_bit4, le_bit, and_bit, select_bit]

theorem table_t4 (r k : Fin 128) : tableH (ix2 ⟨256 + r.val, by omega⟩ k) = if k.val / 4 = r.val / 4 then 1 else 0 := by
  refine (tableH_at 2 r k).trans ?_
  have e : parts 2 (ix2 r k) = (cmpi .eq (Host.shrsi (iotaInDim S128x128 32 0) (broadcastInDim S128x128 ![] bcast_S_S128x128 (constantI S_ 32 2#32))) (Host.shrsi (iotaInDim S128x128 32 1) (broadcastInDim S128x128 ![] bcast_S_S128x128 (constantI S_ 32 2#32))) : IVec S128x128 1) (ix2 r k) := rfl
  rw [e]
  pointwise
  rw [same_bit4, select_bit]

theorem table_c2 (r k : Fin 128) : tableH (ix2 ⟨384 + r.val, by omega⟩ k) = if k.val / 2 = r.val / 2 ∧ k.val ≤ r.val then 1 else 0 := by
  refine (tableH_at 3 r k).trans ?_
  have e : parts 3 (ix2 r k) = (andi (cmpi .eq (Host.shrsi (iotaInDim S128x128 32 0) (broadcastInDim S128x128 ![] bcast_S_S128x128 (constantI S_ 32 1#32))) (Host.shrsi (iotaInDim S128x128 32 1) (broadcastInDim S128x128 ![] bcast_S_S128x128 (constantI S_ 32 1#32)))) (cmpi .sle (iotaInDim S128x128 32 1) (iotaInDim S128x128 32 0)) : IVec S128x128 1) (ix2 r k) := rfl
  rw [e]
  pointwise
  rw [same_bit2, le_bit, and_bit, select_bit]

theorem table_t2 (r k : Fin 128) : tableH (ix2 ⟨512 + r.val, by omega⟩ k) = if k.val / 2 = r.val / 2 then 1 else 0 := by
  refine (tableH_at 4 r k).trans ?_
  have e : parts 4 (ix2 r k) = (cmpi .eq (Host.shrsi (iotaInDim S128x128 32 0) (broadcastInDim S128x128 ![] bcast_S_S128x128 (constantI S_ 32 1#32))) (Host.shrsi (iotaInDim S128x128 32 1) (broadcastInDim S128x128 ![] bcast_S_S128x128 (constantI S_ 32 1#32))) : IVec S128x128 1) (ix2 r k) := rfl
  rw [e]
  pointwise
  rw [same_bit2, select_bit]

/-- The block of the table every grid point reads is the table of running sums and totals. -/
theorem table (m : (ℓ : Loc nD τ sig) → Buf (Elt Ideal) ℓ) (c : Dev nD) (t : Fin cfg0.N) : Table (iblk m c 11 t : Vec Ideal S640x128 .bf16) := by
  have e : ∀ (r : Fin 640) (k : Fin 128), (iblk m c 11 t : Vec Ideal S640x128 .bf16) (ix2 r k) = tableH (ix2 r k) := by
    intro r k
    have e1 : (iblk m c 11 t : Vec Ideal S640x128 .bf16) (ix2 r k) = (V m c main_v43 : Vec Ideal S640x128 .bf16) (ix2 r k) := by
      blk_ext [iblk, idx t]
    exact e1.trans (congrFun (table_eq m c) _)
  exact ⟨fun r k => (e _ _).trans (table_c8 r k), fun r k => (e _ _).trans (table_c4 r k), fun r k => (e _ _).trans (table_t4 r k),
    fun r k => (e _ _).trans (table_c2 r k), fun r k => (e _ _).trans (table_t2 r k)⟩

end Gla
-- ==== Proof.Gla.Final.lean ====
/- The kernel's two result arrays are the reference's functions of the arguments. -/
module

public import proofs.«01_k».proof.Proof.Gla.Elems
public import proofs.«01_k».proof.Proof.Gla.RefForm
public import proofs.«01_k».proof.Proof.Gla.Out17
public import proofs.«01_k».proof.Proof.Gla.Out18
public import proofs.«01_k».proof.Proof.Gla.Blocks
public import proofs.«01_k».proof.Proof.Gla.TableAt
import Idealize.ShloMosaic.Lib.Pipeline.ValueKit

@[expose] public section

set_option maxRecDepth 65536

noncomputable section

namespace Gla

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The arguments, as arrays. -/
def A0 : FVec Ideal S1024x9216 .f32 := m ((c : Thread nD τ).loc main_arg0)
def A1 : FVec Ideal S1024x16 .f32 := m ((c : Thread nD τ).loc main_arg1)
def A2 : FVec Ideal S1024x1024 .bf16 := m ((c : Thread nD τ).loc main_arg2)
def A3 : FVec Ideal S1x128x4x128x256 .f32 := m ((c : Thread nD τ).loc main_arg3)
def A4 : FVec Ideal S1x16x512 .f32 := m ((c : Thread nD τ).loc main_arg4)
def A5 : FVec Ideal S1x512 .f32 := m ((c : Thread nD τ).loc main_arg5)
def A6 : FVec Ideal S1x1024 .f32 := m ((c : Thread nD τ).loc main_arg6)
def A7 : FVec Ideal S1x1024x2048 .f32 := m ((c : Thread nD τ).loc main_arg7)
def A8 : FVec Ideal S1x1024x2048 .f32 := m ((c : Thread nD τ).loc main_arg8)

/-- The reference's first result of the arguments. -/
def G17 : FVec Ideal S1024x2048 .bf16 :=
  Ref.merge (A0 m c) (A2 m c) (Ref.gatedOut (Ref.norm (Ref.outs (Ref.queries (A0 m c)) (Ref.keys (A0 m c)) (Ref.cumOf (A1 m c) (A4 m c) (A5 m c)) (Ref.vals (A0 m c)) (Ref.stateIn (A3 m c))))
    (A6 m c) (extractStridedSlice S1024x1024 ![0, 4096] (A0 m c) Cert.ReferenceIdeal.Gen.slices_S1024x9216_S1024x1024_0_4096)) (A7 m c) (A8 m c)

/-- The reference's second result of the arguments. -/
def G18 : FVec Ideal S128x4x128x256 .f32 :=
  Ref.stateOut (Ref.keys (A0 m c)) (Ref.cumOf (A1 m c) (A4 m c) (A5 m c)) (Ref.vals (A0 m c)) (Ref.stateIn (A3 m c))

variable (t : Fin cfg0.N) (z : Fin 1024 → Fin 512 → ℝ)

/-- The gates of a tile, with the projection's reals. -/
theorem gates (hz : ∀ n c', proj (A1 m c) (A4 m c) (A5 m c) n c' = ((z n c' : ℝ) : EReal)) :
    GatesAre (k0_pay6 (F := Ideal) (iblk m c 8 t) (iblk m c 12 t) (iblk m c 13 t)) (fun r d => lgate (z (trow t r) d)) := by
  intro r d
  refine gate_at _ _ _ r d (z (trow t r) d) ?_
  rw [← hz]
  unfold proj
  refine congrArg₂ (· + ·) (Finset.sum_congr rfl fun x _ => congrArg₂ (· * ·) (blk8 m c t r x) (blk12 m c t x d)) (blk13 m c t 0 d)

/-- The sequence of the array that a tile's sequence is. -/
def tseq (j : Fin 16) : Fin 128 := ⟨t.val * 16 + j.val, by have := lt8 t; omega⟩

theorem trow_row (j : Fin 16) (u : Fin 8) : trow t (row j u) = Ref.tok (tseq t j) u :=
  Fin.ext (by show t.val * 128 + (j.val * 8 + u.val) = (t.val * 16 + j.val) * 8 + u.val; omega)

theorem state_value (hz : ∀ n c', proj (A1 m c) (A4 m c) (A5 m c) n c' = ((z n c' : ℝ) : EReal))
    (j : Fin 16) (h : Fin 4) (k : Fin 128) (v : Fin 256) :
    stateB (k0_pay6 (F := Ideal) (iblk m c 8 t) (iblk m c 12 t) (iblk m c 13 t)) (iblk m c 1 t) (iblk m c 2 t) (iblk m c 10 t) (iblk m c 11 t) j h (ix4 0 0 k v)
      = G18 m c (ix4 (tseq t j) h k v) := by
  unfold stateB
  rw [stateK_at (gates m c t z hz) (table m c t) (iblk m c 1 t) (iblk m c 2 t) (iblk m c 10 t) h j (h.val * 128) (slicesCol h) (by omega) (h.val * 256) (slicesVal h) (by omega)
    (j.val * 8) (slicesSeq j) rfl _ _ rfl rfl k v]
  refine Eq.trans ?_ (Ref.state_form (A0 m c) (A1 m c) (A3 m c) (A4 m c) (A5 m c) z hz (tseq t j) h k v).symm
  have e1 : (fun u => (iblk m c 1 t : FVec Ideal S128x512 .f32) (ix2 (row j u) ⟨h.val * 128 + k.val, by omega⟩))
      = fun u => A0 m c (ix2 (Ref.tok (tseq t j) u) ⟨2560 + (Ref.hcol h k).val, by omega⟩) := by
    funext u
    rw [← trow_row]
    exact blk1 m c t (row j u) _
  have e2 : (fun u => (iblk m c 2 t : FVec Ideal S128x1024 .f32) (ix2 (row j u) ⟨h.val * 256 + v.val, by omega⟩))
      = fun u => A0 m c (ix2 (Ref.tok (tseq t j) u) ⟨3072 + (Ref.vcol h v).val, by omega⟩) := by
    funext u
    rw [← trow_row]
    exact blk2 m c t (row j u) _
  have e3 : (fun u => lgate (z (trow t (row j u)) ⟨h.val * 128 + k.val, by omega⟩))
      = fun u => lgate (z (Ref.tok (tseq t j) u) (Ref.hcol h k)) := by
    funext u
    rw [← trow_row]
    rfl
  have e4 : (iblk m c 10 t : Vec Ideal S16x4x128x256 .f32) (ix4 j h k v) = A3 m c (ix5 0 (tseq t j) h k v) := blk10 m c t j h k v
  exact congr (congr (congr (congrArg sS e1) e3) e2) e4

/-- A tile's head, by its number. -/
def headB (g : FVec Ideal S128x512 .f32) (x0 x1 : FVec Ideal S128x512 .f32) (x2 : FVec Ideal S128x1024 .f32) (x10 : Vec Ideal S16x4x128x256 .f32)
    (x11 : Vec Ideal S640x128 .bf16) (h : Fin 4) : FVec Ideal S128x256 .f32 :=
  headK (F := Ideal) g x0 x1 x2 x10 x11 h (h.val * 128) (slicesCol h) (h.val * 256) (slicesVal h)

theorem head_value (hz : ∀ n c', proj (A1 m c) (A4 m c) (A5 m c) n c' = ((z n c' : ℝ) : EReal))
    (j : Fin 16) (u : Fin 8) (h : Fin 4) (v : Fin 256) :
    headB (k0_pay6 (F := Ideal) (iblk m c 8 t) (iblk m c 12 t) (iblk m c 13 t)) (iblk m c 0 t) (iblk m c 1 t) (iblk m c 2 t) (iblk m c 10 t) (iblk m c 11 t) h (ix2 (row j u) v)
      = Ref.outs (Ref.queries (A0 m c)) (Ref.keys (A0 m c)) (Ref.cumOf (A1 m c) (A4 m c) (A5 m c)) (Ref.vals (A0 m c)) (Ref.stateIn (A3 m c)) (ix4 (tseq t j) u h v) := by
  unfold headB
  rw [headK_at (gates m c t z hz) (table m c t) (iblk m c 0 t) (iblk m c 1 t) (iblk m c 2 t) (iblk m c 10 t) h (h.val * 128) (slicesCol h) (by omega) (h.val * 256) (slicesVal h) (by omega) j u v]
  refine Eq.trans ?_ (Ref.outs_form (A0 m c) (A1 m c) (A3 m c) (A4 m c) (A5 m c) z hz (tseq t j) u h v).symm
  have e0 : (fun (u : Fin 8) (k : Fin 128) => (iblk m c 0 t : FVec Ideal S128x512 .f32) (ix2 (row j u) ⟨h.val * 128 + k.val, by omega⟩))
      = fun u k => A0 m c (ix2 (Ref.tok (tseq t j) u) ⟨2048 + (Ref.hcol h k).val, by omega⟩) := by
    funext u k
    rw [← trow_row]
    exact blk0 m c t (row j u) _
  have e1 : (fun (u : Fin 8) (k : Fin 128) => (iblk m c 1 t : FVec Ideal S128x512 .f32) (ix2 (row j u) ⟨h.val * 128 + k.val, by omega⟩))
      = fun u k => A0 m c (ix2 (Ref.tok (tseq t j) u) ⟨2560 + (Ref.hcol h k).val, by omega⟩) := by
    funext u k
    rw [← trow_row]
    exact blk1 m c t (row j u) _
  have e2 : (fun u => (iblk m c 2 t : FVec Ideal S128x1024 .f32) (ix2 (row j u) ⟨h.val * 256 + v.val, by omega⟩))
      = fun u => A0 m c (ix2 (Ref.tok (tseq t j) u) ⟨3072 + (Ref.vcol h v).val, by omega⟩) := by
    funext u
    rw [← trow_row]
    exact blk2 m c t (row j u) _
  have e3 : (fun (u : Fin 8) (k : Fin 128) => lgate (z (trow t (row j u)) ⟨h.val * 128 + k.val, by omega⟩))
      = fun u k => lgate (z (Ref.tok (tseq t j) u) (Ref.hcol h k)) := by
    funext u k
    rw [← trow_row]
    rfl
  have e4 : (fun k : Fin 128 => (iblk m c 10 t : Vec Ideal S16x4x128x256 .f32) (ix4 j h k v)) = fun k => A3 m c (ix5 0 (tseq t j) h k v) := by
    funext k
    exact blk10 m c t j h k v
  exact congrFun (congr (congr (congr (congr (congrArg (fun f : Fin 8 → Fin 128 → EReal =>
    oS (fun u k => f u k * Scalar.ofBits (F := Ideal) .f32 0x3DB504F3#32)) e0) e1) e3) e2) e4) u

theorem zb_at (a0 : FVec Ideal S1024x9216 .f32) (n p : Fin 1024) :
    extractStridedSlice S1024x1024 ![0, 4096] a0 Cert.ReferenceIdeal.Gen.slices_S1024x9216_S1024x1024_0_4096 (ix2 n p) = a0 (ix2 n ⟨4096 + p.val, by omega⟩) := by
  pointwise

theorem gated_value (hz : ∀ n c', proj (A1 m c) (A4 m c) (A5 m c) n c' = ((z n c' : ℝ) : EReal))
    (j : Fin 16) (u : Fin 8) (p : Fin 1024) (g : FVec Ideal S128x512 .f32) (hg : g = k0_pay6 (F := Ideal) (iblk m c 8 t) (iblk m c 12 t) (iblk m c 13 t)) :
    gated (F := Ideal) (headK g (iblk m c 0 t) (iblk m c 1 t) (iblk m c 2 t) (iblk m c 10 t) (iblk m c 11 t) 0 0 slices_S128x512_o0_0_S128x128 0 slices_S128x1024_o0_0_S128x256)
        (headK g (iblk m c 0 t) (iblk m c 1 t) (iblk m c 2 t) (iblk m c 10 t) (iblk m c 11 t) 1 128 slices_S128x512_o0_128_S128x128 256 slices_S128x1024_o0_256_S128x256)
        (headK g (iblk m c 0 t) (iblk m c 1 t) (iblk m c 2 t) (iblk m c 10 t) (iblk m c 11 t) 2 256 slices_S128x512_o0_256_S128x128 512 slices_S128x1024_o0_512_S128x256)
        (headK g (iblk m c 0 t) (iblk m c 1 t) (iblk m c 2 t) (iblk m c 10 t) (iblk m c 11 t) 3 384 slices_S128x512_o0_384_S128x128 768 slices_S128x1024_o0_768_S128x256)
        (iblk m c 14 t) (iblk m c 3 t) (ix2 (row j u) p)
      = Ref.gatedOut (Ref.norm (Ref.outs (Ref.queries (A0 m c)) (Ref.keys (A0 m c)) (Ref.cumOf (A1 m c) (A4 m c) (A5 m c)) (Ref.vals (A0 m c)) (Ref.stateIn (A3 m c))))
          (A6 m c) (extractStridedSlice S1024x1024 ![0, 4096] (A0 m c) Cert.ReferenceIdeal.Gen.slices_S1024x9216_S1024x1024_0_4096) (ix2 (trow t (row j u)) p) := by
  obtain ⟨h, v, rfl⟩ : ∃ (h : Fin 4) (v : Fin 256), p = Ref.vcol h v :=
    ⟨⟨p.val / 256, by omega⟩, ⟨p.val % 256, by omega⟩, Fin.ext (by show p.val = p.val / 256 * 256 + p.val % 256; omega)⟩
  refine (gated_at _ _ _ _ _ _ (headB g (iblk m c 0 t) (iblk m c 1 t) (iblk m c 2 t) (iblk m c 10 t) (iblk m c 11 t)) rfl rfl rfl rfl (row j u) h v _ rfl).trans ?_
  rw [trow_row, Ref.gatedOut_at, Ref.norm_at, zb_at]
  subst hg
  have e1 : (fun w : Fin 256 => headB (k0_pay6 (F := Ideal) (iblk m c 8 t) (iblk m c 12 t) (iblk m c 13 t)) (iblk m c 0 t) (iblk m c 1 t) (iblk m c 2 t) (iblk m c 10 t) (iblk m c 11 t) h (ix2 (row j u) w))
      = fun w => Ref.outs (Ref.queries (A0 m c)) (Ref.keys (A0 m c)) (Ref.cumOf (A1 m c) (A4 m c) (A5 m c)) (Ref.vals (A0 m c)) (Ref.stateIn (A3 m c)) (ix4 (tseq t j) u h w) :=
    funext fun w => head_value m c t z hz j u h w
  have e2 : (iblk m c 14 t : FVec Ideal S1x1024 .f32) (ix2 0 (Ref.vcol h v)) = A6 m c (ix2 0 (Ref.vcol h v)) := blk14 m c t 0 _
  have e3 : (iblk m c 3 t : FVec Ideal S128x1024 .f32) (ix2 (row j u) (Ref.vcol h v)) = A0 m c (ix2 (Ref.tok (tseq t j) u) ⟨4096 + (Ref.vcol h v).val, by omega⟩) := by
    rw [← trow_row]
    exact blk3 m c t (row j u) _
  rw [e1, e2, e3]
  rfl

theorem out_value (hz : ∀ n c', proj (A1 m c) (A4 m c) (A5 m c) n c' = ((z n c' : ℝ) : EReal)) (r : Fin 128) (p : Fin 2048) :
    mergedK (F := Ideal) (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t) (iblk m c 16 t) (ix2 r p)
      = G17 m c (ix2 (trow t r) p) := by
  obtain ⟨j, u, rfl⟩ := exists_row r
  unfold mergedK G17
  rw [merged_at, branch_at, branch_at, Ref.merge_at]
  refine congrArg₂ (· + ·) (congrArg₂ (· * ·) (congrArg Ideal.logistic ?_) (Finset.sum_congr rfl fun k _ => ?_))
    (congrArg₂ (· * ·) (congrArg Ideal.logistic ?_) (Finset.sum_congr rfl fun k _ => ?_))
  · by_cases hp : p.val < 1024
    · rw [dif_pos hp]
      exact blk4 m c t (row j u) _
    · rw [dif_neg hp]
      refine (blk5 m c t (row j u) _).trans (congrArg (fun w : Fin 9216 => A0 m c (ix2 (trow t (row j u)) w)) (Fin.ext ?_))
      show 6144 + (p.val - 1024) = 5120 + p.val
      omega
  · exact congrArg₂ (· * ·) (blk9 m c t (row j u) k) (blk15 m c t k p)
  · by_cases hp : p.val < 1024
    · rw [dif_pos hp]
      exact blk6 m c t (row j u) _
    · rw [dif_neg hp]
      refine (blk7 m c t (row j u) _).trans (congrArg (fun w : Fin 9216 => A0 m c (ix2 (trow t (row j u)) w)) (Fin.ext ?_))
      show 8192 + (p.val - 1024) = 7168 + p.val
      omega
  · exact congrArg₂ (· * ·) (gated_value m c t z hz j u k _ rfl) (blk16 m c t k p)

end Gla

end
-- ==== Proof.Gla.Arrays.lean ====
/- The two result arrays after the run, and the run itself with the results named. -/
module

public import proofs.«01_k».proof.Proof.Gla.Final
import Idealize.ShloMosaic.Lib.Pipeline.ValueKit

@[expose] public section

set_option maxRecDepth 65536

noncomputable section

namespace Gla

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD) (z : Fin 1024 → Fin 512 → ℝ)

theorem idxOut : ∀ t : Fin cfg0.N, win0_17.index t = ![t.val, 0] ∧ win0_18.index t = ![t.val, 0, 0, 0] := by
  decide +kernel

theorem arr17 (hz : ∀ n c', proj (A1 m c) (A4 m c) (A5 m c) n c' = ((z n c' : ℝ) : EReal)) :
    (dats m 0 c).arrAt 17 cfg0.N = G17 m c := by
  refine (dats m 0 c).arrAt_eq_of_covers 17 _ (by decide +kernel) fun t hf y => ?_
  blk_simp
  rw [after0_17]
  unfold Gen.outsAt0
  rw [out17]
  obtain ⟨r, p, rfl⟩ : ∃ (r : Fin 128) (p : Fin 2048), y = ix2 r p := ⟨y 0, y 1, by funext a; fin_cases a <;> rfl⟩
  refine (out_value m c t z hz r p).trans ?_
  refine congrArg (G17 m c) ?_
  unfold trow
  blk_ext [idxOut t]

theorem arr18 (hz : ∀ n c', proj (A1 m c) (A4 m c) (A5 m c) n c' = ((z n c' : ℝ) : EReal)) :
    (dats m 0 c).arrAt 18 cfg0.N = G18 m c := by
  refine (dats m 0 c).arrAt_eq_of_covers 18 _ (by decide +kernel) fun t hf y => ?_
  blk_simp
  rw [after0_18]
  unfold Gen.outsAt0
  dsimp only
  rw [out18]
  refine (state_value m c t z hz (y 0) (y 1) (y 2) (y 3)).trans ?_
  refine congrArg (G18 m c) ?_
  unfold tseq
  blk_ext [idxOut t]

end Gla

end
-- ==== Proof.Gla.Claims.lean ====
/- The claims about the gated-linear-attention call. -/
module

public import proofs.«01_k».proof.Defs
public import proofs.«01_k».proof.Proof.Gen.Kernel.Frame
public import proofs.«01_k».proof.Proof.Gen.KernelIdeal.Frame
public import proofs.«01_k».proof.Proof.Gla.Arrays
public import Idealize.ShloMosaic.Lib.Quiescent

@[expose] public section

set_option maxRecDepth 65536

noncomputable section

namespace Gla

open Idealize.ShloMosaic Idealize.ShloMosaic.TcCoe Idealize.ShloMosaic.Tactic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_gates_finite := fun m ρ _ => Cert.KernelIdeal.Gen.frame m ρ

/-- The reference's run read at the arguments; it has no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem frame_reference_pre : Cert.quiescent_ReferenceIdeal_pre_gates_finite := fun m ρ _ => frame_reference m ρ trivial

theorem preserves : Cert.preserves_Kernel_KernelIdeal :=
  IdealRules.named_const.statement Cert.KernelIdeal.κ "log2e_over_tau" .f32 0x3DB8AA3B#32 _ rfl

theorem algebraic : Cert.algebraic_KernelIdeal_ReferenceIdeal_pre_gates_finite := by
  intro m ρ m' ρ' hpre hagree
  have hz : ∀ c : Dev Cert.KernelIdeal.nD, ∃ z : Fin 1024 → Fin 512 → ℝ, ∀ n d, proj (A1 m c) (A4 m c) (A5 m c) n d = ((z n d : ℝ) : EReal) :=
    fun c => proj_real _ _ _ (pre_real _ _ _ _ _ _ _ _ _ (hpre c))
  refine ⟨fun c => G17 m c, fun c => G18 m c, ?_, ?_⟩
  · refine (θ_run Cert.KernelIdeal.defs _ _).mono (fun r h c => ?_) (Cert.KernelIdeal.Value.run_blocks m ρ)
    obtain ⟨z, hz⟩ := hz c
    obtain ⟨h0, h1, h⟩ := h c
    exact ⟨h0.trans (arr17 m c z hz), h1.trans (arr18 m c z hz), h⟩
  · refine (θ_run Cert.ReferenceIdeal.defs _ _).mono (fun r h c => ?_) (Cert.ReferenceIdeal.Value.run (F := Ideal) m' ρ')
    obtain ⟨h0, h1, h⟩ := h c
    obtain ⟨a0, a1, a2, a3, a4, a5, a6, a7, a8⟩ := hagree c
    refine ⟨h0.trans ?_, h1.trans ?_, h⟩
    · rw [Ref.out0_eq, a0, a1, a2, a3, a4, a5, a6, a7, a8]
      rfl
    · rw [Ref.out1_eq, a0, a1, a3, a4, a5]
      rfl

end Gla

end
-- ==== Proof.InProj.Runs.lean ====
module

public import proofs.«01_k».proof.Proof.Gen.Kernel2Ideal.Frame
public import proofs.«01_k».proof.Proof.Gen.Kernel2Ideal.Skeleton
public import proofs.«01_k».proof.Proof.Gen.Kernel2Ideal.Loops

@[expose] public section

/-! What the runs of the input projection share: the entry of the region, the input blocks, the branch
    conditions, and what the invariant holds. -/

set_option maxRecDepth 16384

noncomputable section

namespace InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

abbrev cond0_0 (i : grid0.Coords) : Prop := k0_cond1 i = 1#1
theorem hcond0_0 : ∀ t : Fin cfg0.N, cond0_0 (grid0.coords t) :=
  (by decide +kernel : ∀ t : Fin grid0.N, cond0_0 (grid0.coords t))

abbrev cond0_1 (i : grid0.Coords) : Prop := k0_cond2 i = 1#1
theorem hcond0_1 : ∀ t : Fin cfg0.N, cond0_1 (grid0.coords t) ↔ t.val % 9 = 0 :=
  (fun t => by
    have ht : t.val < 9 := Nat.lt_of_lt_of_eq t.isLt N_0
    have e0 : (grid0.coords t 0).val = t.val / 9 % 1 := Pipeline.Grid.coords_val t 0 (by decide) rfl
    have e1 : (grid0.coords t 1).val = t.val / 1 % 9 := Pipeline.Grid.coords_val t 1 (by decide) rfl
    simp only [cond0_1, k0_cond2, e0, e1]
    word_cmp
   : ∀ t : Fin grid0.N, cond0_1 (grid0.coords t) ↔ t.val % 9 = 0)

abbrev cond0_2 (i : grid0.Coords) : Prop := k0_cond3 i = 1#1
theorem hcond0_2 : ∀ t : Fin cfg0.N, cond0_2 (grid0.coords t) :=
  (fun t => by
    have ht : t.val < 9 := Nat.lt_of_lt_of_eq t.isLt N_0
    have e0 : (grid0.coords t 0).val = t.val / 9 % 1 := Pipeline.Grid.coords_val t 0 (by decide) rfl
    have e1 : (grid0.coords t 1).val = t.val / 1 % 9 := Pipeline.Grid.coords_val t 1 (by decide) rfl
    simp only [cond0_2, k0_cond3, e0, e1]
    word_cmp
   : ∀ t : Fin grid0.N, cond0_2 (grid0.coords t))

abbrev cond0_3 (i : grid0.Coords) : Prop := k0_cond4 i = 1#1
theorem hcond0_3 : ∀ t : Fin cfg0.N, ¬cond0_3 (grid0.coords t) :=
  (by decide +kernel : ∀ t : Fin grid0.N, ¬cond0_3 (grid0.coords t))

abbrev cond0_4 (i : grid0.Coords) : Prop := k0_cond5 i = 1#1
theorem hcond0_4 : ∀ t : Fin cfg0.N, ¬cond0_4 (grid0.coords t) :=
  (by decide +kernel : ∀ t : Fin grid0.N, ¬cond0_4 (grid0.coords t))

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

abbrev ms0_0 (t : Fin cfg0.N) : Memref sig .tc .vmem S132x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S132x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x16 .f32 := win0_6.stage (cfg0.slots t 6)
abbrev hs0_6 (t : Fin cfg0.N) : (ms0_6 t).IsWhole := hstage0_6 ((cfg0.slots t 6).cast nbuf0_6)
abbrev scM0_0 : Memref sig .tc .vmem S1024x2048 .bf16 := Memref.whole cc0_scratch0
abbrev scM0_1 : Memref sig .tc .vmem S1024x2048 .bf16 := Memref.whole cc0_scratch1
abbrev scM0_2 : Memref sig .tc .vmem S1024x2048 .f32 := Memref.whole cc0_scratch2
abbrev hbM0_0 : Memref sig .tc .hbm S1024x2048 .f32 := Memref.whole main_v2
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 1 → SemLoc sig := fun j => (![SemLoc.dma 9] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0) := by
  rw [Pipeline.ownSems0_eq_of_list c osem0 [0] (by decide) (by decide)]; rfl
def H0 : Finset (Ref sig .tc) := {main_v2}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v2)) := by
  rw [BI.bigSep_eq_bigSepL_of_eq [main_v2] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 9) 0) ∗ iprop(hbPt0 c hbM0_0 (V m c main_v2))) := by
  rw [Pipeline.ΦD_eq, scopedRest0_eq, ownSems00_eq, hbmPts0_eq]; simp only [scM0_0, scM0_1, scM0_2, owns_whole]; try rfl

end InProj

end
-- ==== Proof.InProj.Loop.lean ====
module

public import proofs.«01_k».proof.Proof.InProj.Runs

@[expose] public section

/-! The loop over the sixteen chunks of rows, with what each trip stores. -/

set_option maxRecDepth 16384

noncomputable section

namespace InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄D" => MT nD τ sig Unit (Elt F) ℕ (UR sig nD τ × Counters) ℕ

abbrev Trip_k0_t1 (c : Dev nD) (arg3 : Memref sig .tc .vmem S132x2048 .f32) (arg4 : Memref sig .tc .vmem S132x2048 .f32) (arg5 : Memref sig .tc .vmem S1x2048 .f32) (arg12 : Memref sig .tc .vmem S1024x2048 .f32) (arg10 : Memref sig .tc .vmem S1024x2048 .bf16) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (f_arg10 : BufTy.Contents (Elt F) arg10.view.ty) : sProp 𝕄D :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg12.view.loc (c : Thread nD τ) ↦[arg12.view.set]{fullShare} X_arg12) ∗ (arg10.view.loc (c : Thread nD τ) ↦[arg10.view.set]{fullShare} f_arg10))

@[irreducible] def trip_k0_t1 (𝒱 : Variants) (c : Dev nD) (bd : Option 𝒱.V) (i : grid0.Coords) (arg2 : Memref sig .tc .hbm S1024x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S16x2048 .f32) (harg7 : arg7.IsWhole) (arg8 : Memref sig .tc .vmem S1024x1024 .f32) (harg8 : arg8.IsWhole) (arg9 : Memref sig .tc .vmem S1024x16 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : Fin k0_t1_loop.trips) :
    { L_arg10 : List (View.Piece (Elt F) S1024x2048 .bf16) // ∀ (E : Set ℕ) (f_arg10 : BufTy.Contents (Elt F) arg10.view.ty),
      Trip_k0_t1 (F := F) c arg3 arg4 arg5 arg12 arg10 X_arg3 X_arg4 X_arg5 X_arg12 f_arg10
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 k0_h1 k0_h2 k0_h3 k PUnit.unit)
          (fun _ => Trip_k0_t1 (F := F) c arg3 arg4 arg5 arg12 arg10 X_arg3 X_arg4 X_arg5 X_arg12 (arg10.view.writes (Elt F) f_arg10 L_arg10)) } := by
  have hk : k.val < 16 := Nat.lt_of_lt_of_le k.isLt k0_t1_abs.2.1
  refine ⟨?_, fun E f_arg10 => ?run⟩
  case run =>
    unfold k0_t1_body
    iintro ⟨HR_arg3, HR_arg4, HR_arg5, HR_arg12, HW_arg10⟩
    sl_exec
    sl_step
    sl_close

abbrev tripL_k0_t1 (𝒱 : Variants) (c : Dev nD) (bd : Option 𝒱.V) (i : grid0.Coords) (arg2 : Memref sig .tc .hbm S1024x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S16x2048 .f32) (harg7 : arg7.IsWhole) (arg8 : Memref sig .tc .vmem S1024x1024 .f32) (harg8 : arg8.IsWhole) (arg9 : Memref sig .tc .vmem S1024x16 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : Fin k0_t1_loop.trips) : List (View.Piece (Elt F) S1024x2048 .bf16) :=
  (trip_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k).1

@[irreducible] def pb_k0_t1Step (𝒱 : Variants) (c : Dev nD) (bd : Option 𝒱.V) (i : grid0.Coords) (arg2 : Memref sig .tc .hbm S1024x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S16x2048 .f32) (harg7 : arg7.IsWhole) (arg8 : Memref sig .tc .vmem S1024x1024 .f32) (harg8 : arg8.IsWhole) (arg9 : Memref sig .tc .vmem S1024x16 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : ℕ) (prev : List (View.Piece (Elt F) S1024x2048 .bf16)) : List (View.Piece (Elt F) S1024x2048 .bf16) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 ⟨k, h⟩) ++ prev
  else prev

def pb_k0_t1 (𝒱 : Variants) (c : Dev nD) (bd : Option 𝒱.V) (i : grid0.Coords) (arg2 : Memref sig .tc .hbm S1024x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S16x2048 .f32) (harg7 : arg7.IsWhole) (arg8 : Memref sig .tc .vmem S1024x1024 .f32) (harg8 : arg8.IsWhole) (arg9 : Memref sig .tc .vmem S1024x16 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) : ℕ → List (View.Piece (Elt F) S1024x2048 .bf16)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k (pb_k0_t1 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k)

theorem pb_k0_t1_succ (𝒱 : Variants) (c : Dev nD) (bd : Option 𝒱.V) (i : grid0.Coords) (arg2 : Memref sig .tc .hbm S1024x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S16x2048 .f32) (harg7 : arg7.IsWhole) (arg8 : Memref sig .tc .vmem S1024x1024 .f32) (harg8 : arg8.IsWhole) (arg9 : Memref sig .tc .vmem S1024x16 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k) ++ (pb_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k.val) := by
  rw [pb_k0_t1.eq_2]; unfold pb_k0_t1Step; exact dif_pos k.isLt

abbrev inv_k0_t1 (𝒱 : Variants) (c : Dev nD) (bd : Option 𝒱.V) (i : grid0.Coords) (arg2 : Memref sig .tc .hbm S1024x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S16x2048 .f32) (harg7 : arg7.IsWhole) (arg8 : Memref sig .tc .vmem S1024x1024 .f32) (harg8 : arg8.IsWhole) (arg9 : Memref sig .tc .vmem S1024x16 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (G_arg10 : BufTy.Contents (Elt F) arg10.view.ty) (k : ℕ) (_u : PUnit) : sProp 𝕄D :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg12.view.loc (c : Thread nD τ) ↦[arg12.view.set]{fullShare} X_arg12) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k)⌝))

set_option warn.classDefReducibility false in
@[sl_loop] def loopInv_k0_t1 (𝒱 : Variants) (c : Dev nD) (bd : Option 𝒱.V) (E : Set ℕ) (i : grid0.Coords) (arg2 : Memref sig .tc .hbm S1024x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S16x2048 .f32) (harg7 : arg7.IsWhole) (arg8 : Memref sig .tc .vmem S1024x1024 .f32) (harg8 : arg8.IsWhole) (arg9 : Memref sig .tc .vmem S1024x16 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (G_arg10 : BufTy.Contents (Elt F) arg10.view.ty) :
    LoopInvTy_k0_t1 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 k0_h1 k0_h2 k0_h3 where
  inv := inv_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 G_arg10
  step k acc := by
    iintro ⟨HR_arg3, HR_arg4, HR_arg5, HR_arg12, ⟨%f_arg10, HW_arg10, %h_arg10⟩⟩
    iapply (wp_wand_r Idealize.ShloMosaic.frame (wpE (defs₀ (F := F)) 𝒱 (c : Thread nD τ) bd) E)
    isplitl [HR_arg3 HR_arg4 HR_arg5 HR_arg12 HW_arg10]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k).2 E f_arg10)
      isplitl [HR_arg3]; · iexact HR_arg3
      isplitl [HR_arg4]; · iexact HR_arg4
      isplitl [HR_arg5]; · iexact HR_arg5
      isplitl [HR_arg12]; · iexact HR_arg12
      iexact HW_arg10
    · iintro %_ ⟨HR_arg3, HR_arg4, HR_arg5, HR_arg12, HW_arg10⟩
      isplitl [HR_arg3]; · iexact HR_arg3
      isplitl [HR_arg4]; · iexact HR_arg4
      isplitl [HR_arg5]; · iexact HR_arg5
      isplitl [HR_arg12]; · iexact HR_arg12
      rw [pb_k0_t1_succ]
      iexists _; isplitl [HW_arg10]; · iexact HW_arg10
      ipureintro; rw [h_arg10, ← View.writes_append]

end InProj

end
-- ==== Proof.InProj.Trip.lean ====
module

public import proofs.«01_k».proof.Proof.InProj.Loop
public import Idealize.ShloMosaic.Lib.Pointwise
public import Idealize.ShloMosaic.Lib.VecWindow

@[expose] public section

/-! What one trip of the loop stores, as a function of the blocks it reads. -/

set_option maxRecDepth 16384

noncomputable section

namespace InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The row of a block of 132 rows that row group `j` of chunk `k` reads: the prompt's four rows come first. -/
def rowOf (X : Vec F S132x2048 .f32) (k : Fin 16) (j : Fin 8) : Vec F S1x2048 .f32 := fun x =>
  X (ix2 (⟨8 * k.val + j.val + 4, by show _ < 132; omega⟩ : Fin (S132x2048.size 0)) (x 1))

/-- Chunk `k` of a block of 1024 rows. -/
def rowsOf (X : Vec F S1024x2048 .f32) (k : Fin 16) : Vec F S64x2048 .f32 := fun x =>
  X (ix2 (⟨64 * k.val + (x 0).val, by have : (x 0).val < 64 := (x 0).isLt; show _ < 1024; omega⟩ : Fin (S1024x2048.size 0)) (x 1))

/-- The normalised, modulated rows the kernel computes from a chunk of rows, its eight scales, its eight shifts, and the gain. -/
def chunkOf (a : Vec F S64x2048 .f32) (b c : Fin 8 → Vec F S1x2048 .f32) (d : Vec F S1x2048 .f32) : FVec F S64x2048 .bf16 :=
  k0_pay1 (k0_pay6 a)
    (k0_pay12 (k0_pay7 (b 0)) (k0_pay8 (b 1)) (k0_pay9 (b 2)) (k0_pay10 (b 3)) (k0_pay11 (b 4)) (b 5) (b 6) (b 7))
    (k0_pay13 (c 0)) (k0_pay14 (c 1)) (k0_pay15 (c 2)) (k0_pay16 (c 3)) (c 4) (c 5) (c 6) (c 7) d

/-- The normalised, modulated rows of chunk `k`. -/
def chunk (x0 x1 : Vec F S132x2048 .f32) (x2 : Vec F S1x2048 .f32) (xb : Vec F S1024x2048 .f32) (k : Fin 16) : FVec F S64x2048 .bf16 :=
  chunkOf (rowsOf xb k) (fun j => rowOf x1 k j) (fun j => rowOf x0 k j) x2

/-- A trip of the loop as a chunk. -/
abbrev ck (k : Fin k0_t1_loop.trips) : Fin 16 := ⟨k.val, Nat.lt_of_lt_of_le k.isLt k0_t1_abs.2.1⟩

theorem ld_row {arg : Memref sig .tc .vmem S132x2048 .f32} (h : arg.IsWhole) (X : Vec F S132x2048 .f32) (k : Fin k0_t1_loop.trips) (j : Fin 8)
    (inb : ∀ a, (k0_off2 k (BitVec.ofNat 32 j.val)) a + S1x2048.size a ≤ S132x2048.size a) :
    View.readAt (Elt F) arg.view (Rect.unit (s := S132x2048) (k0_off2 k (BitVec.ofNat 32 j.val)) S1x2048.size inb).toLoadRect (h.unread X)
      = rowOf X (ck k) j := by
  funext x
  rw [View.readAt_apply, h.read_unread]
  unfold rowOf
  refine congrArg X (funext fun a => Fin.ext ?_)
  have e := k0_off2_eq k j
  fin_cases a
  · show (k0_off2 k (BitVec.ofNat 32 j.val)) 0 + 1 * (x 0).val = 8 * k.val + j.val + 4
    have h0 : (x 0).val < 1 := (x 0).isLt
    have e0 : (k0_off2 k (BitVec.ofNat 32 j.val)) 0 = 8 * k.val + j.val + 4 := by rw [e]; rfl
    omega
  · show (k0_off2 k (BitVec.ofNat 32 j.val)) 1 + 1 * (x 1).val = (x 1).val
    have e1 : (k0_off2 k (BitVec.ofNat 32 j.val)) 1 = 0 := by rw [e]; rfl
    omega

theorem ld_rows {arg : Memref sig .tc .vmem S1024x2048 .f32} (h : arg.IsWhole) (X : Vec F S1024x2048 .f32) (k : Fin k0_t1_loop.trips)
    (inb : ∀ a, (k0_off1 k) a + S64x2048.size a ≤ S1024x2048.size a) :
    View.readAt (Elt F) arg.view (Rect.unit (s := S1024x2048) (k0_off1 k) S64x2048.size inb).toLoadRect (h.unread X)
      = rowsOf X (ck k) := by
  funext x
  rw [View.readAt_apply, h.read_unread]
  unfold rowsOf
  refine congrArg X (funext fun a => Fin.ext ?_)
  have e := k0_off1_eq k
  fin_cases a
  · show (k0_off1 k) 0 + 1 * (x 0).val = 64 * k.val + (x 0).val
    have e0 : (k0_off1 k) 0 = 64 * k.val := by rw [e]; rfl
    omega
  · show (k0_off1 k) 1 + 1 * (x 1).val = (x 1).val
    have e1 : (k0_off1 k) 1 = 0 := by rw [e]; rfl
    omega

theorem ld_gain {arg : Memref sig .tc .vmem S1x2048 .f32} (h : arg.IsWhole) (X : Vec F S1x2048 .f32)
    (inb : ∀ a, (![0, 0] : Fin 2 → ℕ) a + S1x2048.size a ≤ S1x2048.size a) :
    View.readAt (Elt F) arg.view (Rect.unit (s := S1x2048) ![0, 0] S1x2048.size inb).toLoadRect (h.unread X) = X := by
  exact (View.readAt_full arg.view (h.unread X) inb).trans (h.read_unread X)

set_option maxHeartbeats 1000000 in
/-- One trip stores one piece: chunk `k`, at its rows. -/
theorem tripL_eq (𝒱 : Variants) (c : Dev nD) (bd : Option 𝒱.V) (i : grid0.Coords) (arg2 : Memref sig .tc .hbm S1024x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S16x2048 .f32) (harg7 : arg7.IsWhole) (arg8 : Memref sig .tc .vmem S1024x1024 .f32) (harg8 : arg8.IsWhole) (arg9 : Memref sig .tc .vmem S1024x16 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (arg13 : DmaSems sig S_) (k0_h1 : k0_cond1 i = 1#1) (k0_h2 : k0_cond2 i = 1#1) (k0_h3 : k0_cond3 i = 1#1)
    (x0 x1 : Vec F S132x2048 .f32) (x2 : Vec F S1x2048 .f32) (xb : Vec F S1024x2048 .f32) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 (harg3.unread x0) (harg4.unread x1) (harg5.unread x2) (harg12.unread xb) k
      = [⟨Rect.unit (s := S1024x2048) (k0_off1 k) S64x2048.size (k0_off1_inb i k k0_h1 k0_h2 k0_h3), chunk x0 x1 x2 xb (ck k)⟩] := by
  have raw : tripL_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 (harg3.unread x0) (harg4.unread x1) (harg5.unread x2) (harg12.unread xb) k
      = [⟨Rect.unit (s := S1024x2048) (k0_off1 k) S64x2048.size (k0_off1_inb i k k0_h1 k0_h2 k0_h3),
        chunkOf (View.readAt (Elt F) arg12.view (Rect.unit (s := S1024x2048) (k0_off1 k) S64x2048.size (k0_off1_inb i k k0_h1 k0_h2 k0_h3)).toLoadRect (harg12.unread xb))
          (fun j => View.readAt (Elt F) arg4.view (Rect.unit (s := S132x2048) (k0_off2 k (BitVec.ofNat 32 j.val)) S1x2048.size (k0_off2_inb i k k0_h1 k0_h2 k0_h3 j)).toLoadRect (harg4.unread x1))
          (fun j => View.readAt (Elt F) arg3.view (Rect.unit (s := S132x2048) (k0_off2 k (BitVec.ofNat 32 j.val)) S1x2048.size (k0_off2_inb i k k0_h1 k0_h2 k0_h3 j)).toLoadRect (harg3.unread x0))
          (View.readAt (Elt F) arg5.view (Rect.unit (s := S1x2048) ![0, 0] S1x2048.size inb_S1x2048_S1x2048_0_0).toLoadRect (harg5.unread x2))⟩] := by
    unfold tripL_k0_t1 trip_k0_t1
    rfl
  have e4 := fun j => ld_row harg4 x1 k j (k0_off2_inb i k k0_h1 k0_h2 k0_h3 j)
  have e3 := fun j => ld_row harg3 x0 k j (k0_off2_inb i k k0_h1 k0_h2 k0_h3 j)
  refine raw.trans (congrArg (fun w => [(⟨_, w⟩ : View.Piece (Elt F) S1024x2048 .bf16)]) ?_)
  unfold chunk
  exact (congr (congr (congr (congrArg chunkOf (ld_rows harg12 xb k _)) (funext e4)) (funext e3)) (ld_gain harg5 x2 _))

/-- All the normalised, modulated rows: chunk by chunk. -/
def hval (x0 x1 : Vec F S132x2048 .f32) (x2 : Vec F S1x2048 .f32) (xb : Vec F S1024x2048 .f32) : Vec F S1024x2048 .bf16 := fun y =>
  chunk x0 x1 x2 xb ⟨(y 0).val / 64, by have : (y 0).val < 1024 := (y 0).isLt; omega⟩
    (ix2 (⟨(y 0).val % 64, Nat.mod_lt _ (by decide)⟩ : Fin (S64x2048.size 0)) (y 1))

/-- A chunk's piece is the chunk of `hval`. -/
theorem piece_hval (x0 x1 : Vec F S132x2048 .f32) (x2 : Vec F S1x2048 .f32) (xb : Vec F S1024x2048 .f32) (k : Fin k0_t1_loop.trips)
    (inb : ∀ a, (k0_off1 k) a + S64x2048.size a ≤ S1024x2048.size a) (x : S64x2048.Idx) :
    chunk x0 x1 x2 xb (ck k) x = hval x0 x1 x2 xb ((Rect.unit (s := S1024x2048) (k0_off1 k) S64x2048.size inb).emb x) := by
  have e := k0_off1_eq k
  have e0 : (k0_off1 k) 0 = 64 * k.val := by rw [e]; rfl
  have e1 : (k0_off1 k) 1 = 0 := by rw [e]; rfl
  have hx : (x 0).val < 64 := (x 0).isLt
  have v0 : (((Rect.unit (s := S1024x2048) (k0_off1 k) S64x2048.size inb).emb x) 0).val = 64 * k.val + (x 0).val := by
    show (k0_off1 k) 0 + 1 * (x 0).val = _
    omega
  have v1 : (((Rect.unit (s := S1024x2048) (k0_off1 k) S64x2048.size inb).emb x) 1).val = (x 1).val := by
    show (k0_off1 k) 1 + 1 * (x 1).val = _
    omega
  unfold hval
  refine congr (congrArg (chunk x0 x1 x2 xb) (Fin.ext ?_)) (funext fun a => Fin.ext ?_)
  · show k.val = _ / 64
    rw [v0]; omega
  · fin_cases a
    · show (x 0).val = _ % 64
      rw [v0]; omega
    · exact v1.symm

theorem trips_eq : k0_t1_loop.trips = 16 := by decide +kernel

/-- The pieces of the first `n` trips: each is a chunk of `hval`, and together they hold the first `64 n` rows. -/
theorem pb_inv (𝒱 : Variants) (c : Dev nD) (bd : Option 𝒱.V) (i : grid0.Coords) (arg2 : Memref sig .tc .hbm S1024x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S16x2048 .f32) (harg7 : arg7.IsWhole) (arg8 : Memref sig .tc .vmem S1024x1024 .f32) (harg8 : arg8.IsWhole) (arg9 : Memref sig .tc .vmem S1024x16 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (arg13 : DmaSems sig S_) (k0_h1 : k0_cond1 i = 1#1) (k0_h2 : k0_cond2 i = 1#1) (k0_h3 : k0_cond3 i = 1#1)
    (x0 x1 : Vec F S132x2048 .f32) (x2 : Vec F S1x2048 .f32) (xb : Vec F S1024x2048 .f32) : ∀ n, n ≤ 16 →
    (∀ p ∈ pb_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 (harg3.unread x0) (harg4.unread x1) (harg5.unread x2) (harg12.unread xb) n,
      ∀ x : p.1.shape.Idx, p.2 x = hval x0 x1 x2 xb (p.1.emb x))
    ∧ ∀ y : S1024x2048.Idx, (y 0).val < 64 * n →
      ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 (harg3.unread x0) (harg4.unread x1) (harg5.unread x2) (harg12.unread xb) n, y ∈ p.1.set := by
  intro n
  induction n with
  | zero => exact fun _ => ⟨fun p hp => absurd hp List.not_mem_nil, fun y hy => absurd hy (by omega)⟩
  | succ n ih =>
    intro hn
    have hk : n < k0_t1_loop.trips := by rw [trips_eq]; omega
    obtain ⟨ihv, ihc⟩ := ih (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 (harg3.unread x0) (harg4.unread x1) (harg5.unread x2) (harg12.unread xb) ⟨n, hk⟩
    rw [tripL_eq] at hs
    rw [hs]
    refine ⟨fun p hp x => ?_, fun y hy => ?_⟩
    · rcases List.mem_append.1 hp with h | h
      · obtain rfl := List.mem_singleton.1 h
        exact piece_hval x0 x1 x2 xb ⟨n, hk⟩ (k0_off1_inb i ⟨n, hk⟩ k0_h1 k0_h2 k0_h3) x
      · exact ihv p h x
    · by_cases hlt : (y 0).val < 64 * n
      · obtain ⟨p, hp, hy⟩ := ihc y hlt
        exact ⟨p, List.mem_append_right _ hp, hy⟩
      · refine ⟨_, List.mem_append_left _ (List.mem_singleton.2 rfl), ?_⟩
        have e := k0_off1_eq ⟨n, hk⟩
        have e0 : (k0_off1 ⟨n, hk⟩) 0 = 64 * n := by rw [e]; rfl
        have e1 : (k0_off1 ⟨n, hk⟩) 1 = 0 := by rw [e]; rfl
        refine (Rect.mem_set_unit (inb := k0_off1_inb i ⟨n, hk⟩ k0_h1 k0_h2 k0_h3)).2 fun a => ?_
        fin_cases a
        · show (k0_off1 ⟨n, hk⟩) 0 ≤ (y 0).val ∧ (y 0).val < (k0_off1 ⟨n, hk⟩) 0 + 64
          omega
        · have : (y 1).val < 2048 := (y 1).isLt
          show (k0_off1 ⟨n, hk⟩) 1 ≤ (y 1).val ∧ (y 1).val < (k0_off1 ⟨n, hk⟩) 1 + 2048
          omega

/-- What the loop leaves in the buffer it writes. -/
theorem loop_read (𝒱 : Variants) (c : Dev nD) (bd : Option 𝒱.V) (i : grid0.Coords) (arg2 : Memref sig .tc .hbm S1024x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S16x2048 .f32) (harg7 : arg7.IsWhole) (arg8 : Memref sig .tc .vmem S1024x1024 .f32) (harg8 : arg8.IsWhole) (arg9 : Memref sig .tc .vmem S1024x16 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (arg13 : DmaSems sig S_) (k0_h1 : k0_cond1 i = 1#1) (k0_h2 : k0_cond2 i = 1#1) (k0_h3 : k0_cond3 i = 1#1)
    (x0 x1 : Vec F S132x2048 .f32) (x2 : Vec F S1x2048 .f32) (xb : Vec F S1024x2048 .f32) (f : BufTy.Contents (Elt F) arg10.view.ty)
    (n : ℕ) (hn : n = 16) (X : BufTy.Contents (Elt F) arg12.view.ty) (hX : X = harg12.unread xb) :
    arg10.view.read (Elt F) (arg10.view.writes (Elt F) f
      (pb_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 (harg3.unread x0) (harg4.unread x1) (harg5.unread x2) X n)) = hval x0 x1 x2 xb := by
  subst hn hX
  funext y
  obtain ⟨hv, hc⟩ := pb_inv (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 x0 x1 x2 xb 16 le_rfl
  exact View.read_writes_apply_of_pieces _ _ _ _ hv y (hc y (y 0).isLt)

end InProj

end
-- ==== Proof.InProj.RunA.lean ====
module

public import proofs.«01_k».proof.Proof.InProj.Trip

@[expose] public section

/-! The body at the first point. -/

set_option maxRecDepth 16384

noncomputable section

namespace InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem trips_eq0 : Scf.trips k0_t1_loop.lb k0_t1_loop.ub k0_t1_loop.st = 16 := by decide +kernel

/-- The rows the body brings in from main memory. -/
def xOf (c : Dev nD) (fh0 : HbBuf0 (F := F) c hbM0_0) : Vec F S1024x2048 .f32 := hbM0_0.view.read (Elt F) fh0

/-- The buffer the rows are copied into holds them. -/
theorem x_unread (c : Dev nD) {arg12 : Memref sig .tc .vmem S1024x2048 .f32} (harg12 : arg12.IsWhole) (fh0 : HbBuf0 (F := F) c hbM0_0)
    (w : Vec F S1024x2048 .f32) (hw : w = xOf c fh0) :
    arg12.view.writes (Elt F) arg12.view.junk [⟨Rect.whole S1024x2048, w⟩] = harg12.unread (xOf c fh0) := by
  refine harg12.eq_unread ?_
  subst hw
  funext y
  have e : (Rect.whole S1024x2048).emb y = y := Rect.emb_whole_apply (S1024x2048) y
  have h := View.read_writes_cons_emb arg12.view arg12.view.junk (Rect.whole S1024x2048) (xOf c fh0) [] y
  rwa [e] at h

/-- The copy that is read back is the rows themselves. -/
theorem x_copied (c : Dev nD) (fh0 : HbBuf0 (F := F) c hbM0_0) :
    ReadAs.same.apply (View.read (Elt F) (hbM0_0.slice (Rect.unit ![0, 0] S1024x2048.size inb_S1024x2048_S1024x2048_0_0) (fun _ => rfl)).view fh0)
      = xOf c fh0 := View.readAt_full hbM0_0.view fh0 inb_S1024x2048_S1024x2048_0_0

theorem read_p {arg8 : Memref sig .tc .vmem S1024x1024 .f32} {arg6 : Memref sig .tc .vmem S1024x2048 .f32} {arg10 : Memref sig .tc .vmem S1024x2048 .bf16}
    (harg6 : arg6.IsWhole) (x3 : Vec F S1024x2048 .f32) (f : BufTy.Contents (Elt F) arg8.view.ty) (g : BufTy.Contents (Elt F) arg10.view.ty)
    {h : Vec F S1024x2048 .bf16} (hg : arg10.view.read (Elt F) g = h) :
    arg8.view.read (Elt F) (arg8.view.writes (Elt F) f [⟨Rect.unit (s := S1024x1024) ![0, 0] S1024x1024.size inb_S1024x1024_S1024x1024_0_0,
      k0_pay3 (View.readAt (Elt F) arg10.view (Rect.unit (s := S1024x2048) ![0, 0] S1024x2048.size inb_S1024x2048_S1024x2048_0_0).toLoadRect g)
        (View.readAt (Elt F) arg6.view (Rect.unit (s := S1024x2048) ![0, 0] S1024x2048.size inb_S1024x2048_S1024x2048_0_0).toLoadRect (harg6.unread x3))⟩])
      = k0_pay3 h x3 := by
  refine (View.read_writes_full _ _ _ _ _).trans ?_
  subst hg
  exact congr (congrArg k0_pay3 (View.readAt_full arg10.view g _)) ((View.readAt_full arg6.view _ _).trans (harg6.read_unread x3))

theorem read_pt {arg9 : Memref sig .tc .vmem S1024x16 .f32} {arg7 : Memref sig .tc .vmem S16x2048 .f32} {arg10 : Memref sig .tc .vmem S1024x2048 .bf16}
    (harg7 : arg7.IsWhole) (x4 : Vec F S16x2048 .f32) (f : BufTy.Contents (Elt F) arg9.view.ty) (g : BufTy.Contents (Elt F) arg10.view.ty)
    {h : Vec F S1024x2048 .bf16} (hg : arg10.view.read (Elt F) g = h) :
    arg9.view.read (Elt F) (arg9.view.writes (Elt F) f [⟨Rect.unit (s := S1024x16) ![0, 0] S1024x16.size inb_S1024x16_S1024x16_0_0,
      k0_pay2 (View.readAt (Elt F) arg10.view (Rect.unit (s := S1024x2048) ![0, 0] S1024x2048.size inb_S1024x2048_S1024x2048_0_0).toLoadRect g)
        (View.readAt (Elt F) arg7.view (Rect.unit (s := S16x2048) ![0, 0] S16x2048.size inb_S16x2048_S16x2048_0_0).toLoadRect (harg7.unread x4))⟩])
      = k0_pay2 h x4 := by
  refine (View.read_writes_full _ _ _ _ _).trans ?_
  subst hg
  exact congr (congrArg k0_pay2 (View.readAt_full arg10.view g _)) ((View.readAt_full arg7.view _ _).trans (harg7.read_unread x4))

set_option maxHeartbeats 1000000 in
/-- The body at the first point: it brings the rows in, normalises them, and leaves both products. -/
theorem kernelRun0_A (c : Dev nD) (i : grid0.Coords) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S16x2048 .f32) (harg7 : arg7.IsWhole) (arg8 : Memref sig .tc .vmem S1024x1024 .f32) (harg8 : arg8.IsWhole) (arg9 : Memref sig .tc .vmem S1024x16 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (hc0 : cond0_0 i) (hc1 : cond0_1 i) (hc2 : cond0_2 i) (hc3 : ¬cond0_3 i) (hc4 : ¬cond0_4 i)
    (x0 : Vec F S132x2048 .f32) (x1 : Vec F S132x2048 .f32) (x2 : Vec F S1x2048 .f32) (x3 : Vec F S1024x2048 .f32) (x4 : Vec F S16x2048 .f32) (fh0 : HbBuf0 (F := F) c hbM0_0) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 9) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay3 (hval x0 x1 x2 (xOf c fh0)) x3) ∗ owns (c : Thread nD τ) arg9 fullShare (k0_pay2 (hval x0 x1 x2 (xOf c fh0)) x4) ∗ owns (c : Thread nD τ) arg10 fullShare (hval x0 x1 x2 (xOf c fh0)) ∗ (∃ d, owns (c : Thread nD τ) arg11 fullShare d) ∗ (∃ d, owns (c : Thread nD τ) arg12 fullShare d) ∗ semVal ((c : Thread nD τ), SemLoc.dma 9) 0 ∗ hbPt0 c hbM0_0 fh0 ∗ (∃ W', owes (c : Thread nD τ) 0 W')) -∗ K ⟨⟩))
          ⊢ wp frame (wpE (defs₀ (F := F)) Variants.none c none) Set.univ (cc0_in_proj i (Memref.whole main_v2) (Memref.isWhole_whole _) arg3 harg3 arg4 harg4 arg5 harg5 arg6 harg6 arg7 harg7 arg8 harg8 arg9 harg9 arg10 harg10 arg11 harg11 arg12 harg12 cc0_scratch3) K := by
    intro W K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hq0, Hh0, HW, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      refine read_p harg6 x3 _ _ ?_
      exact loop_read _ c _ i _ _ arg3 harg3 arg4 harg4 arg5 harg5 arg6 harg6 arg7 harg7 arg8 harg8 arg9 harg9 arg10 harg10 arg11 harg11 arg12 harg12 _ _ _ _ x0 x1 x2 _ _ _ trips_eq0 _ (x_unread c harg12 fh0 (kernelRun0_A.sl.dma0 c fh0) (x_copied c fh0))
    isplitl [H6]
    · iexists _; isplitr; swap; · iexact H6
      ipureintro
      refine read_pt harg7 x4 _ _ ?_
      exact loop_read _ c _ i _ _ arg3 harg3 arg4 harg4 arg5 harg5 arg6 harg6 arg7 harg7 arg8 harg8 arg9 harg9 arg10 harg10 arg11 harg11 arg12 harg12 _ _ _ _ x0 x1 x2 _ _ _ trips_eq0 _ (x_unread c harg12 fh0 (kernelRun0_A.sl.dma0 c fh0) (x_copied c fh0))
    isplitl [HS0]
    · iexists _; isplitr; swap; · iexact HS0
      ipureintro
      exact loop_read _ c _ i _ _ arg3 harg3 arg4 harg4 arg5 harg5 arg6 harg6 arg7 harg7 arg8 harg8 arg9 harg9 arg10 harg10 arg11 harg11 arg12 harg12 _ _ _ _ x0 x1 x2 _ _ _ trips_eq0 _ (x_unread c harg12 fh0 (kernelRun0_A.sl.dma0 c fh0) (x_copied c fh0))
    isplitl [HS1]
    · iexists _, _; isplitr; swap; · iexact HS1
      ipureintro; rfl
    isplitl [HS2]
    · iexists _, _; isplitr; swap; · iexact HS2
      ipureintro; rfl
    isplitl [Hq0]; · iexact Hq0
    isplitl [Hh0]; · iexact Hh0
    iexists _; iexact HW

end InProj

end
-- ==== Proof.InProj.RunB.lean ====
module

public import proofs.«01_k».proof.Proof.InProj.RunA

@[expose] public section

/-! The body at a later point. -/

set_option maxRecDepth 16384

noncomputable section

namespace InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
set_option maxHeartbeats 1000000 in
/-- The body at a later point: it multiplies the normalised rows by the next columns. -/
theorem kernelRun0_B (c : Dev nD) (i : grid0.Coords) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S16x2048 .f32) (harg7 : arg7.IsWhole) (arg8 : Memref sig .tc .vmem S1024x1024 .f32) (harg8 : arg8.IsWhole) (arg9 : Memref sig .tc .vmem S1024x16 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (hc0 : cond0_0 i) (hc1 : ¬cond0_1 i) (hc4 : ¬cond0_4 i)
    (x0 : Vec F S132x2048 .f32) (x1 : Vec F S132x2048 .f32) (x2 : Vec F S1x2048 .f32) (x3 : Vec F S1024x2048 .f32) (x4 : Vec F S16x2048 .f32) (h : Vec F S1024x2048 .bf16) (p6 : Vec F S1024x16 .f32) (fh0 : HbBuf0 (F := F) c hbM0_0) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare p6 ∗ owns (c : Thread nD τ) arg10 fullShare h ∗ (∃ d, owns (c : Thread nD τ) arg11 fullShare d) ∗ (∃ d, owns (c : Thread nD τ) arg12 fullShare d) ∗ semVal ((c : Thread nD τ), SemLoc.dma 9) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay3 h x3) ∗ owns (c : Thread nD τ) arg9 fullShare p6 ∗ owns (c : Thread nD τ) arg10 fullShare h ∗ (∃ d, owns (c : Thread nD τ) arg11 fullShare d) ∗ (∃ d, owns (c : Thread nD τ) arg12 fullShare d) ∗ semVal ((c : Thread nD τ), SemLoc.dma 9) 0 ∗ hbPt0 c hbM0_0 fh0 ∗ (∃ W', owes (c : Thread nD τ) 0 W')) -∗ K ⟨⟩))
          ⊢ wp frame (wpE (defs₀ (F := F)) Variants.none c none) Set.univ (cc0_in_proj i (Memref.whole main_v2) (Memref.isWhole_whole _) arg3 harg3 arg4 harg4 arg5 harg5 arg6 harg6 arg7 harg7 arg8 harg8 arg9 harg9 arg10 harg10 arg11 harg11 arg12 harg12 cc0_scratch3) K := by
    intro W K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%ds1, %fs1, -, HS1⟩, ⟨%ds2, %fs2, -, HS2⟩, Hq0, Hh0, HW, Hk⟩
    obtain rfl := harg9.eq_unread hf6; obtain rfl := harg10.eq_unread hfs0; obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      exact read_p harg6 x3 _ _ (harg10.read_unread h)
    isplitl [H6]
    · iexists _; isplitr; swap; · iexact H6
      ipureintro; exact harg9.read_unread _
    isplitl [HS0]
    · iexists _; isplitr; swap; · iexact HS0
      ipureintro; exact harg10.read_unread _
    isplitl [HS1]
    · iexists _, _; isplitr; swap; · iexact HS1
      ipureintro; rfl
    isplitl [HS2]
    · iexists _, _; isplitr; swap; · iexact HS2
      ipureintro; rfl
    isplitl [Hq0]; · iexact Hq0
    isplitl [Hh0]; · iexact Hh0
    iexists _; iexact HW

end InProj

end
-- ==== Proof.InProj.Body.lean ====
module

public import proofs.«01_k».proof.Proof.InProj.RunB
public import Idealize.ShloMosaic.Lib.Pipeline.TableIdle

@[expose] public section

/-! The body at every point, and the run of the whole call. -/

set_option maxRecDepth 16384

noncomputable section

namespace InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first point. -/
def p0 : Fin cfg0.N := ⟨0, by decide +kernel⟩

/-- The normalised rows, as the first point leaves them for the others. -/
def hOf (c : Dev nD) : Vec F S1024x2048 .bf16 := hval (iblk m c 0 p0) (iblk m c 1 p0) (iblk m c 2 p0) (xOf c (V m c main_v2))

/-- What the calls after the first point find: the normalised rows are in their buffer. -/
def heldOf (c : Dev nD) : sProp 𝕄 :=
  iprop(iprop(owns (c : Thread nD τ) scM0_0 fullShare (hOf m c) ∗ (∃ d, owns (c : Thread nD τ) scM0_1 fullShare d) ∗ (∃ d, owns (c : Thread nD τ) scM0_2 fullShare d)) ∗ (∃ r, prngReg c r) ∗ iprop(semVal ((c : Thread nD τ), SemLoc.dma 9) 0) ∗ iprop(hbPt0 c hbM0_0 (V m c main_v2)))

theorem held_weaken (c : Dev nD) : heldOf m c ⊢ (Pipeline.ΦD osem0 spec0 H0 (V m) c : sProp 𝕄) := by
  rw [PhiD0_eq]; unfold heldOf
  iintro ⟨⟨HS0, HS1, HS2⟩, Hg, Hq0, Hh0⟩
  isplitl [HS0 HS1 HS2]
  · isplitl [HS0]; · iexists _; iexact HS0
    isplitl [HS1]; · iexact HS1
    iexact HS2
  isplitl [Hg]
  · iexact Hg
  isplitl [Hq0]
  · iexact Hq0
  iexact Hh0

/-- What the pipeline holds at each point, on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (hOf m c) (iblk m c 3 t)
    | ⟨6, _⟩ => k0_pay2 (hOf m c) (iblk m c 4 p0)
  Φ t := if t.val = 0 then Pipeline.ΦD osem0 spec0 H0 (V m) c else heldOf m c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay3 (hOf m c) (iblk m c 3 t) := by dsimp only [dats]
theorem after0_6 (c : Dev nD) (t : Fin cfg0.N) : (dats m 0 c).after 6 t = k0_pay2 (hOf m c) (iblk m c 4 p0) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem fresh6 : ∀ t : Fin cfg0.N, t.val ≠ 0 → cfg0.fresh 6 t.val = false := by decide +kernel

/-- The buffer of the gate columns is found, after the first point, as the first point left it. -/
theorem before0_6 (c : Dev nD) (t : Fin cfg0.N) (ht : t.val ≠ 0) (d) : (dats m 0 c).before 6 t d = k0_pay2 (hOf m c) (iblk m c 4 p0) := by
  rw [(dats m 0 c).before_out_traj 6 rfl (fun _ _ => rfl) (fun _ _ _ _ => rfl) t.val t rfl d, fresh6 t ht]
  exact after0_6 m c _

theorem idle5 : ∀ t : Fin cfg0.N, cfg0.idle 5 (grid0.coords t) = false := by decide +kernel
theorem idle6_first : ∀ t : Fin cfg0.N, t.val % 9 = 0 → cfg0.idle 6 (grid0.coords t) = false := by decide +kernel
theorem idle6_later : ∀ t : Fin cfg0.N, t.val % 9 ≠ 0 → cfg0.idle 6 (grid0.coords t) = true := by decide +kernel

theorem phi_succ (c : Dev nD) (t : Fin cfg0.N) : (dats m 0 c).Φ t.succ = heldOf m c := by
  dsimp only [dats]; exact if_neg (Nat.succ_ne_zero _)
theorem phi_first (c : Dev nD) (t : Fin cfg0.N) (ht : t.val = 0) : (dats m 0 c).Φ t.castSucc = Pipeline.ΦD osem0 spec0 H0 (V m) c := by
  dsimp only [dats]; exact if_pos ht
theorem phi_later (c : Dev nD) (t : Fin cfg0.N) (ht : t.val ≠ 0) : (dats m 0 c).Φ t.castSucc = heldOf m c := by
  dsimp only [dats]; exact if_neg ht

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point does what `dats` says of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [phi_succ]
  unfold Dat.owesAt Pipeline.owesWithin
  rw [show (dats m 0 c).owed t.castSucc = 0 from rfl, show (dats m 0 c).owed t.succ = 0 from rfl]
  have hN : t.val < 9 := lt_of_lt_of_eq t.isLt (show cfg0.N = 9 from N_0)
  by_cases h1 : t.val % 9 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [idle5 t], after0_5]
    rw [show (dats m 0 c).leavesExact 6 t = owns (c : Thread nD τ) (ms0_6 t) fullShare ((dats m 0 c).after 6 t) from by
      unfold Dat.leavesExact; rw [idle6_first t h1], after0_6]
    rw [phi_first m c t (show t.val = 0 by omega), PhiD0_eq]
    obtain rfl : t = p0 := Fin.ext (show t.val = 0 by omega)
    unfold heldOf
    iintro ⟨⟨⟨HS0, HS1, HS2⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((kernelRun0_A c (grid0.coords p0) _ _ _ _ _ _ _ _ _ _ _ _ _ _ _ _ _ _ _ _ (hcond0_0 p0) ((hcond0_1 p0).mpr h1) (hcond0_2 p0) (hcond0_3 p0) (hcond0_4 p0) (iblk m c 0 p0) (iblk m c 1 p0) (iblk m c 2 p0) (iblk m c 3 p0) (iblk m c 4 p0) (V m c main_v2)) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, H6, HS0, HS1, HS2, Hq0, Hh0, ⟨%W', HW'⟩⟩
    isplitl [HS0 HS1 HS2 Hg Hq0 Hh0]
    · isplitl [HS0 HS1 HS2]
      · isplitl [HS0]; · iexact HS0
        isplitl [HS1]; · iexact HS1
        iexact HS2
      isplitl [Hg]
      · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [idle5 t], after0_5]
    rw [phi_later m c t (show t.val ≠ 0 by omega)]
    simp only [before0_6 m c t (show t.val ≠ 0 by omega)]
    have hpost : owns (c : Thread nD τ) (ms0_6 t) fullShare (k0_pay2 (hOf m c) (iblk m c 4 p0)) ⊢ (dats m 0 c).leavesExact 6 t := by
      cases hfl : (cfg0.win 6).flush t
      · rw [(dats m 0 c).leavesExact_idle 6 t (idle6_later t h1) hfl]
        simp only [before0_6 m c t (show t.val ≠ 0 by omega)]
        iintro H; iexists (Pipeline.Dat.unnamed (cfg := cfg0) 6 t); iexact H
      · unfold Dat.leavesExact; rw [idle6_later t h1, hfl, after0_6]
    unfold heldOf
    iintro ⟨⟨⟨HS0, HS1, HS2⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ (hcond0_0 t) (fun h => h1 ((hcond0_1 t).mp h)) (hcond0_4 t) (iblk m c 0 t) (iblk m c 1 t) (iblk m c 2 t) (iblk m c 3 t) (iblk m c 4 t) (hOf m c) (k0_pay2 (hOf m c) (iblk m c 4 p0)) (V m c main_v2)) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, H6, HS0, HS1, HS2, Hq0, Hh0, ⟨%W', HW'⟩⟩
    isplitl [HS0 HS1 HS2 Hg Hq0 Hh0]
    · isplitl [HS0 HS1 HS2]
      · isplitl [HS0]; · iexact HS0
        isplitl [HS1]; · iexact HS1
        iexact HS2
      isplitl [Hg]
      · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iapply hpost; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole call: the arrays end as `dats` says, everything else as it was, the counters at zero. -/
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m) (hin := fun _ => .rfl) (hout := fun c => held_weaken m c)

/-- A run that ends as the pipeline says leaves the arguments as they were. -/
theorem args_kept (r) (h : Pipeline.FramePost cfgs (dats m) 0 (V m) r ∧ r.2.sem = fun _ => 0) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h.1 c).2 main_arg0 (Pipeline.mem_restRefs_of main_arg0 (by decide) (by decide))).trans (V_main_arg0 m c),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).2 main_arg3 (Pipeline.mem_restRefs_of main_arg3 (by decide) (by decide))).trans (V_main_arg3 m c)⟩

/-- The program leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m _ h, h.2⟩) (run_main m ρ)

end InProj

end
-- ==== Proof.InProj.Rows.lean ====
/- What the kernel computes of one row, and what it multiplies it by, read at an index over the extended reals. -/
module

public import proofs.«01_k».proof.Proof.InProj.Trip
public import Idealize.ShloMosaic.Lib.Pointwise
import Idealize.ShloMosaic.Lib.Pipeline.ValueKit

@[expose] public section

set_option maxRecDepth 65536

noncomputable section

namespace InProj

open Idealize.ShloMosaic Idealize.ShloMosaic.TcCoe Idealize.ShloMosaic.Tactic Idealize.SL.Sem
open Cert.Kernel2Ideal Cert.Kernel2Ideal.Gen

/-- A row over the root of its mean square. -/
def normed (x : Fin 2048 → EReal) (d : Fin 2048) : EReal :=
  x d * Ideal.rsqrt (Ideal.div (∑ k : Fin 2048, x k * x k) (Ideal.ofBits .f32 0x45000000#32) + Ideal.ofBits .f32 0x358637BD#32)

/-- The normalised row scaled by the gain and by one plus the scale, and shifted. -/
def modulated (x : Fin 2048 → EReal) (s t g : Fin 2048 → EReal) (d : Fin 2048) : EReal :=
  normed x d * (g d * (Ideal.ofBits .f32 0x3F800000#32 + s d)) + t d

theorem pay6_at (a : FVec Ideal S64x2048 .f32) (r : Fin 64) (d : Fin 2048) :
    k0_pay6 (F := Ideal) a (ix2 r d) = normed (fun k => a (ix2 r k)) d := by
  unfold normed
  pointwise [k0_pay6]

/-- Eight rows, each repeated eight times. -/
def spread (b : Fin 8 → FVec Ideal S1x2048 .f32) : FVec Ideal S64x2048 .f32 :=
  concatenate S64x2048 0 (List.ofFn fun n : Fin 8 => (⟨S8x2048, broadcastTo S8x2048 (shapeCast S1x2048 (b n) shapeCasts_S1x2048_S1x2048) broadcasts_S1x2048_S8x2048⟩ : (s : Shape) × (s.Idx → Elt Ideal .f32)))
    concatenates_S8x2048_S8x2048_S8x2048_S8x2048_S8x2048_S8x2048_S8x2048_S8x2048_S64x2048_d0

theorem row8_at (b : FVec Ideal S1x2048 .f32) (r : Fin 8) (d : Fin 2048) :
    broadcastTo S8x2048 (shapeCast S1x2048 b shapeCasts_S1x2048_S1x2048) broadcasts_S1x2048_S8x2048 (ix2 r d) = b (ix2 0 d) := by
  pointwise

theorem spread_at (b : Fin 8 → FVec Ideal S1x2048 .f32) (r : Fin 64) (d : Fin 2048) :
    spread b (ix2 r d) = b ⟨r.val / 8, by omega⟩ (ix2 0 d) := by
  refine Eq.trans ?_ (row8_at (b ⟨r.val / 8, by omega⟩) ⟨r.val % 8, Nat.mod_lt _ (by decide)⟩ d)
  unfold spread
  refine concatenate_ofFn_apply (t := S64x2048) 0 (fun n => broadcastTo S8x2048 (shapeCast S1x2048 (b n) shapeCasts_S1x2048_S1x2048) broadcasts_S1x2048_S8x2048) _ rfl 8 rfl (ix2 r d) ⟨r.val / 8, by omega⟩ rfl (ix2 ⟨r.val % 8, Nat.mod_lt _ (by decide)⟩ d) rfl fun a ha => ?_
  fin_cases a
  · exact absurd rfl ha
  · rfl

theorem pay12_spread (b : Fin 8 → FVec Ideal S1x2048 .f32) :
    k0_pay12 (F := Ideal) (k0_pay7 (b 0)) (k0_pay8 (b 1)) (k0_pay9 (b 2)) (k0_pay10 (b 3)) (k0_pay11 (b 4)) (b 5) (b 6) (b 7) = spread b := rfl

theorem pay1_spread (a s : FVec Ideal S64x2048 .f32) (c : Fin 8 → FVec Ideal S1x2048 .f32) (d : FVec Ideal S1x2048 .f32) (r : Fin 64) (j : Fin 2048) :
    k0_pay1 (F := Ideal) a s (k0_pay13 (c 0)) (k0_pay14 (c 1)) (k0_pay15 (c 2)) (k0_pay16 (c 3)) (c 4) (c 5) (c 6) (c 7) d (ix2 r j)
      = a (ix2 r j) * (d (ix2 0 j) * (Ideal.ofBits .f32 0x3F800000#32 + s (ix2 r j))) + spread c (ix2 r j) := by
  have e : k0_pay1 (F := Ideal) a s (k0_pay13 (c 0)) (k0_pay14 (c 1)) (k0_pay15 (c 2)) (k0_pay16 (c 3)) (c 4) (c 5) (c 6) (c 7) d
      = shapeCast S64x2048 (truncf .bf16 (addf (mulf a (mulf (broadcastTo S64x2048 d broadcasts_S1x2048_S64x2048) (addf (broadcast S64x2048 (Scalar.ofBits .f32 0x3F800000#32)) s))) (spread c)) bitsLt_bf16_f32) shapeCasts_S64x2048_S64x2048 := rfl
  rw [e]
  generalize spread c = w
  pointwise

theorem chunkOf_at (a : FVec Ideal S64x2048 .f32) (b c : Fin 8 → FVec Ideal S1x2048 .f32) (g : FVec Ideal S1x2048 .f32) (r : Fin 64) (d : Fin 2048) :
    chunkOf (F := Ideal) a b c g (ix2 r d)
      = modulated (fun k => a (ix2 r k)) (fun k => b ⟨r.val / 8, by omega⟩ (ix2 0 k)) (fun k => c ⟨r.val / 8, by omega⟩ (ix2 0 k)) (fun k => g (ix2 0 k)) d := by
  unfold chunkOf
  rw [pay12_spread, pay1_spread, pay6_at, spread_at, spread_at]
  rfl

/-- Row `n` of the kernel's normalised and modulated rows. -/
theorem hval_at (x0 x1 : FVec Ideal S132x2048 .f32) (x2 : FVec Ideal S1x2048 .f32) (xb : FVec Ideal S1024x2048 .f32) (n : Fin 1024) (d : Fin 2048) :
    hval (F := Ideal) x0 x1 x2 xb (ix2 n d)
      = modulated (fun k => xb (ix2 n k)) (fun k => x1 (ix2 ⟨4 + n.val / 8, by omega⟩ k)) (fun k => x0 (ix2 ⟨4 + n.val / 8, by omega⟩ k)) (fun k => x2 (ix2 0 k)) d := by
  refine (chunkOf_at _ _ _ _ (⟨n.val % 64, Nat.mod_lt _ (by decide)⟩ : Fin 64) d).trans ?_
  have e1 : 64 * (n.val / 64) + n.val % 64 = n.val := by omega
  have e2 : 8 * (n.val / 64) + n.val % 64 / 8 + 4 = 4 + n.val / 8 := by omega
  have f1 : (fun k : Fin 2048 => rowsOf (F := Ideal) xb ⟨n.val / 64, by omega⟩ (ix2 (⟨n.val % 64, Nat.mod_lt _ (by decide)⟩ : Fin 64) k)) = fun k : Fin 2048 => xb (ix2 n k) := by
    funext k
    exact congrArg xb (congrArg (fun q : Fin 1024 => (ix2 q k : S1024x2048.Idx)) (Fin.ext e1))
  have f2 (X : FVec Ideal S132x2048 .f32) : (fun k : Fin 2048 => rowOf (F := Ideal) X ⟨n.val / 64, by omega⟩ ⟨n.val % 64 / 8, by omega⟩ (ix2 0 k)) = fun k : Fin 2048 => X (ix2 ⟨4 + n.val / 8, by omega⟩ k) := by
    funext k
    exact congrArg X (congrArg (fun q : Fin 132 => (ix2 q k : S132x2048.Idx)) (Fin.ext e2))
  exact congr (congr (congr (congr (congrArg modulated f1) (f2 x1)) (f2 x0)) rfl) rfl

theorem pay3_at (h : FVec Ideal S1024x2048 .bf16) (w : FVec Ideal S1024x2048 .f32) (r j : Fin 1024) :
    k0_pay3 (F := Ideal) h w (ix2 r j) = ∑ d : Fin 2048, h (ix2 r d) * w (ix2 j d) := by
  pointwise [k0_pay3]

theorem pay2_at (h : FVec Ideal S1024x2048 .bf16) (w : FVec Ideal S16x2048 .f32) (r : Fin 1024) (j : Fin 16) :
    k0_pay2 (F := Ideal) h w (ix2 r j) = ∑ d : Fin 2048, h (ix2 r d) * w (ix2 j d) := by
  pointwise [k0_pay2]

end InProj

end
-- ==== Proof.InProj.RefAt.lean ====
/- What the reference's two results hold, read at an index. -/
module

public import proofs.«01_k».proof.Proof.InProj.Rows
public import proofs.«01_k».proof.Proof.Gen.Reference2Ideal.Read
public import Idealize.ShloMosaic.Lib.Pointwise
import Idealize.ShloMosaic.Lib.Pipeline.ValueKit

@[expose] public section

set_option maxRecDepth 65536

noncomputable section

namespace InProj

open Idealize.ShloMosaic Idealize.ShloMosaic.TcCoe Idealize.ShloMosaic.Tactic Idealize.SL.Sem
open Cert.Reference2Ideal Cert.Reference2Ideal.Read

variable (x0 : FVec Ideal S128x8x2048 .f32) (x1 : FVec Ideal S132x6144 .f32) (x2 : FVec Ideal S1x2048 .f32) (x3 : FVec Ideal S1x2048x9232 .f32)

/-- Row `(b, s)` of the normalised and modulated rows. -/
def hRow (b : Fin 128) (s : Fin 8) (d : Fin 2048) : EReal :=
  modulated (fun k => x0 (ix3 b s k)) (fun k => x1 (ix2 ⟨4 + b.val, by omega⟩ ⟨2048 + k.val, by omega⟩))
    (fun k => x1 (ix2 ⟨4 + b.val, by omega⟩ ⟨k.val, by omega⟩)) (fun k => x2 (ix2 0 k)) d

/-- Column `j` of the product of row `(b, s)` with the weights. -/
def proj (b : Fin 128) (s : Fin 8) (j : Fin 9232) : EReal := ∑ d : Fin 2048, hRow x0 x1 x2 b s d * x3 (ix3 0 d j)

theorem v11_at (b : Fin 128) (s : Fin 8) (u : Fin 1) :
    val_main_v11 (F := Ideal) x0 (ix3 b s u) = Ideal.rsqrt (Ideal.div (∑ k : Fin 2048, x0 (ix3 b s k) * x0 (ix3 b s k)) (Ideal.ofBits .f32 0x45000000#32) + Ideal.ofBits .f32 0x358637BD#32) := by
  pointwise [val_main_v11, val_main_v10, val_main_v9, val_main_v8, val_main_v7, val_main_v6, val_main_v5, val_main_v4, val_main_cst, val_main_cst_0, val_main_cst_1]

theorem v17_at (b : Fin 128) (s : Fin 8) (d : Fin 2048) :
    val_main_v17 (F := Ideal) x0 x2 (ix3 b s d) = normed (fun k => x0 (ix3 b s k)) d * x2 (ix2 0 d) := by
  have e := v11_at x0 b s 0
  unfold normed
  rw [← e]
  unfold val_main_v17 val_main_v13 val_main_v12
  generalize val_main_v11 (F := Ideal) x0 = w
  pointwise [val_main_v16, val_main_v15, val_main_v14]

theorem v21_at (b : Fin 128) (s : Fin 8) (d : Fin 2048) :
    val_main_v21 (F := Ideal) x1 (ix3 b s d) = Ideal.ofBits .f32 0x3F800000#32 + x1 (ix2 ⟨4 + b.val, by omega⟩ ⟨2048 + d.val, by omega⟩) := by
  pointwise [val_main_v21, val_main_v20, val_main_v19, val_main_v18, val_main_v2, val_main_v0, val_main_cst_2]

theorem v24_at (b : Fin 128) (s : Fin 8) (d : Fin 2048) :
    val_main_v24 (F := Ideal) x1 (ix3 b s d) = x1 (ix2 ⟨4 + b.val, by omega⟩ ⟨d.val, by omega⟩) := by
  pointwise [val_main_v24, val_main_v23, val_main_v1, val_main_v0]

theorem v25_at (b : Fin 128) (s : Fin 8) (d : Fin 2048) : val_main_v25 (F := Ideal) x0 x1 x2 (ix3 b s d) = hRow x0 x1 x2 b s d := by
  refine (congrArg₂ (· + ·) (congrArg₂ (· * ·) (v17_at x0 x2 b s d) (v21_at x1 b s d)) (v24_at x1 b s d)).trans ?_
  unfold hRow modulated
  rw [mul_assoc]

theorem v26_at (d : Fin 2048) (j : Fin 9232) : val_main_v26 (F := Ideal) x3 (ix2 d j) = x3 (ix3 0 d j) := by
  pointwise [val_main_v26]

theorem v27_at (b : Fin 128) (s : Fin 8) (j : Fin 9232) : val_main_v27 (F := Ideal) x0 x1 x2 x3 (ix3 b s j) = proj x0 x1 x2 x3 b s j := by
  refine (val_main_v27_apply x0 x1 x2 x3 _).trans (Finset.sum_congr rfl fun d _ => ?_)
  refine congrArg₂ (· * ·) (Eq.trans (congrArg _ ?_) (v25_at x0 x1 x2 b s d)) (Eq.trans (congrArg _ ?_) (v26_at x3 d j))
  · funext a; fin_cases a <;> rfl
  · funext a; fin_cases a <;> rfl

/-- The column of the weights that column `j` of the first result takes. -/
def col (j : Fin 9216) : Fin 9232 := if j.val < 5120 then ⟨j.val, by omega⟩ else ⟨j.val + 16, by omega⟩

theorem col_lo (j : Fin 9216) (h : j.val < 5120) : (col j).val = j.val := by unfold col; rw [if_pos h]
theorem col_hi (j : Fin 9216) (h : ¬ j.val < 5120) : (col j).val = j.val + 16 := by unfold col; rw [if_neg h]

/-- A piece of the first result, cut from column `o` of the product on and laid from column `p` on, read in its place. -/
theorem piece_at (b : Fin 128) (s : Fin 8) (j : Fin 9216) (y : FVec Ideal S128x8x9232 .f32) (k n o p : Nat) (h : p ≤ j.val) (h' : j.val < p + n)
    (ho : (col j).val + p = j.val + o)
    (hn : n ≤ 9232) (x : (⟨3, ![128, 8, n]⟩ : Shape).Idx → EReal)
    (hx : ∀ u : Fin n, ∀ q : Fin 9232, q.val = o + u.val → x (ix3 b s u) = y (ix3 b s q))
    (xs : List ((s : Shape) × (s.Idx → EReal))) (hc : Shape.Concatenates (xs.map (·.1)) S128x8x9216 2)
    (hk : k < xs.length) (hxk : xs[k] = ⟨⟨3, ![128, 8, n]⟩, x⟩)
    (hpre : (((xs.take k).map (·.1)).map fun s => if h : s.rank = S128x8x9216.rank then s.size ((2 : Fin 3).cast h.symm) else 0).sum = p) :
    concatenate S128x8x9216 2 xs hc (ix3 b s j) = y (ix3 b s (col j)) := by
  refine (concatenate_apply_piece (t := S128x8x9216) 2 xs hc (ix3 b s j) k hk _ x hxk rfl p hpre (ix3 b s ⟨j.val - p, by omega⟩) (fun a ha => ?_) ?_).trans (hx _ _ ?_)
  · fin_cases a
    · rfl
    · rfl
    · exact absurd rfl ha
  · show p + (j.val - p) = j.val
    omega
  · show (col j).val = o + (j.val - p)
    omega

theorem slice_at {n o : Nat} (y : FVec Ideal S128x8x9232 .f32) (hs : S128x8x9232.Slices ![0, 0, o] ⟨3, ![128, 8, n]⟩) (b : Fin 128) (s : Fin 8) (u : Fin n) (q : Fin 9232) (hq : q.val = o + u.val) :
    extractStridedSlice ⟨3, ![128, 8, n]⟩ ![0, 0, o] y hs (ix3 b s u) = y (ix3 b s q) :=
  extractStridedSlice_apply ![0, 0, o] y hs (ix3 b s u) (ix3 b s q) fun a => by
    fin_cases a
    · exact (Nat.zero_add _).symm
    · exact (Nat.zero_add _).symm
    · exact hq

theorem v37_at (b : Fin 128) (s : Fin 8) (j : Fin 9216) : val_main_v37 (F := Ideal) x0 x1 x2 x3 (ix3 b s j) = proj x0 x1 x2 x3 b s (col j) := by
  rw [← v27_at]
  unfold val_main_v37 val_main_v28 val_main_v29 val_main_v30 val_main_v31 val_main_v32 val_main_v33 val_main_v35 val_main_v36
  generalize val_main_v27 (F := Ideal) x0 x1 x2 x3 = y
  have hj := j.isLt
  by_cases c5 : j.val < 5120
  · have e := col_lo j c5
    by_cases c0 : j.val < 1024
    · exact piece_at b s j y 0 1024 0 0 (by omega) (by omega) (by omega) (by omega) _ (slice_at y _ b s) _ _ (Nat.lt_of_lt_of_eq (m := 8) (by decide) rfl) rfl rfl
    by_cases c1 : j.val < 2048
    · exact piece_at b s j y 1 1024 1024 1024 (by omega) (by omega) (by omega) (by omega) _ (slice_at y _ b s) _ _ (Nat.lt_of_lt_of_eq (m := 8) (by decide) rfl) rfl rfl
    by_cases c2 : j.val < 2560
    · exact piece_at b s j y 2 512 2048 2048 (by omega) (by omega) (by omega) (by omega) _ (slice_at y _ b s) _ _ (Nat.lt_of_lt_of_eq (m := 8) (by decide) rfl) rfl rfl
    by_cases c3 : j.val < 3072
    · exact piece_at b s j y 3 512 2560 2560 (by omega) (by omega) (by omega) (by omega) _ (slice_at y _ b s) _ _ (Nat.lt_of_lt_of_eq (m := 8) (by decide) rfl) rfl rfl
    by_cases c4 : j.val < 4096
    · exact piece_at b s j y 4 1024 3072 3072 (by omega) (by omega) (by omega) (by omega) _ (slice_at y _ b s) _ _ (Nat.lt_of_lt_of_eq (m := 8) (by decide) rfl) rfl rfl
    · exact piece_at b s j y 5 1024 4096 4096 (by omega) (by omega) (by omega) (by omega) _ (slice_at y _ b s) _ _ (Nat.lt_of_lt_of_eq (m := 8) (by decide) rfl) rfl rfl
  · have e := col_hi j c5
    by_cases c6 : j.val < 7168
    · exact piece_at b s j y 6 2048 5136 5120 (by omega) (by omega) (by omega) (by omega) _ (slice_at y _ b s) _ _ (Nat.lt_of_lt_of_eq (m := 8) (by decide) rfl) rfl rfl
    · exact piece_at b s j y 7 2048 7184 7168 (by omega) (by omega) (by omega) (by omega) _ (slice_at y _ b s) _ _ (Nat.lt_of_lt_of_eq (m := 8) (by decide) rfl) rfl rfl

/-- The first result at row `n` and column `j`. -/
theorem v38_at (n : Fin 1024) (j : Fin 9216) :
    val_main_v38 (F := Ideal) x0 x1 x2 x3 (ix2 n j) = proj x0 x1 x2 x3 ⟨n.val / 8, by omega⟩ ⟨n.val % 8, by omega⟩ (col j) := by
  rw [← v37_at]
  unfold val_main_v38
  generalize val_main_v37 (F := Ideal) x0 x1 x2 x3 = y
  pointwise

/-- The second result at row `n` and column `j`. -/
theorem v39_at (n : Fin 1024) (j : Fin 16) :
    val_main_v39 (F := Ideal) x0 x1 x2 x3 (ix2 n j) = proj x0 x1 x2 x3 ⟨n.val / 8, by omega⟩ ⟨n.val % 8, by omega⟩ ⟨5120 + j.val, by omega⟩ := by
  rw [← v27_at]
  unfold val_main_v39 val_main_v34
  generalize val_main_v27 (F := Ideal) x0 x1 x2 x3 = y
  pointwise

end InProj

end
-- ==== Proof.InProj.Arrays.lean ====
/- The kernel's blocks read at an index, and the two result arrays after the run. -/
module

public import proofs.«01_k».proof.Proof.InProj.Body
public import proofs.«01_k».proof.Proof.InProj.RefAt
import Idealize.ShloMosaic.Lib.Pipeline.ValueKit

@[expose] public section

set_option maxRecDepth 65536

noncomputable section

namespace InProj

open Idealize.ShloMosaic Idealize.ShloMosaic.TcCoe Idealize.ShloMosaic.Tactic Idealize.SL.Sem
open Cert.Kernel2Ideal Cert.Kernel2Ideal.Gen

/-- The first row of the weights' block at grid point `n`: the sixteen rows from 5120 on are left out. -/
def wrow (n : Nat) : Nat := if n < 5 then 1024 * n else 1024 * n + 16

theorem idx : ∀ t : Fin cfg0.N, win0_0.index t = ![0, 0] ∧ win0_1.index t = ![0, 1] ∧ win0_2.index t = ![0, 0] ∧ win0_3.index t = ![wrow t.val, 0] ∧ win0_4.index t = ![320, 0]
    ∧ win0_5.index t = ![0, t.val] ∧ win0_6.index t = ![0, 0] := by
  decide +kernel

variable (m : (ℓ : Loc nD τ sig) → Buf (Elt Ideal) ℓ) (c : Dev nD) (t : Fin cfg0.N)

theorem lt9 : t.val < 9 := lt_of_lt_of_eq t.isLt N_0

/-- The arguments the reference takes. -/
abbrev A0 : FVec Ideal S128x8x2048 .f32 := m ((c : Thread nD τ).loc main_arg0)
abbrev A1 : FVec Ideal S132x6144 .f32 := m ((c : Thread nD τ).loc main_arg1)
abbrev A2 : FVec Ideal S1x2048 .f32 := m ((c : Thread nD τ).loc main_arg2)
abbrev A3 : FVec Ideal S1x2048x9232 .f32 := m ((c : Thread nD τ).loc main_arg3)

theorem x_at (x : FVec Ideal S128x8x2048 .f32) (n : Fin 1024) (d : Fin 2048) :
    shapeCast S1024x2048 x shapeCasts_S128x8x2048_S1024x2048 (ix2 n d) = x (ix3 ⟨n.val / 8, by omega⟩ ⟨n.val % 8, by omega⟩ d) := by
  pointwise

theorem w_at (x : FVec Ideal S1x2048x9232 .f32) (j : Fin 9232) (d : Fin 2048) :
    shapeCast S9232x2048 (transpose S1x9232x2048 [0, 2, 1] x transposes_S1x2048x9232_S1x9232x2048_0_2_1) shapeCasts_S1x9232x2048_S9232x2048 (ix2 j d) = x (ix3 0 d j) := by
  pointwise

theorem blk0 (r : Fin 132) (d : Fin 2048) : (iblk m c 0 t : Vec Ideal S132x2048 .f32) (ix2 r d) = A1 m c (ix2 r ⟨d.val, by omega⟩) := by
  blk_ext [iblk, V, idx t]

theorem blk1 (r : Fin 132) (d : Fin 2048) : (iblk m c 1 t : Vec Ideal S132x2048 .f32) (ix2 r d) = A1 m c (ix2 r ⟨2048 + d.val, by omega⟩) := by
  blk_ext [iblk, V, idx t]

theorem blk2 (r : Fin 1) (d : Fin 2048) : (iblk m c 2 t : Vec Ideal S1x2048 .f32) (ix2 r d) = A2 m c (ix2 r d) := by
  blk_ext [iblk, V, idx t]

theorem wrow_lt (n : Nat) (h : n < 9) (r : Fin 1024) : wrow n + r.val < 9232 := by
  unfold wrow
  split <;> omega

theorem V_w : @Eq (FVec Ideal S9232x2048 .f32) (V m c main_v1)
    (shapeCast S9232x2048 (transpose S1x9232x2048 [0, 2, 1] (A3 m c) transposes_S1x2048x9232_S1x9232x2048_0_2_1) shapeCasts_S1x9232x2048_S9232x2048) := rfl

theorem V_x : @Eq (FVec Ideal S1024x2048 .f32) (V m c main_v2) (shapeCast S1024x2048 (A0 m c) shapeCasts_S128x8x2048_S1024x2048) := rfl

theorem blk3 (r : Fin 1024) (d : Fin 2048) : (iblk m c 3 t : Vec Ideal S1024x2048 .f32) (ix2 r d)
    = A3 m c (ix3 0 d ⟨wrow t.val + r.val, wrow_lt t.val (lt9 t) r⟩) := by
  have ht := wrow_lt t.val (lt9 t) r
  have e : (iblk m c 3 t : Vec Ideal S1024x2048 .f32) (ix2 r d) = (V m c main_v1 : Vec Ideal S9232x2048 .f32) (ix2 ⟨wrow t.val + r.val, ht⟩ d) := by
    have hi := (idx t).2.2.2.1
    blk_ext [iblk, idx t]
    · refine (show _ = win0_3.index t 0 + 1 * r.val from rfl).trans ?_
      rw [hi]
      show wrow t.val + 1 * r.val = _
      omega
    · refine (show _ = win0_3.index t 1 + 1 * d.val from rfl).trans ?_
      rw [hi]
      show 0 + 1 * d.val = _
      omega
  exact (e.trans (congrFun (V_w m c) _)).trans (w_at _ _ _)

theorem blk4 (r : Fin 16) (d : Fin 2048) : (iblk m c 4 t : Vec Ideal S16x2048 .f32) (ix2 r d) = A3 m c (ix3 0 d ⟨5120 + r.val, by omega⟩) := by
  have e : (iblk m c 4 t : Vec Ideal S16x2048 .f32) (ix2 r d) = (V m c main_v1 : Vec Ideal S9232x2048 .f32) (ix2 ⟨5120 + r.val, by omega⟩ d) := by
    blk_ext [iblk, idx t]
  exact (e.trans (congrFun (V_w m c) _)).trans (w_at _ _ _)

theorem xOf_at (n : Fin 1024) (d : Fin 2048) : xOf (F := Ideal) c (V m c main_v2) (ix2 n d) = A0 m c (ix3 ⟨n.val / 8, by omega⟩ ⟨n.val % 8, by omega⟩ d) := by
  have e : xOf (F := Ideal) c (V m c main_v2) = (V m c main_v2 : FVec Ideal S1024x2048 .f32) := rfl
  exact (congrFun (e.trans (V_x m c)) _).trans (x_at _ _ _)

/-- Row `n` of the kernel's normalised and modulated rows is the reference's. -/
theorem hOf_at (n : Fin 1024) (d : Fin 2048) : hOf m c (ix2 n d) = hRow (A0 m c) (A1 m c) (A2 m c) ⟨n.val / 8, by omega⟩ ⟨n.val % 8, by omega⟩ d := by
  unfold hOf hRow
  refine (hval_at _ _ _ _ n d).trans ?_
  exact congr (congr (congr (congr (congrArg modulated (funext fun k => xOf_at m c n k)) (funext fun k => blk1 m c p0 _ k)) (funext fun k => blk0 m c p0 _ k)) (funext fun k => blk2 m c p0 _ k)) rfl

/-- The two results the reference's stages name. -/
abbrev G38 : FVec Ideal S1024x9216 .f32 := Cert.Reference2Ideal.Read.val_main_v38 (F := Ideal) (A0 m c) (A1 m c) (A2 m c) (A3 m c)
abbrev G39 : FVec Ideal S1024x16 .f32 := Cert.Reference2Ideal.Read.val_main_v39 (F := Ideal) (A0 m c) (A1 m c) (A2 m c) (A3 m c)

/-- Column `p` of tile `t` of the first result. -/
def tcol (p : Fin 1024) : Fin 9216 := ⟨t.val * 1024 + p.val, by have := lt9 t; omega⟩

theorem col_tcol (p : Fin 1024) : (col (tcol t p)).val = wrow t.val + p.val := by
  have := lt9 t
  by_cases h : t.val < 5
  · rw [col_lo _ (by show t.val * 1024 + p.val < 5120; omega)]
    unfold wrow
    rw [if_pos h]
    show t.val * 1024 + p.val = _
    omega
  · rw [col_hi _ (by show ¬ t.val * 1024 + p.val < 5120; omega)]
    unfold wrow
    rw [if_neg h]
    show t.val * 1024 + p.val + 16 = _
    omega

theorem out5 (r p : Fin 1024) : k0_pay3 (F := Ideal) (hOf m c) (iblk m c 3 t) (ix2 r p) = G38 m c (ix2 r (tcol t p)) := by
  refine (pay3_at _ _ r p).trans (Eq.trans ?_ (v38_at _ _ _ _ r (tcol t p)).symm)
  refine Finset.sum_congr rfl fun d _ => congrArg₂ (· * ·) (hOf_at m c r d) ((blk3 m c t p d).trans ?_)
  exact congrArg (fun q : Fin 9232 => A3 m c (ix3 0 d q)) (Fin.ext (col_tcol t p).symm)

theorem out6 (r : Fin 1024) (p : Fin 16) : k0_pay2 (F := Ideal) (hOf m c) (iblk m c 4 p0) (ix2 r p) = G39 m c (ix2 r p) := by
  refine (pay2_at _ _ r p).trans (Eq.trans ?_ (v39_at _ _ _ _ r p).symm)
  exact Finset.sum_congr rfl fun d _ => congrArg₂ (· * ·) (hOf_at m c r d) (blk4 m c p0 p d)

theorem arr5 : (dats m 0 c).arrAt 5 cfg0.N = G38 m c := by
  refine (dats m 0 c).arrAt_eq_of_covers 5 _ (by decide +kernel) fun t hf y => ?_
  blk_simp
  rw [after0_5]
  obtain ⟨r, p, rfl⟩ : ∃ (r : Fin 1024) (p : Fin 1024), y = ix2 r p := ⟨y 0, y 1, by funext a; fin_cases a <;> rfl⟩
  refine (out5 m c t r p).trans ?_
  refine congrArg (G38 m c) ?_
  unfold tcol
  blk_ext [idx t]

theorem arr6 : (dats m 0 c).arrAt 6 cfg0.N = G39 m c := by
  refine (dats m 0 c).arrAt_eq_of_covers 6 _ (by decide +kernel) fun t hf y => ?_
  blk_simp
  rw [after0_6]
  obtain ⟨r, p, rfl⟩ : ∃ (r : Fin 1024) (p : Fin 16), y = ix2 r p := ⟨y 0, y 1, by funext a; fin_cases a <;> rfl⟩
  refine (out6 m c r p).trans ?_
  refine congrArg (G39 m c) ?_
  blk_ext [idx t]

end InProj

end
-- ==== Proof.InProj.Claims.lean ====
/- The claims about the input projection. -/
module

public import proofs.«01_k».proof.Defs
public import proofs.«01_k».proof.Proof.InProj.Arrays
public import proofs.«01_k».proof.Proof.Gen.Kernel2
public import proofs.«01_k».proof.Proof.Gen.Reference2Ideal.Read
public import Idealize.ShloMosaic.Lib.Quiescent

@[expose] public section

set_option maxRecDepth 65536

noncomputable section

namespace InProj

open Idealize.ShloMosaic Idealize.ShloMosaic.TcCoe Idealize.ShloMosaic.Tactic Idealize.SL.Sem

theorem frame_ideal : Cert.quiescent_Kernel2Ideal := fun m ρ _ => frame (F := Ideal) m ρ

/-- The body tables of the two programs are one. -/
theorem defs₀_eq : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl
  | ⟨n + 1, h⟩, x => exact absurd h (Nat.not_lt.2 (Nat.le_add_left _ _))

theorem defs_eq : Cert.Kernel2.defs (F := Bits) = Cert.Kernel2Ideal.defs (F := Bits) :=
  congrArg (Pipeline.defs (Cert.Kernel2Ideal.pcfgs (F := Bits))) defs₀_eq

/-- The program as compiled has the ideal program's text: its frame is the ideal one's, over machine floats. -/
theorem frame_kernel : Cert.quiescent_Kernel2 := fun m ρ _ => by
  rw [defs_eq]
  exact frame (F := Bits) m ρ

/-- The reference's run read at the arguments; it has no semaphore. -/
theorem frame_reference : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The kernel's run with its two results named. -/
theorem run_results (m : (ℓ : Loc Cert.Kernel2Ideal.nD Cert.Kernel2Ideal.τ Cert.Kernel2Ideal.sig) → Buf (Elt Ideal) ℓ) (ρ : Dev Cert.Kernel2Ideal.nD → PrngReg) :
    θ_run Cert.Kernel2Ideal.defs (onTc (τ := Cert.Kernel2Ideal.τ) (Cert.Kernel2Ideal.main (F := Ideal))) ⟨m, fun _ => 0, ρ⟩ (fun r => ∀ c : Dev Cert.Kernel2Ideal.nD,
      r.2.mem ((c.tc : Thread Cert.Kernel2Ideal.nD Cert.Kernel2Ideal.τ).loc Cert.Kernel2Ideal.main_v3_0) = G38 m c
      ∧ r.2.mem ((c.tc : Thread Cert.Kernel2Ideal.nD Cert.Kernel2Ideal.τ).loc Cert.Kernel2Ideal.main_v3_1) = G39 m c
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)) :=
  (θ_run Cert.Kernel2Ideal.defs _ _).mono (fun _ h c => ⟨((h.1 c).1 5).trans (arr5 m c), ((h.1 c).1 6).trans (arr6 m c), args_kept m _ h c⟩) (run_main (F := Ideal) m ρ)

/-- Kernel and reference, run from equal arguments, leave the same two results. -/
theorem algebraic : Cert.algebraic_Kernel2Ideal_Reference2Ideal := by
  intro m ρ m' ρ' hpre hagree
  refine ⟨fun c => G38 m c, fun c => G39 m c, run_results m ρ, ?_⟩
  refine (θ_run Cert.Reference2Ideal.defs _ _).mono (fun r h c => ?_) (Cert.Reference2Ideal.Value.run (F := Ideal) m' ρ')
  obtain ⟨a0, a1, a2, a3⟩ := hagree c
  refine ⟨?_, ?_, (h c).2.2⟩
  · refine ((h c).1.trans (Cert.Reference2Ideal.Read.val_main_v38_eq (F := Ideal) m' c)).trans ?_
    rw [a0, a1, a2, a3]
  · refine ((h c).2.1.trans (Cert.Reference2Ideal.Read.val_main_v39_eq (F := Ideal) _ _ _ _)).trans ?_
    rw [a0, a1, a2, a3]

theorem preserves : Cert.preserves_Kernel2_Kernel2Ideal := trivial

end InProj

end
-- ==== Proof.OutP.Row.lean ====
module

public import Idealize.ShloMosaic.Lib.Pointwise

@[expose] public section

/-! The value of one row of the output projection. -/

set_option maxRecDepth 65536

noncomputable section

namespace OutP

open Idealize.ShloMosaic Idealize.ShloMosaic.TcCoe Idealize.ShloMosaic.Tactic Idealize.SL.Sem

/-- A row over the root of its mean square. -/
def normed (x : Fin 2048 → EReal) (d : Fin 2048) : EReal :=
  x d * Ideal.rsqrt (Ideal.div (∑ k : Fin 2048, x k * x k) (Ideal.ofBits .f32 0x45000000#32) + Ideal.ofBits .f32 0x358637BD#32)

/-- The row `x` plus the gated product `a`, normalised and scaled by the gain. -/
def gated (x a g G : Fin 2048 → EReal) (d : Fin 2048) : EReal :=
  normed (fun k => x k + g k * a k) d * G d

theorem gated_congr {x x' a a' g g' G G' : Fin 2048 → EReal} (hx : ∀ k, x k = x' k) (ha : ∀ k, a k = a' k) (hg : ∀ k, g k = g' k) (hG : ∀ k, G k = G' k) (d : Fin 2048) :
    gated x a g G d = gated x' a' g' G' d := by
  obtain rfl := funext hx; obtain rfl := funext ha; obtain rfl := funext hg; obtain rfl := funext hG
  rfl

end OutP

end
-- ==== Proof.OutP.Runs.lean ====
module

public import proofs.«01_k».proof.Proof.Gen.Kernel3Ideal.Frame
public import proofs.«01_k».proof.Proof.Gen.Kernel3Ideal.Points
public import proofs.«01_k».proof.Proof.Gen.Kernel3Ideal.Skeleton
public import Idealize.ShloMosaic.Lib.Pointwise
public import Idealize.ShloMosaic.Lib.VecWindow

@[expose] public section

/-! What the runs of the output projection share: the branch conditions, the chunks of a block, and what a block becomes. -/

set_option maxRecDepth 16384

noncomputable section

namespace OutP

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev cond0_0 (i : grid0.Coords) : Prop := Scalar.cmpi .ne (Scalar.extui (Scalar.cmpi .eq (BitVec.ofNat 32 (i 0).val) 0#32) : BitVec 32) 0#32 = 1#1
theorem hcond0_0 : ∀ t : Fin cfg0.N, cond0_0 (grid0.coords t) ↔ t.val = 0 :=
  (by decide +kernel : ∀ t : Fin grid0.N, cond0_0 (grid0.coords t) ↔ t.val = 0)
abbrev cond0_1 (i : grid0.Coords) : Prop := k0_cond2 i = 1#1
theorem hcond0_1 : ∀ t : Fin cfg0.N, cond0_1 (grid0.coords t) ↔ (0 < t.val ∧ t.val < 16 ∧ t.val % 2 = 0) :=
  (by decide +kernel : ∀ t : Fin grid0.N, cond0_1 (grid0.coords t) ↔ (0 < t.val ∧ t.val < 16 ∧ t.val % 2 = 0))
abbrev cond0_2 (i : grid0.Coords) : Prop := k0_cond3 i = 1#1
theorem hcond0_2 : ∀ t : Fin cfg0.N, cond0_2 (grid0.coords t) ↔ (t.val < 16 ∧ t.val % 2 = 1) :=
  (by decide +kernel : ∀ t : Fin grid0.N, cond0_2 (grid0.coords t) ↔ (t.val < 16 ∧ t.val % 2 = 1))
abbrev cond0_3 (i : grid0.Coords) : Prop := k0_cond4 i = 1#1
theorem hcond0_3 : ∀ t : Fin cfg0.N, cond0_3 (grid0.coords t) ↔ t.val = 16 :=
  (by decide +kernel : ∀ t : Fin grid0.N, cond0_3 (grid0.coords t) ↔ t.val = 16)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem idle5 : ∀ t : Fin cfg0.N, t.val ≠ 0 → cfg0.idle 5 (grid0.coords t) = false := by decide +kernel
theorem idle5_first : ∀ t : Fin cfg0.N, t.val = 0 → cfg0.idle 5 (grid0.coords t) = true := by decide +kernel
theorem flush5_first : ∀ t : Fin cfg0.N, t.val = 0 → (cfg0.win 5).flush t = false := by decide +kernel

abbrev scM0 : Memref sig .tc .vmem S512x2048 .f32 := Memref.whole cc0_scratch0
abbrev scM1 : Memref sig .tc .vmem S512x2048 .f32 := Memref.whole cc0_scratch1

theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA
  rw [scopedRest0_eq]; simp only [scM0, scM1, owns_whole]; try rfl

/-- Rows `128 k` to `128 k + 127` of a block. -/
def chunkOf (X : Vec F S512x2048 .f32) (k : Fin 4) : Vec F S128x2048 .f32 := fun x =>
  X (ix2 (⟨128 * k.val + (x 0).val, by have : (x 0).val < 128 := (x 0).isLt; show _ < 512; omega⟩ : Fin (S512x2048.size 0)) (x 1))

/-- Row `n` of the gates. -/
def rowOf (M : Vec F S132x2048 .f32) (n : Fin 132) : Vec F S1x2048 .f32 := fun x => M (ix2 (n : Fin (S132x2048.size 0)) (x 1))

/-- What the kernel makes of one chunk: the rows plus their gated products, over the root of their mean square, times the gain. -/
def chunkOut (X A : Vec F S512x2048 .f32) (g G : Vec F S1x2048 .f32) (k : Fin 4) : FVec F S128x2048 .f32 :=
  k0_pay9 (k0_pay7 G) g (chunkOf X k) (chunkOf A k)

/-- What the kernel makes of a block. -/
def outv (X A : Vec F S512x2048 .f32) (g G : Vec F S1x2048 .f32) : Vec F S512x2048 .f32 := fun y =>
  chunkOut X A g G ⟨(y 0).val / 128, by have : (y 0).val < 512 := (y 0).isLt; omega⟩
    (ix2 (⟨(y 0).val % 128, Nat.mod_lt _ (by decide)⟩ : Fin (S128x2048.size 0)) (y 1))

theorem ld_full {sp : Space} {s : Shape} {e : EltTy} {arg : Memref sig .tc sp s e} (h : arg.IsWhole) (X : Vec F s e)
    (o : Fin s.rank → ℕ) (ho : o = fun _ => 0) (inb : ∀ a, o a + s.size a ≤ s.size a) :
    View.readAt (Elt F) arg.view (Rect.unit (s := s) o s.size inb).toLoadRect (h.unread X) = X := by
  subst ho
  exact (View.readAt_full arg.view (h.unread X) inb).trans (h.read_unread X)

theorem ld_chunk {arg : Memref sig .tc .vmem S512x2048 .f32} (h : arg.IsWhole) (X : Vec F S512x2048 .f32) (k : Fin 4) (o : Fin 2 → ℕ) (ho : o = ![128 * k.val, 0])
    (inb : ∀ a, o a + S128x2048.size a ≤ S512x2048.size a) :
    View.readAt (Elt F) arg.view (Rect.unit (s := S512x2048) o S128x2048.size inb).toLoadRect (h.unread X) = chunkOf X k := by
  subst ho
  funext x
  rw [View.readAt_apply, h.read_unread]
  unfold chunkOf
  refine congrArg X (funext fun a => Fin.ext ?_)
  fin_cases a
  · show 128 * k.val + 1 * (x 0).val = 128 * k.val + (x 0).val
    omega
  · show 0 + 1 * (x 1).val = (x 1).val
    omega

theorem ld_row {arg : Memref sig .tc .vmem S132x2048 .f32} (h : arg.IsWhole) (X : Vec F S132x2048 .f32) (n : Fin 132) (o : Fin 2 → ℕ) (ho : o = ![n.val, 0])
    (inb : ∀ a, o a + S1x2048.size a ≤ S132x2048.size a) :
    View.readAt (Elt F) arg.view (Rect.unit (s := S132x2048) o S1x2048.size inb).toLoadRect (h.unread X) = rowOf X n := by
  subst ho
  funext x
  rw [View.readAt_apply, h.read_unread]
  unfold rowOf
  refine congrArg X (funext fun a => Fin.ext ?_)
  fin_cases a
  · show n.val + 1 * (x 0).val = n.val
    have : (x 0).val < 1 := (x 0).isLt
    omega
  · show 0 + 1 * (x 1).val = (x 1).val
    omega

/-- A chunk's piece is the chunk of the block's result. -/
theorem piece_outv (X A : Vec F S512x2048 .f32) (g G : Vec F S1x2048 .f32) (k : Fin 4) (o : Fin 2 → ℕ) (ho : o = ![128 * k.val, 0])
    (inb : ∀ a, o a + S128x2048.size a ≤ S512x2048.size a) (x : S128x2048.Idx) :
    chunkOut X A g G k x = outv X A g G ((Rect.unit (s := S512x2048) o S128x2048.size inb).emb x) := by
  subst ho
  have hx : (x 0).val < 128 := (x 0).isLt
  have v0 : (((Rect.unit (s := S512x2048) ![128 * k.val, 0] S128x2048.size inb).emb x) 0).val = 128 * k.val + (x 0).val := by
    show 128 * k.val + 1 * (x 0).val = _
    omega
  have v1 : (((Rect.unit (s := S512x2048) ![128 * k.val, 0] S128x2048.size inb).emb x) 1).val = (x 1).val := by
    show 0 + 1 * (x 1).val = _
    omega
  unfold outv
  refine congr (congrArg (chunkOut X A g G) (Fin.ext ?_)) (funext fun a => Fin.ext ?_)
  · show k.val = _ / 128
    rw [v0]; omega
  · fin_cases a
    · show (x 0).val = _ % 128
      rw [v0]; omega
    · exact v1.symm

theorem mem_chunk (k : Fin 4) (o : Fin 2 → ℕ) (ho : o = ![128 * k.val, 0]) (inb : ∀ a, o a + S128x2048.size a ≤ S512x2048.size a) (y : S512x2048.Idx)
    (hy : (y 0).val / 128 = k.val) : y ∈ (Rect.unit (s := S512x2048) o S128x2048.size inb).set := by
  subst ho
  refine (Rect.mem_set_unit (inb := inb)).2 fun a => ?_
  fin_cases a
  · show 128 * k.val ≤ (y 0).val ∧ (y 0).val < 128 * k.val + 128
    omega
  · have : (y 1).val < 2048 := (y 1).isLt
    show 0 ≤ (y 1).val ∧ (y 1).val < 0 + 2048
    omega

/-- The four chunks written one after the other are the block's result. -/
theorem read_chunks {arg : Memref sig .tc .vmem S512x2048 .f32} (f : BufTy.Contents (Elt F) arg.view.ty) (X A : Vec F S512x2048 .f32) (g G : Vec F S1x2048 .f32)
    {p0 p1 p2 p3 : FVec F S128x2048 .f32} (e0 : p0 = chunkOut X A g G 0) (e1 : p1 = chunkOut X A g G 1) (e2 : p2 = chunkOut X A g G 2) (e3 : p3 = chunkOut X A g G 3) :
    arg.view.read (Elt F) (arg.view.writes (Elt F) f
      [⟨Rect.unit (s := S512x2048) ![384, 0] S128x2048.size inb_S512x2048_S128x2048_384_0, p3⟩, ⟨Rect.unit (s := S512x2048) ![256, 0] S128x2048.size inb_S512x2048_S128x2048_256_0, p2⟩,
       ⟨Rect.unit (s := S512x2048) ![128, 0] S128x2048.size inb_S512x2048_S128x2048_128_0, p1⟩, ⟨Rect.unit (s := S512x2048) ![0, 0] S128x2048.size inb_S512x2048_S128x2048_0_0, p0⟩]) = outv X A g G := by
  subst e0 e1 e2 e3
  funext y
  refine View.read_writes_apply_of_pieces _ _ _ _ (fun p hp x => ?_) y ?_
  · rcases List.mem_cons.1 hp with rfl | hp
    · exact piece_outv X A g G 3 ![384, 0] rfl inb_S512x2048_S128x2048_384_0 x
    rcases List.mem_cons.1 hp with rfl | hp
    · exact piece_outv X A g G 2 ![256, 0] rfl inb_S512x2048_S128x2048_256_0 x
    rcases List.mem_cons.1 hp with rfl | hp
    · exact piece_outv X A g G 1 ![128, 0] rfl inb_S512x2048_S128x2048_128_0 x
    · obtain rfl := List.mem_singleton.1 hp
      exact piece_outv X A g G 0 ![0, 0] rfl inb_S512x2048_S128x2048_0_0 x
  · have hy : (y 0).val < 512 := (y 0).isLt
    have h4 : (y 0).val / 128 = 0 ∨ (y 0).val / 128 = 1 ∨ (y 0).val / 128 = 2 ∨ (y 0).val / 128 = 3 := by omega
    rcases h4 with h | h | h | h
    · exact ⟨_, .tail _ (.tail _ (.tail _ (.head _))), mem_chunk 0 ![0, 0] rfl inb_S512x2048_S128x2048_0_0 y h⟩
    · exact ⟨_, .tail _ (.tail _ (.head _)), mem_chunk 1 ![128, 0] rfl inb_S512x2048_S128x2048_128_0 y h⟩
    · exact ⟨_, .tail _ (.head _), mem_chunk 2 ![256, 0] rfl inb_S512x2048_S128x2048_256_0 y h⟩
    · exact ⟨_, .head _, mem_chunk 3 ![384, 0] rfl inb_S512x2048_S128x2048_384_0 y h⟩

/-- The product of a block of rows with the weights. -/
def acc (x0 : Vec F S512x2048 .bf16) (x3 : Vec F S2048x2048 .bf16) : FVec F S512x2048 .f32 := k0_pay1 x0 x3

theorem read_acc {arg1 : Memref sig .tc .vmem S512x2048 .bf16} {arg4 : Memref sig .tc .vmem S2048x2048 .bf16} {arg : Memref sig .tc .vmem S512x2048 .f32} (h1 : arg1.IsWhole) (h4 : arg4.IsWhole)
    (x0 : Vec F S512x2048 .bf16) (x3 : Vec F S2048x2048 .bf16) (f : BufTy.Contents (Elt F) arg.view.ty) :
    arg.view.read (Elt F) (arg.view.writes (Elt F) f [⟨Rect.unit (s := S512x2048) ![0, 0] S512x2048.size inb_S512x2048_S512x2048_0_0,
      k0_pay1 (View.readAt (Elt F) arg1.view (Rect.unit (s := S512x2048) ![0, 0] S512x2048.size inb_S512x2048_S512x2048_0_0).toLoadRect (h1.unread x0))
        (View.readAt (Elt F) arg4.view (Rect.unit (s := S2048x2048) ![0, 0] S2048x2048.size inb_S2048x2048_S2048x2048_0_0).toLoadRect (h4.unread x3))⟩]) = acc x0 x3 := by
  refine (View.read_writes_full _ _ _ _ _).trans ?_
  exact congr (congrArg k0_pay1 ((View.readAt_full arg1.view _ _).trans (h1.read_unread x0))) ((View.readAt_full arg4.view _ _).trans (h4.read_unread x3))

end OutP

end
-- ==== Proof.OutP.RunA.lean ====
module

public import proofs.«01_k».proof.Proof.OutP.Runs

@[expose] public section

/-! The body at the first point. -/

set_option maxRecDepth 16384

noncomputable section

namespace OutP

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point: it leaves the product of the first block. -/
theorem kernelRun0_A (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S132x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i) (hc2 : ¬cond0_2 i) (hc3 : ¬cond0_3 i)
    (x0 : Vec F S512x2048 .bf16) (x1 : Vec F S512x2048 .f32) (x2 : Vec F S132x2048 .f32) (x3 : Vec F S2048x2048 .bf16) (x4 : Vec F S1x2048 .f32) (p5 : Vec F S512x2048 .f32) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare p5 ∗ (∃ d, owns (c : Thread nD τ) arg7 fullShare d) ∗ (∃ d, owns (c : Thread nD τ) arg8 fullShare d) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare p5 ∗ owns (c : Thread nD τ) arg7 fullShare (acc x0 x3) ∗ (∃ d, owns (c : Thread nD τ) arg8 fullShare d) ∗ (∃ W', owes (c : Thread nD τ) 0 W')) -∗ K ⟨⟩))
          ⊢ wp frame (wpE (defs₀ (F := F)) Variants.none c none) Set.univ (cc0_out_proj i arg1 harg1 arg2 harg2 arg3 harg3 arg4 harg4 arg5 harg5 arg6 harg6 arg7 harg7 arg8 harg8) K := by
    intro W K
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, HW, Hk⟩
    obtain rfl := harg1.eq_unread hf0; obtain rfl := harg2.eq_unread hf1; obtain rfl := harg3.eq_unread hf2; obtain rfl := harg4.eq_unread hf3; obtain rfl := harg5.eq_unread hf4
    rw [dif_pos hc0, dif_neg hc1, dif_neg hc2, dif_neg hc3]
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; exact hf5
    isplitl [HS0]
    · iexists _; isplitr; swap; · iexact HS0
      ipureintro
      exact read_acc harg1 harg4 x0 x3 _
    isplitl [HS1]
    · iexists _, _; isplitr; swap; · iexact HS1
      ipureintro; rfl
    iexists _; iexact HW

end OutP

end
-- ==== Proof.OutP.RunB.lean ====
module

public import proofs.«01_k».proof.Proof.OutP.RunA

@[expose] public section

/-! The body at an even point. -/

set_option maxRecDepth 16384

noncomputable section

namespace OutP

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → ℕ) = fun _ => 0 := by decide

/-- A chunk's result depends only on the gain, the gate and the two chunks it reads. -/
theorem congr4 {X A : Vec F S512x2048 .f32} {g G : Vec F S1x2048 .f32} {k : Fin 4} {G' g' : Vec F S1x2048 .f32} {x a : Vec F S128x2048 .f32}
    (hG : G' = G) (hg : g' = g) (hx : x = chunkOf X k) (ha : a = chunkOf A k) : k0_pay9 (k0_pay7 G') g' x a = chunkOut X A g G k := by
  subst hG hg hx ha; rfl

theorem inb_row {o : Fin 2 → ℕ} {n : Fin 132} (ho : o = ![n.val, 0]) : ∀ a, o a + S1x2048.size a ≤ S132x2048.size a := by
  subst ho
  intro a
  fin_cases a
  · have := n.isLt
    show n.val + 1 ≤ 132
    omega
  · show 0 + 2048 ≤ 2048
    omega

/-- A chunk computed from what the body reads is the chunk of the block's result. -/
theorem chunk_eq {arg2 : Memref sig .tc .vmem S512x2048 .f32} (h2 : arg2.IsWhole) {arg3 : Memref sig .tc .vmem S132x2048 .f32} (h3 : arg3.IsWhole) {arg5 : Memref sig .tc .vmem S1x2048 .f32} (h5 : arg5.IsWhole)
    {arg : Memref sig .tc .vmem S512x2048 .f32} (h : arg.IsWhole) (X A : Vec F S512x2048 .f32) (M : Vec F S132x2048 .f32) (G : Vec F S1x2048 .f32) (n : Fin 132) (k : Fin 4)
    (og : Fin 2 → ℕ) (hog : og = ![n.val, 0]) (o : Fin 2 → ℕ) (ho : o = ![128 * k.val, 0]) (inb : ∀ a, o a + S128x2048.size a ≤ S512x2048.size a) :
    k0_pay9 (k0_pay7 (View.readAt (Elt F) arg5.view (Rect.unit (s := S1x2048) ![0, 0] S1x2048.size inb_S1x2048_S1x2048_0_0).toLoadRect (h5.unread G)))
      (View.readAt (Elt F) arg3.view (Rect.unit (s := S132x2048) og S1x2048.size (inb_row hog)).toLoadRect (h3.unread M))
      (View.readAt (Elt F) arg2.view (Rect.unit (s := S512x2048) o S128x2048.size inb).toLoadRect (h2.unread X))
      (View.readAt (Elt F) arg.view (Rect.unit (s := S512x2048) o S128x2048.size inb).toLoadRect (h.unread A)) = chunkOut X A (rowOf M n) G k :=
  congr4 (ld_full h5 G _ off0 _) (ld_row h3 M n og hog _) (ld_chunk h2 X k o ho inb) (ld_chunk h A k o ho inb)

set_option maxHeartbeats 4000000 in
/-- The body at an even point that is neither the first nor the last: it leaves the product of its block and the result of the block before. -/
theorem kernelRun0_B (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S132x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i) (hc2 : ¬cond0_2 i) (hc3 : ¬cond0_3 i)
    (x0 : Vec F S512x2048 .bf16) (x1 : Vec F S512x2048 .f32) (x2 : Vec F S132x2048 .f32) (x3 : Vec F S2048x2048 .bf16) (x4 : Vec F S1x2048 .f32) (n : Fin 132) (ho0 : k0_off1 i 0#32 = ![n.val, 0]) (ho1 : k0_off1 i 128#32 = ![n.val, 0]) (ho2 : k0_off1 i 256#32 = ![n.val, 0]) (ho3 : k0_off1 i 384#32 = ![n.val, 0]) (A : Vec F S512x2048 .f32) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare A ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outv x1 A (rowOf x2 n) x4) ∗ owns (c : Thread nD τ) arg7 fullShare (acc x0 x3) ∗ (∃ d, owns (c : Thread nD τ) arg8 fullShare d) ∗ (∃ W', owes (c : Thread nD τ) 0 W')) -∗ K ⟨⟩))
          ⊢ wp frame (wpE (defs₀ (F := F)) Variants.none c none) Set.univ (cc0_out_proj i arg1 harg1 arg2 harg2 arg3 harg3 arg4 harg4 arg5 harg5 arg6 harg6 arg7 harg7 arg8 harg8) K := by
    intro W K
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, HW, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs1
    rw [dif_neg hc0, dif_pos hc1, dif_neg hc2, dif_neg hc3]
    sl_open_parts
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      have e0 := chunk_eq harg2 harg3 harg5 harg8 x1 A x2 x4 n 0 (k0_off1 i 0#32) ho0 ![0, 0] rfl inb_S512x2048_S128x2048_0_0
      have e1 := chunk_eq harg2 harg3 harg5 harg8 x1 A x2 x4 n 1 (k0_off1 i 128#32) ho1 ![128, 0] rfl inb_S512x2048_S128x2048_128_0
      have e2 := chunk_eq harg2 harg3 harg5 harg8 x1 A x2 x4 n 2 (k0_off1 i 256#32) ho2 ![256, 0] rfl inb_S512x2048_S128x2048_256_0
      have e3 := chunk_eq harg2 harg3 harg5 harg8 x1 A x2 x4 n 3 (k0_off1 i 384#32) ho3 ![384, 0] rfl inb_S512x2048_S128x2048_384_0
      exact read_chunks _ x1 A (rowOf x2 n) x4 e0 e1 e2 e3
    isplitl [HS0]
    · iexists _; isplitr; swap; · iexact HS0
      ipureintro
      exact read_acc harg1 harg4 x0 x3 _
    isplitl [HS1]
    · iexists _, _; isplitr; swap; · iexact HS1
      ipureintro; rfl
    iexists _; iexact HW

end OutP

end
-- ==== Proof.OutP.RunC.lean ====
module

public import proofs.«01_k».proof.Proof.OutP.RunB

@[expose] public section

/-! The body at an odd point. -/

set_option maxRecDepth 16384

noncomputable section

namespace OutP

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an odd point: it leaves the product of its block and the result of the block before. -/
theorem kernelRun0_C (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S132x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i) (hc2 : cond0_2 i) (hc3 : ¬cond0_3 i)
    (x0 : Vec F S512x2048 .bf16) (x1 : Vec F S512x2048 .f32) (x2 : Vec F S132x2048 .f32) (x3 : Vec F S2048x2048 .bf16) (x4 : Vec F S1x2048 .f32) (n : Fin 132) (ho0 : k0_off2 i 0#32 = ![n.val, 0]) (ho1 : k0_off2 i 128#32 = ![n.val, 0]) (ho2 : k0_off2 i 256#32 = ![n.val, 0]) (ho3 : k0_off2 i 384#32 = ![n.val, 0]) (A : Vec F S512x2048 .f32) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare A ∗ (∃ d, owns (c : Thread nD τ) arg8 fullShare d) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outv x1 A (rowOf x2 n) x4) ∗ (∃ d, owns (c : Thread nD τ) arg7 fullShare d) ∗ owns (c : Thread nD τ) arg8 fullShare (acc x0 x3) ∗ (∃ W', owes (c : Thread nD τ) 0 W')) -∗ K ⟨⟩))
          ⊢ wp frame (wpE (defs₀ (F := F)) Variants.none c none) Set.univ (cc0_out_proj i arg1 harg1 arg2 harg2 arg3 harg3 arg4 harg4 arg5 harg5 arg6 harg6 arg7 harg7 arg8 harg8) K := by
    intro W K
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, HW, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    rw [dif_neg hc0, dif_neg hc1, dif_pos hc2, dif_neg hc3]
    sl_open_parts
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      have e0 := chunk_eq harg2 harg3 harg5 harg7 x1 A x2 x4 n 0 (k0_off2 i 0#32) ho0 ![0, 0] rfl inb_S512x2048_S128x2048_0_0
      have e1 := chunk_eq harg2 harg3 harg5 harg7 x1 A x2 x4 n 1 (k0_off2 i 128#32) ho1 ![128, 0] rfl inb_S512x2048_S128x2048_128_0
      have e2 := chunk_eq harg2 harg3 harg5 harg7 x1 A x2 x4 n 2 (k0_off2 i 256#32) ho2 ![256, 0] rfl inb_S512x2048_S128x2048_256_0
      have e3 := chunk_eq harg2 harg3 harg5 harg7 x1 A x2 x4 n 3 (k0_off2 i 384#32) ho3 ![384, 0] rfl inb_S512x2048_S128x2048_384_0
      exact read_chunks _ x1 A (rowOf x2 n) x4 e0 e1 e2 e3
    isplitl [HS0]
    · iexists _, _; isplitr; swap; · iexact HS0
      ipureintro; rfl
    isplitl [HS1]
    · iexists _; isplitr; swap; · iexact HS1
      ipureintro
      exact read_acc harg1 harg4 x0 x3 _
    iexists _; iexact HW

end OutP

end
-- ==== Proof.OutP.RunL.lean ====
module

public import proofs.«01_k».proof.Proof.OutP.RunB

@[expose] public section

/-! The body at the last point. -/

set_option maxRecDepth 16384

noncomputable section

namespace OutP

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point: it leaves the result of the last block. -/
theorem kernelRun0_L (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S132x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i) (hc2 : ¬cond0_2 i) (hc3 : cond0_3 i)
    (x0 : Vec F S512x2048 .bf16) (x1 : Vec F S512x2048 .f32) (x2 : Vec F S132x2048 .f32) (x3 : Vec F S2048x2048 .bf16) (x4 : Vec F S1x2048 .f32) (n : Fin 132) (ho0 : k0_off3 i 0#32 = ![n.val, 0]) (ho1 : k0_off3 i 128#32 = ![n.val, 0]) (ho2 : k0_off3 i 256#32 = ![n.val, 0]) (ho3 : k0_off3 i 384#32 = ![n.val, 0]) (A : Vec F S512x2048 .f32) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare A ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outv x1 A (rowOf x2 n) x4) ∗ (∃ d, owns (c : Thread nD τ) arg7 fullShare d) ∗ (∃ d, owns (c : Thread nD τ) arg8 fullShare d) ∗ (∃ W', owes (c : Thread nD τ) 0 W')) -∗ K ⟨⟩))
          ⊢ wp frame (wpE (defs₀ (F := F)) Variants.none c none) Set.univ (cc0_out_proj i arg1 harg1 arg2 harg2 arg3 harg3 arg4 harg4 arg5 harg5 arg6 harg6 arg7 harg7 arg8 harg8) K := by
    intro W K
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, HW, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs1
    rw [dif_neg hc0, dif_neg hc1, dif_neg hc2, dif_pos hc3]
    sl_open_parts
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      have e0 := chunk_eq harg2 harg3 harg5 harg8 x1 A x2 x4 n 0 (k0_off3 i 0#32) ho0 ![0, 0] rfl inb_S512x2048_S128x2048_0_0
      have e1 := chunk_eq harg2 harg3 harg5 harg8 x1 A x2 x4 n 1 (k0_off3 i 128#32) ho1 ![128, 0] rfl inb_S512x2048_S128x2048_128_0
      have e2 := chunk_eq harg2 harg3 harg5 harg8 x1 A x2 x4 n 2 (k0_off3 i 256#32) ho2 ![256, 0] rfl inb_S512x2048_S128x2048_256_0
      have e3 := chunk_eq harg2 harg3 harg5 harg8 x1 A x2 x4 n 3 (k0_off3 i 384#32) ho3 ![384, 0] rfl inb_S512x2048_S128x2048_384_0
      exact read_chunks _ x1 A (rowOf x2 n) x4 e0 e1 e2 e3
    isplitl [HS0]
    · iexists _, _; isplitr; swap; · iexact HS0
      ipureintro; rfl
    isplitl [HS1]
    · iexists _, _; isplitr; swap; · iexact HS1
      ipureintro; rfl
    iexists _; iexact HW

end OutP

end
-- ==== Proof.OutP.Body.lean ====
module

public import proofs.«01_k».proof.Proof.OutP.RunC
public import proofs.«01_k».proof.Proof.OutP.RunL

@[expose] public section

/-! The body at every point, and the run of the whole call. -/

set_option maxRecDepth 16384

noncomputable section

namespace OutP

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S512x2048 .bf16 := win0_0.stage (cfg0.slots t 0)
abbrev ms0_1 (t : Fin cfg0.N) : Memref sig .tc .vmem S512x2048 .f32 := win0_1.stage (cfg0.slots t 1)
abbrev ms0_2 (t : Fin cfg0.N) : Memref sig .tc .vmem S132x2048 .f32 := win0_2.stage (cfg0.slots t 2)
abbrev ms0_3 (t : Fin cfg0.N) : Memref sig .tc .vmem S2048x2048 .bf16 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S512x2048 .f32 := win0_5.stage (cfg0.slots t 5)

theorem npts : cfg0.N = 17 := N_0

/-- The point before. -/
def prevPt (n : ℕ) (h : n < 18) : Fin cfg0.N := ⟨n - 1, by rw [npts]; omega⟩

theorem lt_pts (t : Fin cfg0.N) : t.val < 18 := Nat.lt_succ_of_lt (lt_of_lt_of_eq t.isLt npts)
theorem lt_ends (t : Fin (cfg0.N + 1)) : t.val < 18 := lt_of_lt_of_eq t.isLt (congrArg (· + 1) npts)

/-- The row of the gates a point reads. -/
def gateRow (t : Fin cfg0.N) : Fin 132 := ⟨(t.val - 1) / 4, by have := lt_pts t; omega⟩

theorem off1_0 : ∀ t : Fin cfg0.N, 0 < t.val → k0_off1 (grid0.coords t) 0#32 = ![(gateRow t).val, 0] := by decide +kernel
theorem off1_1 : ∀ t : Fin cfg0.N, 0 < t.val → k0_off1 (grid0.coords t) 128#32 = ![(gateRow t).val, 0] := by decide +kernel
theorem off1_2 : ∀ t : Fin cfg0.N, 0 < t.val → k0_off1 (grid0.coords t) 256#32 = ![(gateRow t).val, 0] := by decide +kernel
theorem off1_3 : ∀ t : Fin cfg0.N, 0 < t.val → k0_off1 (grid0.coords t) 384#32 = ![(gateRow t).val, 0] := by decide +kernel
theorem off2_0 : ∀ t : Fin cfg0.N, 0 < t.val → k0_off2 (grid0.coords t) 0#32 = ![(gateRow t).val, 0] := by decide +kernel
theorem off2_1 : ∀ t : Fin cfg0.N, 0 < t.val → k0_off2 (grid0.coords t) 128#32 = ![(gateRow t).val, 0] := by decide +kernel
theorem off2_2 : ∀ t : Fin cfg0.N, 0 < t.val → k0_off2 (grid0.coords t) 256#32 = ![(gateRow t).val, 0] := by decide +kernel
theorem off2_3 : ∀ t : Fin cfg0.N, 0 < t.val → k0_off2 (grid0.coords t) 384#32 = ![(gateRow t).val, 0] := by decide +kernel
theorem off3_0 : ∀ t : Fin cfg0.N, 0 < t.val → k0_off3 (grid0.coords t) 0#32 = ![(gateRow t).val, 0] := by decide +kernel
theorem off3_1 : ∀ t : Fin cfg0.N, 0 < t.val → k0_off3 (grid0.coords t) 128#32 = ![(gateRow t).val, 0] := by decide +kernel
theorem off3_2 : ∀ t : Fin cfg0.N, 0 < t.val → k0_off3 (grid0.coords t) 256#32 = ![(gateRow t).val, 0] := by decide +kernel
theorem off3_3 : ∀ t : Fin cfg0.N, 0 < t.val → k0_off3 (grid0.coords t) 384#32 = ![(gateRow t).val, 0] := by decide +kernel

/-- The product of point `t`'s block with the weights. -/
def accAt (c : Dev nD) (t : Fin cfg0.N) : Vec F S512x2048 .f32 := acc (iblk m c 0 t) (iblk m c 3 t)

/-- What point `t` leaves in the output block: the result of the block before. -/
def outAt (c : Dev nD) (t : Fin cfg0.N) : Vec F S512x2048 .f32 :=
  outv (iblk m c 1 t) (accAt m c (prevPt t.val (lt_pts t))) (rowOf (iblk m c 2 t) (gateRow t)) (iblk m c 4 t)

/-- The first buffer holds point `t`'s product. -/
def heldFst (c : Dev nD) (t : Fin cfg0.N) : sProp 𝕄 :=
  iprop(iprop(owns (c : Thread nD τ) scM0 fullShare (accAt m c t) ∗ (∃ d, owns (c : Thread nD τ) scM1 fullShare d)) ∗ (∃ r, prngReg c r))

/-- The second buffer holds point `t`'s product. -/
def heldSnd (c : Dev nD) (t : Fin cfg0.N) : sProp 𝕄 :=
  iprop(iprop((∃ d, owns (c : Thread nD τ) scM0 fullShare d) ∗ owns (c : Thread nD τ) scM1 fullShare (accAt m c t)) ∗ (∃ r, prngReg c r))

/-- What holds between the points: the two buffers in turn hold the last product. -/
def phiAt (c : Dev nD) (n : ℕ) (h : n < 18) : sProp 𝕄 :=
  if n = 0 ∨ n = 17 then Pipeline.ΦA spec0 c else if n % 2 = 1 then heldFst m c (prevPt n h) else heldSnd m c (prevPt n h)

/-- What the pipeline holds at each point, on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := phiAt m c t.val (lt_ends t)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem prev_succ (t : Fin cfg0.N) (h) : prevPt t.succ.val h = t := Fin.ext (by show t.val + 1 - 1 = t.val; omega)

theorem phi_succ_odd (c : Dev nD) (t : Fin cfg0.N) (ht : t.val % 2 = 1) : (dats m 0 c).Φ t.succ = heldSnd m c t := by
  show phiAt m c t.succ.val _ = _
  have hv : t.succ.val = t.val + 1 := rfl
  have := lt_pts t
  unfold phiAt
  rw [if_neg (by omega), if_neg (by omega), prev_succ]
theorem phi_succ_even (c : Dev nD) (t : Fin cfg0.N) (ht : t.val % 2 = 0) (hl : t.val < 16) : (dats m 0 c).Φ t.succ = heldFst m c t := by
  show phiAt m c t.succ.val _ = _
  have hv : t.succ.val = t.val + 1 := rfl
  unfold phiAt
  rw [if_neg (by omega), if_pos (by omega), prev_succ]
theorem phi_succ_last (c : Dev nD) (t : Fin cfg0.N) (ht : t.val = 16) : (dats m 0 c).Φ t.succ = Pipeline.ΦA spec0 c := by
  show phiAt m c t.succ.val _ = _
  have hv : t.succ.val = t.val + 1 := rfl
  unfold phiAt
  rw [if_pos (by omega)]
theorem phi_cast_first (c : Dev nD) (t : Fin cfg0.N) (ht : t.val = 0) : (dats m 0 c).Φ t.castSucc = Pipeline.ΦA spec0 c := by
  show phiAt m c t.castSucc.val _ = _
  have hv : t.castSucc.val = t.val := rfl
  unfold phiAt
  rw [if_pos (by omega)]
theorem phi_cast_odd (c : Dev nD) (t : Fin cfg0.N) (ht : t.val % 2 = 1) (hl : t.val < 16) : (dats m 0 c).Φ t.castSucc = heldFst m c (prevPt t.val (lt_pts t)) := by
  show phiAt m c t.castSucc.val _ = _
  have hv : t.castSucc.val = t.val := rfl
  unfold phiAt
  rw [if_neg (by omega), if_pos (by omega)]
  rfl
theorem phi_cast_even (c : Dev nD) (t : Fin cfg0.N) (ht : t.val % 2 = 0) (h0 : t.val ≠ 0) (hl : t.val < 17) : (dats m 0 c).Φ t.castSucc = heldSnd m c (prevPt t.val (lt_pts t)) := by
  show phiAt m c t.castSucc.val _ = _
  have hv : t.castSucc.val = t.val := rfl
  unfold phiAt
  rw [if_neg (by omega), if_neg (by omega)]
  rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input window's buffer is left as it was found. -/
theorem leaves0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves5 (c : Dev nD) (t : Fin cfg0.N) (ht : t.val ≠ 0) : (dats m 0 c).leavesExact 5 t = owns (c : Thread nD τ) (ms0_5 t) fullShare (outAt m c t) := by
  rw [show (dats m 0 c).leavesExact 5 t = owns (c : Thread nD τ) (ms0_5 t) fullShare ((dats m 0 c).after 5 t) from by
    unfold Dat.leavesExact; rw [idle5 t ht], after0_5]

set_option maxHeartbeats 1600000 in
/-- The body at the first point. -/
theorem sound_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  unfold Dat.owesAt Pipeline.owesWithin
  rw [show (dats m 0 c).owed t.castSucc = 0 from rfl, show (dats m 0 c).owed t.succ = 0 from rfl]
  rw [leaves0, leaves1, leaves2, leaves3, leaves4]
  rw [phi_cast_first m c t ht, phi_succ_even m c t (by omega) (by omega), PhiA0_eq]
  unfold heldFst accAt
  iintro ⟨⟨⟨HS0, HS1⟩, Hg⟩, ⟨%W, -, HW⟩, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ ((hcond0_0 t).mpr (by omega)) (fun h => absurd ((hcond0_1 t).mp h) (by omega)) (fun h => absurd ((hcond0_2 t).mp h) (by omega)) (fun h => absurd ((hcond0_3 t).mp h) (by omega)) (iblk m c 0 t) (iblk m c 1 t) (iblk m c 2 t) (iblk m c 3 t) (iblk m c 4 t) _) W _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HW]; · iexact HW
  iintro ⟨H0, H1, H2, H3, H4, H5, HS0, HS1, ⟨%W', HW'⟩⟩
  isplitl [HS0 HS1 Hg]
  · isplitl [HS0 HS1]
    · isplitl [HS0]; · iexact HS0
      iexact HS1
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  rw [(dats m 0 c).leavesExact_idle 5 t (idle5_first t ht) (flush5_first t ht)]
  iexists _; iexact H5

set_option maxHeartbeats 1600000 in
/-- The body at an even point between the ends. -/
theorem sound_even (c : Dev nD) (t : Fin cfg0.N) (h0 : t.val ≠ 0) (h2 : t.val % 2 = 0) (hl : t.val < 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  unfold Dat.owesAt Pipeline.owesWithin
  rw [show (dats m 0 c).owed t.castSucc = 0 from rfl, show (dats m 0 c).owed t.succ = 0 from rfl]
  rw [leaves0, leaves1, leaves2, leaves3, leaves4]
  rw [leaves5 m c t (by omega)]
  rw [phi_cast_even m c t h2 h0 (by omega), phi_succ_even m c t h2 hl]
  unfold heldFst heldSnd
  iintro ⟨⟨⟨HS0, HS1⟩, Hg⟩, ⟨%W, -, HW⟩, ⟨%d0, H0⟩, ⟨%d1, H1⟩, ⟨%d2, H2⟩, ⟨%d3, H3⟩, ⟨%d4, H4⟩, ⟨%d5, H5⟩⟩
  iapply ((kernelRun0_B c (grid0.coords t) _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (gateRow t) (off1_0 t (by omega)) (off1_1 t (by omega)) (off1_2 t (by omega)) (off1_3 t (by omega)) (accAt m c (prevPt t.val (lt_pts t)))) W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HW]; · iexact HW
  iintro ⟨H0, H1, H2, H3, H4, H5, HS0, HS1, ⟨%W', HW'⟩⟩
  isplitl [HS0 HS1 Hg]
  · isplitl [HS0 HS1]
    · isplitl [HS0]; · iexact HS0
      iexact HS1
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

set_option maxHeartbeats 1600000 in
/-- The body at an odd point. -/
theorem sound_odd (c : Dev nD) (t : Fin cfg0.N) (h2 : t.val % 2 = 1) (hl : t.val < 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  unfold Dat.owesAt Pipeline.owesWithin
  rw [show (dats m 0 c).owed t.castSucc = 0 from rfl, show (dats m 0 c).owed t.succ = 0 from rfl]
  rw [leaves0, leaves1, leaves2, leaves3, leaves4]
  rw [leaves5 m c t (by omega)]
  rw [phi_cast_odd m c t h2 hl, phi_succ_odd m c t h2]
  unfold heldFst heldSnd
  iintro ⟨⟨⟨HS0, HS1⟩, Hg⟩, ⟨%W, -, HW⟩, ⟨%d0, H0⟩, ⟨%d1, H1⟩, ⟨%d2, H2⟩, ⟨%d3, H3⟩, ⟨%d4, H4⟩, ⟨%d5, H5⟩⟩
  iapply ((kernelRun0_C c (grid0.coords t) _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) (gateRow t) (off2_0 t (by omega)) (off2_1 t (by omega)) (off2_2 t (by omega)) (off2_3 t (by omega)) (accAt m c (prevPt t.val (lt_pts t)))) W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HW]; · iexact HW
  iintro ⟨H0, H1, H2, H3, H4, H5, HS0, HS1, ⟨%W', HW'⟩⟩
  isplitl [HS0 HS1 Hg]
  · isplitl [HS0 HS1]
    · isplitl [HS0]; · iexact HS0
      iexact HS1
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

set_option maxHeartbeats 1600000 in
/-- The body at the last point. -/
theorem sound_last (c : Dev nD) (t : Fin cfg0.N) (ht : t.val = 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  unfold Dat.owesAt Pipeline.owesWithin
  rw [show (dats m 0 c).owed t.castSucc = 0 from rfl, show (dats m 0 c).owed t.succ = 0 from rfl]
  rw [leaves0, leaves1, leaves2, leaves3, leaves4]
  rw [leaves5 m c t (by omega)]
  rw [phi_cast_even m c t (by omega) (by omega) (by omega), phi_succ_last m c t ht, PhiA0_eq]
  unfold heldSnd
  iintro ⟨⟨⟨HS0, HS1⟩, Hg⟩, ⟨%W, -, HW⟩, ⟨%d0, H0⟩, ⟨%d1, H1⟩, ⟨%d2, H2⟩, ⟨%d3, H3⟩, ⟨%d4, H4⟩, ⟨%d5, H5⟩⟩
  iapply ((kernelRun0_L c (grid0.coords t) _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (iblk m c 0 t) (iblk m c 1 t) (iblk m c 2 t) (iblk m c 3 t) (iblk m c 4 t) (gateRow t) (off3_0 t (by omega)) (off3_1 t (by omega)) (off3_2 t (by omega)) (off3_3 t (by omega)) (accAt m c (prevPt t.val (lt_pts t)))) W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HW]; · iexact HW
  iintro ⟨H0, H1, H2, H3, H4, H5, HS0, HS1, ⟨%W', HW'⟩⟩
  isplitl [HS0 HS1 Hg]
  · isplitl [HS0 HS1]
    · isplitl [HS0]; · iexact HS0
      iexact HS1
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body at any point does what `dats` says of it. -/
theorem sound_body (c : Dev nD) (t : Fin cfg0.N) :
    bodyPre m c t ⊢ wp frame (wpE (defs₀ (F := F)) Variants.none c none) Set.univ (bodyAt0 t) (fun _ => bodyPost m c t) := by
  have hN : t.val < 17 := lt_of_lt_of_eq t.isLt npts
  by_cases h0 : t.val = 0
  · exact sound_first m c t h0
  by_cases hl : t.val = 16
  · exact sound_last m c t hl
  by_cases h2 : t.val % 2 = 0
  · exact sound_even m c t h0 h2 (by omega)
  · exact sound_odd m c t (by omega) (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_start (c : Dev nD) : (dats m 0 c).Φ 0 = Pipeline.ΦA spec0 c := by
  show phiAt m c 0 (by decide) = _
  unfold phiAt; rw [if_pos (Or.inl rfl)]
theorem phi_end (c : Dev nD) : (dats m 0 c).Φ (Fin.last cfg0.N) = Pipeline.ΦA spec0 c := by
  show phiAt m c (Fin.last cfg0.N).val (lt_ends _) = _
  unfold phiAt; rw [if_pos (Or.inr (by show cfg0.N = 17; exact npts))]

set_option backward.isDefEq.respectTransparency.types false in
/-- The run of the whole call: the arrays end as `dats` says, everything else as it was, the counters at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => (phi_start m c).symm ▸ .rfl) (hout := fun c => (phi_end m c) ▸ .rfl)

/-- A run that ends as the pipeline says leaves the arguments as they were. -/
theorem args_kept (r) (h : Pipeline.FramePost cfgs (dats m) 0 (V m) r ∧ r.2.sem = fun _ => 0) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h.1 c).1 0).trans (((dats m 0 c).arrAt_in 0 rfl _).trans ((A_eq m c 0).trans (V_main_arg0 m c))),
    ((h.1 c).2 main_arg1 (Pipeline.mem_restRefs_of main_arg1 (by decide) (by decide))).trans (V_main_arg1 m c),
    ((h.1 c).1 2).trans (((dats m 0 c).arrAt_in 2 rfl _).trans ((A_eq m c 2).trans (V_main_arg2 m c))),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩

/-- The program leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m _ h, h.2⟩) (run_main m ρ)

end OutP

end
-- ==== Proof.OutP.Rows.lean ====
module

public import proofs.«01_k».proof.Proof.OutP.Row
public import proofs.«01_k».proof.Proof.OutP.Body
public import Idealize.ShloMosaic.Lib.Pointwise
import Idealize.ShloMosaic.Lib.Pipeline.ValueKit

@[expose] public section

/-! What the kernel makes of a block, read at an index. -/

set_option maxRecDepth 65536

noncomputable section

namespace OutP

open Idealize.ShloMosaic Idealize.ShloMosaic.TcCoe Idealize.ShloMosaic.Tactic Idealize.SL.Sem
open Cert.Kernel3Ideal Cert.Kernel3Ideal.Gen

theorem pay9_at (G g : FVec Ideal S1x2048 .f32) (x a : FVec Ideal S128x2048 .f32) (r : Fin 128) (d : Fin 2048) :
    k0_pay9 (F := Ideal) (k0_pay7 G) g x a (ix2 r d)
      = gated (fun k => x (ix2 r k)) (fun k => a (ix2 r k)) (fun k => g (ix2 0 k)) (fun k => G (ix2 0 k)) d := by
  unfold gated normed
  pointwise [k0_pay9, k0_pay7]

theorem acc_at (a : FVec Ideal S512x2048 .bf16) (w : FVec Ideal S2048x2048 .bf16) (r : Fin 512) (j : Fin 2048) :
    acc (F := Ideal) a w (ix2 r j) = ∑ d : Fin 2048, a (ix2 r d) * w (ix2 d j) := by
  unfold acc
  pointwise [k0_pay1]

theorem outv_at (X A : FVec Ideal S512x2048 .f32) (g G : FVec Ideal S1x2048 .f32) (r : Fin 512) (d : Fin 2048) :
    outv (F := Ideal) X A g G (ix2 r d)
      = gated (fun k => X (ix2 r k)) (fun k => A (ix2 r k)) (fun k => g (ix2 0 k)) (fun k => G (ix2 0 k)) d := by
  have e : 128 * (r.val / 128) + r.val % 128 = r.val := by omega
  have f (Y : FVec Ideal S512x2048 .f32) (k : Fin 2048) :
      chunkOf (F := Ideal) Y ⟨r.val / 128, by omega⟩ (ix2 (⟨r.val % 128, Nat.mod_lt _ (by decide)⟩ : Fin 128) k) = Y (ix2 r k) :=
    congrArg Y (congrArg (fun q : Fin 512 => (ix2 q k : S512x2048.Idx)) (Fin.ext e))
  refine (pay9_at G g _ _ (⟨r.val % 128, Nat.mod_lt _ (by decide)⟩ : Fin 128) d).trans ?_
  exact gated_congr (f X) (f A) (fun _ => rfl) (fun _ => rfl) d

end OutP

end
-- ==== Proof.OutP.RefAt.lean ====
module

public import proofs.«01_k».proof.Proof.OutP.Row
public import proofs.«01_k».proof.Proof.Gen.Reference3Ideal.Read
public import Idealize.ShloMosaic.Lib.Pointwise
import Idealize.ShloMosaic.Lib.Pipeline.ValueKit

@[expose] public section

/-! What the reference's result holds, read at an index. -/

set_option maxRecDepth 65536

noncomputable section

namespace OutP

open Idealize.ShloMosaic Idealize.ShloMosaic.TcCoe Idealize.ShloMosaic.Tactic Idealize.SL.Sem
open Cert.Reference3Ideal Cert.Reference3Ideal.Read

variable (x0 : FVec Ideal S8192x2048 .bf16) (x1 : FVec Ideal S4x2048x2048 .f32) (x2 : FVec Ideal S132x6144 .f32) (x3 : FVec Ideal S1x2048x2048 .f32) (x4 : FVec Ideal S2048 .f32)

theorem v6_at (b : Fin 4) (s d : Fin 2048) : val_main_v6 (F := Ideal) x0 (ix3 b s d) = x0 (ix2 ⟨b.val * 2048 + s.val, by omega⟩ d) := by
  pointwise [val_main_v6, val_main_v5]

theorem v7_at (d j : Fin 2048) : val_main_v7 (F := Ideal) x3 (ix2 d j) = x3 (ix3 0 d j) := by
  pointwise [val_main_v7]

theorem v8_at (b : Fin 4) (s j : Fin 2048) :
    val_main_v8 (F := Ideal) x0 x3 (ix3 b s j) = ∑ d : Fin 2048, x0 (ix2 ⟨b.val * 2048 + s.val, by omega⟩ d) * x3 (ix3 0 d j) := by
  refine (val_main_v8_apply x0 x3 _).trans (Finset.sum_congr rfl fun d _ => ?_)
  refine congrArg₂ (· * ·) (Eq.trans (congrArg _ ?_) (v6_at x0 b s d)) (Eq.trans (congrArg _ ?_) (v7_at x3 d j))
  · funext a; fin_cases a <;> rfl
  · funext a; fin_cases a <;> rfl

theorem v9_at (b : Fin 4) (s d : Fin 2048) : val_main_v9 (F := Ideal) x2 (ix3 b s d) = x2 (ix2 ⟨b.val, by omega⟩ ⟨4096 + d.val, by omega⟩) := by
  pointwise [val_main_v9, val_main_v4, val_main_v3, val_main_v0]

/-- Row `(b, s)` before it is normalised. -/
def yRow (b : Fin 4) (s d : Fin 2048) : EReal :=
  x1 (ix3 b s d) + x2 (ix2 ⟨b.val, by omega⟩ ⟨4096 + d.val, by omega⟩) * ∑ k : Fin 2048, x0 (ix2 ⟨b.val * 2048 + s.val, by omega⟩ k) * x3 (ix3 0 k d)

theorem v11_at (b : Fin 4) (s d : Fin 2048) : val_main_v11 (F := Ideal) x0 x1 x2 x3 (ix3 b s d) = yRow x0 x1 x2 x3 b s d :=
  congrArg (x1 (ix3 b s d) + ·) (congrArg₂ (· * ·) (v9_at x2 b s d) (v8_at x0 x3 b s d))

theorem v24_at (b : Fin 4) (s d : Fin 2048) :
    val_main_v24 (F := Ideal) x0 x1 x2 x3 x4 (ix3 b s d) = normed (fun k => val_main_v11 (F := Ideal) x0 x1 x2 x3 (ix3 b s k)) d * x4 (ix1 d) := by
  unfold normed
  unfold val_main_v24 val_main_v21 val_main_v20 val_main_v19 val_main_v18 val_main_v16 val_main_v14 val_main_v13 val_main_v12
  generalize val_main_v11 (F := Ideal) x0 x1 x2 x3 = w
  pointwise [val_main_v23, val_main_v22, val_main_v17, val_main_v15, val_main_cst, val_main_cst_0, val_main_cst_1]

/-- The result at row `n` and column `d`. -/
theorem v25_at (n : Fin 8192) (d : Fin 2048) :
    val_main_v25 (F := Ideal) x0 x1 x2 x3 x4 (ix2 n d)
      = gated (fun k => x1 (ix3 ⟨n.val / 2048, by omega⟩ ⟨n.val % 2048, by omega⟩ k)) (fun k => ∑ j : Fin 2048, x0 (ix2 n j) * x3 (ix3 0 j k))
          (fun k => x2 (ix2 ⟨n.val / 2048, by omega⟩ ⟨4096 + k.val, by omega⟩)) (fun k => x4 (ix1 k)) d := by
  have e : val_main_v25 (F := Ideal) x0 x1 x2 x3 x4 (ix2 n d) = val_main_v24 (F := Ideal) x0 x1 x2 x3 x4 (ix3 ⟨n.val / 2048, by omega⟩ ⟨n.val % 2048, by omega⟩ d) := by
    unfold val_main_v25
    generalize val_main_v24 (F := Ideal) x0 x1 x2 x3 x4 = y
    pointwise
  have hn : n.val / 2048 * 2048 + n.val % 2048 = n.val := by omega
  have f (k : Fin 2048) : val_main_v11 (F := Ideal) x0 x1 x2 x3 (ix3 ⟨n.val / 2048, by omega⟩ ⟨n.val % 2048, by omega⟩ k)
      = x1 (ix3 ⟨n.val / 2048, by omega⟩ ⟨n.val % 2048, by omega⟩ k) + x2 (ix2 ⟨n.val / 2048, by omega⟩ ⟨4096 + k.val, by omega⟩) * ∑ j : Fin 2048, x0 (ix2 n j) * x3 (ix3 0 j k) := by
    refine (v11_at x0 x1 x2 x3 _ _ k).trans ?_
    unfold yRow
    exact congrArg (fun q : Fin 8192 => x1 (ix3 ⟨n.val / 2048, by omega⟩ ⟨n.val % 2048, by omega⟩ k) + x2 (ix2 ⟨n.val / 2048, by omega⟩ ⟨4096 + k.val, by omega⟩) * ∑ j : Fin 2048, x0 (ix2 q j) * x3 (ix3 0 j k)) (Fin.ext hn)
  refine (e.trans (v24_at x0 x1 x2 x3 x4 _ _ d)).trans ?_
  unfold gated
  rw [funext f]

end OutP

end
-- ==== Proof.OutP.Arrays.lean ====
module

public import proofs.«01_k».proof.Proof.OutP.Rows
public import proofs.«01_k».proof.Proof.OutP.RefAt
import Idealize.ShloMosaic.Lib.Pipeline.ValueKit

@[expose] public section

/-! What the kernel's result array holds at the end: what the reference's stages name. -/

set_option maxRecDepth 65536

noncomputable section

namespace OutP

open Idealize.ShloMosaic Idealize.ShloMosaic.TcCoe Idealize.ShloMosaic.Tactic Idealize.SL.Sem
open Cert.Kernel3Ideal Cert.Kernel3Ideal.Gen

theorem idx : ∀ t : Fin cfg0.N, win0_0.index t = ![min t.val 15, 0] ∧ win0_1.index t = ![t.val - 1, 0] ∧ win0_2.index t = ![0, 2] ∧ win0_3.index t = ![0, 0] ∧ win0_4.index t = ![0, 0]
    ∧ win0_5.index t = ![t.val - 1, 0] := by
  decide +kernel

variable (m : (ℓ : Loc nD τ sig) → Buf (Elt Ideal) ℓ) (c : Dev nD) (t : Fin cfg0.N)

/-- The arguments the reference takes. -/
abbrev A0 : FVec Ideal S8192x2048 .bf16 := m ((c : Thread nD τ).loc main_arg0)
abbrev A1 : FVec Ideal S4x2048x2048 .f32 := m ((c : Thread nD τ).loc main_arg1)
abbrev A2 : FVec Ideal S132x6144 .f32 := m ((c : Thread nD τ).loc main_arg2)
abbrev A3 : FVec Ideal S1x2048x2048 .f32 := m ((c : Thread nD τ).loc main_arg3)
abbrev A4 : FVec Ideal S2048 .f32 := m ((c : Thread nD τ).loc main_arg4)

theorem x_at (x : FVec Ideal S4x2048x2048 .f32) (n : Fin 8192) (d : Fin 2048) :
    shapeCast S8192x2048 x shapeCasts_S4x2048x2048_S8192x2048 (ix2 n d) = x (ix3 ⟨n.val / 2048, by omega⟩ ⟨n.val % 2048, by omega⟩ d) := by
  pointwise

theorem w_at (x : FVec Ideal S1x2048x2048 .f32) (j d : Fin 2048) :
    truncf (F := Ideal) .bf16 (shapeCast S2048x2048 x shapeCasts_S1x2048x2048_S2048x2048) bitsLt_bf16_f32 (ix2 j d) = x (ix3 0 j d) := by
  pointwise

theorem g_at (x : FVec Ideal S2048 .f32) (r : Fin 1) (d : Fin 2048) : shapeCast S1x2048 x shapeCasts_S2048_S1x2048 (ix2 r d) = x (ix1 d) := by
  pointwise

theorem V_x : @Eq (FVec Ideal S8192x2048 .f32) (V m c main_v0) (shapeCast S8192x2048 (A1 m c) shapeCasts_S4x2048x2048_S8192x2048) := rfl
theorem V_w : @Eq (FVec Ideal S2048x2048 .bf16) (V m c main_v2) (truncf (F := Ideal) .bf16 (shapeCast S2048x2048 (A3 m c) shapeCasts_S1x2048x2048_S2048x2048) bitsLt_bf16_f32) := rfl
theorem V_g : @Eq (FVec Ideal S1x2048 .f32) (V m c main_v3) (shapeCast S1x2048 (A4 m c) shapeCasts_S2048_S1x2048) := rfl

/-- Row `r` of block `n`. -/
def brow (n : ℕ) (hn : n < 16) (r : Fin 512) : Fin 8192 := ⟨n * 512 + r.val, by omega⟩

theorem blk0 (ht : t.val < 16) (r : Fin 512) (d : Fin 2048) : (iblk m c 0 t : Vec Ideal S512x2048 .bf16) (ix2 r d) = A0 m c (ix2 (brow t.val ht r) d) := by
  have e : min t.val 15 = t.val := by omega
  have hi := (idx t).1
  rw [e] at hi
  unfold brow
  blk_ext [iblk, V, hi]

theorem lt17 : t.val - 1 < 16 := by have : t.val < 17 := lt_of_lt_of_eq t.isLt npts; omega

theorem blk1 (r : Fin 512) (d : Fin 2048) : (iblk m c 1 t : Vec Ideal S512x2048 .f32) (ix2 r d)
    = A1 m c (ix3 ⟨(brow (t.val - 1) (lt17 t) r).val / 2048, by omega⟩ ⟨(brow (t.val - 1) (lt17 t) r).val % 2048, by omega⟩ d) := by
  have e : (iblk m c 1 t : Vec Ideal S512x2048 .f32) (ix2 r d) = (V m c main_v0 : Vec Ideal S8192x2048 .f32) (ix2 (brow (t.val - 1) (lt17 t) r) d) := by
    unfold brow
    blk_ext [iblk, idx t]
  exact (e.trans (congrFun (V_x m c) _)).trans (x_at _ _ _)

theorem blk2 (r : Fin 132) (d : Fin 2048) : (iblk m c 2 t : Vec Ideal S132x2048 .f32) (ix2 r d) = A2 m c (ix2 r ⟨4096 + d.val, by omega⟩) := by
  blk_ext [iblk, V, idx t]

theorem blk3 (r d : Fin 2048) : (iblk m c 3 t : Vec Ideal S2048x2048 .bf16) (ix2 r d) = A3 m c (ix3 0 r d) := by
  have e : (iblk m c 3 t : Vec Ideal S2048x2048 .bf16) (ix2 r d) = (V m c main_v2 : Vec Ideal S2048x2048 .bf16) (ix2 r d) := by
    blk_ext [iblk, idx t]
  exact (e.trans (congrFun (V_w m c) _)).trans (w_at _ _ _)

theorem blk4 (r : Fin 1) (d : Fin 2048) : (iblk m c 4 t : Vec Ideal S1x2048 .f32) (ix2 r d) = A4 m c (ix1 d) := by
  have e : (iblk m c 4 t : Vec Ideal S1x2048 .f32) (ix2 r d) = (V m c main_v3 : Vec Ideal S1x2048 .f32) (ix2 r d) := by
    blk_ext [iblk, idx t]
  exact (e.trans (congrFun (V_g m c) _)).trans (g_at _ _ _)

/-- The result the reference's stages name. -/
abbrev G25 : FVec Ideal S8192x2048 .f32 := Cert.Reference3Ideal.Read.val_main_v25 (F := Ideal) (A0 m c) (A1 m c) (A2 m c) (A3 m c) (A4 m c)

theorem accAt_at (ht : t.val < 16) (r : Fin 512) (d : Fin 2048) :
    accAt m c t (ix2 r d) = ∑ j : Fin 2048, A0 m c (ix2 (brow t.val ht r) j) * A3 m c (ix3 0 j d) := by
  refine (acc_at _ _ r d).trans ?_
  exact Finset.sum_congr rfl fun j _ => congrArg₂ (· * ·) (blk0 m c t ht r j) (blk3 m c t j d)

theorem out5 (r : Fin 512) (d : Fin 2048) : outAt m c t (ix2 r d) = G25 m c (ix2 (brow (t.val - 1) (lt17 t) r) d) := by
  refine Eq.trans ?_ (v25_at _ _ _ _ _ (brow (t.val - 1) (lt17 t) r) d).symm
  refine (outv_at _ _ _ _ r d).trans ?_
  refine gated_congr (blk1 m c t r) (fun k => accAt_at m c (prevPt t.val (lt_pts t)) (lt17 t) r k) (fun k => ?_) (fun k => blk4 m c t 0 k) d
  refine (blk2 m c t (gateRow t) k).trans ?_
  refine congrArg (fun q : Fin 132 => A2 m c (ix2 q ⟨4096 + k.val, by omega⟩)) (Fin.ext ?_)
  show (t.val - 1) / 4 = ((t.val - 1) * 512 + r.val) / 2048
  omega

theorem arr5 : (dats m 0 c).arrAt 5 cfg0.N = G25 m c := by
  refine (dats m 0 c).arrAt_eq_of_covers 5 _ (by decide +kernel) fun t hf y => ?_
  blk_simp
  rw [after0_5]
  obtain ⟨r, p, rfl⟩ : ∃ (r : Fin 512) (p : Fin 2048), y = ix2 r p := ⟨y 0, y 1, by funext a; fin_cases a <;> rfl⟩
  refine (out5 m c t r p).trans ?_
  refine congrArg (G25 m c) ?_
  unfold brow
  blk_ext [idx t]

end OutP

end
-- ==== Proof.OutP.Claims.lean ====
module

public import proofs.«01_k».proof.Defs
public import proofs.«01_k».proof.Proof.OutP.Arrays
public import proofs.«01_k».proof.Proof.Gen.Kernel3
public import proofs.«01_k».proof.Proof.Gen.Reference3Ideal.Read
public import Idealize.ShloMosaic.Lib.Quiescent

@[expose] public section

/-! The claims about the output projection of the prompt batch. -/

set_option maxRecDepth 65536

noncomputable section

namespace OutP

open Idealize.ShloMosaic Idealize.ShloMosaic.TcCoe Idealize.ShloMosaic.Tactic Idealize.SL.Sem

theorem frame_ideal : Cert.quiescent_Kernel3Ideal := fun m ρ _ => frame (F := Ideal) m ρ

/-- The body tables of the two programs are one. -/
theorem defs₀_eq : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, (t, s) => rfl
  | ⟨n + 1, h⟩, x => exact absurd h (Nat.not_lt.2 (Nat.le_add_left _ _))

theorem defs_eq : Cert.Kernel3.defs (F := Bits) = Cert.Kernel3Ideal.defs (F := Bits) :=
  congrArg (Pipeline.defs (Cert.Kernel3Ideal.pcfgs (F := Bits))) defs₀_eq

/-- The program as compiled has the ideal program's text: its frame is the ideal one's, over machine floats. -/
theorem frame_kernel : Cert.quiescent_Kernel3 := fun m ρ _ => by
  rw [defs_eq]
  exact frame (F := Bits) m ρ

/-- The reference's run read at the arguments; it has no semaphore. -/
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The kernel's run with its result named. -/
theorem run_results (m : (ℓ : Loc Cert.Kernel3Ideal.nD Cert.Kernel3Ideal.τ Cert.Kernel3Ideal.sig) → Buf (Elt Ideal) ℓ) (ρ : Dev Cert.Kernel3Ideal.nD → PrngReg) :
    θ_run Cert.Kernel3Ideal.defs (onTc (τ := Cert.Kernel3Ideal.τ) (Cert.Kernel3Ideal.main (F := Ideal))) ⟨m, fun _ => 0, ρ⟩ (fun r => ∀ c : Dev Cert.Kernel3Ideal.nD,
      r.2.mem ((c.tc : Thread Cert.Kernel3Ideal.nD Cert.Kernel3Ideal.τ).loc Cert.Kernel3Ideal.main_v4) = G25 m c
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)) :=
  (θ_run Cert.Kernel3Ideal.defs _ _).mono (fun _ h c => ⟨((h.1 c).1 5).trans (arr5 m c), args_kept m _ h c⟩) (run_main (F := Ideal) m ρ)

/-- Kernel and reference, run from equal arguments, leave the same result. -/
theorem algebraic : Cert.algebraic_Kernel3Ideal_Reference3Ideal := by
  intro m ρ m' ρ' hpre hagree
  refine ⟨fun c => G25 m c, run_results m ρ, ?_⟩
  refine (θ_run Cert.Reference3Ideal.defs _ _).mono (fun r h c => ?_) (Cert.Reference3Ideal.Value.run (F := Ideal) m' ρ')
  obtain ⟨a0, a1, a2, a3, a4⟩ := hagree c
  refine ⟨?_, (h c).2⟩
  refine ((h c).1.trans (Cert.Reference3Ideal.Read.val_main_v25_eq (F := Ideal) _ _ _ _ _)).trans ?_
  rw [a0, a1, a2, a3, a4]

theorem preserves : Cert.preserves_Kernel3_Kernel3Ideal := trivial

end OutP

end
-- ==== Proof.OutS.Runs.lean ====
module

public import proofs.«01_k».proof.Proof.Gen.Kernel4Ideal.Frame
public import proofs.«01_k».proof.Proof.Gen.Kernel4Ideal.Points
public import proofs.«01_k».proof.Proof.Gen.Kernel4Ideal.Skeleton
public import Idealize.ShloMosaic.Lib.Pointwise
public import Idealize.ShloMosaic.Lib.VecWindow

@[expose] public section

/-! What the runs of the output projection share: the branch conditions, the chunks of a block, and what a block becomes. -/

set_option maxRecDepth 16384

noncomputable section

namespace OutS

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev cond0_0 (i : grid0.Coords) : Prop := Scalar.cmpi .ne (Scalar.extui (Scalar.cmpi .eq (BitVec.ofNat 32 (i 0).val) 0#32) : BitVec 32) 0#32 = 1#1
theorem hcond0_0 : ∀ t : Fin cfg0.N, cond0_0 (grid0.coords t) ↔ t.val = 0 :=
  (by decide +kernel : ∀ t : Fin grid0.N, cond0_0 (grid0.coords t) ↔ t.val = 0)
abbrev cond0_1 (i : grid0.Coords) : Prop := k0_cond2 i = 1#1
theorem hcond0_1 : ∀ t : Fin cfg0.N, cond0_1 (grid0.coords t) ↔ False :=
  (by decide +kernel : ∀ t : Fin grid0.N, cond0_1 (grid0.coords t) ↔ False)
abbrev cond0_2 (i : grid0.Coords) : Prop := k0_cond3 i = 1#1
theorem hcond0_2 : ∀ t : Fin cfg0.N, cond0_2 (grid0.coords t) ↔ t.val = 1 :=
  (by decide +kernel : ∀ t : Fin grid0.N, cond0_2 (grid0.coords t) ↔ t.val = 1)
abbrev cond0_3 (i : grid0.Coords) : Prop := k0_cond4 i = 1#1
theorem hcond0_3 : ∀ t : Fin cfg0.N, cond0_3 (grid0.coords t) ↔ t.val = 2 :=
  (by decide +kernel : ∀ t : Fin grid0.N, cond0_3 (grid0.coords t) ↔ t.val = 2)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem idle5 : ∀ t : Fin cfg0.N, t.val ≠ 0 → cfg0.idle 5 (grid0.coords t) = false := by decide +kernel
theorem idle5_first : ∀ t : Fin cfg0.N, t.val = 0 → cfg0.idle 5 (grid0.coords t) = true := by decide +kernel
theorem flush5_first : ∀ t : Fin cfg0.N, t.val = 0 → (cfg0.win 5).flush t = false := by decide +kernel

abbrev scM0 : Memref sig .tc .vmem S512x2048 .f32 := Memref.whole cc0_scratch0
abbrev scM1 : Memref sig .tc .vmem S512x2048 .f32 := Memref.whole cc0_scratch1

theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA
  rw [scopedRest0_eq]; simp only [scM0, scM1, owns_whole]; try rfl

/-- Rows `64 k` to `64 k + 63` of a block. -/
def chunkOf (X : Vec F S512x2048 .f32) (k : Fin 8) : Vec F S64x2048 .f32 := fun x =>
  X (ix2 (⟨64 * k.val + (x 0).val, by have : (x 0).val < 64 := (x 0).isLt; show _ < 512; omega⟩ : Fin (S512x2048.size 0)) (x 1))

/-- Row `n` of the gates. -/
def rowOf (M : Vec F S132x2048 .f32) (n : Fin 132) : Vec F S1x2048 .f32 := fun x => M (ix2 (n : Fin (S132x2048.size 0)) (x 1))

/-- One row repeated eight times. -/
def row8 (b : Vec F S1x2048 .f32) : FVec F S8x2048 .f32 :=
  broadcastTo S8x2048 (shapeCast S1x2048 b shapeCasts_S1x2048_S1x2048) broadcasts_S1x2048_S8x2048

/-- Eight rows, each repeated eight times. -/
def spread (b : Fin 8 → Vec F S1x2048 .f32) : FVec F S64x2048 .f32 :=
  concatenate S64x2048 0 [⟨S8x2048, row8 (b 0)⟩, ⟨S8x2048, row8 (b 1)⟩, ⟨S8x2048, row8 (b 2)⟩, ⟨S8x2048, row8 (b 3)⟩, ⟨S8x2048, row8 (b 4)⟩, ⟨S8x2048, row8 (b 5)⟩, ⟨S8x2048, row8 (b 6)⟩, ⟨S8x2048, row8 (b 7)⟩]
    concatenates_S8x2048_S8x2048_S8x2048_S8x2048_S8x2048_S8x2048_S8x2048_S8x2048_S64x2048_d0

/-- Rows over the root of their mean square, times the gain. -/
def normv (y : FVec F S64x2048 .f32) (G : Vec F S1x2048 .f32) : FVec F S64x2048 .f32 :=
  mulf (mulf y (broadcastTo S64x2048 (rsqrt (addf (divf (shapeCast S64x1 (multiReduction .add [1] S64 (mulf y y) 0x00000000#32 reduces_S64x2048_S64 (.inl rfl) rfl) shapeCasts_S64_S64x1)
    (broadcast S64x1 (Scalar.ofBits .f32 0x45000000#32))) (broadcast S64x1 (Scalar.ofBits .f32 0x358637BD#32)))) broadcasts_S64x1_S64x2048))
    (broadcastTo S64x2048 (shapeCast S1x2048 G shapeCasts_S1x2048_S1x2048) broadcasts_S1x2048_S64x2048)

/-- What the kernel makes of the rows `x`, their products `a`, and eight gates: the rows plus their gated products, normalised. -/
def chunkv (G : Vec F S1x2048 .f32) (b : Fin 8 → Vec F S1x2048 .f32) (x a : Vec F S64x2048 .f32) : FVec F S64x2048 .f32 :=
  normv (addf (shapeCast S64x2048 x shapeCasts_S64x2048_S64x2048) (mulf (spread b) a)) G

/-- Chunk `k` of a block's result. -/
def chunkOut (X A : Vec F S512x2048 .f32) (M : Vec F S132x2048 .f32) (n : Fin 8 → Fin 8 → Fin 132) (G : Vec F S1x2048 .f32) (k : Fin 8) : FVec F S64x2048 .f32 :=
  chunkv G (fun j => rowOf M (n k j)) (chunkOf X k) (chunkOf A k)

/-- What the kernel makes of a block. -/
def outv (X A : Vec F S512x2048 .f32) (M : Vec F S132x2048 .f32) (n : Fin 8 → Fin 8 → Fin 132) (G : Vec F S1x2048 .f32) : Vec F S512x2048 .f32 := fun y =>
  chunkOut X A M n G ⟨(y 0).val / 64, by have : (y 0).val < 512 := (y 0).isLt; omega⟩
    (ix2 (⟨(y 0).val % 64, Nat.mod_lt _ (by decide)⟩ : Fin (S64x2048.size 0)) (y 1))

theorem ld_full {sp : Space} {s : Shape} {e : EltTy} {arg : Memref sig .tc sp s e} (h : arg.IsWhole) (X : Vec F s e)
    (o : Fin s.rank → ℕ) (ho : o = fun _ => 0) (inb : ∀ a, o a + s.size a ≤ s.size a) :
    View.readAt (Elt F) arg.view (Rect.unit (s := s) o s.size inb).toLoadRect (h.unread X) = X := by
  subst ho
  exact (View.readAt_full arg.view (h.unread X) inb).trans (h.read_unread X)

theorem ld_chunk {arg : Memref sig .tc .vmem S512x2048 .f32} (h : arg.IsWhole) (X : Vec F S512x2048 .f32) (k : Fin 8) (o : Fin 2 → ℕ) (ho : o = ![64 * k.val, 0])
    (inb : ∀ a, o a + S64x2048.size a ≤ S512x2048.size a) :
    View.readAt (Elt F) arg.view (Rect.unit (s := S512x2048) o S64x2048.size inb).toLoadRect (h.unread X) = chunkOf X k := by
  subst ho
  funext x
  rw [View.readAt_apply, h.read_unread]
  unfold chunkOf
  refine congrArg X (funext fun a => Fin.ext ?_)
  fin_cases a
  · show 64 * k.val + 1 * (x 0).val = 64 * k.val + (x 0).val
    omega
  · show 0 + 1 * (x 1).val = (x 1).val
    omega

theorem ld_row {arg : Memref sig .tc .vmem S132x2048 .f32} (h : arg.IsWhole) (X : Vec F S132x2048 .f32) (n : Fin 132) (o : Fin 2 → ℕ) (ho : o = ![n.val, 0])
    (inb : ∀ a, o a + S1x2048.size a ≤ S132x2048.size a) :
    View.readAt (Elt F) arg.view (Rect.unit (s := S132x2048) o S1x2048.size inb).toLoadRect (h.unread X) = rowOf X n := by
  subst ho
  funext x
  rw [View.readAt_apply, h.read_unread]
  unfold rowOf
  refine congrArg X (funext fun a => Fin.ext ?_)
  fin_cases a
  · show n.val + 1 * (x 0).val = n.val
    have : (x 0).val < 1 := (x 0).isLt
    omega
  · show 0 + 1 * (x 1).val = (x 1).val
    omega

/-- A chunk's piece is the chunk of the block's result. -/
theorem piece_outv (X A : Vec F S512x2048 .f32) (M : Vec F S132x2048 .f32) (n : Fin 8 → Fin 8 → Fin 132) (G : Vec F S1x2048 .f32) (k : Fin 8) (o : Fin 2 → ℕ) (ho : o = ![64 * k.val, 0])
    (inb : ∀ a, o a + S64x2048.size a ≤ S512x2048.size a) (x : S64x2048.Idx) :
    chunkOut X A M n G k x = outv X A M n G ((Rect.unit (s := S512x2048) o S64x2048.size inb).emb x) := by
  subst ho
  have hx : (x 0).val < 64 := (x 0).isLt
  have v0 : (((Rect.unit (s := S512x2048) ![64 * k.val, 0] S64x2048.size inb).emb x) 0).val = 64 * k.val + (x 0).val := by
    show 64 * k.val + 1 * (x 0).val = _
    omega
  have v1 : (((Rect.unit (s := S512x2048) ![64 * k.val, 0] S64x2048.size inb).emb x) 1).val = (x 1).val := by
    show 0 + 1 * (x 1).val = _
    omega
  unfold outv
  refine congr (congrArg (chunkOut X A M n G) (Fin.ext ?_)) (funext fun a => Fin.ext ?_)
  · show k.val = _ / 64
    rw [v0]; omega
  · fin_cases a
    · show (x 0).val = _ % 64
      rw [v0]; omega
    · exact v1.symm

theorem mem_chunk (k : Fin 8) (o : Fin 2 → ℕ) (ho : o = ![64 * k.val, 0]) (inb : ∀ a, o a + S64x2048.size a ≤ S512x2048.size a) (y : S512x2048.Idx)
    (hy : (y 0).val / 64 = k.val) : y ∈ (Rect.unit (s := S512x2048) o S64x2048.size inb).set := by
  subst ho
  refine (Rect.mem_set_unit (inb := inb)).2 fun a => ?_
  fin_cases a
  · show 64 * k.val ≤ (y 0).val ∧ (y 0).val < 64 * k.val + 64
    omega
  · have : (y 1).val < 2048 := (y 1).isLt
    show 0 ≤ (y 1).val ∧ (y 1).val < 0 + 2048
    omega

/-- The eight chunks written one after the other are the block's result. -/
theorem read_chunks {arg : Memref sig .tc .vmem S512x2048 .f32} (f : BufTy.Contents (Elt F) arg.view.ty) (X A : Vec F S512x2048 .f32) (M : Vec F S132x2048 .f32) (n : Fin 8 → Fin 8 → Fin 132) (G : Vec F S1x2048 .f32)
    {p0 p1 p2 p3 p4 p5 p6 p7 : FVec F S64x2048 .f32} (e0 : p0 = chunkOut X A M n G 0) (e1 : p1 = chunkOut X A M n G 1) (e2 : p2 = chunkOut X A M n G 2) (e3 : p3 = chunkOut X A M n G 3) (e4 : p4 = chunkOut X A M n G 4) (e5 : p5 = chunkOut X A M n G 5) (e6 : p6 = chunkOut X A M n G 6) (e7 : p7 = chunkOut X A M n G 7) :
    arg.view.read (Elt F) (arg.view.writes (Elt F) f
      [⟨Rect.unit (s := S512x2048) ![448, 0] S64x2048.size inb_S512x2048_S64x2048_448_0, p7⟩,
       ⟨Rect.unit (s := S512x2048) ![384, 0] S64x2048.size inb_S512x2048_S64x2048_384_0, p6⟩,
       ⟨Rect.unit (s := S512x2048) ![320, 0] S64x2048.size inb_S512x2048_S64x2048_320_0, p5⟩,
       ⟨Rect.unit (s := S512x2048) ![256, 0] S64x2048.size inb_S512x2048_S64x2048_256_0, p4⟩,
       ⟨Rect.unit (s := S512x2048) ![192, 0] S64x2048.size inb_S512x2048_S64x2048_192_0, p3⟩,
       ⟨Rect.unit (s := S512x2048) ![128, 0] S64x2048.size inb_S512x2048_S64x2048_128_0, p2⟩,
       ⟨Rect.unit (s := S512x2048) ![64, 0] S64x2048.size inb_S512x2048_S64x2048_64_0, p1⟩,
       ⟨Rect.unit (s := S512x2048) ![0, 0] S64x2048.size inb_S512x2048_S64x2048_0_0, p0⟩]) = outv X A M n G := by
  subst e0 e1 e2 e3 e4 e5 e6 e7
  funext y
  refine View.read_writes_apply_of_pieces _ _ _ _ (fun p hp x => ?_) y ?_
  · rcases List.mem_cons.1 hp with rfl | hp
    · exact piece_outv X A M n G 7 ![448, 0] rfl inb_S512x2048_S64x2048_448_0 x
    rcases List.mem_cons.1 hp with rfl | hp
    · exact piece_outv X A M n G 6 ![384, 0] rfl inb_S512x2048_S64x2048_384_0 x
    rcases List.mem_cons.1 hp with rfl | hp
    · exact piece_outv X A M n G 5 ![320, 0] rfl inb_S512x2048_S64x2048_320_0 x
    rcases List.mem_cons.1 hp with rfl | hp
    · exact piece_outv X A M n G 4 ![256, 0] rfl inb_S512x2048_S64x2048_256_0 x
    rcases List.mem_cons.1 hp with rfl | hp
    · exact piece_outv X A M n G 3 ![192, 0] rfl inb_S512x2048_S64x2048_192_0 x
    rcases List.mem_cons.1 hp with rfl | hp
    · exact piece_outv X A M n G 2 ![128, 0] rfl inb_S512x2048_S64x2048_128_0 x
    rcases List.mem_cons.1 hp with rfl | hp
    · exact piece_outv X A M n G 1 ![64, 0] rfl inb_S512x2048_S64x2048_64_0 x
    · obtain rfl := List.mem_singleton.1 hp
      exact piece_outv X A M n G 0 ![0, 0] rfl inb_S512x2048_S64x2048_0_0 x
  · have hy : (y 0).val < 512 := (y 0).isLt
    have h8 : (y 0).val / 64 = 0 ∨ (y 0).val / 64 = 1 ∨ (y 0).val / 64 = 2 ∨ (y 0).val / 64 = 3 ∨ (y 0).val / 64 = 4 ∨ (y 0).val / 64 = 5 ∨ (y 0).val / 64 = 6 ∨ (y 0).val / 64 = 7 := by omega
    rcases h8 with h | h | h | h | h | h | h | h
    · exact ⟨_, .tail _ (.tail _ (.tail _ (.tail _ (.tail _ (.tail _ (.tail _ (.head _))))))), mem_chunk 0 ![0, 0] rfl inb_S512x2048_S64x2048_0_0 y h⟩
    · exact ⟨_, .tail _ (.tail _ (.tail _ (.tail _ (.tail _ (.tail _ (.head _)))))), mem_chunk 1 ![64, 0] rfl inb_S512x2048_S64x2048_64_0 y h⟩
    · exact ⟨_, .tail _ (.tail _ (.tail _ (.tail _ (.tail _ (.head _))))), mem_chunk 2 ![128, 0] rfl inb_S512x2048_S64x2048_128_0 y h⟩
    · exact ⟨_, .tail _ (.tail _ (.tail _ (.tail _ (.head _)))), mem_chunk 3 ![192, 0] rfl inb_S512x2048_S64x2048_192_0 y h⟩
    · exact ⟨_, .tail _ (.tail _ (.tail _ (.head _))), mem_chunk 4 ![256, 0] rfl inb_S512x2048_S64x2048_256_0 y h⟩
    · exact ⟨_, .tail _ (.tail _ (.head _)), mem_chunk 5 ![320, 0] rfl inb_S512x2048_S64x2048_320_0 y h⟩
    · exact ⟨_, .tail _ (.head _), mem_chunk 6 ![384, 0] rfl inb_S512x2048_S64x2048_384_0 y h⟩
    · exact ⟨_, .head _, mem_chunk 7 ![448, 0] rfl inb_S512x2048_S64x2048_448_0 y h⟩

/-- The product of a block of rows with the weights. -/
def acc (x0 : Vec F S512x2048 .bf16) (x3 : Vec F S2048x2048 .bf16) : FVec F S512x2048 .f32 := k0_pay1 x0 x3

theorem read_acc {arg1 : Memref sig .tc .vmem S512x2048 .bf16} {arg4 : Memref sig .tc .vmem S2048x2048 .bf16} {arg : Memref sig .tc .vmem S512x2048 .f32} (h1 : arg1.IsWhole) (h4 : arg4.IsWhole)
    (x0 : Vec F S512x2048 .bf16) (x3 : Vec F S2048x2048 .bf16) (f : BufTy.Contents (Elt F) arg.view.ty) :
    arg.view.read (Elt F) (arg.view.writes (Elt F) f [⟨Rect.unit (s := S512x2048) ![0, 0] S512x2048.size inb_S512x2048_S512x2048_0_0,
      k0_pay1 (View.readAt (Elt F) arg1.view (Rect.unit (s := S512x2048) ![0, 0] S512x2048.size inb_S512x2048_S512x2048_0_0).toLoadRect (h1.unread x0))
        (View.readAt (Elt F) arg4.view (Rect.unit (s := S2048x2048) ![0, 0] S2048x2048.size inb_S2048x2048_S2048x2048_0_0).toLoadRect (h4.unread x3))⟩]) = acc x0 x3 := by
  refine (View.read_writes_full _ _ _ _ _).trans ?_
  exact congr (congrArg k0_pay1 ((View.readAt_full arg1.view _ _).trans (h1.read_unread x0))) ((View.readAt_full arg4.view _ _).trans (h4.read_unread x3))

end OutS

end
-- ==== Proof.OutS.RunA.lean ====
module

public import proofs.«01_k».proof.Proof.OutS.Runs

@[expose] public section

/-! The body at the first point. -/

set_option maxRecDepth 16384

noncomputable section

namespace OutS

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point: it leaves the product of the first block. -/
theorem kernelRun0_A (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S132x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i) (hc2 : ¬cond0_2 i) (hc3 : ¬cond0_3 i)
    (x0 : Vec F S512x2048 .bf16) (x1 : Vec F S512x2048 .f32) (x2 : Vec F S132x2048 .f32) (x3 : Vec F S2048x2048 .bf16) (x4 : Vec F S1x2048 .f32) (p5 : Vec F S512x2048 .f32) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare p5 ∗ (∃ d, owns (c : Thread nD τ) arg7 fullShare d) ∗ (∃ d, owns (c : Thread nD τ) arg8 fullShare d) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare p5 ∗ owns (c : Thread nD τ) arg7 fullShare (acc x0 x3) ∗ (∃ d, owns (c : Thread nD τ) arg8 fullShare d) ∗ (∃ W', owes (c : Thread nD τ) 0 W')) -∗ K ⟨⟩))
          ⊢ wp frame (wpE (defs₀ (F := F)) Variants.none c none) Set.univ (cc0_out_proj i arg1 harg1 arg2 harg2 arg3 harg3 arg4 harg4 arg5 harg5 arg6 harg6 arg7 harg7 arg8 harg8) K := by
    intro W K
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, HW, Hk⟩
    obtain rfl := harg1.eq_unread hf0; obtain rfl := harg2.eq_unread hf1; obtain rfl := harg3.eq_unread hf2; obtain rfl := harg4.eq_unread hf3; obtain rfl := harg5.eq_unread hf4
    rw [dif_pos hc0, dif_neg hc1, dif_neg hc2, dif_neg hc3]
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; exact hf5
    isplitl [HS0]
    · iexists _; isplitr; swap; · iexact HS0
      ipureintro
      exact read_acc harg1 harg4 x0 x3 _
    isplitl [HS1]
    · iexists _, _; isplitr; swap; · iexact HS1
      ipureintro; rfl
    iexists _; iexact HW

end OutS

end
-- ==== Proof.OutS.RunC.lean ====
module

public import proofs.«01_k».proof.Proof.OutS.RunA

@[expose] public section

/-! The body at the middle point. -/

set_option maxRecDepth 16384

noncomputable section

namespace OutS

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → ℕ) = fun _ => 0 := by decide

theorem inb_row {o : Fin 2 → ℕ} {n : Fin 132} (ho : o = ![n.val, 0]) : ∀ a, o a + S1x2048.size a ≤ S132x2048.size a := by
  subst ho
  intro a
  fin_cases a
  · have := n.isLt
    show n.val + 1 ≤ 132
    omega
  · show 0 + 2048 ≤ 2048
    omega

/-- What the body reads of the gates at the offset `o`. -/
abbrev gateLd {arg3 : Memref sig .tc .vmem S132x2048 .f32} (h3 : arg3.IsWhole) (M : Vec F S132x2048 .f32) (o : Fin 2 → ℕ) (inb : ∀ a, o a + S1x2048.size a ≤ S132x2048.size a) : Vec F S1x2048 .f32 :=
  View.readAt (Elt F) arg3.view (Rect.unit (s := S132x2048) o S1x2048.size inb).toLoadRect (h3.unread M)

/-- A chunk computed from what the body reads is the chunk of the block's result. -/
theorem chunk_eq {arg2 : Memref sig .tc .vmem S512x2048 .f32} (h2 : arg2.IsWhole) {arg3 : Memref sig .tc .vmem S132x2048 .f32} (h3 : arg3.IsWhole) {arg5 : Memref sig .tc .vmem S1x2048 .f32} (h5 : arg5.IsWhole)
    {arg : Memref sig .tc .vmem S512x2048 .f32} (h : arg.IsWhole) (X A : Vec F S512x2048 .f32) (M : Vec F S132x2048 .f32) (G : Vec F S1x2048 .f32) (n : Fin 8 → Fin 8 → Fin 132) (k : Fin 8)
    (og : BitVec 32 → Fin 2 → ℕ) (hog : ∀ j : Fin 8, og (BitVec.ofNat 32 j.val) = ![(n k j).val, 0]) (o : Fin 2 → ℕ) (ho : o = ![64 * k.val, 0]) (inb : ∀ a, o a + S64x2048.size a ≤ S512x2048.size a) :
    normv (addf (shapeCast S64x2048 (View.readAt (Elt F) arg2.view (Rect.unit (s := S512x2048) o S64x2048.size inb).toLoadRect (h2.unread X)) shapeCasts_S64x2048_S64x2048)
      (mulf (concatenate S64x2048 0 [⟨S8x2048, row8 (gateLd h3 M (og 0#32) (inb_row (hog 0)))⟩, ⟨S8x2048, row8 (gateLd h3 M (og 1#32) (inb_row (hog 1)))⟩, ⟨S8x2048, row8 (gateLd h3 M (og 2#32) (inb_row (hog 2)))⟩, ⟨S8x2048, row8 (gateLd h3 M (og 3#32) (inb_row (hog 3)))⟩, ⟨S8x2048, row8 (gateLd h3 M (og 4#32) (inb_row (hog 4)))⟩, ⟨S8x2048, row8 (gateLd h3 M (og 5#32) (inb_row (hog 5)))⟩, ⟨S8x2048, row8 (gateLd h3 M (og 6#32) (inb_row (hog 6)))⟩, ⟨S8x2048, row8 (gateLd h3 M (og 7#32) (inb_row (hog 7)))⟩]
          concatenates_S8x2048_S8x2048_S8x2048_S8x2048_S8x2048_S8x2048_S8x2048_S8x2048_S64x2048_d0)
        (View.readAt (Elt F) arg.view (Rect.unit (s := S512x2048) o S64x2048.size inb).toLoadRect (h.unread A))))
      (View.readAt (Elt F) arg5.view (Rect.unit (s := S1x2048) ![0, 0] S1x2048.size inb_S1x2048_S1x2048_0_0).toLoadRect (h5.unread G)) = chunkOut X A M n G k := by
  unfold chunkOut chunkv spread gateLd
  rw [ld_chunk h2 X k o ho inb, ld_chunk h A k o ho inb, ld_full h5 G _ off0 _]
  rw [ld_row h3 M (n k 0) (og 0#32) (hog 0) _, ld_row h3 M (n k 1) (og 1#32) (hog 1) _, ld_row h3 M (n k 2) (og 2#32) (hog 2) _, ld_row h3 M (n k 3) (og 3#32) (hog 3) _, ld_row h3 M (n k 4) (og 4#32) (hog 4) _, ld_row h3 M (n k 5) (og 5#32) (hog 5) _, ld_row h3 M (n k 6) (og 6#32) (hog 6) _, ld_row h3 M (n k 7) (og 7#32) (hog 7) _]

set_option maxHeartbeats 4000000 in
/-- The body at the middle point: it leaves the product of its block and the result of the block before. -/
theorem kernelRun0_C (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S132x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i) (hc2 : cond0_2 i) (hc3 : ¬cond0_3 i)
    (x0 : Vec F S512x2048 .bf16) (x1 : Vec F S512x2048 .f32) (x2 : Vec F S132x2048 .f32) (x3 : Vec F S2048x2048 .bf16) (x4 : Vec F S1x2048 .f32) (n : Fin 8 → Fin 8 → Fin 132) (ho : ∀ k j : Fin 8, k0_off2 i (BitVec.ofNat 32 (64 * k.val)) (BitVec.ofNat 32 j.val) = ![(n k j).val, 0]) (A : Vec F S512x2048 .f32) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare A ∗ (∃ d, owns (c : Thread nD τ) arg8 fullShare d) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outv x1 A x2 n x4) ∗ (∃ d, owns (c : Thread nD τ) arg7 fullShare d) ∗ owns (c : Thread nD τ) arg8 fullShare (acc x0 x3) ∗ (∃ W', owes (c : Thread nD τ) 0 W')) -∗ K ⟨⟩))
          ⊢ wp frame (wpE (defs₀ (F := F)) Variants.none c none) Set.univ (cc0_out_proj i arg1 harg1 arg2 harg2 arg3 harg3 arg4 harg4 arg5 harg5 arg6 harg6 arg7 harg7 arg8 harg8) K := by
    intro W K
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, HW, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    rw [dif_neg hc0, dif_neg hc1, dif_pos hc2, dif_neg hc3]
    sl_open_parts
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      have e0 := chunk_eq harg2 harg3 harg5 harg7 x1 A x2 x4 n 0 (k0_off2 i 0#32) (fun j => ho 0 j) ![0, 0] rfl inb_S512x2048_S64x2048_0_0
      have e1 := chunk_eq harg2 harg3 harg5 harg7 x1 A x2 x4 n 1 (k0_off2 i 64#32) (fun j => ho 1 j) ![64, 0] rfl inb_S512x2048_S64x2048_64_0
      have e2 := chunk_eq harg2 harg3 harg5 harg7 x1 A x2 x4 n 2 (k0_off2 i 128#32) (fun j => ho 2 j) ![128, 0] rfl inb_S512x2048_S64x2048_128_0
      have e3 := chunk_eq harg2 harg3 harg5 harg7 x1 A x2 x4 n 3 (k0_off2 i 192#32) (fun j => ho 3 j) ![192, 0] rfl inb_S512x2048_S64x2048_192_0
      have e4 := chunk_eq harg2 harg3 harg5 harg7 x1 A x2 x4 n 4 (k0_off2 i 256#32) (fun j => ho 4 j) ![256, 0] rfl inb_S512x2048_S64x2048_256_0
      have e5 := chunk_eq harg2 harg3 harg5 harg7 x1 A x2 x4 n 5 (k0_off2 i 320#32) (fun j => ho 5 j) ![320, 0] rfl inb_S512x2048_S64x2048_320_0
      have e6 := chunk_eq harg2 harg3 harg5 harg7 x1 A x2 x4 n 6 (k0_off2 i 384#32) (fun j => ho 6 j) ![384, 0] rfl inb_S512x2048_S64x2048_384_0
      have e7 := chunk_eq harg2 harg3 harg5 harg7 x1 A x2 x4 n 7 (k0_off2 i 448#32) (fun j => ho 7 j) ![448, 0] rfl inb_S512x2048_S64x2048_448_0
      exact read_chunks _ x1 A x2 n x4 e0 e1 e2 e3 e4 e5 e6 e7
    isplitl [HS0]
    · iexists _, _; isplitr; swap; · iexact HS0
      ipureintro; rfl
    isplitl [HS1]
    · iexists _; isplitr; swap; · iexact HS1
      ipureintro
      exact read_acc harg1 harg4 x0 x3 _
    iexists _; iexact HW

end OutS

end
-- ==== Proof.OutS.RunL.lean ====
module

public import proofs.«01_k».proof.Proof.OutS.RunC

@[expose] public section

/-! The body at the last point. -/

set_option maxRecDepth 16384

noncomputable section

namespace OutS

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point: it leaves the result of the last block. -/
theorem kernelRun0_L (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S132x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i) (hc2 : ¬cond0_2 i) (hc3 : cond0_3 i)
    (x0 : Vec F S512x2048 .bf16) (x1 : Vec F S512x2048 .f32) (x2 : Vec F S132x2048 .f32) (x3 : Vec F S2048x2048 .bf16) (x4 : Vec F S1x2048 .f32) (n : Fin 8 → Fin 8 → Fin 132) (ho : ∀ k j : Fin 8, k0_off3 i (BitVec.ofNat 32 (64 * k.val)) (BitVec.ofNat 32 j.val) = ![(n k j).val, 0]) (A : Vec F S512x2048 .f32) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare A ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outv x1 A x2 n x4) ∗ (∃ d, owns (c : Thread nD τ) arg7 fullShare d) ∗ (∃ d, owns (c : Thread nD τ) arg8 fullShare d) ∗ (∃ W', owes (c : Thread nD τ) 0 W')) -∗ K ⟨⟩))
          ⊢ wp frame (wpE (defs₀ (F := F)) Variants.none c none) Set.univ (cc0_out_proj i arg1 harg1 arg2 harg2 arg3 harg3 arg4 harg4 arg5 harg5 arg6 harg6 arg7 harg7 arg8 harg8) K := by
    intro W K
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, HW, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs1
    rw [dif_neg hc0, dif_neg hc1, dif_neg hc2, dif_pos hc3]
    sl_open_parts
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      have e0 := chunk_eq harg2 harg3 harg5 harg8 x1 A x2 x4 n 0 (k0_off3 i 0#32) (fun j => ho 0 j) ![0, 0] rfl inb_S512x2048_S64x2048_0_0
      have e1 := chunk_eq harg2 harg3 harg5 harg8 x1 A x2 x4 n 1 (k0_off3 i 64#32) (fun j => ho 1 j) ![64, 0] rfl inb_S512x2048_S64x2048_64_0
      have e2 := chunk_eq harg2 harg3 harg5 harg8 x1 A x2 x4 n 2 (k0_off3 i 128#32) (fun j => ho 2 j) ![128, 0] rfl inb_S512x2048_S64x2048_128_0
      have e3 := chunk_eq harg2 harg3 harg5 harg8 x1 A x2 x4 n 3 (k0_off3 i 192#32) (fun j => ho 3 j) ![192, 0] rfl inb_S512x2048_S64x2048_192_0
      have e4 := chunk_eq harg2 harg3 harg5 harg8 x1 A x2 x4 n 4 (k0_off3 i 256#32) (fun j => ho 4 j) ![256, 0] rfl inb_S512x2048_S64x2048_256_0
      have e5 := chunk_eq harg2 harg3 harg5 harg8 x1 A x2 x4 n 5 (k0_off3 i 320#32) (fun j => ho 5 j) ![320, 0] rfl inb_S512x2048_S64x2048_320_0
      have e6 := chunk_eq harg2 harg3 harg5 harg8 x1 A x2 x4 n 6 (k0_off3 i 384#32) (fun j => ho 6 j) ![384, 0] rfl inb_S512x2048_S64x2048_384_0
      have e7 := chunk_eq harg2 harg3 harg5 harg8 x1 A x2 x4 n 7 (k0_off3 i 448#32) (fun j => ho 7 j) ![448, 0] rfl inb_S512x2048_S64x2048_448_0
      exact read_chunks _ x1 A x2 n x4 e0 e1 e2 e3 e4 e5 e6 e7
    isplitl [HS0]
    · iexists _, _; isplitr; swap; · iexact HS0
      ipureintro; rfl
    isplitl [HS1]
    · iexists _, _; isplitr; swap; · iexact HS1
      ipureintro; rfl
    iexists _; iexact HW

end OutS

end
-- ==== Proof.OutS.Body.lean ====
module

public import proofs.«01_k».proof.Proof.OutS.RunC
public import proofs.«01_k».proof.Proof.OutS.RunL

@[expose] public section

/-! The body at every point, and the run of the whole call. -/

set_option maxRecDepth 16384

noncomputable section

namespace OutS

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S512x2048 .bf16 := win0_0.stage (cfg0.slots t 0)
abbrev ms0_1 (t : Fin cfg0.N) : Memref sig .tc .vmem S512x2048 .f32 := win0_1.stage (cfg0.slots t 1)
abbrev ms0_2 (t : Fin cfg0.N) : Memref sig .tc .vmem S132x2048 .f32 := win0_2.stage (cfg0.slots t 2)
abbrev ms0_3 (t : Fin cfg0.N) : Memref sig .tc .vmem S2048x2048 .bf16 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S512x2048 .f32 := win0_5.stage (cfg0.slots t 5)

theorem npts : cfg0.N = 3 := N_0

/-- The point before. -/
def prevPt (n : ℕ) (h : n < 4) : Fin cfg0.N := ⟨n - 1, by rw [npts]; omega⟩

theorem lt_pts (t : Fin cfg0.N) : t.val < 4 := Nat.lt_succ_of_lt (lt_of_lt_of_eq t.isLt npts)
theorem lt_ends (t : Fin (cfg0.N + 1)) : t.val < 4 := lt_of_lt_of_eq t.isLt (congrArg (· + 1) npts)

/-- The row of the gates a point reads for the rows `64 k + 8 j` to `64 k + 8 j + 7`. -/
def gateRow (t : Fin cfg0.N) (k j : Fin 8) : Fin 132 := ⟨4 + 64 * (t.val - 1) + 8 * k.val + j.val, by have : t.val < 3 := lt_of_lt_of_eq t.isLt npts; omega⟩

theorem off2 : ∀ t : Fin cfg0.N, t.val = 1 → ∀ k j : Fin 8, k0_off2 (grid0.coords t) (BitVec.ofNat 32 (64 * k.val)) (BitVec.ofNat 32 j.val) = ![(gateRow t k j).val, 0] := by decide +kernel
theorem off3 : ∀ t : Fin cfg0.N, t.val = 2 → ∀ k j : Fin 8, k0_off3 (grid0.coords t) (BitVec.ofNat 32 (64 * k.val)) (BitVec.ofNat 32 j.val) = ![(gateRow t k j).val, 0] := by decide +kernel

/-- The product of point `t`'s block with the weights. -/
def accAt (c : Dev nD) (t : Fin cfg0.N) : Vec F S512x2048 .f32 := acc (iblk m c 0 t) (iblk m c 3 t)

/-- What point `t` leaves in the output block: the result of the block before. -/
def outAt (c : Dev nD) (t : Fin cfg0.N) : Vec F S512x2048 .f32 :=
  outv (iblk m c 1 t) (accAt m c (prevPt t.val (lt_pts t))) (iblk m c 2 t) (gateRow t) (iblk m c 4 t)

/-- The first buffer holds point `t`'s product. -/
def heldFst (c : Dev nD) (t : Fin cfg0.N) : sProp 𝕄 :=
  iprop(iprop(owns (c : Thread nD τ) scM0 fullShare (accAt m c t) ∗ (∃ d, owns (c : Thread nD τ) scM1 fullShare d)) ∗ (∃ r, prngReg c r))

/-- The second buffer holds point `t`'s product. -/
def heldSnd (c : Dev nD) (t : Fin cfg0.N) : sProp 𝕄 :=
  iprop(iprop((∃ d, owns (c : Thread nD τ) scM0 fullShare d) ∗ owns (c : Thread nD τ) scM1 fullShare (accAt m c t)) ∗ (∃ r, prngReg c r))

/-- What holds between the points: the two buffers in turn hold the last product. -/
def phiAt (c : Dev nD) (n : ℕ) (h : n < 4) : sProp 𝕄 :=
  if n = 0 ∨ n = 3 then Pipeline.ΦA spec0 c else if n % 2 = 1 then heldFst m c (prevPt n h) else heldSnd m c (prevPt n h)

/-- What the pipeline holds at each point, on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := phiAt m c t.val (lt_ends t)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem prev_succ (t : Fin cfg0.N) (h) : prevPt t.succ.val h = t := Fin.ext (by show t.val + 1 - 1 = t.val; omega)

theorem phi_succ_odd (c : Dev nD) (t : Fin cfg0.N) (ht : t.val % 2 = 1) : (dats m 0 c).Φ t.succ = heldSnd m c t := by
  show phiAt m c t.succ.val _ = _
  have hv : t.succ.val = t.val + 1 := rfl
  have := lt_pts t
  unfold phiAt
  rw [if_neg (by omega), if_neg (by omega), prev_succ]
theorem phi_succ_even (c : Dev nD) (t : Fin cfg0.N) (ht : t.val % 2 = 0) (hl : t.val < 2) : (dats m 0 c).Φ t.succ = heldFst m c t := by
  show phiAt m c t.succ.val _ = _
  have hv : t.succ.val = t.val + 1 := rfl
  unfold phiAt
  rw [if_neg (by omega), if_pos (by omega), prev_succ]
theorem phi_succ_last (c : Dev nD) (t : Fin cfg0.N) (ht : t.val = 2) : (dats m 0 c).Φ t.succ = Pipeline.ΦA spec0 c := by
  show phiAt m c t.succ.val _ = _
  have hv : t.succ.val = t.val + 1 := rfl
  unfold phiAt
  rw [if_pos (by omega)]
theorem phi_cast_first (c : Dev nD) (t : Fin cfg0.N) (ht : t.val = 0) : (dats m 0 c).Φ t.castSucc = Pipeline.ΦA spec0 c := by
  show phiAt m c t.castSucc.val _ = _
  have hv : t.castSucc.val = t.val := rfl
  unfold phiAt
  rw [if_pos (by omega)]
theorem phi_cast_odd (c : Dev nD) (t : Fin cfg0.N) (ht : t.val % 2 = 1) (hl : t.val < 2) : (dats m 0 c).Φ t.castSucc = heldFst m c (prevPt t.val (lt_pts t)) := by
  show phiAt m c t.castSucc.val _ = _
  have hv : t.castSucc.val = t.val := rfl
  unfold phiAt
  rw [if_neg (by omega), if_pos (by omega)]
  rfl
theorem phi_cast_even (c : Dev nD) (t : Fin cfg0.N) (ht : t.val % 2 = 0) (h0 : t.val ≠ 0) (hl : t.val < 3) : (dats m 0 c).Φ t.castSucc = heldSnd m c (prevPt t.val (lt_pts t)) := by
  show phiAt m c t.castSucc.val _ = _
  have hv : t.castSucc.val = t.val := rfl
  unfold phiAt
  rw [if_neg (by omega), if_neg (by omega)]
  rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input window's buffer is left as it was found. -/
theorem leaves0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves5 (c : Dev nD) (t : Fin cfg0.N) (ht : t.val ≠ 0) : (dats m 0 c).leavesExact 5 t = owns (c : Thread nD τ) (ms0_5 t) fullShare (outAt m c t) := by
  rw [show (dats m 0 c).leavesExact 5 t = owns (c : Thread nD τ) (ms0_5 t) fullShare ((dats m 0 c).after 5 t) from by
    unfold Dat.leavesExact; rw [idle5 t ht], after0_5]

set_option maxHeartbeats 1600000 in
/-- The body at the first point. -/
theorem sound_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  unfold Dat.owesAt Pipeline.owesWithin
  rw [show (dats m 0 c).owed t.castSucc = 0 from rfl, show (dats m 0 c).owed t.succ = 0 from rfl]
  rw [leaves0, leaves1, leaves2, leaves3, leaves4]
  rw [phi_cast_first m c t ht, phi_succ_even m c t (by omega) (by omega), PhiA0_eq]
  unfold heldFst accAt
  iintro ⟨⟨⟨HS0, HS1⟩, Hg⟩, ⟨%W, -, HW⟩, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ ((hcond0_0 t).mpr (by omega)) (fun h => (hcond0_1 t).mp h) (fun h => absurd ((hcond0_2 t).mp h) (by omega)) (fun h => absurd ((hcond0_3 t).mp h) (by omega)) (iblk m c 0 t) (iblk m c 1 t) (iblk m c 2 t) (iblk m c 3 t) (iblk m c 4 t) _) W _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HW]; · iexact HW
  iintro ⟨H0, H1, H2, H3, H4, H5, HS0, HS1, ⟨%W', HW'⟩⟩
  isplitl [HS0 HS1 Hg]
  · isplitl [HS0 HS1]
    · isplitl [HS0]; · iexact HS0
      iexact HS1
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  rw [(dats m 0 c).leavesExact_idle 5 t (idle5_first t ht) (flush5_first t ht)]
  iexists _; iexact H5

set_option maxHeartbeats 1600000 in
/-- The body at the middle point. -/
theorem sound_mid (c : Dev nD) (t : Fin cfg0.N) (h1 : t.val = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  unfold Dat.owesAt Pipeline.owesWithin
  rw [show (dats m 0 c).owed t.castSucc = 0 from rfl, show (dats m 0 c).owed t.succ = 0 from rfl]
  rw [leaves0, leaves1, leaves2, leaves3, leaves4]
  rw [leaves5 m c t (by omega)]
  rw [phi_cast_odd m c t (by omega) (by omega), phi_succ_odd m c t (by omega)]
  unfold heldFst heldSnd
  iintro ⟨⟨⟨HS0, HS1⟩, Hg⟩, ⟨%W, -, HW⟩, ⟨%d0, H0⟩, ⟨%d1, H1⟩, ⟨%d2, H2⟩, ⟨%d3, H3⟩, ⟨%d4, H4⟩, ⟨%d5, H5⟩⟩
  iapply ((kernelRun0_C c (grid0.coords t) _ _ _ _ _ _ _ _ _ _ _ _ _ _ _ _ (fun h => absurd ((hcond0_0 t).mp h) (by omega)) (fun h => (hcond0_1 t).mp h) ((hcond0_2 t).mpr (by omega)) (fun h => absurd ((hcond0_3 t).mp h) (by omega)) (iblk m c 0 t) (iblk m c 1 t) (iblk m c 2 t) (iblk m c 3 t) (iblk m c 4 t) (gateRow t) (off2 t (by omega))  (accAt m c (prevPt t.val (lt_pts t)))) W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HW]; · iexact HW
  iintro ⟨H0, H1, H2, H3, H4, H5, HS0, HS1, ⟨%W', HW'⟩⟩
  isplitl [HS0 HS1 Hg]
  · isplitl [HS0 HS1]
    · isplitl [HS0]; · iexact HS0
      iexact HS1
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

set_option maxHeartbeats 1600000 in
/-- The body at the last point. -/
theorem sound_last (c : Dev nD) (t : Fin cfg0.N) (ht : t.val = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  unfold Dat.owesAt Pipeline.owesWithin
  rw [show (dats m 0 c).owed t.castSucc = 0 from rfl, show (dats m 0 c).owed t.succ = 0 from rfl]
  rw [leaves0, leaves1, leaves2, leaves3, leaves4]
  rw [leaves5 m c t (by omega)]
  rw [phi_cast_even m c t (by omega) (by omega) (by omega), phi_succ_last m c t ht, PhiA0_eq]
  unfold heldSnd
  iintro ⟨⟨⟨HS0, HS1⟩, Hg⟩, ⟨%W, -, HW⟩, ⟨%d0, H0⟩, ⟨%d1, H1⟩, ⟨%d2, H2⟩, ⟨%d3, H3⟩, ⟨%d4, H4⟩, ⟨%d5, H5⟩⟩
  iapply ((kernelRun0_L c (grid0.coords t) _ _ _ _ _ _ _ _ _ _ _ _ _ _ _ _ (fun h => absurd ((hcond0_0 t).mp h) (by omega)) (fun h => (hcond0_1 t).mp h) (fun h => absurd ((hcond0_2 t).mp h) (by omega)) ((hcond0_3 t).mpr (by omega)) (iblk m c 0 t) (iblk m c 1 t) (iblk m c 2 t) (iblk m c 3 t) (iblk m c 4 t) (gateRow t) (off3 t (by omega))  (accAt m c (prevPt t.val (lt_pts t)))) W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HW]; · iexact HW
  iintro ⟨H0, H1, H2, H3, H4, H5, HS0, HS1, ⟨%W', HW'⟩⟩
  isplitl [HS0 HS1 Hg]
  · isplitl [HS0 HS1]
    · isplitl [HS0]; · iexact HS0
      iexact HS1
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body at any point does what `dats` says of it. -/
theorem sound_body (c : Dev nD) (t : Fin cfg0.N) :
    bodyPre m c t ⊢ wp frame (wpE (defs₀ (F := F)) Variants.none c none) Set.univ (bodyAt0 t) (fun _ => bodyPost m c t) := by
  have hN : t.val < 3 := lt_of_lt_of_eq t.isLt npts
  by_cases h0 : t.val = 0
  · exact sound_first m c t h0
  by_cases hl : t.val = 2
  · exact sound_last m c t hl
  exact sound_mid m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_start (c : Dev nD) : (dats m 0 c).Φ 0 = Pipeline.ΦA spec0 c := by
  show phiAt m c 0 (by decide) = _
  unfold phiAt; rw [if_pos (Or.inl rfl)]
theorem phi_end (c : Dev nD) : (dats m 0 c).Φ (Fin.last cfg0.N) = Pipeline.ΦA spec0 c := by
  show phiAt m c (Fin.last cfg0.N).val (lt_ends _) = _
  unfold phiAt; rw [if_pos (Or.inr (by show cfg0.N = 3; exact npts))]

set_option backward.isDefEq.respectTransparency.types false in
/-- The run of the whole call: the arrays end as `dats` says, everything else as it was, the counters at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => (phi_start m c).symm ▸ .rfl) (hout := fun c => (phi_end m c) ▸ .rfl)

/-- A run that ends as the pipeline says leaves the arguments as they were. -/
theorem args_kept (r) (h : Pipeline.FramePost cfgs (dats m) 0 (V m) r ∧ r.2.sem = fun _ => 0) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h.1 c).1 0).trans (((dats m 0 c).arrAt_in 0 rfl _).trans ((A_eq m c 0).trans (V_main_arg0 m c))),
    ((h.1 c).2 main_arg1 (Pipeline.mem_restRefs_of main_arg1 (by decide) (by decide))).trans (V_main_arg1 m c),
    ((h.1 c).1 2).trans (((dats m 0 c).arrAt_in 2 rfl _).trans ((A_eq m c 2).trans (V_main_arg2 m c))),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩

/-- The program leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m _ h, h.2⟩) (run_main m ρ)

end OutS

end
-- ==== Proof.OutS.Rows.lean ====
module

public import proofs.«01_k».proof.Proof.OutP.Row
public import proofs.«01_k».proof.Proof.OutS.Body
public import Idealize.ShloMosaic.Lib.Pointwise
import Idealize.ShloMosaic.Lib.Pipeline.ValueKit

@[expose] public section

/-! What the kernel makes of a block, read at an index. -/

set_option maxRecDepth 65536

noncomputable section

namespace OutS

open Idealize.ShloMosaic Idealize.ShloMosaic.TcCoe Idealize.ShloMosaic.Tactic Idealize.SL.Sem
open Cert.Kernel4Ideal Cert.Kernel4Ideal.Gen
open OutP (normed gated gated_congr)

theorem row8_at (b : FVec Ideal S1x2048 .f32) (r : Fin 8) (d : Fin 2048) : row8 (F := Ideal) b (ix2 r d) = b (ix2 0 d) := by
  unfold row8
  pointwise

theorem spread_list (b : Fin 8 → FVec Ideal S1x2048 .f32) : spread (F := Ideal) b
    = concatenate S64x2048 0 (List.ofFn fun n : Fin 8 => (⟨S8x2048, row8 (F := Ideal) (b n)⟩ : (s : Shape) × (s.Idx → Elt Ideal .f32)))
      concatenates_S8x2048_S8x2048_S8x2048_S8x2048_S8x2048_S8x2048_S8x2048_S8x2048_S64x2048_d0 := rfl

theorem spread_at (b : Fin 8 → FVec Ideal S1x2048 .f32) (r : Fin 64) (d : Fin 2048) :
    spread (F := Ideal) b (ix2 r d) = b ⟨r.val / 8, by omega⟩ (ix2 0 d) := by
  refine Eq.trans ?_ (row8_at (b ⟨r.val / 8, by omega⟩) ⟨r.val % 8, Nat.mod_lt _ (by decide)⟩ d)
  rw [spread_list]
  refine concatenate_ofFn_apply (t := S64x2048) 0 (fun n => row8 (F := Ideal) (b n)) _ rfl 8 rfl (ix2 r d) ⟨r.val / 8, by omega⟩ rfl (ix2 ⟨r.val % 8, Nat.mod_lt _ (by decide)⟩ d) rfl fun a ha => ?_
  fin_cases a
  · exact absurd rfl ha
  · rfl

theorem normv_at (y : FVec Ideal S64x2048 .f32) (G : FVec Ideal S1x2048 .f32) (r : Fin 64) (d : Fin 2048) :
    normv (F := Ideal) y G (ix2 r d) = normed (fun k => y (ix2 r k)) d * G (ix2 0 d) := by
  unfold normed normv
  pointwise

theorem sum_at (x a w : FVec Ideal S64x2048 .f32) (r : Fin 64) (k : Fin 2048) :
    addf (F := Ideal) (shapeCast S64x2048 x shapeCasts_S64x2048_S64x2048) (mulf w a) (ix2 r k) = x (ix2 r k) + w (ix2 r k) * a (ix2 r k) := by
  pointwise

theorem chunkv_at (G : FVec Ideal S1x2048 .f32) (b : Fin 8 → FVec Ideal S1x2048 .f32) (x a : FVec Ideal S64x2048 .f32) (r : Fin 64) (d : Fin 2048) :
    chunkv (F := Ideal) G b x a (ix2 r d)
      = gated (fun k => x (ix2 r k)) (fun k => a (ix2 r k)) (fun k => b ⟨r.val / 8, by omega⟩ (ix2 0 k)) (fun k => G (ix2 0 k)) d := by
  unfold chunkv gated
  rw [normv_at]
  refine congrArg (fun f : Fin 2048 → EReal => normed f d * G (ix2 0 d)) (funext fun k => ?_)
  rw [sum_at, spread_at]

theorem acc_at (a : FVec Ideal S512x2048 .bf16) (w : FVec Ideal S2048x2048 .bf16) (r : Fin 512) (j : Fin 2048) :
    acc (F := Ideal) a w (ix2 r j) = ∑ d : Fin 2048, a (ix2 r d) * w (ix2 d j) := by
  unfold acc
  pointwise [k0_pay1]

theorem outv_at (X A : FVec Ideal S512x2048 .f32) (M : FVec Ideal S132x2048 .f32) (n : Fin 8 → Fin 8 → Fin 132) (G : FVec Ideal S1x2048 .f32) (r : Fin 512) (d : Fin 2048) :
    outv (F := Ideal) X A M n G (ix2 r d)
      = gated (fun k => X (ix2 r k)) (fun k => A (ix2 r k)) (fun k => M (ix2 (n ⟨r.val / 64, by omega⟩ ⟨r.val % 64 / 8, by omega⟩) k)) (fun k => G (ix2 0 k)) d := by
  have e : 64 * (r.val / 64) + r.val % 64 = r.val := by omega
  have f (Y : FVec Ideal S512x2048 .f32) (k : Fin 2048) :
      chunkOf (F := Ideal) Y ⟨r.val / 64, by omega⟩ (ix2 (⟨r.val % 64, Nat.mod_lt _ (by decide)⟩ : Fin 64) k) = Y (ix2 r k) :=
    congrArg Y (congrArg (fun q : Fin 512 => (ix2 q k : S512x2048.Idx)) (Fin.ext e))
  refine (chunkv_at G _ _ _ (⟨r.val % 64, Nat.mod_lt _ (by decide)⟩ : Fin 64) d).trans ?_
  exact gated_congr (f X) (f A) (fun _ => rfl) (fun _ => rfl) d

end OutS

end
-- ==== Proof.OutS.RefAt.lean ====
module

public import proofs.«01_k».proof.Proof.OutP.Row
public import proofs.«01_k».proof.Proof.Gen.Reference4Ideal.Read
public import Idealize.ShloMosaic.Lib.Pointwise
import Idealize.ShloMosaic.Lib.Pipeline.ValueKit

@[expose] public section

/-! What the reference's result holds, read at an index. -/

set_option maxRecDepth 65536

noncomputable section

namespace OutS

open Idealize.ShloMosaic Idealize.ShloMosaic.TcCoe Idealize.ShloMosaic.Tactic Idealize.SL.Sem
open Cert.Reference4Ideal Cert.Reference4Ideal.Read
open OutP (normed gated)

variable (x0 : FVec Ideal S1024x2048 .bf16) (x1 : FVec Ideal S128x8x2048 .f32) (x2 : FVec Ideal S132x6144 .f32) (x3 : FVec Ideal S1x2048x2048 .f32) (x4 : FVec Ideal S2048 .f32)

theorem v6_at (b : Fin 128) (s : Fin 8) (d : Fin 2048) : val_main_v6 (F := Ideal) x0 (ix3 b s d) = x0 (ix2 ⟨b.val * 8 + s.val, by omega⟩ d) := by
  pointwise [val_main_v6, val_main_v5]

theorem v7_at (d j : Fin 2048) : val_main_v7 (F := Ideal) x3 (ix2 d j) = x3 (ix3 0 d j) := by
  pointwise [val_main_v7]

theorem v8_at (b : Fin 128) (s : Fin 8) (j : Fin 2048) :
    val_main_v8 (F := Ideal) x0 x3 (ix3 b s j) = ∑ d : Fin 2048, x0 (ix2 ⟨b.val * 8 + s.val, by omega⟩ d) * x3 (ix3 0 d j) := by
  refine (val_main_v8_apply x0 x3 _).trans (Finset.sum_congr rfl fun d _ => ?_)
  refine congrArg₂ (· * ·) (Eq.trans (congrArg _ ?_) (v6_at x0 b s d)) (Eq.trans (congrArg _ ?_) (v7_at x3 d j))
  · funext a; fin_cases a <;> rfl
  · funext a; fin_cases a <;> rfl

theorem v9_at (b : Fin 128) (s : Fin 8) (d : Fin 2048) : val_main_v9 (F := Ideal) x2 (ix3 b s d) = x2 (ix2 ⟨4 + b.val, by omega⟩ ⟨4096 + d.val, by omega⟩) := by
  pointwise [val_main_v9, val_main_v4, val_main_v3, val_main_v0]

/-- Row `(b, s)` before it is normalised. -/
def yRow (b : Fin 128) (s : Fin 8) (d : Fin 2048) : EReal :=
  x1 (ix3 b s d) + x2 (ix2 ⟨4 + b.val, by omega⟩ ⟨4096 + d.val, by omega⟩) * ∑ k : Fin 2048, x0 (ix2 ⟨b.val * 8 + s.val, by omega⟩ k) * x3 (ix3 0 k d)

theorem v11_at (b : Fin 128) (s : Fin 8) (d : Fin 2048) : val_main_v11 (F := Ideal) x0 x1 x2 x3 (ix3 b s d) = yRow x0 x1 x2 x3 b s d :=
  congrArg (x1 (ix3 b s d) + ·) (congrArg₂ (· * ·) (v9_at x2 b s d) (v8_at x0 x3 b s d))

theorem v24_at (b : Fin 128) (s : Fin 8) (d : Fin 2048) :
    val_main_v24 (F := Ideal) x0 x1 x2 x3 x4 (ix3 b s d) = normed (fun k => val_main_v11 (F := Ideal) x0 x1 x2 x3 (ix3 b s k)) d * x4 (ix1 d) := by
  unfold normed
  unfold val_main_v24 val_main_v21 val_main_v20 val_main_v19 val_main_v18 val_main_v16 val_main_v14 val_main_v13 val_main_v12
  generalize val_main_v11 (F := Ideal) x0 x1 x2 x3 = w
  pointwise [val_main_v23, val_main_v22, val_main_v17, val_main_v15, val_main_cst, val_main_cst_0, val_main_cst_1]

/-- The result at row `n` and column `d`. -/
theorem v25_at (n : Fin 1024) (d : Fin 2048) :
    val_main_v25 (F := Ideal) x0 x1 x2 x3 x4 (ix2 n d)
      = gated (fun k => x1 (ix3 ⟨n.val / 8, by omega⟩ ⟨n.val % 8, by omega⟩ k)) (fun k => ∑ j : Fin 2048, x0 (ix2 n j) * x3 (ix3 0 j k))
          (fun k => x2 (ix2 ⟨4 + n.val / 8, by omega⟩ ⟨4096 + k.val, by omega⟩)) (fun k => x4 (ix1 k)) d := by
  have e : val_main_v25 (F := Ideal) x0 x1 x2 x3 x4 (ix2 n d) = val_main_v24 (F := Ideal) x0 x1 x2 x3 x4 (ix3 ⟨n.val / 8, by omega⟩ ⟨n.val % 8, by omega⟩ d) := by
    unfold val_main_v25
    generalize val_main_v24 (F := Ideal) x0 x1 x2 x3 x4 = y
    pointwise
  have hn : n.val / 8 * 8 + n.val % 8 = n.val := by omega
  have f (k : Fin 2048) : val_main_v11 (F := Ideal) x0 x1 x2 x3 (ix3 ⟨n.val / 8, by omega⟩ ⟨n.val % 8, by omega⟩ k)
      = x1 (ix3 ⟨n.val / 8, by omega⟩ ⟨n.val % 8, by omega⟩ k) + x2 (ix2 ⟨4 + n.val / 8, by omega⟩ ⟨4096 + k.val, by omega⟩) * ∑ j : Fin 2048, x0 (ix2 n j) * x3 (ix3 0 j k) := by
    refine (v11_at x0 x1 x2 x3 _ _ k).trans ?_
    unfold yRow
    exact congrArg (fun q : Fin 1024 => x1 (ix3 ⟨n.val / 8, by omega⟩ ⟨n.val % 8, by omega⟩ k) + x2 (ix2 ⟨4 + n.val / 8, by omega⟩ ⟨4096 + k.val, by omega⟩) * ∑ j : Fin 2048, x0 (ix2 q j) * x3 (ix3 0 j k)) (Fin.ext hn)
  refine (e.trans (v24_at x0 x1 x2 x3 x4 _ _ d)).trans ?_
  unfold gated
  rw [funext f]

end OutS

end
-- ==== Proof.OutS.Arrays.lean ====
module

public import proofs.«01_k».proof.Proof.OutS.Rows
public import proofs.«01_k».proof.Proof.OutS.RefAt
import Idealize.ShloMosaic.Lib.Pipeline.ValueKit

@[expose] public section

/-! What the kernel's result array holds at the end: what the reference's stages name. -/

set_option maxRecDepth 65536

noncomputable section

namespace OutS

open Idealize.ShloMosaic Idealize.ShloMosaic.TcCoe Idealize.ShloMosaic.Tactic Idealize.SL.Sem
open Cert.Kernel4Ideal Cert.Kernel4Ideal.Gen
open OutP (normed gated gated_congr)

theorem idx : ∀ t : Fin cfg0.N, win0_0.index t = ![min t.val 1, 0] ∧ win0_1.index t = ![t.val - 1, 0] ∧ win0_2.index t = ![0, 2] ∧ win0_3.index t = ![0, 0] ∧ win0_4.index t = ![0, 0]
    ∧ win0_5.index t = ![t.val - 1, 0] := by
  decide +kernel

variable (m : (ℓ : Loc nD τ sig) → Buf (Elt Ideal) ℓ) (c : Dev nD) (t : Fin cfg0.N)

/-- The arguments the reference takes. -/
abbrev A0 : FVec Ideal S1024x2048 .bf16 := m ((c : Thread nD τ).loc main_arg0)
abbrev A1 : FVec Ideal S128x8x2048 .f32 := m ((c : Thread nD τ).loc main_arg1)
abbrev A2 : FVec Ideal S132x6144 .f32 := m ((c : Thread nD τ).loc main_arg2)
abbrev A3 : FVec Ideal S1x2048x2048 .f32 := m ((c : Thread nD τ).loc main_arg3)
abbrev A4 : FVec Ideal S2048 .f32 := m ((c : Thread nD τ).loc main_arg4)

theorem x_at (x : FVec Ideal S128x8x2048 .f32) (n : Fin 1024) (d : Fin 2048) :
    shapeCast S1024x2048 x shapeCasts_S128x8x2048_S1024x2048 (ix2 n d) = x (ix3 ⟨n.val / 8, by omega⟩ ⟨n.val % 8, by omega⟩ d) := by
  pointwise

theorem w_at (x : FVec Ideal S1x2048x2048 .f32) (j d : Fin 2048) :
    truncf (F := Ideal) .bf16 (shapeCast S2048x2048 x shapeCasts_S1x2048x2048_S2048x2048) bitsLt_bf16_f32 (ix2 j d) = x (ix3 0 j d) := by
  pointwise

theorem g_at (x : FVec Ideal S2048 .f32) (r : Fin 1) (d : Fin 2048) : shapeCast S1x2048 x shapeCasts_S2048_S1x2048 (ix2 r d) = x (ix1 d) := by
  pointwise

theorem V_x : @Eq (FVec Ideal S1024x2048 .f32) (V m c main_v0) (shapeCast S1024x2048 (A1 m c) shapeCasts_S128x8x2048_S1024x2048) := rfl
theorem V_w : @Eq (FVec Ideal S2048x2048 .bf16) (V m c main_v2) (truncf (F := Ideal) .bf16 (shapeCast S2048x2048 (A3 m c) shapeCasts_S1x2048x2048_S2048x2048) bitsLt_bf16_f32) := rfl
theorem V_g : @Eq (FVec Ideal S1x2048 .f32) (V m c main_v3) (shapeCast S1x2048 (A4 m c) shapeCasts_S2048_S1x2048) := rfl

/-- Row `r` of block `n`. -/
def brow (n : ℕ) (hn : n < 2) (r : Fin 512) : Fin 1024 := ⟨n * 512 + r.val, by omega⟩

theorem blk0 (ht : t.val < 2) (r : Fin 512) (d : Fin 2048) : (iblk m c 0 t : Vec Ideal S512x2048 .bf16) (ix2 r d) = A0 m c (ix2 (brow t.val ht r) d) := by
  have e : min t.val 1 = t.val := by omega
  have hi := (idx t).1
  rw [e] at hi
  unfold brow
  blk_ext [iblk, V, hi]

theorem ltn : t.val - 1 < 2 := by have : t.val < 3 := lt_of_lt_of_eq t.isLt npts; omega

theorem blk1 (r : Fin 512) (d : Fin 2048) : (iblk m c 1 t : Vec Ideal S512x2048 .f32) (ix2 r d)
    = A1 m c (ix3 ⟨(brow (t.val - 1) (ltn t) r).val / 8, by omega⟩ ⟨(brow (t.val - 1) (ltn t) r).val % 8, by omega⟩ d) := by
  have e : (iblk m c 1 t : Vec Ideal S512x2048 .f32) (ix2 r d) = (V m c main_v0 : Vec Ideal S1024x2048 .f32) (ix2 (brow (t.val - 1) (ltn t) r) d) := by
    unfold brow
    blk_ext [iblk, idx t]
  exact (e.trans (congrFun (V_x m c) _)).trans (x_at _ _ _)

theorem blk2 (r : Fin 132) (d : Fin 2048) : (iblk m c 2 t : Vec Ideal S132x2048 .f32) (ix2 r d) = A2 m c (ix2 r ⟨4096 + d.val, by omega⟩) := by
  blk_ext [iblk, V, idx t]

theorem blk3 (r d : Fin 2048) : (iblk m c 3 t : Vec Ideal S2048x2048 .bf16) (ix2 r d) = A3 m c (ix3 0 r d) := by
  have e : (iblk m c 3 t : Vec Ideal S2048x2048 .bf16) (ix2 r d) = (V m c main_v2 : Vec Ideal S2048x2048 .bf16) (ix2 r d) := by
    blk_ext [iblk, idx t]
  exact (e.trans (congrFun (V_w m c) _)).trans (w_at _ _ _)

theorem blk4 (r : Fin 1) (d : Fin 2048) : (iblk m c 4 t : Vec Ideal S1x2048 .f32) (ix2 r d) = A4 m c (ix1 d) := by
  have e : (iblk m c 4 t : Vec Ideal S1x2048 .f32) (ix2 r d) = (V m c main_v3 : Vec Ideal S1x2048 .f32) (ix2 r d) := by
    blk_ext [iblk, idx t]
  exact (e.trans (congrFun (V_g m c) _)).trans (g_at _ _ _)

/-- The result the reference's stages name. -/
abbrev G25 : FVec Ideal S1024x2048 .f32 := Cert.Reference4Ideal.Read.val_main_v25 (F := Ideal) (A0 m c) (A1 m c) (A2 m c) (A3 m c) (A4 m c)

theorem accAt_at (ht : t.val < 2) (r : Fin 512) (d : Fin 2048) :
    accAt m c t (ix2 r d) = ∑ j : Fin 2048, A0 m c (ix2 (brow t.val ht r) j) * A3 m c (ix3 0 j d) := by
  refine (acc_at _ _ r d).trans ?_
  exact Finset.sum_congr rfl fun j _ => congrArg₂ (· * ·) (blk0 m c t ht r j) (blk3 m c t j d)

theorem out5 (r : Fin 512) (d : Fin 2048) : outAt m c t (ix2 r d) = G25 m c (ix2 (brow (t.val - 1) (ltn t) r) d) := by
  refine Eq.trans ?_ (v25_at _ _ _ _ _ (brow (t.val - 1) (ltn t) r) d).symm
  refine (outv_at _ _ _ _ _ r d).trans ?_
  refine gated_congr (blk1 m c t r) (fun k => accAt_at m c (prevPt t.val (lt_pts t)) (ltn t) r k) (fun k => ?_) (fun k => blk4 m c t 0 k) d
  refine (blk2 m c t (gateRow t _ _) k).trans ?_
  refine congrArg (fun q : Fin 132 => A2 m c (ix2 q ⟨4096 + k.val, by omega⟩)) (Fin.ext ?_)
  show 4 + 64 * (t.val - 1) + 8 * (r.val / 64) + r.val % 64 / 8 = 4 + ((t.val - 1) * 512 + r.val) / 8
  omega

theorem arr5 : (dats m 0 c).arrAt 5 cfg0.N = G25 m c := by
  refine (dats m 0 c).arrAt_eq_of_covers 5 _ (by decide +kernel) fun t hf y => ?_
  blk_simp
  rw [after0_5]
  obtain ⟨r, p, rfl⟩ : ∃ (r : Fin 512) (p : Fin 2048), y = ix2 r p := ⟨y 0, y 1, by funext a; fin_cases a <;> rfl⟩
  refine (out5 m c t r p).trans ?_
  refine congrArg (G25 m c) ?_
  unfold brow
  blk_ext [idx t]

end OutS

end
-- ==== Proof.OutS.Claims.lean ====
module

public import proofs.«01_k».proof.Defs
public import proofs.«01_k».proof.Proof.OutS.Arrays
public import proofs.«01_k».proof.Proof.Gen.Kernel4
public import proofs.«01_k».proof.Proof.Gen.Reference4Ideal.Read
public import Idealize.ShloMosaic.Lib.Quiescent

@[expose] public section

/-! The claims about the output projection of the decoding batch. -/

set_option maxRecDepth 65536

noncomputable section

namespace OutS

open Idealize.ShloMosaic Idealize.ShloMosaic.TcCoe Idealize.ShloMosaic.Tactic Idealize.SL.Sem

theorem frame_ideal : Cert.quiescent_Kernel4Ideal := fun m ρ _ => frame (F := Ideal) m ρ

/-- The body tables of the two programs are one. -/
theorem defs₀_eq : Cert.Kernel4.defs₀ (F := Bits) = Cert.Kernel4Ideal.defs₀ (F := Bits) := by
  unfold Cert.Kernel4.defs₀ Cert.Kernel4Ideal.defs₀
  refine congrArg Defs.onTc ?_
  funext l a
  match l, a with
  | 0, (t, s) => rfl
  | ⟨n + 1, h⟩, x => exact absurd h (Nat.not_lt.2 (Nat.le_add_left _ _))

theorem defs_eq : Cert.Kernel4.defs (F := Bits) = Cert.Kernel4Ideal.defs (F := Bits) :=
  congrArg (Pipeline.defs (Cert.Kernel4Ideal.pcfgs (F := Bits))) defs₀_eq

/-- The program as compiled has the ideal program's text: its frame is the ideal one's, over machine floats. -/
theorem frame_kernel : Cert.quiescent_Kernel4 := fun m ρ _ => by
  rw [defs_eq]
  exact frame (F := Bits) m ρ

/-- The reference's run read at the arguments; it has no semaphore. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel's run with its result named. -/
theorem run_results (m : (ℓ : Loc Cert.Kernel4Ideal.nD Cert.Kernel4Ideal.τ Cert.Kernel4Ideal.sig) → Buf (Elt Ideal) ℓ) (ρ : Dev Cert.Kernel4Ideal.nD → PrngReg) :
    θ_run Cert.Kernel4Ideal.defs (onTc (τ := Cert.Kernel4Ideal.τ) (Cert.Kernel4Ideal.main (F := Ideal))) ⟨m, fun _ => 0, ρ⟩ (fun r => ∀ c : Dev Cert.Kernel4Ideal.nD,
      r.2.mem ((c.tc : Thread Cert.Kernel4Ideal.nD Cert.Kernel4Ideal.τ).loc Cert.Kernel4Ideal.main_v4) = G25 m c
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)) :=
  (θ_run Cert.Kernel4Ideal.defs _ _).mono (fun _ h c => ⟨((h.1 c).1 5).trans (arr5 m c), args_kept m _ h c⟩) (run_main (F := Ideal) m ρ)

/-- Kernel and reference, run from equal arguments, leave the same result. -/
theorem algebraic : Cert.algebraic_Kernel4Ideal_Reference4Ideal := by
  intro m ρ m' ρ' hpre hagree
  refine ⟨fun c => G25 m c, run_results m ρ, ?_⟩
  refine (θ_run Cert.Reference4Ideal.defs _ _).mono (fun r h c => ?_) (Cert.Reference4Ideal.Value.run (F := Ideal) m' ρ')
  obtain ⟨a0, a1, a2, a3, a4⟩ := hagree c
  refine ⟨?_, (h c).2⟩
  refine ((h c).1.trans (Cert.Reference4Ideal.Read.val_main_v25_eq (F := Ideal) _ _ _ _ _)).trans ?_
  rw [a0, a1, a2, a3, a4]

theorem preserves : Cert.preserves_Kernel4_Kernel4Ideal := trivial

end OutS

end
-- ==== Proof.Mod.Rows.lean ====
module

public import proofs.«01_k».proof.Proof.Gen.Kernel5Ideal.Frame
public import proofs.«01_k».proof.Proof.Gen.Reference5Ideal.Read
public import Idealize.ShloMosaic.Lib.Pointwise
import Idealize.ShloMosaic.Lib.Pipeline.ValueKit

@[expose] public section

/-! The modulation at an index: what the kernel makes of a block of columns, and what the reference holds. -/

set_option maxRecDepth 65536

noncomputable section

namespace Mod

open Idealize.ShloMosaic Idealize.ShloMosaic.TcCoe Idealize.ShloMosaic.Tactic Idealize.SL.Sem

/-- The modulation: a row's SiLU times a column of the weights, plus the bias. -/
def modv (x w : Fin 2048 → EReal) (b : EReal) : EReal := (∑ k : Fin 2048, x k * Ideal.logistic (x k) * w k) + b

theorem modv_congr {x x' w w' : Fin 2048 → EReal} {b b' : EReal} (hx : ∀ k, x k = x' k) (hw : ∀ k, w k = w' k) (hb : b = b') : modv x w b = modv x' w' b' := by
  obtain rfl := funext hx; obtain rfl := funext hw; obtain rfl := hb
  rfl

section
open Cert.Kernel5Ideal Cert.Kernel5Ideal.Gen

theorem pay_at (x : FVec Ideal S132x2048 .f32) (w : FVec Ideal S2048x1024 .f32) (b : FVec Ideal S1x1024 .f32) (r : Fin 132) (j : Fin 1024) :
    k0_pay1 (F := Ideal) x w b (ix2 r j) = modv (fun k => x (ix2 r k)) (fun k => w (ix2 k j)) (b (ix2 0 j)) := by
  unfold modv
  pointwise [k0_pay1]

theorem out_at (x : FVec Ideal S132x2048 .f32) (w : FVec Ideal S2048x1024 .f32) (b : FVec Ideal S1x1024 .f32) (r : Fin 132) (j : Fin 1024) :
    out0_3 (F := Ideal) x w b (ix2 r j) = modv (fun k => x (ix2 r k)) (fun k => w (ix2 k j)) (b (ix2 0 j)) := by
  have hz : (![0, 0] : Fin 2 → ℕ) = fun _ => 0 := by decide
  have e : out0_3 (F := Ideal) x w b = k0_pay1 (F := Ideal) x w b := by
    unfold out0_3
    rw [View.canon_unit_zero hz, View.ld_unit_zero hz, View.ld_unit_zero hz, View.ld_unit_zero hz]
  rw [e]
  exact pay_at x w b r j

/-- The two batches' conditioning rows, one under the other. -/
theorem rows_at (a : FVec Ideal S4x2048 .f32) (b : FVec Ideal S128x2048 .f32) (r : Fin 132) (d : Fin 2048) :
    concatenate S132x2048 0 [⟨S4x2048, a⟩, ⟨S128x2048, b⟩] concatenates_S4x2048_S128x2048_S132x2048_d0 (ix2 r d)
      = if h : r.val < 4 then a (ix2 ⟨r.val, h⟩ d) else b (ix2 ⟨r.val - 4, by omega⟩ d) := by
  by_cases h : r.val < 4
  · rw [dif_pos h]
    exact concatenate_pair_apply_left (t := S132x2048) (s₁ := S4x2048) (s₂ := S128x2048) 0 a b _ (ix2 r d) rfl (ix2 ⟨r.val, h⟩ d) fun q => by
      fin_cases q <;> rfl
  · rw [dif_neg h]
    refine concatenate_pair_apply_right (t := S132x2048) (s₁ := S4x2048) (s₂ := S128x2048) 0 a b _ (ix2 r d) rfl rfl (ix2 ⟨r.val - 4, by omega⟩ d) (fun q hq => ?_) ?_
    · fin_cases q
      · exact absurd rfl hq
      · rfl
    · show r.val - 4 + 4 = r.val
      omega

end

open Cert.Reference5Ideal Cert.Reference5Ideal.Read

variable (x0 : FVec Ideal S4x2048 .f32) (x1 : FVec Ideal S128x2048 .f32) (x2 : FVec Ideal S1x2048x6144 .f32) (x3 : FVec Ideal S1x6144 .f32)

theorem v0_at (r : Fin 4) (d : Fin 2048) : val_main_v0 (F := Ideal) x0 (ix2 r d) = x0 (ix2 r d) * Ideal.logistic (x0 (ix2 r d)) := by
  pointwise [val_main_v0, val_main_call0_v5, val_main_call0_v4, val_main_call0_v3, val_main_call0_v2, val_main_call0_v1, val_main_call0_v0, val_main_call0_cst, val_main_call0_cst_0]
  rfl

theorem v7_at (r : Fin 128) (d : Fin 2048) : val_main_v7 (F := Ideal) x1 (ix2 r d) = x1 (ix2 r d) * Ideal.logistic (x1 (ix2 r d)) := by
  pointwise [val_main_v7, val_main_call1_v5, val_main_call1_v4, val_main_call1_v3, val_main_call1_v2, val_main_call1_v1, val_main_call1_v0, val_main_call1_cst, val_main_call1_cst_0]
  rfl

theorem v1_at (k : Fin 2048) (j : Fin 6144) : val_main_v1 (F := Ideal) x2 (ix2 k j) = x2 (ix3 0 k j) := by
  pointwise [val_main_v1]

theorem v8_at (k : Fin 2048) (j : Fin 6144) : val_main_v8 (F := Ideal) x2 (ix2 k j) = x2 (ix3 0 k j) := by
  pointwise [val_main_v8]

theorem v5_at (r : Fin 4) (j : Fin 6144) : val_main_v5 (F := Ideal) x3 (ix2 r j) = x3 (ix2 0 j) := by
  pointwise [val_main_v5, val_main_v4, val_main_v3]

theorem v12_at (r : Fin 128) (j : Fin 6144) : val_main_v12 (F := Ideal) x3 (ix2 r j) = x3 (ix2 0 j) := by
  pointwise [val_main_v12, val_main_v11, val_main_v10]

theorem v6_at (r : Fin 4) (j : Fin 6144) :
    val_main_v6 (F := Ideal) x0 x2 x3 (ix2 r j) = modv (fun k => x0 (ix2 r k)) (fun k => x2 (ix3 0 k j)) (x3 (ix2 0 j)) := by
  refine congrArg₂ (· + ·) ((val_main_v2_apply x0 x2 _).trans (Finset.sum_congr rfl fun k _ => ?_)) (v5_at x3 r j)
  refine congrArg₂ (· * ·) (Eq.trans (congrArg _ ?_) (v0_at x0 r k)) (Eq.trans (congrArg _ ?_) (v1_at x2 k j))
  · funext a; fin_cases a <;> rfl
  · funext a; fin_cases a <;> rfl

theorem v13_at (r : Fin 128) (j : Fin 6144) :
    val_main_v13 (F := Ideal) x1 x2 x3 (ix2 r j) = modv (fun k => x1 (ix2 r k)) (fun k => x2 (ix3 0 k j)) (x3 (ix2 0 j)) := by
  refine congrArg₂ (· + ·) ((val_main_v9_apply x1 x2 _).trans (Finset.sum_congr rfl fun k _ => ?_)) (v12_at x3 r j)
  refine congrArg₂ (· * ·) (Eq.trans (congrArg _ ?_) (v7_at x1 r k)) (Eq.trans (congrArg _ ?_) (v8_at x2 k j))
  · funext a; fin_cases a <;> rfl
  · funext a; fin_cases a <;> rfl

/-- The reference's result at row `r` and column `j`. -/
theorem v14_at (r : Fin 132) (j : Fin 6144) :
    val_main_v14 (F := Ideal) x0 x1 x2 x3 (ix2 r j)
      = modv (fun k => if h : r.val < 4 then x0 (ix2 ⟨r.val, h⟩ k) else x1 (ix2 ⟨r.val - 4, by omega⟩ k)) (fun k => x2 (ix3 0 k j)) (x3 (ix2 0 j)) := by
  unfold val_main_v14
  by_cases h : r.val < 4
  · refine (concatenate_pair_apply_left (t := S132x6144) (s₁ := S4x6144) (s₂ := S128x6144) 0 _ _ _ (ix2 r j) rfl (ix2 ⟨r.val, h⟩ j) fun q => by
      fin_cases q <;> rfl).trans ((v6_at x0 x2 x3 _ j).trans (modv_congr (fun k => ?_) (fun _ => rfl) rfl))
    rw [dif_pos h]
  · refine (concatenate_pair_apply_right (t := S132x6144) (s₁ := S4x6144) (s₂ := S128x6144) 0 _ _ _ (ix2 r j) rfl rfl (ix2 ⟨r.val - 4, by omega⟩ j) (fun q hq => ?_) ?_).trans
      ((v13_at x1 x2 x3 _ j).trans (modv_congr (fun k => ?_) (fun _ => rfl) rfl))
    · fin_cases q
      · exact absurd rfl hq
      · rfl
    · show r.val - 4 + 4 = r.val
      omega
    · rw [dif_neg h]

end Mod

end
-- ==== Proof.Mod.Arrays.lean ====
module

public import proofs.«01_k».proof.Proof.Mod.Rows
import Idealize.ShloMosaic.Lib.Pipeline.ValueKit

@[expose] public section

/-! What the kernel's result array holds at the end: what the reference's stages name. -/

set_option maxRecDepth 65536

noncomputable section

namespace Mod

open Idealize.ShloMosaic Idealize.ShloMosaic.TcCoe Idealize.ShloMosaic.Tactic Idealize.SL.Sem
open Cert.Kernel5Ideal Cert.Kernel5Ideal.Gen

theorem idx : ∀ t : Fin cfg0.N, win0_0.index t = ![0, 0] ∧ win0_1.index t = ![0, t.val] ∧ win0_2.index t = ![0, t.val] ∧ win0_3.index t = ![0, t.val] := by
  decide +kernel

variable (m : (ℓ : Loc nD τ sig) → Buf (Elt Ideal) ℓ) (c : Dev nD) (t : Fin cfg0.N)

/-- The arguments the reference takes. -/
abbrev A0 : FVec Ideal S4x2048 .f32 := m ((c : Thread nD τ).loc main_arg0)
abbrev A1 : FVec Ideal S128x2048 .f32 := m ((c : Thread nD τ).loc main_arg1)
abbrev A2 : FVec Ideal S1x2048x6144 .f32 := m ((c : Thread nD τ).loc main_arg2)
abbrev A3 : FVec Ideal S1x6144 .f32 := m ((c : Thread nD τ).loc main_arg3)

theorem w_at (x : FVec Ideal S1x2048x6144 .f32) (k : Fin 2048) (j : Fin 6144) :
    shapeCast S2048x6144 x shapeCasts_S1x2048x6144_S2048x6144 (ix2 k j) = x (ix3 0 k j) := by
  pointwise

theorem V_x : @Eq (FVec Ideal S132x2048 .f32) (V m c main_v0) (concatenate S132x2048 0 [⟨S4x2048, A0 m c⟩, ⟨S128x2048, A1 m c⟩] concatenates_S4x2048_S128x2048_S132x2048_d0) := rfl
theorem V_w : @Eq (FVec Ideal S2048x6144 .f32) (V m c main_v1) (shapeCast S2048x6144 (A2 m c) shapeCasts_S1x2048x6144_S2048x6144) := rfl

theorem lt6 : t.val < 6 := lt_of_lt_of_eq t.isLt N_0

/-- Column `j` of block `t`. -/
def bcol (j : Fin 1024) : Fin 6144 := ⟨t.val * 1024 + j.val, by have := lt6 t; omega⟩

theorem blk0 (r : Fin 132) (d : Fin 2048) : (iblk m c 0 t : Vec Ideal S132x2048 .f32) (ix2 r d)
    = if h : r.val < 4 then A0 m c (ix2 ⟨r.val, h⟩ d) else A1 m c (ix2 ⟨r.val - 4, by omega⟩ d) := by
  have e : (iblk m c 0 t : Vec Ideal S132x2048 .f32) (ix2 r d) = (V m c main_v0 : Vec Ideal S132x2048 .f32) (ix2 r d) := by
    blk_ext [iblk, idx t]
  exact (e.trans (congrFun (V_x m c) _)).trans (rows_at _ _ _ _)

theorem blk1 (k : Fin 2048) (j : Fin 1024) : (iblk m c 1 t : Vec Ideal S2048x1024 .f32) (ix2 k j) = A2 m c (ix3 0 k (bcol t j)) := by
  have e : (iblk m c 1 t : Vec Ideal S2048x1024 .f32) (ix2 k j) = (V m c main_v1 : Vec Ideal S2048x6144 .f32) (ix2 k (bcol t j)) := by
    unfold bcol
    blk_ext [iblk, idx t]
  exact (e.trans (congrFun (V_w m c) _)).trans (w_at _ _ _)

theorem blk2 (r : Fin 1) (j : Fin 1024) : (iblk m c 2 t : Vec Ideal S1x1024 .f32) (ix2 r j) = A3 m c (ix2 r (bcol t j)) := by
  unfold bcol
  blk_ext [iblk, V, idx t]

/-- The result the reference's stages name. -/
abbrev G14 : FVec Ideal S132x6144 .f32 := Cert.Reference5Ideal.Read.val_main_v14 (F := Ideal) (A0 m c) (A1 m c) (A2 m c) (A3 m c)

theorem out3 (r : Fin 132) (j : Fin 1024) : out0_3 (F := Ideal) (iblk m c 0 t) (iblk m c 1 t) (iblk m c 2 t) (ix2 r j) = G14 m c (ix2 r (bcol t j)) := by
  refine Eq.trans ?_ (v14_at _ _ _ _ r (bcol t j)).symm
  refine (out_at _ _ _ r j).trans ?_
  exact modv_congr (fun k => blk0 m c t r k) (fun k => blk1 m c t k j) (blk2 m c t 0 j)

theorem arr3 : (dats m 0 c).arrAt 3 cfg0.N = G14 m c := by
  refine (dats m 0 c).arrAt_eq_of_covers 3 _ (by decide +kernel) fun t hf y => ?_
  blk_simp
  rw [after0_3]
  obtain ⟨r, p, rfl⟩ : ∃ (r : Fin 132) (p : Fin 1024), y = ix2 r p := ⟨y 0, y 1, by funext a; fin_cases a <;> rfl⟩
  refine (out3 m c t r p).trans ?_
  refine congrArg (G14 m c) ?_
  unfold bcol
  blk_ext [idx t]

end Mod

end
-- ==== Proof.Mod.Claims.lean ====
module

public import proofs.«01_k».proof.Defs
public import proofs.«01_k».proof.Proof.Mod.Arrays
public import proofs.«01_k».proof.Proof.Gen.Kernel5
public import proofs.«01_k».proof.Proof.Gen.Reference5Ideal.Read
public import Idealize.ShloMosaic.Lib.Quiescent

@[expose] public section

/-! The claims about the modulation of both batches. -/

set_option maxRecDepth 65536

noncomputable section

namespace Mod

open Idealize.ShloMosaic Idealize.ShloMosaic.TcCoe Idealize.ShloMosaic.Tactic Idealize.SL.Sem

theorem frame_ideal : Cert.quiescent_Kernel5Ideal := fun m ρ _ => Cert.Kernel5Ideal.Gen.frame (F := Ideal) m ρ

/-- The body tables of the two programs are one. -/
theorem defs₀_eq : Cert.Kernel5.defs₀ (F := Bits) = Cert.Kernel5Ideal.defs₀ (F := Bits) := by
  unfold Cert.Kernel5.defs₀ Cert.Kernel5Ideal.defs₀
  refine congrArg Defs.onTc ?_
  funext l a
  match l, a with
  | 0, (t, s) => rfl
  | ⟨n + 1, h⟩, x => exact absurd h (Nat.not_lt.2 (Nat.le_add_left _ _))

theorem defs_eq : Cert.Kernel5.defs (F := Bits) = Cert.Kernel5Ideal.defs (F := Bits) :=
  congrArg (Pipeline.defs (Cert.Kernel5Ideal.pcfgs (F := Bits))) defs₀_eq

/-- The program as compiled has the ideal program's text: its frame is the ideal one's, over machine floats. -/
theorem frame_kernel : Cert.quiescent_Kernel5 := fun m ρ _ => by
  rw [defs_eq]
  exact Cert.Kernel5Ideal.Gen.frame (F := Bits) m ρ

/-- The reference's run read at the arguments; it has no semaphore. -/
theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The kernel's run with its result named. -/
theorem run_results (m : (ℓ : Loc Cert.Kernel5Ideal.nD Cert.Kernel5Ideal.τ Cert.Kernel5Ideal.sig) → Buf (Elt Ideal) ℓ) (ρ : Dev Cert.Kernel5Ideal.nD → PrngReg) :
    θ_run Cert.Kernel5Ideal.defs (onTc (τ := Cert.Kernel5Ideal.τ) (Cert.Kernel5Ideal.main (F := Ideal))) ⟨m, fun _ => 0, ρ⟩ (fun r => ∀ c : Dev Cert.Kernel5Ideal.nD,
      r.2.mem ((c.tc : Thread Cert.Kernel5Ideal.nD Cert.Kernel5Ideal.τ).loc Cert.Kernel5Ideal.main_v2) = G14 m c
      ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)) :=
  (θ_run Cert.Kernel5Ideal.defs _ _).mono (fun _ h c => ⟨((h.1 c).1 3).trans (arr3 m c), h.2 c⟩)
    (θ_run_and (Cert.Kernel5Ideal.Gen.run_main (F := Ideal) m ρ) (Cert.Kernel5Ideal.Gen.unchanged (F := Ideal) m ρ))

/-- Kernel and reference, run from equal arguments, leave the same result. -/
theorem algebraic : Cert.algebraic_Kernel5Ideal_Reference5Ideal := by
  intro m ρ m' ρ' hpre hagree
  refine ⟨fun c => G14 m c, run_results m ρ, ?_⟩
  refine (θ_run Cert.Reference5Ideal.defs _ _).mono (fun r h c => ?_) (Cert.Reference5Ideal.Value.run (F := Ideal) m' ρ')
  obtain ⟨a0, a1, a2, a3⟩ := hagree c
  refine ⟨?_, (h c).2⟩
  refine ((h c).1.trans (Cert.Reference5Ideal.Read.val_main_v14_eq (F := Ideal) _ _ _ _)).trans ?_
  rw [a0, a1, a2, a3]

theorem preserves : Cert.preserves_Kernel5_Kernel5Ideal := trivial

end Mod

end
-- ==== Proof.InP.Runs.lean ====
module

public import proofs.«01_k».proof.Proof.Gen.Kernel6Ideal.Frame
public import proofs.«01_k».proof.Proof.Gen.Kernel6Ideal.Skeleton
public import proofs.«01_k».proof.Proof.Gen.Kernel6Ideal.Loops

@[expose] public section

/-! What the runs of the input projection share: the entry of the region, the input blocks, the branch
    conditions, and what the invariant holds. -/

set_option maxRecDepth 16384

noncomputable section

namespace InP

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

theorem coord0 (t : Fin cfg0.N) : (grid0.coords t 0).val = t.val / 18 := by
  have ht : t.val < 72 := Nat.lt_of_lt_of_eq t.isLt N_0
  have e0 : (grid0.coords t 0).val = t.val / 18 % 4 := Pipeline.Grid.coords_val t 0 (by decide) rfl
  omega
theorem coord1 (t : Fin cfg0.N) : (grid0.coords t 1).val = t.val % 18 := by
  have ht : t.val < 72 := Nat.lt_of_lt_of_eq t.isLt N_0
  have e1 : (grid0.coords t 1).val = t.val / 1 % 18 := Pipeline.Grid.coords_val t 1 (by decide) rfl
  omega

theorem hc1 : ∀ t : Fin cfg0.N, k0_cond1 (grid0.coords t) = 1#1 ↔ t.val / 18 % 2 = 0 :=
  (by decide +kernel : ∀ t : Fin grid0.N, k0_cond1 (grid0.coords t) = 1#1 ↔ t.val / 18 % 2 = 0)
theorem hc2 : ∀ t : Fin cfg0.N, k0_cond2 (grid0.coords t) = 1#1 ↔ t.val % 18 = 0 :=
  (by decide +kernel : ∀ t : Fin grid0.N, k0_cond2 (grid0.coords t) = 1#1 ↔ t.val % 18 = 0)
theorem hc3 : ∀ t : Fin cfg0.N, k0_cond3 (grid0.coords t) = 1#1 ↔ t.val / 18 = 0 :=
  (by decide +kernel : ∀ t : Fin grid0.N, k0_cond3 (grid0.coords t) = 1#1 ↔ t.val / 18 = 0)
theorem hc4 : ∀ t : Fin cfg0.N, k0_cond4 (grid0.coords t) = 1#1 ↔ t.val / 18 < 3 :=
  (by decide +kernel : ∀ t : Fin grid0.N, k0_cond4 (grid0.coords t) = 1#1 ↔ t.val / 18 < 3)
theorem hc5 : ∀ t : Fin cfg0.N, k0_cond5 (grid0.coords t) = 1#1 ↔ (2 ≤ t.val % 18 ∧ t.val / 18 < 3) :=
  (by decide +kernel : ∀ t : Fin grid0.N, k0_cond5 (grid0.coords t) = 1#1 ↔ (2 ≤ t.val % 18 ∧ t.val / 18 < 3))
theorem hc6 : ∀ t : Fin cfg0.N, k0_cond6 (grid0.coords t) = 1#1 ↔ t.val % 18 = 2 :=
  (by decide +kernel : ∀ t : Fin grid0.N, k0_cond6 (grid0.coords t) = 1#1 ↔ t.val % 18 = 2)
theorem hc7 : ∀ t : Fin cfg0.N, k0_cond7 (grid0.coords t) = 1#1 ↔ t.val / 18 % 2 = 1 :=
  (by decide +kernel : ∀ t : Fin grid0.N, k0_cond7 (grid0.coords t) = 1#1 ↔ t.val / 18 % 2 = 1)
theorem hc8 : ∀ t : Fin cfg0.N, k0_cond8 (grid0.coords t) = 1#1 ↔ t.val % 18 = 0 :=
  (by decide +kernel : ∀ t : Fin grid0.N, k0_cond8 (grid0.coords t) = 1#1 ↔ t.val % 18 = 0)
theorem hc9 : ∀ t : Fin cfg0.N, k0_cond9 (grid0.coords t) = 1#1 ↔ t.val / 18 < 3 :=
  (by decide +kernel : ∀ t : Fin grid0.N, k0_cond9 (grid0.coords t) = 1#1 ↔ t.val / 18 < 3)
theorem hc10 : ∀ t : Fin cfg0.N, k0_cond10 (grid0.coords t) = 1#1 ↔ (2 ≤ t.val % 18 ∧ t.val / 18 < 3) :=
  (by decide +kernel : ∀ t : Fin grid0.N, k0_cond10 (grid0.coords t) = 1#1 ↔ (2 ≤ t.val % 18 ∧ t.val / 18 < 3))
theorem hc11 : ∀ t : Fin cfg0.N, k0_cond11 (grid0.coords t) = 1#1 ↔ t.val % 18 = 2 :=
  (by decide +kernel : ∀ t : Fin grid0.N, k0_cond11 (grid0.coords t) = 1#1 ↔ t.val % 18 = 2)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

abbrev ms0_0 (t : Fin cfg0.N) : Memref sig .tc .vmem S132x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S132x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x16 .f32 := win0_6.stage (cfg0.slots t 6)
abbrev hs0_6 (t : Fin cfg0.N) : (ms0_6 t).IsWhole := hstage0_6 ((cfg0.slots t 6).cast nbuf0_6)
abbrev scM0_0 : Memref sig .tc .vmem S2048x2048 .bf16 := Memref.whole cc0_scratch0
abbrev scM0_1 : Memref sig .tc .vmem S2048x2048 .bf16 := Memref.whole cc0_scratch1
abbrev scM0_2 : Memref sig .tc .vmem S2048x2048 .f32 := Memref.whole cc0_scratch2
abbrev hbM0_0 : Memref sig .tc .hbm S8192x2048 .f32 := Memref.whole main_v2
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 1 → SemLoc sig := fun j => (![SemLoc.dma 10] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0) := by
  rw [Pipeline.ownSems0_eq_of_list c osem0 [0] (by decide) (by decide)]; rfl
def H0 : Finset (Ref sig .tc) := {main_v2}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v2)) := by
  rw [BI.bigSep_eq_bigSepL_of_eq [main_v2] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_v2))) := by
  rw [Pipeline.ΦD_eq, scopedRest0_eq, ownSems00_eq, hbmPts0_eq]; simp only [scM0_0, scM0_1, scM0_2, owns_whole]; try rfl

end InP

end
-- ==== Proof.InP.Loop.lean ====
module

public import proofs.«01_k».proof.Proof.InP.Runs

@[expose] public section

/-! The loop over the sixteen chunks of rows, with what each trip stores. -/

set_option maxRecDepth 16384

noncomputable section

namespace InP

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄D" => MT nD τ sig Unit (Elt F) ℕ (UR sig nD τ × Counters) ℕ

abbrev Trip_k0_t1 (c : Dev nD) (arg3 : Memref sig .tc .vmem S132x2048 .f32) (arg4 : Memref sig .tc .vmem S132x2048 .f32) (arg5 : Memref sig .tc .vmem S1x2048 .f32) (arg12 : Memref sig .tc .vmem S2048x2048 .f32) (arg10 : Memref sig .tc .vmem S2048x2048 .bf16) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (f_arg10 : BufTy.Contents (Elt F) arg10.view.ty) : sProp 𝕄D :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg12.view.loc (c : Thread nD τ) ↦[arg12.view.set]{fullShare} X_arg12) ∗ (arg10.view.loc (c : Thread nD τ) ↦[arg10.view.set]{fullShare} f_arg10))

@[irreducible] def trip_k0_t1 (𝒱 : Variants) (c : Dev nD) (bd : Option 𝒱.V) (i : grid0.Coords) (arg2 : Memref sig .tc .hbm S8192x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : Fin k0_t1_loop.trips) :
    { L_arg10 : List (View.Piece (Elt F) S2048x2048 .bf16) // ∀ (E : Set ℕ) (f_arg10 : BufTy.Contents (Elt F) arg10.view.ty),
      Trip_k0_t1 (F := F) c arg3 arg4 arg5 arg12 arg10 X_arg3 X_arg4 X_arg5 X_arg12 f_arg10
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 k0_h1 k0_h2 k0_h3 k PUnit.unit)
          (fun _ => Trip_k0_t1 (F := F) c arg3 arg4 arg5 arg12 arg10 X_arg3 X_arg4 X_arg5 X_arg12 (arg10.view.writes (Elt F) f_arg10 L_arg10)) } := by
  have hk : k.val < 16 := Nat.lt_of_lt_of_le k.isLt k0_t1_abs.2.1
  refine ⟨?_, fun E f_arg10 => ?run⟩
  case run =>
    unfold k0_t1_body
    iintro ⟨HR_arg3, HR_arg4, HR_arg5, HR_arg12, HW_arg10⟩
    sl_exec
    sl_step
    sl_close

abbrev tripL_k0_t1 (𝒱 : Variants) (c : Dev nD) (bd : Option 𝒱.V) (i : grid0.Coords) (arg2 : Memref sig .tc .hbm S8192x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : Fin k0_t1_loop.trips) : List (View.Piece (Elt F) S2048x2048 .bf16) :=
  (trip_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k).1

@[irreducible] def pb_k0_t1Step (𝒱 : Variants) (c : Dev nD) (bd : Option 𝒱.V) (i : grid0.Coords) (arg2 : Memref sig .tc .hbm S8192x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : ℕ) (prev : List (View.Piece (Elt F) S2048x2048 .bf16)) : List (View.Piece (Elt F) S2048x2048 .bf16) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 ⟨k, h⟩) ++ prev
  else prev

def pb_k0_t1 (𝒱 : Variants) (c : Dev nD) (bd : Option 𝒱.V) (i : grid0.Coords) (arg2 : Memref sig .tc .hbm S8192x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) : ℕ → List (View.Piece (Elt F) S2048x2048 .bf16)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k (pb_k0_t1 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k)

theorem pb_k0_t1_succ (𝒱 : Variants) (c : Dev nD) (bd : Option 𝒱.V) (i : grid0.Coords) (arg2 : Memref sig .tc .hbm S8192x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k) ++ (pb_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k.val) := by
  rw [pb_k0_t1.eq_2]; unfold pb_k0_t1Step; exact dif_pos k.isLt

abbrev inv_k0_t1 (𝒱 : Variants) (c : Dev nD) (bd : Option 𝒱.V) (i : grid0.Coords) (arg2 : Memref sig .tc .hbm S8192x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (G_arg10 : BufTy.Contents (Elt F) arg10.view.ty) (k : ℕ) (_u : PUnit) : sProp 𝕄D :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg12.view.loc (c : Thread nD τ) ↦[arg12.view.set]{fullShare} X_arg12) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k)⌝))

set_option warn.classDefReducibility false in
@[sl_loop] def loopInv_k0_t1 (𝒱 : Variants) (c : Dev nD) (bd : Option 𝒱.V) (E : Set ℕ) (i : grid0.Coords) (arg2 : Memref sig .tc .hbm S8192x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole) (arg13 : DmaSems sig S_) (k0_h1 : k0_cond1 i = 1#1) (k0_h2 : k0_cond2 i = 1#1) (k0_h3 : k0_cond3 i = 1#1) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (G_arg10 : BufTy.Contents (Elt F) arg10.view.ty) :
    LoopInvTy_k0_t1 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 k0_h1 k0_h2 k0_h3 where
  inv := inv_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 G_arg10
  step k acc := by
    iintro ⟨HR_arg3, HR_arg4, HR_arg5, HR_arg12, ⟨%f_arg10, HW_arg10, %h_arg10⟩⟩
    iapply (wp_wand_r Idealize.ShloMosaic.frame (wpE (defs₀ (F := F)) 𝒱 (c : Thread nD τ) bd) E)
    isplitl [HR_arg3 HR_arg4 HR_arg5 HR_arg12 HW_arg10]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 X_arg3 X_arg4 X_arg5 X_arg12 k).2 E f_arg10)
      isplitl [HR_arg3]; · iexact HR_arg3
      isplitl [HR_arg4]; · iexact HR_arg4
      isplitl [HR_arg5]; · iexact HR_arg5
      isplitl [HR_arg12]; · iexact HR_arg12
      iexact HW_arg10
    · iintro %_ ⟨HR_arg3, HR_arg4, HR_arg5, HR_arg12, HW_arg10⟩
      isplitl [HR_arg3]; · iexact HR_arg3
      isplitl [HR_arg4]; · iexact HR_arg4
      isplitl [HR_arg5]; · iexact HR_arg5
      isplitl [HR_arg12]; · iexact HR_arg12
      rw [pb_k0_t1_succ]
      iexists _; isplitl [HW_arg10]; · iexact HW_arg10
      ipureintro; rw [h_arg10, ← View.writes_append]

end InP

end
-- ==== Proof.InP.Trip.lean ====
module

public import proofs.«01_k».proof.Proof.InP.Loop
public import Idealize.ShloMosaic.Lib.Pointwise
public import Idealize.ShloMosaic.Lib.VecWindow

@[expose] public section

/-! What one trip of the loop stores, as a function of the blocks it reads. -/

set_option maxRecDepth 16384

noncomputable section

namespace InP

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The row `r` of a block of 132 rows: the modulation of sequence `r` of the prompt batch. -/
def rowOf (X : Vec F S132x2048 .f32) (r : Fin 4) : Vec F S1x2048 .f32 := fun x =>
  X (ix2 (⟨r.val, by show _ < 132; omega⟩ : Fin (S132x2048.size 0)) (x 1))

/-- Chunk `k` of a sequence of 2048 rows. -/
def rowsOf (X : Vec F S2048x2048 .f32) (k : Fin 16) : Vec F S128x2048 .f32 := fun x =>
  X (ix2 (⟨128 * k.val + (x 0).val, by have : (x 0).val < 128 := (x 0).isLt; show _ < 2048; omega⟩ : Fin (S2048x2048.size 0)) (x 1))

/-- The normalised, modulated rows of chunk `k` of sequence `r`. -/
def chunk (x0 x1 : Vec F S132x2048 .f32) (x2 : Vec F S1x2048 .f32) (xb : Vec F S2048x2048 .f32) (r : Fin 4) (k : Fin 16) : FVec F S128x2048 .bf16 :=
  k0_pay1 (rowsOf xb k) (rowOf x1 r) (rowOf x0 r) x2

/-- A trip of the loop as a chunk. -/
abbrev ck (k : Fin k0_t1_loop.trips) : Fin 16 := ⟨k.val, Nat.lt_of_lt_of_le k.isLt k0_t1_abs.2.1⟩

theorem ld_row {arg : Memref sig .tc .vmem S132x2048 .f32} (h : arg.IsWhole) (X : Vec F S132x2048 .f32) (off : Fin 2 → ℕ) (r : Fin 4) (e : off = ![r.val, 0])
    (inb : ∀ a, off a + S1x2048.size a ≤ S132x2048.size a) :
    View.readAt (Elt F) arg.view (Rect.unit (s := S132x2048) off S1x2048.size inb).toLoadRect (h.unread X) = rowOf X r := by
  funext x
  rw [View.readAt_apply, h.read_unread]
  unfold rowOf
  refine congrArg X (funext fun a => Fin.ext ?_)
  fin_cases a
  · show off 0 + 1 * (x 0).val = r.val
    have h0 : (x 0).val < 1 := (x 0).isLt
    have e0 : off 0 = r.val := by rw [e]; rfl
    omega
  · show off 1 + 1 * (x 1).val = (x 1).val
    have e1 : off 1 = 0 := by rw [e]; rfl
    omega

theorem ld_rows {arg : Memref sig .tc .vmem S2048x2048 .f32} (h : arg.IsWhole) (X : Vec F S2048x2048 .f32) (off : Fin 2 → ℕ) (k : Fin 16) (e : off = ![128 * k.val, 0])
    (inb : ∀ a, off a + S128x2048.size a ≤ S2048x2048.size a) :
    View.readAt (Elt F) arg.view (Rect.unit (s := S2048x2048) off S128x2048.size inb).toLoadRect (h.unread X) = rowsOf X k := by
  funext x
  rw [View.readAt_apply, h.read_unread]
  unfold rowsOf
  refine congrArg X (funext fun a => Fin.ext ?_)
  fin_cases a
  · show off 0 + 1 * (x 0).val = 128 * k.val + (x 0).val
    have e0 : off 0 = 128 * k.val := by rw [e]; rfl
    omega
  · show off 1 + 1 * (x 1).val = (x 1).val
    have e1 : off 1 = 0 := by rw [e]; rfl
    omega

theorem ld_gain {arg : Memref sig .tc .vmem S1x2048 .f32} (h : arg.IsWhole) (X : Vec F S1x2048 .f32)
    (inb : ∀ a, (![0, 0] : Fin 2 → ℕ) a + S1x2048.size a ≤ S1x2048.size a) :
    View.readAt (Elt F) arg.view (Rect.unit (s := S1x2048) ![0, 0] S1x2048.size inb).toLoadRect (h.unread X) = X := by
  exact (View.readAt_full arg.view (h.unread X) inb).trans (h.read_unread X)

theorem off2_row (k : Fin k0_t1_loop.trips) : k0_off2 k = ![(0 : Fin 4).val, 0] := by
  have hk : k.val < 16 := Nat.lt_of_lt_of_le k.isLt k0_t1_abs.2.1
  rw [k0_off2_eq, show (128 * k.val) / 2048 = 0 by omega]; rfl

set_option maxHeartbeats 1000000 in
/-- One trip stores one piece: chunk `k`, at its rows. -/
theorem tripL_eq (𝒱 : Variants) (c : Dev nD) (bd : Option 𝒱.V) (i : grid0.Coords) (arg2 : Memref sig .tc .hbm S8192x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole) (arg13 : DmaSems sig S_) (k0_h1 : k0_cond1 i = 1#1) (k0_h2 : k0_cond2 i = 1#1) (k0_h3 : k0_cond3 i = 1#1)
    (x0 x1 : Vec F S132x2048 .f32) (x2 : Vec F S1x2048 .f32) (xb : Vec F S2048x2048 .f32) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 (harg3.unread x0) (harg4.unread x1) (harg5.unread x2) (harg12.unread xb) k
      = [⟨Rect.unit (s := S2048x2048) (k0_off1 k) S128x2048.size (k0_off1_inb i k k0_h1 k0_h2 k0_h3), chunk x0 x1 x2 xb 0 (ck k)⟩] := by
  have raw : tripL_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 (harg3.unread x0) (harg4.unread x1) (harg5.unread x2) (harg12.unread xb) k
      = [⟨Rect.unit (s := S2048x2048) (k0_off1 k) S128x2048.size (k0_off1_inb i k k0_h1 k0_h2 k0_h3),
        k0_pay1 (View.readAt (Elt F) arg12.view (Rect.unit (s := S2048x2048) (k0_off1 k) S128x2048.size (k0_off1_inb i k k0_h1 k0_h2 k0_h3)).toLoadRect (harg12.unread xb))
          (View.readAt (Elt F) arg4.view (Rect.unit (s := S132x2048) (k0_off2 k) S1x2048.size (k0_off2_inb i k k0_h1 k0_h2 k0_h3)).toLoadRect (harg4.unread x1))
          (View.readAt (Elt F) arg3.view (Rect.unit (s := S132x2048) (k0_off2 k) S1x2048.size (k0_off2_inb i k k0_h1 k0_h2 k0_h3)).toLoadRect (harg3.unread x0))
          (View.readAt (Elt F) arg5.view (Rect.unit (s := S1x2048) ![0, 0] S1x2048.size inb_S1x2048_S1x2048_0_0).toLoadRect (harg5.unread x2))⟩] := by
    unfold tripL_k0_t1 trip_k0_t1
    rfl
  have e4 := ld_row harg4 x1 (k0_off2 k) 0 (off2_row k) (k0_off2_inb i k k0_h1 k0_h2 k0_h3)
  have e3 := ld_row harg3 x0 (k0_off2 k) 0 (off2_row k) (k0_off2_inb i k k0_h1 k0_h2 k0_h3)
  have e12 := ld_rows harg12 xb (k0_off1 k) (ck k) (k0_off1_eq k) (k0_off1_inb i k k0_h1 k0_h2 k0_h3)
  refine raw.trans (congrArg (fun w => [(⟨_, w⟩ : View.Piece (Elt F) S2048x2048 .bf16)]) ?_)
  unfold chunk
  exact (congr (congr (congr (congrArg k0_pay1 e12) e4) e3) (ld_gain harg5 x2 _))

/-- All the normalised, modulated rows of sequence `r`: chunk by chunk. -/
def hval (x0 x1 : Vec F S132x2048 .f32) (x2 : Vec F S1x2048 .f32) (xb : Vec F S2048x2048 .f32) (r : Fin 4) : Vec F S2048x2048 .bf16 := fun y =>
  chunk x0 x1 x2 xb r ⟨(y 0).val / 128, by have : (y 0).val < 2048 := (y 0).isLt; omega⟩
    (ix2 (⟨(y 0).val % 128, Nat.mod_lt _ (by decide)⟩ : Fin (S128x2048.size 0)) (y 1))

/-- A chunk's piece is the chunk of `hval`. -/
theorem piece_hval (x0 x1 : Vec F S132x2048 .f32) (x2 : Vec F S1x2048 .f32) (xb : Vec F S2048x2048 .f32) (r : Fin 4) (off : Fin 2 → ℕ) (k : Fin 16) (e : off = ![128 * k.val, 0])
    (inb : ∀ a, off a + S128x2048.size a ≤ S2048x2048.size a) (x : S128x2048.Idx) :
    chunk x0 x1 x2 xb r k x = hval x0 x1 x2 xb r ((Rect.unit (s := S2048x2048) off S128x2048.size inb).emb x) := by
  have e0 : off 0 = 128 * k.val := by rw [e]; rfl
  have e1 : off 1 = 0 := by rw [e]; rfl
  have hx : (x 0).val < 128 := (x 0).isLt
  have v0 : (((Rect.unit (s := S2048x2048) off S128x2048.size inb).emb x) 0).val = 128 * k.val + (x 0).val := by
    show off 0 + 1 * (x 0).val = _
    omega
  have v1 : (((Rect.unit (s := S2048x2048) off S128x2048.size inb).emb x) 1).val = (x 1).val := by
    show off 1 + 1 * (x 1).val = _
    omega
  unfold hval
  refine congr (congrArg (chunk x0 x1 x2 xb r) (Fin.ext ?_)) (funext fun a => Fin.ext ?_)
  · show k.val = _ / 128
    rw [v0]; omega
  · fin_cases a
    · show (x 0).val = _ % 128
      rw [v0]; omega
    · exact v1.symm

theorem trips_eq : k0_t1_loop.trips = 16 := by decide +kernel

/-- The pieces of the first `n` trips: each is a chunk of `hval`, and together they hold the first `128 n` rows. -/
theorem pb_inv (𝒱 : Variants) (c : Dev nD) (bd : Option 𝒱.V) (i : grid0.Coords) (arg2 : Memref sig .tc .hbm S8192x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole) (arg13 : DmaSems sig S_) (k0_h1 : k0_cond1 i = 1#1) (k0_h2 : k0_cond2 i = 1#1) (k0_h3 : k0_cond3 i = 1#1)
    (x0 x1 : Vec F S132x2048 .f32) (x2 : Vec F S1x2048 .f32) (xb : Vec F S2048x2048 .f32) : ∀ n, n ≤ 16 →
    (∀ p ∈ pb_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 (harg3.unread x0) (harg4.unread x1) (harg5.unread x2) (harg12.unread xb) n,
      ∀ x : p.1.shape.Idx, p.2 x = hval x0 x1 x2 xb 0 (p.1.emb x))
    ∧ ∀ y : S2048x2048.Idx, (y 0).val < 128 * n →
      ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 (harg3.unread x0) (harg4.unread x1) (harg5.unread x2) (harg12.unread xb) n, y ∈ p.1.set := by
  intro n
  induction n with
  | zero => exact fun _ => ⟨fun p hp => absurd hp List.not_mem_nil, fun y hy => absurd hy (by omega)⟩
  | succ n ih =>
    intro hn
    have hk : n < k0_t1_loop.trips := by rw [trips_eq]; omega
    obtain ⟨ihv, ihc⟩ := ih (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 (harg3.unread x0) (harg4.unread x1) (harg5.unread x2) (harg12.unread xb) ⟨n, hk⟩
    rw [tripL_eq] at hs
    rw [hs]
    refine ⟨fun p hp x => ?_, fun y hy => ?_⟩
    · rcases List.mem_append.1 hp with h | h
      · obtain rfl := List.mem_singleton.1 h
        exact piece_hval x0 x1 x2 xb 0 (k0_off1 ⟨n, hk⟩) (ck ⟨n, hk⟩) (k0_off1_eq ⟨n, hk⟩) (k0_off1_inb i ⟨n, hk⟩ k0_h1 k0_h2 k0_h3) x
      · exact ihv p h x
    · by_cases hlt : (y 0).val < 128 * n
      · obtain ⟨p, hp, hy⟩ := ihc y hlt
        exact ⟨p, List.mem_append_right _ hp, hy⟩
      · refine ⟨_, List.mem_append_left _ (List.mem_singleton.2 rfl), ?_⟩
        have e := k0_off1_eq ⟨n, hk⟩
        have e0 : (k0_off1 ⟨n, hk⟩) 0 = 128 * n := by rw [e]; rfl
        have e1 : (k0_off1 ⟨n, hk⟩) 1 = 0 := by rw [e]; rfl
        refine (Rect.mem_set_unit (inb := k0_off1_inb i ⟨n, hk⟩ k0_h1 k0_h2 k0_h3)).2 fun a => ?_
        fin_cases a
        · show (k0_off1 ⟨n, hk⟩) 0 ≤ (y 0).val ∧ (y 0).val < (k0_off1 ⟨n, hk⟩) 0 + 128
          omega
        · have : (y 1).val < 2048 := (y 1).isLt
          show (k0_off1 ⟨n, hk⟩) 1 ≤ (y 1).val ∧ (y 1).val < (k0_off1 ⟨n, hk⟩) 1 + 2048
          omega

/-- What the loop leaves in the buffer it writes. -/
theorem loop_read (𝒱 : Variants) (c : Dev nD) (bd : Option 𝒱.V) (i : grid0.Coords) (arg2 : Memref sig .tc .hbm S8192x2048 .f32) (harg2 : arg2.IsWhole) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole) (arg13 : DmaSems sig S_) (k0_h1 : k0_cond1 i = 1#1) (k0_h2 : k0_cond2 i = 1#1) (k0_h3 : k0_cond3 i = 1#1)
    (x0 x1 : Vec F S132x2048 .f32) (x2 : Vec F S1x2048 .f32) (xb : Vec F S2048x2048 .f32) (f : BufTy.Contents (Elt F) arg10.view.ty)
    (n : ℕ) (hn : n = 16) (X : BufTy.Contents (Elt F) arg12.view.ty) (hX : X = harg12.unread xb) :
    arg10.view.read (Elt F) (arg10.view.writes (Elt F) f
      (pb_k0_t1 (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 (harg3.unread x0) (harg4.unread x1) (harg5.unread x2) X n)) = hval x0 x1 x2 xb 0 := by
  subst hn hX
  funext y
  obtain ⟨hv, hc⟩ := pb_inv (F := F) 𝒱 c bd i arg2 harg2 arg3 harg3 arg4 harg4 arg5 harg5 arg6 harg6 arg7 harg7 arg8 harg8 arg9 harg9 arg10 harg10 arg11 harg11 arg12 harg12 arg13 k0_h1 k0_h2 k0_h3 x0 x1 x2 xb 16 le_rfl
  exact View.read_writes_apply_of_pieces _ _ _ _ hv y (hc y (y 0).isLt)

/-- Rows `128 k` to `128 k + 127` overwritten by chunk `k` of sequence `r`: they are `hval`'s, the others are as before. -/
theorem chunk_read {arg : Memref sig .tc .vmem S2048x2048 .bf16} (harg : arg.IsWhole) (x0 x1 : Vec F S132x2048 .f32) (x2 : Vec F S1x2048 .f32) (xb : Vec F S2048x2048 .f32) (r : Fin 4)
    (off : Fin 2 → ℕ) (k : Fin 16) (e : off = ![128 * k.val, 0]) (inb : ∀ a, off a + S128x2048.size a ≤ S2048x2048.size a)
    (g : Vec F S2048x2048 .bf16) (hg : ∀ y : S2048x2048.Idx, (y 0).val < 128 * k.val → g y = hval x0 x1 x2 xb r y)
    (w : Vec F S128x2048 .bf16) (hw : w = chunk x0 x1 x2 xb r k) (y : S2048x2048.Idx) (hy : (y 0).val < 128 * (k.val + 1)) :
    arg.view.read (Elt F) (arg.view.writes (Elt F) (harg.unread g) [⟨Rect.unit (s := S2048x2048) off S128x2048.size inb, w⟩]) y = hval x0 x1 x2 xb r y := by
  subst hw
  have e0 : off 0 = 128 * k.val := by rw [e]; rfl
  have e1 : off 1 = 0 := by rw [e]; rfl
  have hy1 : (y 1).val < 2048 := (y 1).isLt
  by_cases hm : (y 0).val < 128 * k.val
  · have hn : y ∉ (Rect.unit (s := S2048x2048) off S128x2048.size inb).set := fun h => by
      have := (Rect.mem_set_unit (inb := inb)).1 h 0
      omega
    refine (View.read_writes_cons_miss arg.view (harg.unread g) ⟨Rect.unit (s := S2048x2048) off S128x2048.size inb, chunk x0 x1 x2 xb r k⟩ [] y hn).trans ?_
    rw [View.writes_nil, harg.read_unread]
    exact hg y hm
  · refine View.read_writes_apply_of_pieces _ _ _ _ (fun p hp x => ?_) y ⟨_, List.mem_singleton.2 rfl, ?_⟩
    · obtain rfl := List.mem_singleton.1 hp
      exact piece_hval x0 x1 x2 xb r off k e inb x
    · refine (Rect.mem_set_unit (inb := inb)).2 fun a => ?_
      fin_cases a
      · show off 0 ≤ (y 0).val ∧ (y 0).val < off 0 + 128
        omega
      · show off 1 ≤ (y 1).val ∧ (y 1).val < off 1 + 2048
        omega

/-- The later points compute a chunk as the first point's loop does. -/
theorem pay_even (a : Vec F S128x2048 .f32) (b c d : Vec F S1x2048 .f32) : k0_pay3 (k0_pay8 a b d) (k0_pay9 c) = k0_pay1 a b c d := rfl
theorem pay_odd (a : Vec F S128x2048 .f32) (b c d : Vec F S1x2048 .f32) : k0_pay6 (k0_pay10 a b d) (k0_pay11 c) = k0_pay1 a b c d := rfl
theorem prod_odd (a : Vec F S2048x2048 .bf16) (b : Vec F S512x2048 .f32) : k0_pay7 a b = k0_pay4 a b := rfl
theorem gate_odd (a : Vec F S2048x2048 .bf16) (b : Vec F S16x2048 .f32) : k0_pay5 a b = k0_pay2 a b := rfl

end InP

end
-- ==== Proof.InP.Copy.lean ====
module

public import proofs.«01_k».proof.Proof.InP.Trip

@[expose] public section

/-! The copy of the next sequence from main memory, in flight between two grid points. -/

set_option maxRecDepth 16384

noncomputable section

namespace InP

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The rows of main memory at an offset: 2048 of them. -/
abbrev slc (off : Fin 2 → ℕ) (inb : ∀ a, off a + S2048x2048.size a ≤ S8192x2048.size a) : Memref sig .tc .hbm S2048x2048 .f32 :=
  (Memref.whole main_v2).slice (Rect.unit (s := S8192x2048) off S2048x2048.size inb) (fun _ => rfl)

/-- What those rows hold. -/
def xAt (c : Dev nD) (fh0 : HbBuf0 (F := F) c hbM0_0) (off : Fin 2 → ℕ) (inb : ∀ a, off a + S2048x2048.size a ≤ S8192x2048.size a) : Vec F S2048x2048 .f32 :=
  (slc off inb).view.read (Elt F) fh0

/-- A copy in flight, and what of main memory it leaves held: it delivers the rows at the offset, and main memory's lent part. -/
def inFlight (c : Dev nD) {arg12 : Memref sig .tc .vmem S2048x2048 .f32} (harg12 : arg12.IsWhole) (fh0 : HbBuf0 (F := F) c hbM0_0)
    (off : Fin 2 → ℕ) (inb : ∀ a, off a + S2048x2048.size a ≤ S8192x2048.size a) : sProp 𝕄 :=
  iprop(Transfers.Flight countersEmb (c : Thread nD τ) (SemLoc.dma 10) () 524288
      iprop((arg12.view.loc (c : Thread nD τ) ↦[arg12.view.set]{fullShare} harg12.unread (xAt c fh0 off inb))
        ∗ (hbM0_0.view.loc (c : Thread nD τ) ↦[(slc off inb).view.set]{fullShare} fh0))
    ∗ (hbM0_0.view.loc (c : Thread nD τ) ↦[Finset.univ \ (slc off inb).view.set]{fullShare} fh0))

theorem inFlight_congr (c : Dev nD) {arg12 : Memref sig .tc .vmem S2048x2048 .f32} (harg12 : arg12.IsWhole) (fh0 : HbBuf0 (F := F) c hbM0_0)
    {off off' : Fin 2 → ℕ} (e : off = off') (inb : ∀ a, off a + S2048x2048.size a ≤ S8192x2048.size a) (inb' : ∀ a, off' a + S2048x2048.size a ≤ S8192x2048.size a) :
    (inFlight c harg12 fh0 off inb : sProp 𝕄) = inFlight c harg12 fh0 off' inb' := by subst e; rfl

theorem xAt_congr (c : Dev nD) (fh0 : HbBuf0 (F := F) c hbM0_0)
    {off off' : Fin 2 → ℕ} (e : off = off') (inb : ∀ a, off a + S2048x2048.size a ≤ S8192x2048.size a) (inb' : ∀ a, off' a + S2048x2048.size a ≤ S8192x2048.size a) :
    xAt c fh0 off inb = xAt c fh0 off' inb' := by subst e; rfl

/-- The buffer the rows are copied into holds them. -/
theorem x_unread {arg12 : Memref sig .tc .vmem S2048x2048 .f32} (harg12 : arg12.IsWhole) (f : BufTy.Contents (Elt F) arg12.view.ty)
    (w : Vec F S2048x2048 .f32) (L : List (View.Piece (Elt F) S2048x2048 .f32)) :
    arg12.view.writes (Elt F) f (⟨Rect.whole S2048x2048, w⟩ :: L) = harg12.unread w := by
  refine harg12.eq_unread ?_
  funext y
  have e : (Rect.whole S2048x2048).emb y = y := Rect.emb_whole_apply (S2048x2048) y
  have h := View.read_writes_cons_emb arg12.view f (Rect.whole S2048x2048) w L y
  rwa [e] at h

/-- The lent rows and the rest are main memory again. -/
theorem rejoin (c : Dev nD) (fh0 : HbBuf0 (F := F) c hbM0_0) (off : Fin 2 → ℕ) (inb : ∀ a, off a + S2048x2048.size a ≤ S8192x2048.size a) :
    iprop((hbM0_0.view.loc (c : Thread nD τ) ↦[(slc off inb).view.set]{fullShare} fh0) ∗ (hbM0_0.view.loc (c : Thread nD τ) ↦[Finset.univ \ (slc off inb).view.set]{fullShare} fh0))
      ⊢ (hbPt0 c hbM0_0 fh0 : sProp 𝕄) := (pointsTo_split_subset (Finset.subset_univ _)).2

theorem read_p {arg8 : Memref sig .tc .vmem S2048x512 .f32} {arg6 : Memref sig .tc .vmem S512x2048 .f32} {arg10 : Memref sig .tc .vmem S2048x2048 .bf16}
    (harg6 : arg6.IsWhole) (x3 : Vec F S512x2048 .f32) (f : BufTy.Contents (Elt F) arg8.view.ty) (g : BufTy.Contents (Elt F) arg10.view.ty)
    {h : Vec F S2048x2048 .bf16} (hg : arg10.view.read (Elt F) g = h) :
    arg8.view.read (Elt F) (arg8.view.writes (Elt F) f [⟨Rect.unit (s := S2048x512) ![0, 0] S2048x512.size inb_S2048x512_S2048x512_0_0,
      k0_pay4 (View.readAt (Elt F) arg10.view (Rect.unit (s := S2048x2048) ![0, 0] S2048x2048.size inb_S2048x2048_S2048x2048_0_0).toLoadRect g)
        (View.readAt (Elt F) arg6.view (Rect.unit (s := S512x2048) ![0, 0] S512x2048.size inb_S512x2048_S512x2048_0_0).toLoadRect (harg6.unread x3))⟩])
      = k0_pay4 h x3 := by
  refine (View.read_writes_full _ _ _ _ _).trans ?_
  subst hg
  exact congr (congrArg k0_pay4 (View.readAt_full arg10.view g _)) ((View.readAt_full arg6.view _ _).trans (harg6.read_unread x3))

theorem read_pt {arg9 : Memref sig .tc .vmem S2048x16 .f32} {arg7 : Memref sig .tc .vmem S16x2048 .f32} {arg10 : Memref sig .tc .vmem S2048x2048 .bf16}
    (harg7 : arg7.IsWhole) (x4 : Vec F S16x2048 .f32) (f : BufTy.Contents (Elt F) arg9.view.ty) (g : BufTy.Contents (Elt F) arg10.view.ty)
    {h : Vec F S2048x2048 .bf16} (hg : arg10.view.read (Elt F) g = h) :
    arg9.view.read (Elt F) (arg9.view.writes (Elt F) f [⟨Rect.unit (s := S2048x16) ![0, 0] S2048x16.size inb_S2048x16_S2048x16_0_0,
      k0_pay2 (View.readAt (Elt F) arg10.view (Rect.unit (s := S2048x2048) ![0, 0] S2048x2048.size inb_S2048x2048_S2048x2048_0_0).toLoadRect g)
        (View.readAt (Elt F) arg7.view (Rect.unit (s := S16x2048) ![0, 0] S16x2048.size inb_S16x2048_S16x2048_0_0).toLoadRect (harg7.unread x4))⟩])
      = k0_pay2 h x4 := by
  refine (View.read_writes_full _ _ _ _ _).trans ?_
  subst hg
  exact congr (congrArg k0_pay2 (View.readAt_full arg10.view g _)) ((View.readAt_full arg7.view _ _).trans (harg7.read_unread x4))

end InP

end
-- ==== Proof.InP.RunA.lean ====
module

public import proofs.«01_k».proof.Proof.InP.Copy

@[expose] public section

/-! The body at the first point. -/

set_option maxRecDepth 16384

noncomputable section

namespace InP

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem trips_eq0 : Scf.trips k0_t1_loop.lb k0_t1_loop.ub k0_t1_loop.st = 16 := by decide +kernel

set_option maxHeartbeats 1000000 in
/-- The body at the first point: it brings the first sequence in, normalises it, starts the copy of the second, and leaves both products. -/
theorem runA0  (c : Dev nD) (i : grid0.Coords) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole)  (hc1 : k0_cond1 i = 1#1) (hc2 : k0_cond2 i = 1#1) (hc3 : k0_cond3 i = 1#1) (hc4 : k0_cond4 i = 1#1) (hc5 : ¬ k0_cond5 i = 1#1) (hc7 : ¬ k0_cond7 i = 1#1)
    (x0 : Vec F S132x2048 .f32) (x1 : Vec F S132x2048 .f32) (x2 : Vec F S1x2048 .f32) (x3 : Vec F S512x2048 .f32) (x4 : Vec F S16x2048 .f32) (fh0 : HbBuf0 (F := F) c hbM0_0) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg12 fullShare d) ∗ semVal ((c : Thread nD τ), SemLoc.dma 10) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 (hval x0 x1 x2 (xAt c fh0 ![0, 0] inb_S8192x2048_S2048x2048_0_0) 0) x3) ∗ owns (c : Thread nD τ) arg9 fullShare (k0_pay2 (hval x0 x1 x2 (xAt c fh0 ![0, 0] inb_S8192x2048_S2048x2048_0_0) 0) x4) ∗ owns (c : Thread nD τ) arg10 fullShare (hval x0 x1 x2 (xAt c fh0 ![0, 0] inb_S8192x2048_S2048x2048_0_0) 0) ∗ inFlight c harg12 fh0 (k0_off3 i) (k0_off3_inb i hc1 hc2 hc4) ∗ (∃ W', owes (c : Thread nD τ) 0 W')) -∗ K ⟨⟩))
          ⊢ wp frame (wpE (defs₀ (F := F)) Variants.none c none) Set.univ (cc0_in_proj i (Memref.whole main_v2) (Memref.isWhole_whole _) arg3 harg3 arg4 harg4 arg5 harg5 arg6 harg6 arg7 harg7 arg8 harg8 arg9 harg9 arg10 harg10 arg11 harg11 arg12 harg12 cc0_scratch3) K := by
    intro W K
    simp only [cc0_in_proj_eq_skeleton]; unfold cc0_in_proj_skel
    simp only [k0_part1_eq_skeleton, k0_part2_eq_skeleton]; unfold k0_part1_skel k0_part2_skel
    unfold owns
    iintro ⟨⟨%g3, %hg3, H3⟩, ⟨%g4, %hg4, H4⟩, ⟨%g5, %hg5, H5⟩, ⟨%g6, %hg6, H6⟩, ⟨%g7, %hg7, H7⟩, ⟨%d8, %f8, -, H8⟩, ⟨%d9, %f9, -, H9⟩, ⟨%d10, %f10, -, HC⟩, ⟨%d12, %f12, -, H12⟩, Hq, Hh, HW, Hk⟩
    obtain rfl := harg3.eq_unread hg3; obtain rfl := harg4.eq_unread hg4; obtain rfl := harg5.eq_unread hg5; obtain rfl := harg6.eq_unread hg6; obtain rfl := harg7.eq_unread hg7
    sl_exec (disch := first | sl_exact hc1 | sl_exact hc2 | sl_exact hc3 | sl_exact hc4 | sl_exact hc5 | sl_exact hc7)
    sl_step
    iapply Hk
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; refine read_p harg6 x3 _ _ ?_; exact loop_read _ c _ i _ _ arg3 harg3 arg4 harg4 arg5 harg5 arg6 harg6 arg7 harg7 arg8 harg8 arg9 harg9 arg10 harg10 arg11 harg11 arg12 harg12 _ _ _ _ x0 x1 x2 _ _ _ trips_eq0 _ (x_unread harg12 _ _ _)
    isplitl [H9]
    · iexists _; isplitr; swap; · iexact H9
      ipureintro; refine read_pt harg7 x4 _ _ ?_; exact loop_read _ c _ i _ _ arg3 harg3 arg4 harg4 arg5 harg5 arg6 harg6 arg7 harg7 arg8 harg8 arg9 harg9 arg10 harg10 arg11 harg11 arg12 harg12 _ _ _ _ x0 x1 x2 _ _ _ trips_eq0 _ (x_unread harg12 _ _ _)
    isplitl [HC]
    · iexists _; isplitr; swap; · iexact HC
      ipureintro; exact loop_read _ c _ i _ _ arg3 harg3 arg4 harg4 arg5 harg5 arg6 harg6 arg7 harg7 arg8 harg8 arg9 harg9 arg10 harg10 arg11 harg11 arg12 harg12 _ _ _ _ x0 x1 x2 _ _ _ trips_eq0 _ (x_unread harg12 _ _ _)
    isplitl [Hq Hh]
    · unfold inFlight
      isplitl [Hq]
      · rw [x_unread harg12] ; iexact Hq
      iexact Hh
    iexists _; iexact HW

end InP

end
-- ==== Proof.InP.RunS.lean ====
module

public import proofs.«01_k».proof.Proof.InP.Copy

@[expose] public section

/-! The body at the first point of a sequence. -/

set_option maxRecDepth 16384

noncomputable section

namespace InP

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole)

set_option maxHeartbeats 1000000 in
/-- The body at the first point of a sequence: it starts the copy of the next one and leaves both products. -/
theorem runS0 (hc1 : k0_cond1 i = 1#1) (hc2 : k0_cond2 i = 1#1) (hc3 : ¬ k0_cond3 i = 1#1) (hc4 : k0_cond4 i = 1#1) (hc5 : ¬ k0_cond5 i = 1#1) (hc7 : ¬ k0_cond7 i = 1#1)
    (x3 : Vec F S512x2048 .f32) (x4 : Vec F S16x2048 .f32) (h : Vec F S2048x2048 .bf16) (fh0 : HbBuf0 (F := F) c hbM0_0) :
      ∀ (W : Waits sig Unit) (K : PUnit → sProp 𝕄),
        iprop(owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare h ∗ (∃ d, owns (c : Thread nD τ) arg12 fullShare d) ∗ semVal ((c : Thread nD τ), SemLoc.dma 10) 0 ∗ hbPt0 c hbM0_0 fh0 ∗ owes (c : Thread nD τ) 0 W
            ∗ (iprop(owns (c : Thread nD τ) arg6 fullShare x3 ∗ owns (c : Thread nD τ) arg7 fullShare x4 ∗ owns (c : Thread nD τ) arg8 fullShare (k0_pay4 h x3) ∗ owns (c : Thread nD τ) arg9 fullShare (k0_pay2 h x4) ∗ owns (c : Thread nD τ) arg10 fullShare h ∗ inFlight c harg12 fh0 (k0_off3 i) (k0_off3_inb i hc1 hc2 hc4) ∗ (∃ W', owes (c : Thread nD τ) 0 W')) -∗ K ⟨⟩))
          ⊢ wp frame (wpE (defs₀ (F := F)) Variants.none c none) Set.univ (cc0_in_proj i (Memref.whole main_v2) (Memref.isWhole_whole _) arg3 harg3 arg4 harg4 arg5 harg5 arg6 harg6 arg7 harg7 arg8 harg8 arg9 harg9 arg10 harg10 arg11 harg11 arg12 harg12 cc0_scratch3) K := by
    intro W K
    simp only [cc0_in_proj_eq_skeleton]; unfold cc0_in_proj_skel
    simp only [k0_part1_eq_skeleton, k0_part2_eq_skeleton]; unfold k0_part1_skel k0_part2_skel
    unfold owns
    iintro ⟨⟨%g6, %hg6, H6⟩, ⟨%g7, %hg7, H7⟩, ⟨%d8, %f8, -, H8⟩, ⟨%d9, %f9, -, H9⟩, ⟨%gc, %hgc, HC⟩, ⟨%d12, %f12, -, H12⟩, Hq, Hh, HW, Hk⟩
    obtain rfl := harg6.eq_unread hg6; obtain rfl := harg7.eq_unread hg7; obtain rfl := harg10.eq_unread hgc
    sl_exec (disch := first | sl_exact hc1 | sl_exact hc2 | sl_exact hc3 | sl_exact hc4 | sl_exact hc5 | sl_exact hc7)
    sl_step
    iapply Hk
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; refine read_p harg6 x3 _ _ ?_; exact harg10.read_unread h
    isplitl [H9]
    · iexists _; isplitr; swap; · iexact H9
      ipureintro; refine read_pt harg7 x4 _ _ ?_; exact harg10.read_unread h
    isplitl [HC]
    · iexists _; isplitr; swap; · iexact HC
      ipureintro; exact harg10.read_unread h
    isplitl [Hq Hh]
    · unfold inFlight
      isplitl [Hq]
      · rw [x_unread harg12] ; iexact Hq
      iexact Hh
    iexists _; iexact HW

set_option maxHeartbeats 1000000 in
/-- The body at the first point of a sequence: it starts the copy of the next one and leaves both products. -/
theorem runS1 (hc1 : ¬ k0_cond1 i = 1#1) (hc7 : k0_cond7 i = 1#1) (hc8 : k0_cond8 i = 1#1) (hc9 : k0_cond9 i = 1#1) (hc10 : ¬ k0_cond10 i = 1#1)
    (x3 : Vec F S512x2048 .f32) (x4 : Vec F S16x2048 .f32) (h : Vec F S2048x2048 .bf16) (fh0 : HbBuf0 (F := F) c hbM0_0) :
      ∀ (W : Waits sig Unit) (K : PUnit → sProp 𝕄),
        iprop(owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg11 fullShare h ∗ (∃ d, owns (c : Thread nD τ) arg12 fullShare d) ∗ semVal ((c : Thread nD τ), SemLoc.dma 10) 0 ∗ hbPt0 c hbM0_0 fh0 ∗ owes (c : Thread nD τ) 0 W
            ∗ (iprop(owns (c : Thread nD τ) arg6 fullShare x3 ∗ owns (c : Thread nD τ) arg7 fullShare x4 ∗ owns (c : Thread nD τ) arg8 fullShare (k0_pay4 h x3) ∗ owns (c : Thread nD τ) arg9 fullShare (k0_pay2 h x4) ∗ owns (c : Thread nD τ) arg11 fullShare h ∗ inFlight c harg12 fh0 (k0_off7 i) (k0_off7_inb i hc7 hc8 hc9) ∗ (∃ W', owes (c : Thread nD τ) 0 W')) -∗ K ⟨⟩))
          ⊢ wp frame (wpE (defs₀ (F := F)) Variants.none c none) Set.univ (cc0_in_proj i (Memref.whole main_v2) (Memref.isWhole_whole _) arg3 harg3 arg4 harg4 arg5 harg5 arg6 harg6 arg7 harg7 arg8 harg8 arg9 harg9 arg10 harg10 arg11 harg11 arg12 harg12 cc0_scratch3) K := by
    intro W K
    simp only [cc0_in_proj_eq_skeleton]; unfold cc0_in_proj_skel
    simp only [k0_part1_eq_skeleton, k0_part2_eq_skeleton]; unfold k0_part1_skel k0_part2_skel
    unfold owns
    iintro ⟨⟨%g6, %hg6, H6⟩, ⟨%g7, %hg7, H7⟩, ⟨%d8, %f8, -, H8⟩, ⟨%d9, %f9, -, H9⟩, ⟨%gc, %hgc, HC⟩, ⟨%d12, %f12, -, H12⟩, Hq, Hh, HW, Hk⟩
    obtain rfl := harg6.eq_unread hg6; obtain rfl := harg7.eq_unread hg7; obtain rfl := harg11.eq_unread hgc
    sl_exec (disch := first | sl_exact hc1 | sl_exact hc7 | sl_exact hc8 | sl_exact hc9 | sl_exact hc10)
    sl_step
    iapply Hk
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; refine read_p harg6 x3 _ _ ?_; exact harg11.read_unread h
    isplitl [H9]
    · iexists _; isplitr; swap; · iexact H9
      ipureintro; refine read_pt harg7 x4 _ _ ?_; exact harg11.read_unread h
    isplitl [HC]
    · iexists _; isplitr; swap; · iexact HC
      ipureintro; exact harg11.read_unread h
    isplitl [Hq Hh]
    · unfold inFlight
      isplitl [Hq]
      · rw [x_unread harg12] ; iexact Hq
      iexact Hh
    iexists _; iexact HW

set_option maxHeartbeats 1000000 in
/-- The body at the first point of the last sequence: both products. -/
theorem runE1 (hc1 : ¬ k0_cond1 i = 1#1) (hc7 : k0_cond7 i = 1#1) (hc8 : k0_cond8 i = 1#1) (hc9 : ¬ k0_cond9 i = 1#1) (hc10 : ¬ k0_cond10 i = 1#1)
    (x3 : Vec F S512x2048 .f32) (x4 : Vec F S16x2048 .f32) (h : Vec F S2048x2048 .bf16) :
      ∀ (W : Waits sig Unit) (K : PUnit → sProp 𝕄),
        iprop(owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg11 fullShare h ∗ owes (c : Thread nD τ) 0 W
            ∗ (iprop(owns (c : Thread nD τ) arg6 fullShare x3 ∗ owns (c : Thread nD τ) arg7 fullShare x4 ∗ owns (c : Thread nD τ) arg8 fullShare (k0_pay4 h x3) ∗ owns (c : Thread nD τ) arg9 fullShare (k0_pay2 h x4) ∗ owns (c : Thread nD τ) arg11 fullShare h ∗ (∃ W', owes (c : Thread nD τ) 0 W')) -∗ K ⟨⟩))
          ⊢ wp frame (wpE (defs₀ (F := F)) Variants.none c none) Set.univ (cc0_in_proj i (Memref.whole main_v2) (Memref.isWhole_whole _) arg3 harg3 arg4 harg4 arg5 harg5 arg6 harg6 arg7 harg7 arg8 harg8 arg9 harg9 arg10 harg10 arg11 harg11 arg12 harg12 cc0_scratch3) K := by
    intro W K
    simp only [cc0_in_proj_eq_skeleton]; unfold cc0_in_proj_skel
    simp only [k0_part1_eq_skeleton, k0_part2_eq_skeleton]; unfold k0_part1_skel k0_part2_skel
    unfold owns
    iintro ⟨⟨%g6, %hg6, H6⟩, ⟨%g7, %hg7, H7⟩, ⟨%d8, %f8, -, H8⟩, ⟨%d9, %f9, -, H9⟩, ⟨%gc, %hgc, HC⟩, HW, Hk⟩
    obtain rfl := harg6.eq_unread hg6; obtain rfl := harg7.eq_unread hg7; obtain rfl := harg11.eq_unread hgc
    sl_exec (disch := first | sl_exact hc1 | sl_exact hc7 | sl_exact hc8 | sl_exact hc9 | sl_exact hc10)
    sl_step
    iapply Hk
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; refine read_p harg6 x3 _ _ ?_; exact harg11.read_unread h
    isplitl [H9]
    · iexists _; isplitr; swap; · iexact H9
      ipureintro; refine read_pt harg7 x4 _ _ ?_; exact harg11.read_unread h
    isplitl [HC]
    · iexists _; isplitr; swap; · iexact HC
      ipureintro; exact harg11.read_unread h
    iexists _; iexact HW

end InP

end
-- ==== Proof.InP.RunP.lean ====
module

public import proofs.«01_k».proof.Proof.InP.Copy

@[expose] public section

/-! The body at a point that only multiplies. -/

set_option maxRecDepth 16384

noncomputable section

namespace InP

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole)

set_option maxHeartbeats 1000000 in
/-- The body at a point that only multiplies. -/
theorem runP0 (hc1 : k0_cond1 i = 1#1) (hc2 : ¬ k0_cond2 i = 1#1) (hc5 : ¬ k0_cond5 i = 1#1) (hc7 : ¬ k0_cond7 i = 1#1)
    (x3 : Vec F S512x2048 .f32) (h : Vec F S2048x2048 .bf16) :
      ∀ (W : Waits sig Unit) (K : PUnit → sProp 𝕄),
        iprop(owns (c : Thread nD τ) arg6 fullShare x3 ∗ (∃ d, owns (c : Thread nD τ) arg8 fullShare d) ∗ owns (c : Thread nD τ) arg10 fullShare h ∗ owes (c : Thread nD τ) 0 W
            ∗ (iprop(owns (c : Thread nD τ) arg6 fullShare x3 ∗ owns (c : Thread nD τ) arg8 fullShare (k0_pay4 h x3) ∗ owns (c : Thread nD τ) arg10 fullShare h ∗ (∃ W', owes (c : Thread nD τ) 0 W')) -∗ K ⟨⟩))
          ⊢ wp frame (wpE (defs₀ (F := F)) Variants.none c none) Set.univ (cc0_in_proj i (Memref.whole main_v2) (Memref.isWhole_whole _) arg3 harg3 arg4 harg4 arg5 harg5 arg6 harg6 arg7 harg7 arg8 harg8 arg9 harg9 arg10 harg10 arg11 harg11 arg12 harg12 cc0_scratch3) K := by
    intro W K
    simp only [cc0_in_proj_eq_skeleton]; unfold cc0_in_proj_skel
    simp only [k0_part1_eq_skeleton, k0_part2_eq_skeleton]; unfold k0_part1_skel k0_part2_skel
    unfold owns
    iintro ⟨⟨%g6, %hg6, H6⟩, ⟨%d8, %f8, -, H8⟩, ⟨%gc, %hgc, HC⟩, HW, Hk⟩
    obtain rfl := harg6.eq_unread hg6; obtain rfl := harg10.eq_unread hgc
    sl_exec (disch := first | sl_exact hc1 | sl_exact hc2 | sl_exact hc5 | sl_exact hc7)
    sl_step
    iapply Hk
    isplitl [H6]
    · iexists _; isplitr; swap; · iexact H6
      ipureintro; exact harg6.read_unread _
    isplitl [H8]
    · iexists _; isplitr; swap; · iexact H8
      ipureintro; refine read_p harg6 x3 _ _ ?_; exact harg10.read_unread h
    isplitl [HC]
    · iexists _; isplitr; swap; · iexact HC
      ipureintro; exact harg10.read_unread h
    iexists _; iexact HW

set_option maxHeartbeats 1000000 in
/-- The body at a point that only multiplies. -/
theorem runP1 (hc1 : ¬ k0_cond1 i = 1#1) (hc7 : k0_cond7 i = 1#1) (hc8 : ¬ k0_cond8 i = 1#1) (hc10 : ¬ k0_cond10 i = 1#1)
    (x3 : Vec F S512x2048 .f32) (h : Vec F S2048x2048 .bf16) :
      ∀ (W : Waits sig Unit) (K : PUnit → sProp 𝕄),
        iprop(owns (c : Thread nD τ) arg6 fullShare x3 ∗ (∃ d, owns (c : Thread nD τ) arg8 fullShare d) ∗ owns (c : Thread nD τ) arg11 fullShare h ∗ owes (c : Thread nD τ) 0 W
            ∗ (iprop(owns (c : Thread nD τ) arg6 fullShare x3 ∗ owns (c : Thread nD τ) arg8 fullShare (k0_pay4 h x3) ∗ owns (c : Thread nD τ) arg11 fullShare h ∗ (∃ W', owes (c : Thread nD τ) 0 W')) -∗ K ⟨⟩))
          ⊢ wp frame (wpE (defs₀ (F := F)) Variants.none c none) Set.univ (cc0_in_proj i (Memref.whole main_v2) (Memref.isWhole_whole _) arg3 harg3 arg4 harg4 arg5 harg5 arg6 harg6 arg7 harg7 arg8 harg8 arg9 harg9 arg10 harg10 arg11 harg11 arg12 harg12 cc0_scratch3) K := by
    intro W K
    simp only [cc0_in_proj_eq_skeleton]; unfold cc0_in_proj_skel
    simp only [k0_part1_eq_skeleton, k0_part2_eq_skeleton]; unfold k0_part1_skel k0_part2_skel
    unfold owns
    iintro ⟨⟨%g6, %hg6, H6⟩, ⟨%d8, %f8, -, H8⟩, ⟨%gc, %hgc, HC⟩, HW, Hk⟩
    obtain rfl := harg6.eq_unread hg6; obtain rfl := harg11.eq_unread hgc
    sl_exec (disch := first | sl_exact hc1 | sl_exact hc7 | sl_exact hc8 | sl_exact hc10)
    sl_step
    iapply Hk
    isplitl [H6]
    · iexists _; isplitr; swap; · iexact H6
      ipureintro; exact harg6.read_unread _
    isplitl [H8]
    · iexists _; isplitr; swap; · iexact H8
      ipureintro; refine read_p harg6 x3 _ _ ?_; exact harg11.read_unread h
    isplitl [HC]
    · iexists _; isplitr; swap; · iexact HC
      ipureintro; exact harg11.read_unread h
    iexists _; iexact HW

end InP

end
-- ==== Proof.InP.RunW.lean ====
module

public import proofs.«01_k».proof.Proof.InP.Copy

@[expose] public section

/-! The body at the third point of a sequence. -/

set_option maxRecDepth 16384

noncomputable section

namespace InP

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole)

set_option maxHeartbeats 1000000 in
/-- The body at the third point of a sequence: it waits for the copy, normalises the first chunk of the next sequence, and multiplies. -/
theorem runW0 (hc1 : k0_cond1 i = 1#1) (hc2 : ¬ k0_cond2 i = 1#1) (hc5 : k0_cond5 i = 1#1) (hc6 : k0_cond6 i = 1#1) (hc7 : ¬ k0_cond7 i = 1#1)
    (x0 : Vec F S132x2048 .f32) (x1 : Vec F S132x2048 .f32) (x2 : Vec F S1x2048 .f32) (x3 : Vec F S512x2048 .f32) (h : Vec F S2048x2048 .bf16) (fh0 : HbBuf0 (F := F) c hbM0_0) (g : Vec F S2048x2048 .bf16) (r : Fin 4) (k : Fin 16) (e1 : k0_off5 i = ![128 * k.val, 0]) (e2 : k0_off6 i = ![r.val, 0]) (hg : ∀ y : S2048x2048.Idx, (y 0).val < 128 * k.val → g y = hval x0 x1 x2 (xAt c fh0 (k0_off4 i) (k0_off4_inb i hc1 hc5 hc6)) r y) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d) ∗ owns (c : Thread nD τ) arg10 fullShare h ∗ owns (c : Thread nD τ) arg11 fullShare g ∗ inFlight c harg12 fh0 (k0_off4 i) (k0_off4_inb i hc1 hc5 hc6) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (k0_pay4 h x3) ∗ owns (c : Thread nD τ) arg10 fullShare h ∗ (∃ g', owns (c : Thread nD τ) arg11 fullShare g' ∗ ⌜∀ y : S2048x2048.Idx, (y 0).val < 128 * (k.val + 1) → g' y = hval x0 x1 x2 (xAt c fh0 (k0_off4 i) (k0_off4_inb i hc1 hc5 hc6)) r y⌝) ∗ owns (c : Thread nD τ) arg12 fullShare (xAt c fh0 (k0_off4 i) (k0_off4_inb i hc1 hc5 hc6)) ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0_in_proj i (Memref.whole main_v2) (Memref.isWhole_whole _) arg3 harg3 arg4 harg4 arg5 harg5 arg6 harg6 arg7 harg7 arg8 harg8 arg9 harg9 arg10 harg10 arg11 harg11 arg12 harg12 cc0_scratch3) K := by
    intro W K
    simp only [cc0_in_proj_eq_skeleton]; unfold cc0_in_proj_skel
    simp only [k0_part1_eq_skeleton, k0_part2_eq_skeleton]; unfold k0_part1_skel k0_part2_skel
    unfold owns inFlight
    iintro ⟨⟨%g3, %hg3, H3⟩, ⟨%g4, %hg4, H4⟩, ⟨%g5, %hg5, H5⟩, ⟨%g6, %hg6, H6⟩, ⟨%d8, %f8, -, H8⟩, ⟨%gc, %hgc, HC⟩, ⟨%gn, %hgn, HN⟩, ⟨Hq, Hh⟩, HW, Hk⟩
    obtain rfl := harg3.eq_unread hg3; obtain rfl := harg4.eq_unread hg4; obtain rfl := harg5.eq_unread hg5; obtain rfl := harg6.eq_unread hg6; obtain rfl := harg10.eq_unread hgc; obtain rfl := harg11.eq_unread hgn
    sl_exec (disch := first | sl_exact hc1 | sl_exact hc2 | sl_exact hc5 | sl_exact hc6 | sl_exact hc7)
    sl_step
    iapply Hk
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H8]
    · iexists _; isplitr; swap; · iexact H8
      ipureintro; refine read_p harg6 x3 _ _ ?_; exact harg10.read_unread h
    isplitl [HC]
    · iexists _; isplitr; swap; · iexact HC
      ipureintro; exact harg10.read_unread h
    isplitl [HN]
    · iexists _; isplitl [HN]
      · iexists _; isplitr; swap; · iexact HN
        ipureintro; rfl
      ipureintro
      intro y hy
      refine chunk_read harg11 x0 x1 x2 _ r _ k e1 _ g hg _ ?_ y hy
      dsimp only
      refine (pay_even (F := F) _ _ _ _).trans ?_
      unfold chunk
      exact congr (congr (congr (congrArg k0_pay1 (ld_rows harg12 _ _ k e1 _)) (ld_row harg4 x1 _ r e2 _)) (ld_row harg3 x0 _ r e2 _)) (ld_gain harg5 x2 _)
    isplitl [Hq_dst]
    · iexists _; isplitr; swap; · iexact Hq_dst
      ipureintro; exact harg12.read_unread _
    isplitl [Hq]; · iexact Hq
    isplitl [Hh]; · iexact Hh
    iexists _; iexact HW

set_option maxHeartbeats 1000000 in
/-- The body at the third point of a sequence: it waits for the copy, normalises the first chunk of the next sequence, and multiplies. -/
theorem runW1 (hc1 : ¬ k0_cond1 i = 1#1) (hc7 : k0_cond7 i = 1#1) (hc8 : ¬ k0_cond8 i = 1#1) (hc10 : k0_cond10 i = 1#1) (hc11 : k0_cond11 i = 1#1)
    (x0 : Vec F S132x2048 .f32) (x1 : Vec F S132x2048 .f32) (x2 : Vec F S1x2048 .f32) (x3 : Vec F S512x2048 .f32) (h : Vec F S2048x2048 .bf16) (fh0 : HbBuf0 (F := F) c hbM0_0) (g : Vec F S2048x2048 .bf16) (r : Fin 4) (k : Fin 16) (e1 : k0_off9 i = ![128 * k.val, 0]) (e2 : k0_off10 i = ![r.val, 0]) (hg : ∀ y : S2048x2048.Idx, (y 0).val < 128 * k.val → g y = hval x0 x1 x2 (xAt c fh0 (k0_off8 i) (k0_off8_inb i hc7 hc10 hc11)) r y) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d) ∗ owns (c : Thread nD τ) arg11 fullShare h ∗ owns (c : Thread nD τ) arg10 fullShare g ∗ inFlight c harg12 fh0 (k0_off8 i) (k0_off8_inb i hc7 hc10 hc11) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (k0_pay4 h x3) ∗ owns (c : Thread nD τ) arg11 fullShare h ∗ (∃ g', owns (c : Thread nD τ) arg10 fullShare g' ∗ ⌜∀ y : S2048x2048.Idx, (y 0).val < 128 * (k.val + 1) → g' y = hval x0 x1 x2 (xAt c fh0 (k0_off8 i) (k0_off8_inb i hc7 hc10 hc11)) r y⌝) ∗ owns (c : Thread nD τ) arg12 fullShare (xAt c fh0 (k0_off8 i) (k0_off8_inb i hc7 hc10 hc11)) ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0_in_proj i (Memref.whole main_v2) (Memref.isWhole_whole _) arg3 harg3 arg4 harg4 arg5 harg5 arg6 harg6 arg7 harg7 arg8 harg8 arg9 harg9 arg10 harg10 arg11 harg11 arg12 harg12 cc0_scratch3) K := by
    intro W K
    simp only [cc0_in_proj_eq_skeleton]; unfold cc0_in_proj_skel
    simp only [k0_part1_eq_skeleton, k0_part2_eq_skeleton]; unfold k0_part1_skel k0_part2_skel
    unfold owns inFlight
    iintro ⟨⟨%g3, %hg3, H3⟩, ⟨%g4, %hg4, H4⟩, ⟨%g5, %hg5, H5⟩, ⟨%g6, %hg6, H6⟩, ⟨%d8, %f8, -, H8⟩, ⟨%gc, %hgc, HC⟩, ⟨%gn, %hgn, HN⟩, ⟨Hq, Hh⟩, HW, Hk⟩
    obtain rfl := harg3.eq_unread hg3; obtain rfl := harg4.eq_unread hg4; obtain rfl := harg5.eq_unread hg5; obtain rfl := harg6.eq_unread hg6; obtain rfl := harg11.eq_unread hgc; obtain rfl := harg10.eq_unread hgn
    sl_exec (disch := first | sl_exact hc1 | sl_exact hc7 | sl_exact hc8 | sl_exact hc10 | sl_exact hc11)
    sl_step
    iapply Hk
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H8]
    · iexists _; isplitr; swap; · iexact H8
      ipureintro; refine read_p harg6 x3 _ _ ?_; exact harg11.read_unread h
    isplitl [HC]
    · iexists _; isplitr; swap; · iexact HC
      ipureintro; exact harg11.read_unread h
    isplitl [HN]
    · iexists _; isplitl [HN]
      · iexists _; isplitr; swap; · iexact HN
        ipureintro; rfl
      ipureintro
      intro y hy
      refine chunk_read harg10 x0 x1 x2 _ r _ k e1 _ g hg _ ?_ y hy
      dsimp only
      refine (pay_odd (F := F) _ _ _ _).trans ?_
      unfold chunk
      exact congr (congr (congr (congrArg k0_pay1 (ld_rows harg12 _ _ k e1 _)) (ld_row harg4 x1 _ r e2 _)) (ld_row harg3 x0 _ r e2 _)) (ld_gain harg5 x2 _)
    isplitl [Hq_dst]
    · iexists _; isplitr; swap; · iexact Hq_dst
      ipureintro; exact harg12.read_unread _
    isplitl [Hq]; · iexact Hq
    isplitl [Hh]; · iexact Hh
    iexists _; iexact HW

end InP

end
-- ==== Proof.InP.RunN.lean ====
module

public import proofs.«01_k».proof.Proof.InP.Copy

@[expose] public section

/-! The body at a later point. -/

set_option maxRecDepth 16384

noncomputable section

namespace InP

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg3 : Memref sig .tc .vmem S132x2048 .f32) (harg3 : arg3.IsWhole) (arg4 : Memref sig .tc .vmem S132x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S16x2048 .f32) (harg7 : arg7.IsWhole) (arg8 : Memref sig .tc .vmem S2048x512 .f32) (harg8 : arg8.IsWhole) (arg9 : Memref sig .tc .vmem S2048x16 .f32) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S2048x2048 .f32) (harg12 : arg12.IsWhole)

set_option maxHeartbeats 1000000 in
/-- The body at a later point: it normalises a chunk of the next sequence, and multiplies. -/
theorem runN0 (hc1 : k0_cond1 i = 1#1) (hc2 : ¬ k0_cond2 i = 1#1) (hc5 : k0_cond5 i = 1#1) (hc6 : ¬ k0_cond6 i = 1#1) (hc7 : ¬ k0_cond7 i = 1#1)
    (x0 : Vec F S132x2048 .f32) (x1 : Vec F S132x2048 .f32) (x2 : Vec F S1x2048 .f32) (x3 : Vec F S512x2048 .f32) (h : Vec F S2048x2048 .bf16) (g : Vec F S2048x2048 .bf16) (r : Fin 4) (k : Fin 16) (xb : Vec F S2048x2048 .f32) (e1 : k0_off5 i = ![128 * k.val, 0]) (e2 : k0_off6 i = ![r.val, 0]) (hg : ∀ y : S2048x2048.Idx, (y 0).val < 128 * k.val → g y = hval x0 x1 x2 xb r y) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d) ∗ owns (c : Thread nD τ) arg10 fullShare h ∗ owns (c : Thread nD τ) arg11 fullShare g ∗ owns (c : Thread nD τ) arg12 fullShare xb ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (k0_pay4 h x3) ∗ owns (c : Thread nD τ) arg10 fullShare h ∗ (∃ g', owns (c : Thread nD τ) arg11 fullShare g' ∗ ⌜∀ y : S2048x2048.Idx, (y 0).val < 128 * (k.val + 1) → g' y = hval x0 x1 x2 xb r y⌝) ∗ owns (c : Thread nD τ) arg12 fullShare xb ∗ (∃ W', owes (c : Thread nD τ) 0 W')) -∗ K ⟨⟩))
          ⊢ wp frame (wpE (defs₀ (F := F)) Variants.none c none) Set.univ (cc0_in_proj i (Memref.whole main_v2) (Memref.isWhole_whole _) arg3 harg3 arg4 harg4 arg5 harg5 arg6 harg6 arg7 harg7 arg8 harg8 arg9 harg9 arg10 harg10 arg11 harg11 arg12 harg12 cc0_scratch3) K := by
    intro W K
    simp only [cc0_in_proj_eq_skeleton]; unfold cc0_in_proj_skel
    simp only [k0_part1_eq_skeleton, k0_part2_eq_skeleton]; unfold k0_part1_skel k0_part2_skel
    unfold owns
    iintro ⟨⟨%g3, %hg3, H3⟩, ⟨%g4, %hg4, H4⟩, ⟨%g5, %hg5, H5⟩, ⟨%g6, %hg6, H6⟩, ⟨%d8, %f8, -, H8⟩, ⟨%gc, %hgc, HC⟩, ⟨%gn, %hgn, HN⟩, ⟨%g12, %hg12, H12⟩, HW, Hk⟩
    obtain rfl := harg3.eq_unread hg3; obtain rfl := harg4.eq_unread hg4; obtain rfl := harg5.eq_unread hg5; obtain rfl := harg6.eq_unread hg6; obtain rfl := harg10.eq_unread hgc; obtain rfl := harg11.eq_unread hgn; obtain rfl := harg12.eq_unread hg12
    sl_exec (disch := first | sl_exact hc1 | sl_exact hc2 | sl_exact hc5 | sl_exact hc6 | sl_exact hc7)
    sl_step
    iapply Hk
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H8]
    · iexists _; isplitr; swap; · iexact H8
      ipureintro; refine read_p harg6 x3 _ _ ?_; exact harg10.read_unread h
    isplitl [HC]
    · iexists _; isplitr; swap; · iexact HC
      ipureintro; exact harg10.read_unread h
    isplitl [HN]
    · iexists _; isplitl [HN]
      · iexists _; isplitr; swap; · iexact HN
        ipureintro; rfl
      ipureintro
      intro y hy
      refine chunk_read harg11 x0 x1 x2 _ r _ k e1 _ g hg _ ?_ y hy
      dsimp only
      refine (pay_even (F := F) _ _ _ _).trans ?_
      unfold chunk
      exact congr (congr (congr (congrArg k0_pay1 (ld_rows harg12 _ _ k e1 _)) (ld_row harg4 x1 _ r e2 _)) (ld_row harg3 x0 _ r e2 _)) (ld_gain harg5 x2 _)
    isplitl [H12]
    · iexists _; isplitr; swap; · iexact H12
      ipureintro; exact harg12.read_unread _
    iexists _; iexact HW

set_option maxHeartbeats 1000000 in
/-- The body at a later point: it normalises a chunk of the next sequence, and multiplies. -/
theorem runN1 (hc1 : ¬ k0_cond1 i = 1#1) (hc7 : k0_cond7 i = 1#1) (hc8 : ¬ k0_cond8 i = 1#1) (hc10 : k0_cond10 i = 1#1) (hc11 : ¬ k0_cond11 i = 1#1)
    (x0 : Vec F S132x2048 .f32) (x1 : Vec F S132x2048 .f32) (x2 : Vec F S1x2048 .f32) (x3 : Vec F S512x2048 .f32) (h : Vec F S2048x2048 .bf16) (g : Vec F S2048x2048 .bf16) (r : Fin 4) (k : Fin 16) (xb : Vec F S2048x2048 .f32) (e1 : k0_off9 i = ![128 * k.val, 0]) (e2 : k0_off10 i = ![r.val, 0]) (hg : ∀ y : S2048x2048.Idx, (y 0).val < 128 * k.val → g y = hval x0 x1 x2 xb r y) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d) ∗ owns (c : Thread nD τ) arg11 fullShare h ∗ owns (c : Thread nD τ) arg10 fullShare g ∗ owns (c : Thread nD τ) arg12 fullShare xb ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (k0_pay4 h x3) ∗ owns (c : Thread nD τ) arg11 fullShare h ∗ (∃ g', owns (c : Thread nD τ) arg10 fullShare g' ∗ ⌜∀ y : S2048x2048.Idx, (y 0).val < 128 * (k.val + 1) → g' y = hval x0 x1 x2 xb r y⌝) ∗ owns (c : Thread nD τ) arg12 fullShare xb ∗ (∃ W', owes (c : Thread nD τ) 0 W')) -∗ K ⟨⟩))
          ⊢ wp frame (wpE (defs₀ (F := F)) Variants.none c none) Set.univ (cc0_in_proj i (Memref.whole main_v2) (Memref.isWhole_whole _) arg3 harg3 arg4 harg4 arg5 harg5 arg6 harg6 arg7 harg7 arg8 harg8 arg9 harg9 arg10 harg10 arg11 harg11 arg12 harg12 cc0_scratch3) K := by
    intro W K
    simp only [cc0_in_proj_eq_skeleton]; unfold cc0_in_proj_skel
    simp only [k0_part1_eq_skeleton, k0_part2_eq_skeleton]; unfold k0_part1_skel k0_part2_skel
    unfold owns
    iintro ⟨⟨%g3, %hg3, H3⟩, ⟨%g4, %hg4, H4⟩, ⟨%g5, %hg5, H5⟩, ⟨%g6, %hg6, H6⟩, ⟨%d8, %f8, -, H8⟩, ⟨%gc, %hgc, HC⟩, ⟨%gn, %hgn, HN⟩, ⟨%g12, %hg12, H12⟩, HW, Hk⟩
    obtain rfl := harg3.eq_unread hg3; obtain rfl := harg4.eq_unread hg4; obtain rfl := harg5.eq_unread hg5; obtain rfl := harg6.eq_unread hg6; obtain rfl := harg11.eq_unread hgc; obtain rfl := harg10.eq_unread hgn; obtain rfl := harg12.eq_unread hg12
    sl_exec (disch := first | sl_exact hc1 | sl_exact hc7 | sl_exact hc8 | sl_exact hc10 | sl_exact hc11)
    sl_step
    iapply Hk
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H8]
    · iexists _; isplitr; swap; · iexact H8
      ipureintro; refine read_p harg6 x3 _ _ ?_; exact harg11.read_unread h
    isplitl [HC]
    · iexists _; isplitr; swap; · iexact HC
      ipureintro; exact harg11.read_unread h
    isplitl [HN]
    · iexists _; isplitl [HN]
      · iexists _; isplitr; swap; · iexact HN
        ipureintro; rfl
      ipureintro
      intro y hy
      refine chunk_read harg10 x0 x1 x2 _ r _ k e1 _ g hg _ ?_ y hy
      dsimp only
      refine (pay_odd (F := F) _ _ _ _).trans ?_
      unfold chunk
      exact congr (congr (congr (congrArg k0_pay1 (ld_rows harg12 _ _ k e1 _)) (ld_row harg4 x1 _ r e2 _)) (ld_row harg3 x0 _ r e2 _)) (ld_gain harg5 x2 _)
    isplitl [H12]
    · iexists _; isplitr; swap; · iexact H12
      ipureintro; exact harg12.read_unread _
    iexists _; iexact HW

end InP

end
-- ==== Proof.InP.Held.lean ====
module

public import proofs.«01_k».proof.Proof.InP.RunA
public import proofs.«01_k».proof.Proof.InP.RunS
public import proofs.«01_k».proof.Proof.InP.RunP
public import proofs.«01_k».proof.Proof.InP.RunW
public import proofs.«01_k».proof.Proof.InP.RunN
public import Idealize.ShloMosaic.Lib.Pipeline.TableIdle

@[expose] public section

/-! What the pipeline holds between two points of the grid. -/

set_option maxRecDepth 16384

noncomputable section

namespace InP

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first point. -/
def p0 : Fin cfg0.N := ⟨0, by decide +kernel⟩

/-- A sequence of the batch, by its number. -/
def seqOf (r : ℕ) : Fin 4 := ⟨r % 4, Nat.mod_lt _ (by decide)⟩

/-- Where sequence `r` starts in main memory. -/
def offN (r : ℕ) : Fin 2 → ℕ := ![2048 * (r % 4), 0]

theorem offN_inb (r : ℕ) : ∀ a, offN r a + S2048x2048.size a ≤ S8192x2048.size a := by
  intro a
  fin_cases a
  · show 2048 * (r % 4) + 2048 ≤ 8192
    omega
  · show 0 + 2048 ≤ 2048
    omega

/-- The rows of sequence `r`. -/
def xN (c : Dev nD) (r : ℕ) : Vec F S2048x2048 .f32 := xAt c (V m c main_v2) (offN r) (offN_inb r)

/-- The normalised, modulated rows of sequence `r`. -/
def hN (c : Dev nD) (r : ℕ) : Vec F S2048x2048 .bf16 := hval (iblk m c 0 p0) (iblk m c 1 p0) (iblk m c 2 p0) (xN m c r) (seqOf r)

/-- What the two buffers of normalised rows hold before point `t`: the current sequence, and the first chunks of the next one. -/
def Inv (c : Dev nD) (t : ℕ) (cur nxt : Vec F S2048x2048 .bf16) : Prop :=
  (t ≠ 0 → t / 18 < 4 → cur = hN m c (t / 18)) ∧ (t / 18 < 3 → ∀ y : S2048x2048.Idx, (y 0).val < 128 * (t % 18 - 2) → nxt y = hN m c (t / 18 + 1) y)

/-- The buffers take turns: the even sequences are in the first, the odd ones in the second. -/
def Held (c : Dev nD) (t : ℕ) (d0 d1 : Vec F S2048x2048 .bf16) : Prop :=
  (t / 18 % 2 = 0 → Inv m c t d0 d1) ∧ (t / 18 % 2 = 1 → Inv m c t d1 d0)

/-- The copy buffer, its semaphore and main memory, with no copy under way. -/
def quiet (c : Dev nD) : sProp 𝕄 :=
  iprop((∃ d, owns (c : Thread nD τ) scM0_2 fullShare d) ∗ semVal ((c : Thread nD τ), SemLoc.dma 10) 0 ∗ hbPt0 c hbM0_0 (V m c main_v2))

/-- The copy of sequence `r` is under way. -/
def flying (c : Dev nD) (r : ℕ) : sProp 𝕄 :=
  inFlight c (arg12 := scM0_2) (Memref.isWhole_whole _) (V m c main_v2) (offN r) (offN_inb r)

/-- The copy buffer holds sequence `r`. -/
def landed (c : Dev nD) (r : ℕ) : sProp 𝕄 :=
  iprop(owns (c : Thread nD τ) scM0_2 fullShare (xN m c r) ∗ semVal ((c : Thread nD τ), SemLoc.dma 10) 0 ∗ hbPt0 c hbM0_0 (V m c main_v2))

/-- The copy before point `t`. -/
def copyAt (c : Dev nD) (t : ℕ) : sProp 𝕄 :=
  if t % 18 = 0 ∨ 3 ≤ t / 18 then quiet m c else if t % 18 ≤ 2 then flying m c (t / 18 + 1) else landed m c (t / 18 + 1)

theorem copyAt_quiet (c : Dev nD) (t : ℕ) (h : t % 18 = 0 ∨ 3 ≤ t / 18) : copyAt m c t = quiet m c := if_pos h
theorem copyAt_flying (c : Dev nD) (t : ℕ) (h1 : t % 18 ≠ 0) (h2 : t / 18 < 3) (h3 : t % 18 ≤ 2) : copyAt m c t = flying m c (t / 18 + 1) :=
  (if_neg (by omega)).trans (if_pos h3)
theorem copyAt_landed (c : Dev nD) (t : ℕ) (h2 : t / 18 < 3) (h3 : 2 < t % 18) : copyAt m c t = landed m c (t / 18 + 1) :=
  (if_neg (by omega)).trans (if_neg (by omega))
theorem copyAt_same (c : Dev nD) (t : ℕ) (h : t % 18 = 1 ∨ (t / 18 = 3 ∧ t % 18 ≠ 0)) : copyAt m c (t + 1) = copyAt m c t := by
  by_cases h3 : t / 18 < 3
  · rw [copyAt_flying m c t (by omega) h3 (by omega), copyAt_flying m c (t + 1) (by omega) (by omega) (by omega), show (t + 1) / 18 = t / 18 by omega]
  · rw [copyAt_quiet m c t (by omega), copyAt_quiet m c (t + 1) (by omega)]

theorem landed_quiet (c : Dev nD) (r : ℕ) : landed m c r ⊢ quiet m c := by
  unfold landed quiet
  iintro ⟨H, Hq, Hh⟩
  isplitl [H]; · iexists _; iexact H
  isplitl [Hq]; · iexact Hq
  iexact Hh

/-- After a chunk the copy buffer still holds the next sequence, or is free again. -/
theorem landed_next (c : Dev nD) (t : ℕ) (h2 : t / 18 < 3) (h3 : 2 ≤ t % 18) : landed m c (t / 18 + 1) ⊢ copyAt m c (t + 1) := by
  by_cases h : t % 18 = 17
  · rw [copyAt_quiet m c (t + 1) (by omega)]; exact landed_quiet m c _
  · rw [copyAt_landed m c (t + 1) (by omega) (by omega), show (t + 1) / 18 = t / 18 by omega]

/-- What is held before point `t`. -/
def heldAt (c : Dev nD) (t : ℕ) : sProp 𝕄 :=
  iprop((∃ d0 d1, owns (c : Thread nD τ) scM0_0 fullShare d0 ∗ owns (c : Thread nD τ) scM0_1 fullShare d1 ∗ ⌜Held m c t d0 d1⌝) ∗ (∃ r, prngReg c r) ∗ copyAt m c t)

theorem held_zero (c : Dev nD) (d0 d1 : Vec F S2048x2048 .bf16) : Held m c 0 d0 d1 :=
  ⟨fun _ => ⟨fun h => absurd rfl h, fun _ y hy => absurd hy (by omega)⟩, fun h => absurd h (by decide)⟩

theorem held_first (c : Dev nD) (d0 d1 : Vec F S2048x2048 .bf16) (h : d0 = hN m c 0) : Held m c (0 + 1) d0 d1 :=
  ⟨fun _ => ⟨fun _ _ => h, fun _ y hy => absurd hy (by omega)⟩, fun h => absurd h (by decide)⟩

theorem inv_same (c : Dev nD) (t : ℕ) (h0 : t ≠ 0) (h : t % 18 ≤ 1 ∨ t / 18 = 3) (a b : Vec F S2048x2048 .bf16) (hi : Inv m c t a b) (h17 : t % 18 ≠ 17) : Inv m c (t + 1) a b := by
  have e : (t + 1) / 18 = t / 18 := by omega
  unfold Inv
  rw [e]
  exact ⟨fun _ h4 => hi.1 h0 h4, fun h3 y hy => absurd hy (by omega)⟩

/-- A point that stores no chunk keeps what is held. -/
theorem held_same (c : Dev nD) (t : ℕ) (ht : t < 72) (h0 : t ≠ 0) (h : t % 18 ≤ 1 ∨ t / 18 = 3) (a b : Vec F S2048x2048 .bf16) (hi : Held m c t a b) : Held m c (t + 1) a b := by
  by_cases h17 : t % 18 = 17
  · have e : (t + 1) / 18 = 4 := by omega
    refine ⟨fun _ => ⟨fun _ h4 => absurd h4 (by omega), fun h3 => absurd h3 (by omega)⟩, fun h => absurd h (by omega)⟩
  · have e : (t + 1) / 18 = t / 18 := by omega
    exact ⟨fun hp => inv_same m c t h0 h a b (hi.1 (by omega)) h17, fun hp => inv_same m c t h0 h b a (hi.2 (by omega)) h17⟩

theorem inv_next (c : Dev nD) (t : ℕ) (h0 : t ≠ 0) (h2 : 2 ≤ t % 18) (h3 : t / 18 < 3) (a b g : Vec F S2048x2048 .bf16) (hi : Inv m c t a b)
    (hg : ∀ y : S2048x2048.Idx, (y 0).val < 128 * (t % 18 - 2 + 1) → g y = hN m c (t / 18 + 1) y) :
    (t % 18 ≠ 17 → Inv m c (t + 1) a g) ∧ (t % 18 = 17 → Inv m c (t + 1) g a) := by
  refine ⟨fun h17 => ?_, fun h17 => ?_⟩
  · have e : (t + 1) / 18 = t / 18 := by omega
    unfold Inv
    rw [e]
    exact ⟨fun _ h4 => hi.1 h0 h4, fun _ y hy => hg y (by omega)⟩
  · have e : (t + 1) / 18 = t / 18 + 1 := by omega
    unfold Inv
    rw [e]
    refine ⟨fun _ _ => funext fun y => hg y ?_, fun _ y hy => absurd hy (by omega)⟩
    have hy : (y 0).val < 2048 := (y 0).isLt
    omega

/-- A chunk stored into the second buffer. -/
theorem held_next0 (c : Dev nD) (t : ℕ) (h0 : t ≠ 0) (hp : t / 18 % 2 = 0) (h2 : 2 ≤ t % 18) (h3 : t / 18 < 3) (a b g : Vec F S2048x2048 .bf16) (hi : Held m c t a b)
    (hg : ∀ y : S2048x2048.Idx, (y 0).val < 128 * (t % 18 - 2 + 1) → g y = hN m c (t / 18 + 1) y) : Held m c (t + 1) a g := by
  have h := inv_next m c t h0 h2 h3 a b g (hi.1 hp) hg
  exact ⟨fun hq => h.1 (by omega), fun hq => h.2 (by omega)⟩

/-- A chunk stored into the first buffer. -/
theorem held_next1 (c : Dev nD) (t : ℕ) (h0 : t ≠ 0) (hp : t / 18 % 2 = 1) (h2 : 2 ≤ t % 18) (h3 : t / 18 < 3) (a b g : Vec F S2048x2048 .bf16) (hi : Held m c t a b)
    (hg : ∀ y : S2048x2048.Idx, (y 0).val < 128 * (t % 18 - 2 + 1) → g y = hN m c (t / 18 + 1) y) : Held m c (t + 1) g b := by
  have h := inv_next m c t h0 h2 h3 b a g (hi.2 hp) hg
  exact ⟨fun hq => h.2 (by omega), fun hq => h.1 (by omega)⟩

theorem held_in (c : Dev nD) : (Pipeline.ΦD osem0 spec0 H0 (V m) c : sProp 𝕄) ⊢ heldAt m c 0 := by
  rw [PhiD0_eq]; unfold heldAt; rw [copyAt_quiet m c 0 (Or.inl rfl)]; unfold quiet
  iintro ⟨⟨⟨%d0, HS0⟩, ⟨%d1, HS1⟩, HS2⟩, Hg, Hq0, Hh0⟩
  isplitl [HS0 HS1]
  · iexists d0, d1
    isplitl [HS0]; · iexact HS0
    isplitl [HS1]; · iexact HS1
    ipureintro; exact held_zero m c d0 d1
  isplitl [Hg]; · iexact Hg
  isplitl [HS2]; · iexact HS2
  isplitl [Hq0]; · iexact Hq0
  iexact Hh0

theorem held_out (c : Dev nD) (t : ℕ) (h : t % 18 = 0 ∨ 3 ≤ t / 18) : heldAt m c t ⊢ (Pipeline.ΦD osem0 spec0 H0 (V m) c : sProp 𝕄) := by
  rw [PhiD0_eq]; unfold heldAt; rw [copyAt_quiet m c t h]; unfold quiet
  iintro ⟨⟨%d0, %d1, HS0, HS1, -⟩, Hg, HS2, Hq0, Hh0⟩
  isplitl [HS0 HS1 HS2]
  · isplitl [HS0]; · iexists _; iexact HS0
    isplitl [HS1]; · iexists _; iexact HS1
    iexact HS2
  isplitl [Hg]; · iexact Hg
  isplitl [Hq0]; · iexact Hq0
  iexact Hh0

theorem off3_at : ∀ t : Fin cfg0.N, t.val / 18 < 3 → k0_off3 (grid0.coords t) = offN (t.val / 18 + 1) :=
  (by decide +kernel : ∀ t : Fin grid0.N, t.val / 18 < 3 → k0_off3 (grid0.coords t) = offN (t.val / 18 + 1))
theorem off4_at : ∀ t : Fin cfg0.N, t.val / 18 < 3 → k0_off4 (grid0.coords t) = offN (t.val / 18 + 1) :=
  (by decide +kernel : ∀ t : Fin grid0.N, t.val / 18 < 3 → k0_off4 (grid0.coords t) = offN (t.val / 18 + 1))
theorem off7_at : ∀ t : Fin cfg0.N, t.val / 18 < 3 → k0_off7 (grid0.coords t) = offN (t.val / 18 + 1) :=
  (by decide +kernel : ∀ t : Fin grid0.N, t.val / 18 < 3 → k0_off7 (grid0.coords t) = offN (t.val / 18 + 1))
theorem off8_at : ∀ t : Fin cfg0.N, t.val / 18 < 3 → k0_off8 (grid0.coords t) = offN (t.val / 18 + 1) :=
  (by decide +kernel : ∀ t : Fin grid0.N, t.val / 18 < 3 → k0_off8 (grid0.coords t) = offN (t.val / 18 + 1))
theorem off5_at : ∀ t : Fin cfg0.N, 2 ≤ t.val % 18 → k0_off5 (grid0.coords t) = ![128 * (t.val % 18 - 2), 0] :=
  (by decide +kernel : ∀ t : Fin grid0.N, 2 ≤ t.val % 18 → k0_off5 (grid0.coords t) = ![128 * (t.val % 18 - 2), 0])
theorem off9_at : ∀ t : Fin cfg0.N, 2 ≤ t.val % 18 → k0_off9 (grid0.coords t) = ![128 * (t.val % 18 - 2), 0] :=
  (by decide +kernel : ∀ t : Fin grid0.N, 2 ≤ t.val % 18 → k0_off9 (grid0.coords t) = ![128 * (t.val % 18 - 2), 0])
theorem off6_at : ∀ t : Fin cfg0.N, 2 ≤ t.val % 18 → t.val / 18 < 3 → k0_off6 (grid0.coords t) = ![(seqOf (t.val / 18 + 1)).val, 0] :=
  (by decide +kernel : ∀ t : Fin grid0.N, 2 ≤ t.val % 18 → t.val / 18 < 3 → k0_off6 (grid0.coords t) = ![(seqOf (t.val / 18 + 1)).val, 0])
theorem off10_at : ∀ t : Fin cfg0.N, 2 ≤ t.val % 18 → t.val / 18 < 3 → k0_off10 (grid0.coords t) = ![(seqOf (t.val / 18 + 1)).val, 0] :=
  (by decide +kernel : ∀ t : Fin grid0.N, 2 ≤ t.val % 18 → t.val / 18 < 3 → k0_off10 (grid0.coords t) = ![(seqOf (t.val / 18 + 1)).val, 0])

/-- The chunk a later point normalises. -/
def ckAt (t : Fin cfg0.N) : Fin 16 := ⟨t.val % 18 - 2, by omega⟩

/-- A sequence's normalised rows, from the blocks of any point. -/
theorem hN_at (c : Dev nD) (t : Fin cfg0.N) (r : ℕ) (off : Fin 2 → ℕ) (inb : ∀ a, off a + S2048x2048.size a ≤ S8192x2048.size a) (e : off = offN r) :
    hval (iblk m c 0 t) (iblk m c 1 t) (iblk m c 2 t) (xAt c (V m c main_v2) off inb) (seqOf r) = hN m c r := by subst e; rfl

/-- What the pipeline holds at each point, on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (hN m c (t.val / 18)) (iblk m c 3 t)
    | ⟨6, _⟩ => k0_pay2 (hN m c (t.val / 18)) (iblk m c 4 p0)
  Φ t := heldAt m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay4 (hN m c (t.val / 18)) (iblk m c 3 t) := by dsimp only [dats]
theorem after0_6 (c : Dev nD) (t : Fin cfg0.N) : (dats m 0 c).after 6 t = k0_pay2 (hN m c (t.val / 18)) (iblk m c 4 p0) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem fresh6 : ∀ t : Fin cfg0.N, t.val % 18 ≠ 0 → cfg0.fresh 6 t.val = false := by decide +kernel

theorem gate_live : ∀ t : Fin cfg0.N, t.val % 18 = 0 → cfg0.idle 6 (grid0.coords t) = false := by decide +kernel

theorem gate_carry (c : Dev nD) (t : Fin cfg0.N) (ht : t.val % 18 ≠ 0) (h : t.val - 1 < cfg0.N) : (dats m 0 c).after 6 ⟨t.val - 1, h⟩ = k0_pay2 (hN m c (t.val / 18)) (iblk m c 4 p0) := by
  refine (after0_6 m c _).trans ?_
  exact congrArg (fun r => k0_pay2 (hN m c r) (iblk m c 4 p0)) (show (t.val - 1) / 18 = t.val / 18 by omega)

/-- The buffer of the gate columns is found, after the first point of a sequence, as that point left it. -/
theorem before0_6 (c : Dev nD) (t : Fin cfg0.N) (ht : t.val % 18 ≠ 0) (d) : (dats m 0 c).before 6 t d = k0_pay2 (hN m c (t.val / 18)) (iblk m c 4 p0) := by
  rw [(dats m 0 c).before_out_traj 6 rfl (fun _ _ => rfl) (fun t _ hi _ => (after0_6 m c t).trans (gate_carry m c t (fun h => by rw [gate_live t h] at hi; exact Bool.false_ne_true hi) _).symm) t.val t rfl d, fresh6 t ht]
  exact gate_carry m c t ht _

theorem idle5 : ∀ t : Fin cfg0.N, cfg0.idle 5 (grid0.coords t) = false := by decide +kernel
theorem idle6_first : ∀ t : Fin cfg0.N, t.val % 18 = 0 → cfg0.idle 6 (grid0.coords t) = false := by decide +kernel
theorem idle6_later : ∀ t : Fin cfg0.N, t.val % 18 ≠ 0 → cfg0.idle 6 (grid0.coords t) = true := by decide +kernel

theorem phi_succ (c : Dev nD) (t : Fin cfg0.N) : (dats m 0 c).Φ t.succ = heldAt m c (t.val + 1) := rfl
theorem phi_cast (c : Dev nD) (t : Fin cfg0.N) : (dats m 0 c).Φ t.castSucc = heldAt m c t.val := rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

end InP

end
-- ==== Proof.InP.BodyA.lean ====
module

public import proofs.«01_k».proof.Proof.InP.Held

@[expose] public section

/-! The body at every point, and the run of the whole call. -/

set_option maxRecDepth 16384

noncomputable section

namespace InP

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1600000 in
theorem bodyA0 (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [phi_succ, phi_cast]
  unfold Dat.owesAt Pipeline.owesWithin
  rw [show (dats m 0 c).owed t.castSucc = 0 from rfl, show (dats m 0 c).owed t.succ = 0 from rfl]
  have ht72 : t.val < 72 := lt_of_lt_of_eq t.isLt (show cfg0.N = 72 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [idle5 t], after0_5]
  rw [show (dats m 0 c).leavesExact 6 t = owns (c : Thread nD τ) (ms0_6 t) fullShare ((dats m 0 c).after 6 t) from by
    unfold Dat.leavesExact; rw [idle6_first t (by omega)], after0_6]
  unfold heldAt
  rw [copyAt_quiet m c t.val (by omega), copyAt_flying m c (t.val + 1) (by omega) (by omega) (by omega)]
  rw [show (t.val + 1) / 18 = t.val / 18 by omega]
  unfold quiet flying
  have ef := off3_at t (by omega)
  rw [← inFlight_congr c (Memref.isWhole_whole cc0_scratch2) (V m c main_v2) ef (k0_off3_inb (grid0.coords t) ((hc1 t).mpr (by omega)) ((hc2 t).mpr (by omega)) ((hc4 t).mpr (by omega))) (offN_inb _)]
  iintro ⟨⟨⟨%dA, %dB, HA, HB, %hi⟩, Hg, ⟨HX, Hq, Hh⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((runA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hc1 t).mpr (by omega)) ((hc2 t).mpr (by omega)) ((hc3 t).mpr (by omega)) ((hc4 t).mpr (by omega)) (fun h => absurd ((hc5 t).mp h) (by omega)) (fun h => absurd ((hc7 t).mp h) (by omega)) (iblk m c 0 t) (iblk m c 1 t) (iblk m c 2 t) (iblk m c 3 t) (iblk m c 4 t) (V m c main_v2)) W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HA]; · iexists _; iexact HA
  isplitl [HX]; · iexact HX
  isplitl [Hq]; · iexact Hq
  isplitl [Hh]; · iexact Hh
  isplitl [HW]; · iexact HW
  iintro ⟨H0, H1, H2, H3, H4, H5, H6, HA, HX, ⟨%W', HW'⟩⟩
  have e0 : hval (iblk m c 0 t) (iblk m c 1 t) (iblk m c 2 t) (xAt c (V m c main_v2) ![0, 0] inb_S8192x2048_S2048x2048_0_0) 0 = hN m c (t.val / 18) := by
    rw [show t.val / 18 = 0 by omega]; rfl
  rw [e0]
  isplitl [HA HB Hg HX]
  · isplitl [HA HB]
    · iexists _, _
      isplitl [HA]; · iexact HA
      isplitl [HB]; · iexact HB
      ipureintro
      rw [h0]; exact held_first m c _ _ rfl
    isplitl [Hg]; · iexact Hg
    iexact HX
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem bodyS0 (c : Dev nD) (t : Fin cfg0.N) (h0 : t.val ≠ 0) (hn : t.val % 18 = 0) (hm : t.val / 18 < 3) (hp : t.val / 18 % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [phi_succ, phi_cast]
  unfold Dat.owesAt Pipeline.owesWithin
  rw [show (dats m 0 c).owed t.castSucc = 0 from rfl, show (dats m 0 c).owed t.succ = 0 from rfl]
  have ht72 : t.val < 72 := lt_of_lt_of_eq t.isLt (show cfg0.N = 72 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [idle5 t], after0_5]
  rw [show (dats m 0 c).leavesExact 6 t = owns (c : Thread nD τ) (ms0_6 t) fullShare ((dats m 0 c).after 6 t) from by
    unfold Dat.leavesExact; rw [idle6_first t (by omega)], after0_6]
  unfold heldAt
  rw [copyAt_quiet m c t.val (by omega), copyAt_flying m c (t.val + 1) (by omega) (by omega) (by omega)]
  rw [show (t.val + 1) / 18 = t.val / 18 by omega]
  unfold quiet flying
  have ef := off3_at t (by omega)
  rw [← inFlight_congr c (Memref.isWhole_whole cc0_scratch2) (V m c main_v2) ef (k0_off3_inb (grid0.coords t) ((hc1 t).mpr (by omega)) ((hc2 t).mpr (by omega)) ((hc4 t).mpr (by omega))) (offN_inb _)]
  iintro ⟨⟨⟨%dA, %dB, HA, HB, %hi⟩, Hg, ⟨HX, Hq, Hh⟩⟩, ⟨%W, -, HW⟩, ⟨%d0, H0⟩, ⟨%d1, H1⟩, ⟨%d2, H2⟩, ⟨%d3, H3⟩, ⟨%d4, H4⟩, ⟨%d5, H5⟩, ⟨%d6, H6⟩⟩
  have hcur : dA = hN m c (t.val / 18) := (hi.1 hp).1 (by omega) (by omega)
  subst hcur
  iapply ((runS0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hc1 t).mpr (by omega)) ((hc2 t).mpr (by omega)) (fun h => absurd ((hc3 t).mp h) (by omega)) ((hc4 t).mpr (by omega)) (fun h => absurd ((hc5 t).mp h) (by omega)) (fun h => absurd ((hc7 t).mp h) (by omega)) (iblk m c 3 t) (iblk m c 4 t) (hN m c (t.val / 18)) (V m c main_v2)) W _)
  isplitl [H3]; · iexact H3
  isplitl [H4]; · iexact H4
  isplitl [H5]; · iexists _; iexact H5
  isplitl [H6]; · iexists _; iexact H6
  isplitl [HA]; · iexact HA
  isplitl [HX]; · iexact HX
  isplitl [Hq]; · iexact Hq
  isplitl [Hh]; · iexact Hh
  isplitl [HW]; · iexact HW
  iintro ⟨H3, H4, H5, H6, HA, HX, ⟨%W', HW'⟩⟩
  isplitl [HA HB Hg HX]
  · isplitl [HA HB]
    · iexists _, _
      isplitl [HA]; · iexact HA
      isplitl [HB]; · iexact HB
      ipureintro
      exact held_same m c t.val ht72 h0 (by omega) _ _ hi
    isplitl [Hg]; · iexact Hg
    iexact HX
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem bodyS1 (c : Dev nD) (t : Fin cfg0.N) (h0 : t.val ≠ 0) (hn : t.val % 18 = 0) (hm : t.val / 18 < 3) (hp : t.val / 18 % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [phi_succ, phi_cast]
  unfold Dat.owesAt Pipeline.owesWithin
  rw [show (dats m 0 c).owed t.castSucc = 0 from rfl, show (dats m 0 c).owed t.succ = 0 from rfl]
  have ht72 : t.val < 72 := lt_of_lt_of_eq t.isLt (show cfg0.N = 72 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [idle5 t], after0_5]
  rw [show (dats m 0 c).leavesExact 6 t = owns (c : Thread nD τ) (ms0_6 t) fullShare ((dats m 0 c).after 6 t) from by
    unfold Dat.leavesExact; rw [idle6_first t (by omega)], after0_6]
  unfold heldAt
  rw [copyAt_quiet m c t.val (by omega), copyAt_flying m c (t.val + 1) (by omega) (by omega) (by omega)]
  rw [show (t.val + 1) / 18 = t.val / 18 by omega]
  unfold quiet flying
  have ef := off7_at t (by omega)
  rw [← inFlight_congr c (Memref.isWhole_whole cc0_scratch2) (V m c main_v2) ef (k0_off7_inb (grid0.coords t) ((hc7 t).mpr (by omega)) ((hc8 t).mpr (by omega)) ((hc9 t).mpr (by omega))) (offN_inb _)]
  iintro ⟨⟨⟨%dA, %dB, HA, HB, %hi⟩, Hg, ⟨HX, Hq, Hh⟩⟩, ⟨%W, -, HW⟩, ⟨%d0, H0⟩, ⟨%d1, H1⟩, ⟨%d2, H2⟩, ⟨%d3, H3⟩, ⟨%d4, H4⟩, ⟨%d5, H5⟩, ⟨%d6, H6⟩⟩
  have hcur : dB = hN m c (t.val / 18) := (hi.2 hp).1 (by omega) (by omega)
  subst hcur
  iapply ((runS1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => absurd ((hc1 t).mp h) (by omega)) ((hc7 t).mpr (by omega)) ((hc8 t).mpr (by omega)) ((hc9 t).mpr (by omega)) (fun h => absurd ((hc10 t).mp h) (by omega)) (iblk m c 3 t) (iblk m c 4 t) (hN m c (t.val / 18)) (V m c main_v2)) W _)
  isplitl [H3]; · iexact H3
  isplitl [H4]; · iexact H4
  isplitl [H5]; · iexists _; iexact H5
  isplitl [H6]; · iexists _; iexact H6
  isplitl [HB]; · iexact HB
  isplitl [HX]; · iexact HX
  isplitl [Hq]; · iexact Hq
  isplitl [Hh]; · iexact Hh
  isplitl [HW]; · iexact HW
  iintro ⟨H3, H4, H5, H6, HB, HX, ⟨%W', HW'⟩⟩
  isplitl [HA HB Hg HX]
  · isplitl [HA HB]
    · iexists _, _
      isplitl [HA]; · iexact HA
      isplitl [HB]; · iexact HB
      ipureintro
      exact held_same m c t.val ht72 h0 (by omega) _ _ hi
    isplitl [Hg]; · iexact Hg
    iexact HX
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem bodyE1 (c : Dev nD) (t : Fin cfg0.N) (hn : t.val % 18 = 0) (hm : t.val / 18 = 3) (hp : t.val / 18 % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [phi_succ, phi_cast]
  unfold Dat.owesAt Pipeline.owesWithin
  rw [show (dats m 0 c).owed t.castSucc = 0 from rfl, show (dats m 0 c).owed t.succ = 0 from rfl]
  have ht72 : t.val < 72 := lt_of_lt_of_eq t.isLt (show cfg0.N = 72 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [idle5 t], after0_5]
  rw [show (dats m 0 c).leavesExact 6 t = owns (c : Thread nD τ) (ms0_6 t) fullShare ((dats m 0 c).after 6 t) from by
    unfold Dat.leavesExact; rw [idle6_first t (by omega)], after0_6]
  unfold heldAt
  rw [copyAt_quiet m c t.val (by omega), copyAt_quiet m c (t.val + 1) (by omega)]
  iintro ⟨⟨⟨%dA, %dB, HA, HB, %hi⟩, Hg, HX⟩, ⟨%W, -, HW⟩, ⟨%d0, H0⟩, ⟨%d1, H1⟩, ⟨%d2, H2⟩, ⟨%d3, H3⟩, ⟨%d4, H4⟩, ⟨%d5, H5⟩, ⟨%d6, H6⟩⟩
  have hcur : dB = hN m c (t.val / 18) := (hi.2 hp).1 (by omega) (by omega)
  subst hcur
  iapply ((runE1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => absurd ((hc1 t).mp h) (by omega)) ((hc7 t).mpr (by omega)) ((hc8 t).mpr (by omega)) (fun h => absurd ((hc9 t).mp h) (by omega)) (fun h => absurd ((hc10 t).mp h) (by omega)) (iblk m c 3 t) (iblk m c 4 t) (hN m c (t.val / 18))) W _)
  isplitl [H3]; · iexact H3
  isplitl [H4]; · iexact H4
  isplitl [H5]; · iexists _; iexact H5
  isplitl [H6]; · iexists _; iexact H6
  isplitl [HB]; · iexact HB
  isplitl [HW]; · iexact HW
  iintro ⟨H3, H4, H5, H6, HB, ⟨%W', HW'⟩⟩
  isplitl [HA HB Hg HX]
  · isplitl [HA HB]
    · iexists _, _
      isplitl [HA]; · iexact HA
      isplitl [HB]; · iexact HB
      ipureintro
      exact held_same m c t.val ht72 (by omega) (by omega) _ _ hi
    isplitl [Hg]; · iexact Hg
    iexact HX
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

end InP

end
-- ==== Proof.InP.BodyB.lean ====
module

public import proofs.«01_k».proof.Proof.InP.Held

@[expose] public section

/-! The body at every point, and the run of the whole call. -/

set_option maxRecDepth 16384

noncomputable section

namespace InP

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1600000 in
theorem bodyP0 (c : Dev nD) (t : Fin cfg0.N) (hn0 : t.val % 18 ≠ 0) (hn : t.val % 18 = 1 ∨ t.val / 18 = 3) (hp : t.val / 18 % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [phi_succ, phi_cast]
  unfold Dat.owesAt Pipeline.owesWithin
  rw [show (dats m 0 c).owed t.castSucc = 0 from rfl, show (dats m 0 c).owed t.succ = 0 from rfl]
  have ht72 : t.val < 72 := lt_of_lt_of_eq t.isLt (show cfg0.N = 72 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [idle5 t], after0_5]
  simp only [before0_6 m c t (show t.val % 18 ≠ 0 by omega)]
  have hpost : owns (c : Thread nD τ) (ms0_6 t) fullShare (k0_pay2 (hN m c (t.val / 18)) (iblk m c 4 p0)) ⊢ (dats m 0 c).leavesExact 6 t := by
    cases hfl : (cfg0.win 6).flush t
    · rw [(dats m 0 c).leavesExact_idle 6 t (idle6_later t (show t.val % 18 ≠ 0 by omega)) hfl]
      simp only [before0_6 m c t (show t.val % 18 ≠ 0 by omega)]
      iintro H; iexists (Pipeline.Dat.unnamed (cfg := cfg0) 6 t); iexact H
    · unfold Dat.leavesExact; rw [idle6_later t (show t.val % 18 ≠ 0 by omega), hfl, after0_6]
  unfold heldAt
  rw [copyAt_same m c t.val (by omega)]
  iintro ⟨⟨⟨%dA, %dB, HA, HB, %hi⟩, Hg, HX⟩, ⟨%W, -, HW⟩, ⟨%d0, H0⟩, ⟨%d1, H1⟩, ⟨%d2, H2⟩, ⟨%d3, H3⟩, ⟨%d4, H4⟩, ⟨%d5, H5⟩, ⟨%d6, H6⟩⟩
  have hcur : dA = hN m c (t.val / 18) := (hi.1 hp).1 (by omega) (by omega)
  subst hcur
  iapply ((runP0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hc1 t).mpr (by omega)) (fun h => absurd ((hc2 t).mp h) (by omega)) (fun h => absurd ((hc5 t).mp h) (by omega)) (fun h => absurd ((hc7 t).mp h) (by omega)) (iblk m c 3 t) (hN m c (t.val / 18))) W _)
  isplitl [H3]; · iexact H3
  isplitl [H5]; · iexists _; iexact H5
  isplitl [HA]; · iexact HA
  isplitl [HW]; · iexact HW
  iintro ⟨H3, H5, HA, ⟨%W', HW'⟩⟩
  isplitl [HA HB Hg HX]
  · isplitl [HA HB]
    · iexists _, _
      isplitl [HA]; · iexact HA
      isplitl [HB]; · iexact HB
      ipureintro
      exact held_same m c t.val ht72 (by omega) (by omega) _ _ hi
    isplitl [Hg]; · iexact Hg
    iexact HX
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iapply hpost; iexact H6

set_option maxHeartbeats 1600000 in
theorem bodyP1 (c : Dev nD) (t : Fin cfg0.N) (hn0 : t.val % 18 ≠ 0) (hn : t.val % 18 = 1 ∨ t.val / 18 = 3) (hp : t.val / 18 % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [phi_succ, phi_cast]
  unfold Dat.owesAt Pipeline.owesWithin
  rw [show (dats m 0 c).owed t.castSucc = 0 from rfl, show (dats m 0 c).owed t.succ = 0 from rfl]
  have ht72 : t.val < 72 := lt_of_lt_of_eq t.isLt (show cfg0.N = 72 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [idle5 t], after0_5]
  simp only [before0_6 m c t (show t.val % 18 ≠ 0 by omega)]
  have hpost : owns (c : Thread nD τ) (ms0_6 t) fullShare (k0_pay2 (hN m c (t.val / 18)) (iblk m c 4 p0)) ⊢ (dats m 0 c).leavesExact 6 t := by
    cases hfl : (cfg0.win 6).flush t
    · rw [(dats m 0 c).leavesExact_idle 6 t (idle6_later t (show t.val % 18 ≠ 0 by omega)) hfl]
      simp only [before0_6 m c t (show t.val % 18 ≠ 0 by omega)]
      iintro H; iexists (Pipeline.Dat.unnamed (cfg := cfg0) 6 t); iexact H
    · unfold Dat.leavesExact; rw [idle6_later t (show t.val % 18 ≠ 0 by omega), hfl, after0_6]
  unfold heldAt
  rw [copyAt_same m c t.val (by omega)]
  iintro ⟨⟨⟨%dA, %dB, HA, HB, %hi⟩, Hg, HX⟩, ⟨%W, -, HW⟩, ⟨%d0, H0⟩, ⟨%d1, H1⟩, ⟨%d2, H2⟩, ⟨%d3, H3⟩, ⟨%d4, H4⟩, ⟨%d5, H5⟩, ⟨%d6, H6⟩⟩
  have hcur : dB = hN m c (t.val / 18) := (hi.2 hp).1 (by omega) (by omega)
  subst hcur
  iapply ((runP1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => absurd ((hc1 t).mp h) (by omega)) ((hc7 t).mpr (by omega)) (fun h => absurd ((hc8 t).mp h) (by omega)) (fun h => absurd ((hc10 t).mp h) (by omega)) (iblk m c 3 t) (hN m c (t.val / 18))) W _)
  isplitl [H3]; · iexact H3
  isplitl [H5]; · iexists _; iexact H5
  isplitl [HB]; · iexact HB
  isplitl [HW]; · iexact HW
  iintro ⟨H3, H5, HB, ⟨%W', HW'⟩⟩
  isplitl [HA HB Hg HX]
  · isplitl [HA HB]
    · iexists _, _
      isplitl [HA]; · iexact HA
      isplitl [HB]; · iexact HB
      ipureintro
      exact held_same m c t.val ht72 (by omega) (by omega) _ _ hi
    isplitl [Hg]; · iexact Hg
    iexact HX
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iapply hpost; iexact H6

set_option maxHeartbeats 1600000 in
theorem bodyW0 (c : Dev nD) (t : Fin cfg0.N) (hn : t.val % 18 = 2) (hm : t.val / 18 < 3) (hp : t.val / 18 % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [phi_succ, phi_cast]
  unfold Dat.owesAt Pipeline.owesWithin
  rw [show (dats m 0 c).owed t.castSucc = 0 from rfl, show (dats m 0 c).owed t.succ = 0 from rfl]
  have ht72 : t.val < 72 := lt_of_lt_of_eq t.isLt (show cfg0.N = 72 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [idle5 t], after0_5]
  simp only [before0_6 m c t (show t.val % 18 ≠ 0 by omega)]
  have hpost : owns (c : Thread nD τ) (ms0_6 t) fullShare (k0_pay2 (hN m c (t.val / 18)) (iblk m c 4 p0)) ⊢ (dats m 0 c).leavesExact 6 t := by
    cases hfl : (cfg0.win 6).flush t
    · rw [(dats m 0 c).leavesExact_idle 6 t (idle6_later t (show t.val % 18 ≠ 0 by omega)) hfl]
      simp only [before0_6 m c t (show t.val % 18 ≠ 0 by omega)]
      iintro H; iexists (Pipeline.Dat.unnamed (cfg := cfg0) 6 t); iexact H
    · unfold Dat.leavesExact; rw [idle6_later t (show t.val % 18 ≠ 0 by omega), hfl, after0_6]
  unfold heldAt
  rw [copyAt_flying m c t.val (by omega) hm (by omega)]
  have hnext := landed_next m c t.val hm (by omega)
  unfold landed at hnext
  unfold flying
  have ef := off4_at t (by omega)
  rw [← inFlight_congr c (Memref.isWhole_whole cc0_scratch2) (V m c main_v2) ef (k0_off4_inb (grid0.coords t) ((hc1 t).mpr (by omega)) ((hc5 t).mpr (by omega)) ((hc6 t).mpr (by omega))) (offN_inb _)]
  have ex : xN m c (t.val / 18 + 1) = xAt c (V m c main_v2) (k0_off4 (grid0.coords t)) (k0_off4_inb (grid0.coords t) ((hc1 t).mpr (by omega)) ((hc5 t).mpr (by omega)) ((hc6 t).mpr (by omega))) := (xAt_congr c (V m c main_v2) ef _ _).symm
  rw [ex] at hnext
  have eh := hN_at m c t (t.val / 18 + 1) (k0_off4 (grid0.coords t)) (k0_off4_inb (grid0.coords t) ((hc1 t).mpr (by omega)) ((hc5 t).mpr (by omega)) ((hc6 t).mpr (by omega))) ef
  iintro ⟨⟨⟨%dA, %dB, HA, HB, %hi⟩, Hg, HX⟩, ⟨%W, -, HW⟩, ⟨%d0, H0⟩, ⟨%d1, H1⟩, ⟨%d2, H2⟩, ⟨%d3, H3⟩, ⟨%d4, H4⟩, ⟨%d5, H5⟩, ⟨%d6, H6⟩⟩
  have hcur : dA = hN m c (t.val / 18) := (hi.1 hp).1 (by omega) (by omega)
  subst hcur
  iapply ((runW0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hc1 t).mpr (by omega)) (fun h => absurd ((hc2 t).mp h) (by omega)) ((hc5 t).mpr (by omega)) ((hc6 t).mpr (by omega)) (fun h => absurd ((hc7 t).mp h) (by omega)) (iblk m c 0 t) (iblk m c 1 t) (iblk m c 2 t) (iblk m c 3 t) (hN m c (t.val / 18)) (V m c main_v2) dB (seqOf (t.val / 18 + 1)) (ckAt t) (off5_at t (by omega)) (off6_at t (by omega) hm) (fun y hy => ((hi.1 hp).2 hm y hy).trans (congrFun eh.symm y))) W _)
  isplitl [H0]; · iexact H0
  isplitl [H1]; · iexact H1
  isplitl [H2]; · iexact H2
  isplitl [H3]; · iexact H3
  isplitl [H5]; · iexists _; iexact H5
  isplitl [HA]; · iexact HA
  isplitl [HB]; · iexact HB
  isplitl [HX]; · iexact HX
  isplitl [HW]; · iexact HW
  iintro ⟨H0, H1, H2, H3, H5, HA, ⟨%g', HB, %hg'⟩, HX, Hq, Hh, ⟨%W', HW'⟩⟩
  isplitl [HA HB Hg HX Hq Hh]
  · isplitl [HA HB]
    · iexists _, _
      isplitl [HA]; · iexact HA
      isplitl [HB]; · iexact HB
      ipureintro
      exact held_next0 m c t.val (by omega) hp (by omega) hm _ _ g' hi (fun y hy => (hg' y hy).trans (congrFun eh y))
    isplitl [Hg]; · iexact Hg
    iapply hnext
    isplitl [HX]; · iexact HX
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iapply hpost; iexact H6

set_option maxHeartbeats 1600000 in
theorem bodyW1 (c : Dev nD) (t : Fin cfg0.N) (hn : t.val % 18 = 2) (hm : t.val / 18 < 3) (hp : t.val / 18 % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [phi_succ, phi_cast]
  unfold Dat.owesAt Pipeline.owesWithin
  rw [show (dats m 0 c).owed t.castSucc = 0 from rfl, show (dats m 0 c).owed t.succ = 0 from rfl]
  have ht72 : t.val < 72 := lt_of_lt_of_eq t.isLt (show cfg0.N = 72 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [idle5 t], after0_5]
  simp only [before0_6 m c t (show t.val % 18 ≠ 0 by omega)]
  have hpost : owns (c : Thread nD τ) (ms0_6 t) fullShare (k0_pay2 (hN m c (t.val / 18)) (iblk m c 4 p0)) ⊢ (dats m 0 c).leavesExact 6 t := by
    cases hfl : (cfg0.win 6).flush t
    · rw [(dats m 0 c).leavesExact_idle 6 t (idle6_later t (show t.val % 18 ≠ 0 by omega)) hfl]
      simp only [before0_6 m c t (show t.val % 18 ≠ 0 by omega)]
      iintro H; iexists (Pipeline.Dat.unnamed (cfg := cfg0) 6 t); iexact H
    · unfold Dat.leavesExact; rw [idle6_later t (show t.val % 18 ≠ 0 by omega), hfl, after0_6]
  unfold heldAt
  rw [copyAt_flying m c t.val (by omega) hm (by omega)]
  have hnext := landed_next m c t.val hm (by omega)
  unfold landed at hnext
  unfold flying
  have ef := off8_at t (by omega)
  rw [← inFlight_congr c (Memref.isWhole_whole cc0_scratch2) (V m c main_v2) ef (k0_off8_inb (grid0.coords t) ((hc7 t).mpr (by omega)) ((hc10 t).mpr (by omega)) ((hc11 t).mpr (by omega))) (offN_inb _)]
  have ex : xN m c (t.val / 18 + 1) = xAt c (V m c main_v2) (k0_off8 (grid0.coords t)) (k0_off8_inb (grid0.coords t) ((hc7 t).mpr (by omega)) ((hc10 t).mpr (by omega)) ((hc11 t).mpr (by omega))) := (xAt_congr c (V m c main_v2) ef _ _).symm
  rw [ex] at hnext
  have eh := hN_at m c t (t.val / 18 + 1) (k0_off8 (grid0.coords t)) (k0_off8_inb (grid0.coords t) ((hc7 t).mpr (by omega)) ((hc10 t).mpr (by omega)) ((hc11 t).mpr (by omega))) ef
  iintro ⟨⟨⟨%dA, %dB, HA, HB, %hi⟩, Hg, HX⟩, ⟨%W, -, HW⟩, ⟨%d0, H0⟩, ⟨%d1, H1⟩, ⟨%d2, H2⟩, ⟨%d3, H3⟩, ⟨%d4, H4⟩, ⟨%d5, H5⟩, ⟨%d6, H6⟩⟩
  have hcur : dB = hN m c (t.val / 18) := (hi.2 hp).1 (by omega) (by omega)
  subst hcur
  iapply ((runW1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => absurd ((hc1 t).mp h) (by omega)) ((hc7 t).mpr (by omega)) (fun h => absurd ((hc8 t).mp h) (by omega)) ((hc10 t).mpr (by omega)) ((hc11 t).mpr (by omega)) (iblk m c 0 t) (iblk m c 1 t) (iblk m c 2 t) (iblk m c 3 t) (hN m c (t.val / 18)) (V m c main_v2) dA (seqOf (t.val / 18 + 1)) (ckAt t) (off9_at t (by omega)) (off10_at t (by omega) hm) (fun y hy => ((hi.2 hp).2 hm y hy).trans (congrFun eh.symm y))) W _)
  isplitl [H0]; · iexact H0
  isplitl [H1]; · iexact H1
  isplitl [H2]; · iexact H2
  isplitl [H3]; · iexact H3
  isplitl [H5]; · iexists _; iexact H5
  isplitl [HB]; · iexact HB
  isplitl [HA]; · iexact HA
  isplitl [HX]; · iexact HX
  isplitl [HW]; · iexact HW
  iintro ⟨H0, H1, H2, H3, H5, HB, ⟨%g', HA, %hg'⟩, HX, Hq, Hh, ⟨%W', HW'⟩⟩
  isplitl [HA HB Hg HX Hq Hh]
  · isplitl [HA HB]
    · iexists _, _
      isplitl [HA]; · iexact HA
      isplitl [HB]; · iexact HB
      ipureintro
      exact held_next1 m c t.val (by omega) hp (by omega) hm _ _ g' hi (fun y hy => (hg' y hy).trans (congrFun eh y))
    isplitl [Hg]; · iexact Hg
    iapply hnext
    isplitl [HX]; · iexact HX
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iapply hpost; iexact H6

set_option maxHeartbeats 1600000 in
theorem bodyN0 (c : Dev nD) (t : Fin cfg0.N) (hn : 3 ≤ t.val % 18) (hm : t.val / 18 < 3) (hp : t.val / 18 % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [phi_succ, phi_cast]
  unfold Dat.owesAt Pipeline.owesWithin
  rw [show (dats m 0 c).owed t.castSucc = 0 from rfl, show (dats m 0 c).owed t.succ = 0 from rfl]
  have ht72 : t.val < 72 := lt_of_lt_of_eq t.isLt (show cfg0.N = 72 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [idle5 t], after0_5]
  simp only [before0_6 m c t (show t.val % 18 ≠ 0 by omega)]
  have hpost : owns (c : Thread nD τ) (ms0_6 t) fullShare (k0_pay2 (hN m c (t.val / 18)) (iblk m c 4 p0)) ⊢ (dats m 0 c).leavesExact 6 t := by
    cases hfl : (cfg0.win 6).flush t
    · rw [(dats m 0 c).leavesExact_idle 6 t (idle6_later t (show t.val % 18 ≠ 0 by omega)) hfl]
      simp only [before0_6 m c t (show t.val % 18 ≠ 0 by omega)]
      iintro H; iexists (Pipeline.Dat.unnamed (cfg := cfg0) 6 t); iexact H
    · unfold Dat.leavesExact; rw [idle6_later t (show t.val % 18 ≠ 0 by omega), hfl, after0_6]
  unfold heldAt
  rw [copyAt_landed m c t.val hm (by omega)]
  have hnext := landed_next m c t.val hm (by omega)
  unfold landed at hnext ⊢
  have eh := hN_at m c t (t.val / 18 + 1) (offN (t.val / 18 + 1)) (offN_inb _) rfl
  iintro ⟨⟨⟨%dA, %dB, HA, HB, %hi⟩, Hg, ⟨HX, Hq, Hh⟩⟩, ⟨%W, -, HW⟩, ⟨%d0, H0⟩, ⟨%d1, H1⟩, ⟨%d2, H2⟩, ⟨%d3, H3⟩, ⟨%d4, H4⟩, ⟨%d5, H5⟩, ⟨%d6, H6⟩⟩
  have hcur : dA = hN m c (t.val / 18) := (hi.1 hp).1 (by omega) (by omega)
  subst hcur
  iapply ((runN0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hc1 t).mpr (by omega)) (fun h => absurd ((hc2 t).mp h) (by omega)) ((hc5 t).mpr (by omega)) (fun h => absurd ((hc6 t).mp h) (by omega)) (fun h => absurd ((hc7 t).mp h) (by omega)) (iblk m c 0 t) (iblk m c 1 t) (iblk m c 2 t) (iblk m c 3 t) (hN m c (t.val / 18)) dB (seqOf (t.val / 18 + 1)) (ckAt t) (xN m c (t.val / 18 + 1)) (off5_at t (by omega)) (off6_at t (by omega) hm) (fun y hy => ((hi.1 hp).2 hm y hy).trans (congrFun eh.symm y))) W _)
  isplitl [H0]; · iexact H0
  isplitl [H1]; · iexact H1
  isplitl [H2]; · iexact H2
  isplitl [H3]; · iexact H3
  isplitl [H5]; · iexists _; iexact H5
  isplitl [HA]; · iexact HA
  isplitl [HB]; · iexact HB
  isplitl [HX]; · iexact HX
  isplitl [HW]; · iexact HW
  iintro ⟨H0, H1, H2, H3, H5, HA, ⟨%g', HB, %hg'⟩, HX, ⟨%W', HW'⟩⟩
  isplitl [HA HB Hg HX Hq Hh]
  · isplitl [HA HB]
    · iexists _, _
      isplitl [HA]; · iexact HA
      isplitl [HB]; · iexact HB
      ipureintro
      exact held_next0 m c t.val (by omega) hp (by omega) hm _ _ g' hi (fun y hy => (hg' y hy).trans (congrFun eh y))
    isplitl [Hg]; · iexact Hg
    iapply hnext
    isplitl [HX]; · iexact HX
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iapply hpost; iexact H6

set_option maxHeartbeats 1600000 in
theorem bodyN1 (c : Dev nD) (t : Fin cfg0.N) (hn : 3 ≤ t.val % 18) (hm : t.val / 18 < 3) (hp : t.val / 18 % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [phi_succ, phi_cast]
  unfold Dat.owesAt Pipeline.owesWithin
  rw [show (dats m 0 c).owed t.castSucc = 0 from rfl, show (dats m 0 c).owed t.succ = 0 from rfl]
  have ht72 : t.val < 72 := lt_of_lt_of_eq t.isLt (show cfg0.N = 72 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [idle5 t], after0_5]
  simp only [before0_6 m c t (show t.val % 18 ≠ 0 by omega)]
  have hpost : owns (c : Thread nD τ) (ms0_6 t) fullShare (k0_pay2 (hN m c (t.val / 18)) (iblk m c 4 p0)) ⊢ (dats m 0 c).leavesExact 6 t := by
    cases hfl : (cfg0.win 6).flush t
    · rw [(dats m 0 c).leavesExact_idle 6 t (idle6_later t (show t.val % 18 ≠ 0 by omega)) hfl]
      simp only [before0_6 m c t (show t.val % 18 ≠ 0 by omega)]
      iintro H; iexists (Pipeline.Dat.unnamed (cfg := cfg0) 6 t); iexact H
    · unfold Dat.leavesExact; rw [idle6_later t (show t.val % 18 ≠ 0 by omega), hfl, after0_6]
  unfold heldAt
  rw [copyAt_landed m c t.val hm (by omega)]
  have hnext := landed_next m c t.val hm (by omega)
  unfold landed at hnext ⊢
  have eh := hN_at m c t (t.val / 18 + 1) (offN (t.val / 18 + 1)) (offN_inb _) rfl
  iintro ⟨⟨⟨%dA, %dB, HA, HB, %hi⟩, Hg, ⟨HX, Hq, Hh⟩⟩, ⟨%W, -, HW⟩, ⟨%d0, H0⟩, ⟨%d1, H1⟩, ⟨%d2, H2⟩, ⟨%d3, H3⟩, ⟨%d4, H4⟩, ⟨%d5, H5⟩, ⟨%d6, H6⟩⟩
  have hcur : dB = hN m c (t.val / 18) := (hi.2 hp).1 (by omega) (by omega)
  subst hcur
  iapply ((runN1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => absurd ((hc1 t).mp h) (by omega)) ((hc7 t).mpr (by omega)) (fun h => absurd ((hc8 t).mp h) (by omega)) ((hc10 t).mpr (by omega)) (fun h => absurd ((hc11 t).mp h) (by omega)) (iblk m c 0 t) (iblk m c 1 t) (iblk m c 2 t) (iblk m c 3 t) (hN m c (t.val / 18)) dA (seqOf (t.val / 18 + 1)) (ckAt t) (xN m c (t.val / 18 + 1)) (off9_at t (by omega)) (off10_at t (by omega) hm) (fun y hy => ((hi.2 hp).2 hm y hy).trans (congrFun eh.symm y))) W _)
  isplitl [H0]; · iexact H0
  isplitl [H1]; · iexact H1
  isplitl [H2]; · iexact H2
  isplitl [H3]; · iexact H3
  isplitl [H5]; · iexists _; iexact H5
  isplitl [HB]; · iexact HB
  isplitl [HA]; · iexact HA
  isplitl [HX]; · iexact HX
  isplitl [HW]; · iexact HW
  iintro ⟨H0, H1, H2, H3, H5, HB, ⟨%g', HA, %hg'⟩, HX, ⟨%W', HW'⟩⟩
  isplitl [HA HB Hg HX Hq Hh]
  · isplitl [HA HB]
    · iexists _, _
      isplitl [HA]; · iexact HA
      isplitl [HB]; · iexact HB
      ipureintro
      exact held_next1 m c t.val (by omega) hp (by omega) hm _ _ g' hi (fun y hy => (hg' y hy).trans (congrFun eh y))
    isplitl [Hg]; · iexact Hg
    iapply hnext
    isplitl [HX]; · iexact HX
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iapply hpost; iexact H6

end InP

end
-- ==== Proof.InP.Body.lean ====
module

public import proofs.«01_k».proof.Proof.InP.BodyA
public import proofs.«01_k».proof.Proof.InP.BodyB

@[expose] public section

/-! The body at every point, and the run of the whole call. -/

set_option maxRecDepth 16384

noncomputable section

namespace InP

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body at any point does what `dats` says of it. -/
theorem sound_body (c : Dev nD) (t : Fin cfg0.N) :
    bodyPre m c t ⊢ wp frame (wpE (defs₀ (F := F)) Variants.none c none) Set.univ (bodyAt0 t) (fun _ => bodyPost m c t) := by
  have ht72 : t.val < 72 := lt_of_lt_of_eq t.isLt (show cfg0.N = 72 from N_0)
  by_cases h0 : t.val = 0
  · exact bodyA0 m c t h0
  by_cases hn : t.val % 18 = 0
  · by_cases hm : t.val / 18 < 3
    · by_cases hp : t.val / 18 % 2 = 0
      · exact bodyS0 m c t h0 hn hm hp
      · exact bodyS1 m c t h0 hn hm (by omega)
    · exact bodyE1 m c t hn (by omega) (by omega)
  by_cases hq : t.val % 18 = 1 ∨ t.val / 18 = 3
  · by_cases hp : t.val / 18 % 2 = 0
    · exact bodyP0 m c t hn hq hp
    · exact bodyP1 m c t hn hq (by omega)
  by_cases h2 : t.val % 18 = 2
  · by_cases hp : t.val / 18 % 2 = 0
    · exact bodyW0 m c t h2 (by omega) hp
    · exact bodyW1 m c t h2 (by omega) (by omega)
  · by_cases hp : t.val / 18 % 2 = 0
    · exact bodyN0 m c t (by omega) (by omega) hp
    · exact bodyN1 m c t (by omega) (by omega) (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole call: the arrays end as `dats` says, everything else as it was, the counters at zero. -/
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m) (hin := fun c => held_in m c) (hout := fun c => held_out m c 72 (by decide))

/-- A run that ends as the pipeline says leaves the arguments as they were. -/
theorem args_kept (r) (h : Pipeline.FramePost cfgs (dats m) 0 (V m) r ∧ r.2.sem = fun _ => 0) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h.1 c).2 main_arg0 (Pipeline.mem_restRefs_of main_arg0 (by decide) (by decide))).trans (V_main_arg0 m c),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).2 main_arg3 (Pipeline.mem_restRefs_of main_arg3 (by decide) (by decide))).trans (V_main_arg3 m c)⟩

/-- The program leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m _ h, h.2⟩) (run_main m ρ)

end InP

end
-- ==== Proof.InP.Rows.lean ====
/- What the kernel computes of one row, and what it multiplies it by, read at an index over the extended reals. -/
module

public import proofs.«01_k».proof.Proof.InP.Body
public import Idealize.ShloMosaic.Lib.Pointwise
import Idealize.ShloMosaic.Lib.Pipeline.ValueKit

@[expose] public section

set_option maxRecDepth 65536

noncomputable section

namespace InP

open Idealize.ShloMosaic Idealize.ShloMosaic.TcCoe Idealize.ShloMosaic.Tactic Idealize.SL.Sem
open Cert.Kernel6Ideal Cert.Kernel6Ideal.Gen

/-- A row over the root of its mean square. -/
def normed (x : Fin 2048 → EReal) (d : Fin 2048) : EReal :=
  x d * Ideal.rsqrt (Ideal.div (∑ k : Fin 2048, x k * x k) (Ideal.ofBits .f32 0x45000000#32) + Ideal.ofBits .f32 0x358637BD#32)

/-- The normalised row scaled by the gain and by one plus the scale, and shifted. -/
def modulated (x : Fin 2048 → EReal) (s t g : Fin 2048 → EReal) (d : Fin 2048) : EReal :=
  normed x d * (g d * (Ideal.ofBits .f32 0x3F800000#32 + s d)) + t d

theorem pay1_at (a : FVec Ideal S128x2048 .f32) (s t g : FVec Ideal S1x2048 .f32) (r : Fin 128) (d : Fin 2048) :
    k0_pay1 (F := Ideal) a s t g (ix2 r d)
      = modulated (fun k => a (ix2 r k)) (fun k => s (ix2 0 k)) (fun k => t (ix2 0 k)) (fun k => g (ix2 0 k)) d := by
  unfold modulated normed
  pointwise [k0_pay1]

/-- Row `n` of the kernel's normalised and modulated rows of sequence `r`. -/
theorem hval_at (x0 x1 : FVec Ideal S132x2048 .f32) (x2 : FVec Ideal S1x2048 .f32) (xb : FVec Ideal S2048x2048 .f32) (r : Fin 4) (n : Fin 2048) (d : Fin 2048) :
    hval (F := Ideal) x0 x1 x2 xb r (ix2 n d)
      = modulated (fun k => xb (ix2 n k)) (fun k => x1 (ix2 ⟨r.val, by omega⟩ k)) (fun k => x0 (ix2 ⟨r.val, by omega⟩ k)) (fun k => x2 (ix2 0 k)) d := by
  refine (pay1_at _ _ _ _ (⟨n.val % 128, Nat.mod_lt _ (by decide)⟩ : Fin 128) d).trans ?_
  have e1 : 128 * (n.val / 128) + n.val % 128 = n.val := by omega
  have f1 : (fun k : Fin 2048 => rowsOf (F := Ideal) xb ⟨n.val / 128, by omega⟩ (ix2 (⟨n.val % 128, Nat.mod_lt _ (by decide)⟩ : Fin 128) k)) = fun k : Fin 2048 => xb (ix2 n k) := by
    funext k
    exact congrArg xb (congrArg (fun q : Fin 2048 => (ix2 q k : S2048x2048.Idx)) (Fin.ext e1))
  exact congr (congr (congr (congr (congrArg modulated f1) rfl) rfl) rfl) rfl

theorem pay4_at (h : FVec Ideal S2048x2048 .bf16) (w : FVec Ideal S512x2048 .f32) (r : Fin 2048) (j : Fin 512) :
    k0_pay4 (F := Ideal) h w (ix2 r j) = ∑ d : Fin 2048, h (ix2 r d) * w (ix2 j d) := by
  pointwise [k0_pay4]

theorem pay2_at (h : FVec Ideal S2048x2048 .bf16) (w : FVec Ideal S16x2048 .f32) (r : Fin 2048) (j : Fin 16) :
    k0_pay2 (F := Ideal) h w (ix2 r j) = ∑ d : Fin 2048, h (ix2 r d) * w (ix2 j d) := by
  pointwise [k0_pay2]

end InP

end
-- ==== Proof.InP.RefAt.lean ====
/- What the reference's two results hold, read at an index. -/
module

public import proofs.«01_k».proof.Proof.InP.Rows
public import proofs.«01_k».proof.Proof.Gen.Reference6Ideal.Read
public import Idealize.ShloMosaic.Lib.Pointwise
import Idealize.ShloMosaic.Lib.Pipeline.ValueKit

@[expose] public section

set_option maxRecDepth 65536

noncomputable section

namespace InP

open Idealize.ShloMosaic Idealize.ShloMosaic.TcCoe Idealize.ShloMosaic.Tactic Idealize.SL.Sem
open Cert.Reference6Ideal Cert.Reference6Ideal.Read

variable (x0 : FVec Ideal S4x2048x2048 .f32) (x1 : FVec Ideal S132x6144 .f32) (x2 : FVec Ideal S1x2048 .f32) (x3 : FVec Ideal S1x2048x9232 .f32)

/-- Row `(b, s)` of the normalised and modulated rows. -/
def hRow (b : Fin 4) (s : Fin 2048) (d : Fin 2048) : EReal :=
  modulated (fun k => x0 (ix3 b s k)) (fun k => x1 (ix2 ⟨b.val, by omega⟩ ⟨2048 + k.val, by omega⟩))
    (fun k => x1 (ix2 ⟨b.val, by omega⟩ ⟨k.val, by omega⟩)) (fun k => x2 (ix2 0 k)) d

/-- Column `j` of the product of row `(b, s)` with the weights. -/
def proj (b : Fin 4) (s : Fin 2048) (j : Fin 9232) : EReal := ∑ d : Fin 2048, hRow x0 x1 x2 b s d * x3 (ix3 0 d j)

theorem v11_at (b : Fin 4) (s : Fin 2048) (u : Fin 1) :
    val_main_v11 (F := Ideal) x0 (ix3 b s u) = Ideal.rsqrt (Ideal.div (∑ k : Fin 2048, x0 (ix3 b s k) * x0 (ix3 b s k)) (Ideal.ofBits .f32 0x45000000#32) + Ideal.ofBits .f32 0x358637BD#32) := by
  pointwise [val_main_v11, val_main_v10, val_main_v9, val_main_v8, val_main_v7, val_main_v6, val_main_v5, val_main_v4, val_main_cst, val_main_cst_0, val_main_cst_1]

theorem v17_at (b : Fin 4) (s : Fin 2048) (d : Fin 2048) :
    val_main_v17 (F := Ideal) x0 x2 (ix3 b s d) = normed (fun k => x0 (ix3 b s k)) d * x2 (ix2 0 d) := by
  have e := v11_at x0 b s 0
  unfold normed
  rw [← e]
  unfold val_main_v17 val_main_v13 val_main_v12
  generalize val_main_v11 (F := Ideal) x0 = w
  pointwise [val_main_v16, val_main_v15, val_main_v14]

theorem v21_at (b : Fin 4) (s : Fin 2048) (d : Fin 2048) :
    val_main_v21 (F := Ideal) x1 (ix3 b s d) = Ideal.ofBits .f32 0x3F800000#32 + x1 (ix2 ⟨b.val, by omega⟩ ⟨2048 + d.val, by omega⟩) := by
  pointwise [val_main_v21, val_main_v20, val_main_v19, val_main_v18, val_main_v2, val_main_v0, val_main_cst_2]

theorem v24_at (b : Fin 4) (s : Fin 2048) (d : Fin 2048) :
    val_main_v24 (F := Ideal) x1 (ix3 b s d) = x1 (ix2 ⟨b.val, by omega⟩ ⟨d.val, by omega⟩) := by
  pointwise [val_main_v24, val_main_v23, val_main_v1, val_main_v0]

theorem v25_at (b : Fin 4) (s : Fin 2048) (d : Fin 2048) : val_main_v25 (F := Ideal) x0 x1 x2 (ix3 b s d) = hRow x0 x1 x2 b s d := by
  refine (congrArg₂ (· + ·) (congrArg₂ (· * ·) (v17_at x0 x2 b s d) (v21_at x1 b s d)) (v24_at x1 b s d)).trans ?_
  unfold hRow modulated
  rw [mul_assoc]

theorem v26_at (d : Fin 2048) (j : Fin 9232) : val_main_v26 (F := Ideal) x3 (ix2 d j) = x3 (ix3 0 d j) := by
  pointwise [val_main_v26]

theorem v27_at (b : Fin 4) (s : Fin 2048) (j : Fin 9232) : val_main_v27 (F := Ideal) x0 x1 x2 x3 (ix3 b s j) = proj x0 x1 x2 x3 b s j := by
  refine (val_main_v27_apply x0 x1 x2 x3 _).trans (Finset.sum_congr rfl fun d _ => ?_)
  refine congrArg₂ (· * ·) (Eq.trans (congrArg _ ?_) (v25_at x0 x1 x2 b s d)) (Eq.trans (congrArg _ ?_) (v26_at x3 d j))
  · funext a; fin_cases a <;> rfl
  · funext a; fin_cases a <;> rfl

/-- The column of the weights that column `j` of the first result takes. -/
def col (j : Fin 9216) : Fin 9232 := if j.val < 5120 then ⟨j.val, by omega⟩ else ⟨j.val + 16, by omega⟩

theorem col_lo (j : Fin 9216) (h : j.val < 5120) : (col j).val = j.val := by unfold col; rw [if_pos h]
theorem col_hi (j : Fin 9216) (h : ¬ j.val < 5120) : (col j).val = j.val + 16 := by unfold col; rw [if_neg h]

/-- A piece of the first result, cut from column `o` of the product on and laid from column `p` on, read in its place. -/
theorem piece_at (b : Fin 4) (s : Fin 2048) (j : Fin 9216) (y : FVec Ideal S4x2048x9232 .f32) (k n o p : Nat) (h : p ≤ j.val) (h' : j.val < p + n)
    (ho : (col j).val + p = j.val + o)
    (hn : n ≤ 9232) (x : (⟨3, ![4, 2048, n]⟩ : Shape).Idx → EReal)
    (hx : ∀ u : Fin n, ∀ q : Fin 9232, q.val = o + u.val → x (ix3 b s u) = y (ix3 b s q))
    (xs : List ((s : Shape) × (s.Idx → EReal))) (hc : Shape.Concatenates (xs.map (·.1)) S4x2048x9216 2)
    (hk : k < xs.length) (hxk : xs[k] = ⟨⟨3, ![4, 2048, n]⟩, x⟩)
    (hpre : (((xs.take k).map (·.1)).map fun s => if h : s.rank = S4x2048x9216.rank then s.size ((2 : Fin 3).cast h.symm) else 0).sum = p) :
    concatenate S4x2048x9216 2 xs hc (ix3 b s j) = y (ix3 b s (col j)) := by
  refine (concatenate_apply_piece (t := S4x2048x9216) 2 xs hc (ix3 b s j) k hk _ x hxk rfl p hpre (ix3 b s ⟨j.val - p, by omega⟩) (fun a ha => ?_) ?_).trans (hx _ _ ?_)
  · fin_cases a
    · rfl
    · rfl
    · exact absurd rfl ha
  · show p + (j.val - p) = j.val
    omega
  · show (col j).val = o + (j.val - p)
    omega

theorem slice_at {n o : Nat} (y : FVec Ideal S4x2048x9232 .f32) (hs : S4x2048x9232.Slices ![0, 0, o] ⟨3, ![4, 2048, n]⟩) (b : Fin 4) (s : Fin 2048) (u : Fin n) (q : Fin 9232) (hq : q.val = o + u.val) :
    extractStridedSlice ⟨3, ![4, 2048, n]⟩ ![0, 0, o] y hs (ix3 b s u) = y (ix3 b s q) :=
  extractStridedSlice_apply ![0, 0, o] y hs (ix3 b s u) (ix3 b s q) fun a => by
    fin_cases a
    · exact (Nat.zero_add _).symm
    · exact (Nat.zero_add _).symm
    · exact hq

theorem v37_at (b : Fin 4) (s : Fin 2048) (j : Fin 9216) : val_main_v37 (F := Ideal) x0 x1 x2 x3 (ix3 b s j) = proj x0 x1 x2 x3 b s (col j) := by
  rw [← v27_at]
  unfold val_main_v37 val_main_v28 val_main_v29 val_main_v30 val_main_v31 val_main_v32 val_main_v33 val_main_v35 val_main_v36
  generalize val_main_v27 (F := Ideal) x0 x1 x2 x3 = y
  have hj := j.isLt
  by_cases c5 : j.val < 5120
  · have e := col_lo j c5
    by_cases c0 : j.val < 1024
    · exact piece_at b s j y 0 1024 0 0 (by omega) (by omega) (by omega) (by omega) _ (slice_at y _ b s) _ _ (Nat.lt_of_lt_of_eq (m := 8) (by decide) rfl) rfl rfl
    by_cases c1 : j.val < 2048
    · exact piece_at b s j y 1 1024 1024 1024 (by omega) (by omega) (by omega) (by omega) _ (slice_at y _ b s) _ _ (Nat.lt_of_lt_of_eq (m := 8) (by decide) rfl) rfl rfl
    by_cases c2 : j.val < 2560
    · exact piece_at b s j y 2 512 2048 2048 (by omega) (by omega) (by omega) (by omega) _ (slice_at y _ b s) _ _ (Nat.lt_of_lt_of_eq (m := 8) (by decide) rfl) rfl rfl
    by_cases c3 : j.val < 3072
    · exact piece_at b s j y 3 512 2560 2560 (by omega) (by omega) (by omega) (by omega) _ (slice_at y _ b s) _ _ (Nat.lt_of_lt_of_eq (m := 8) (by decide) rfl) rfl rfl
    by_cases c4 : j.val < 4096
    · exact piece_at b s j y 4 1024 3072 3072 (by omega) (by omega) (by omega) (by omega) _ (slice_at y _ b s) _ _ (Nat.lt_of_lt_of_eq (m := 8) (by decide) rfl) rfl rfl
    · exact piece_at b s j y 5 1024 4096 4096 (by omega) (by omega) (by omega) (by omega) _ (slice_at y _ b s) _ _ (Nat.lt_of_lt_of_eq (m := 8) (by decide) rfl) rfl rfl
  · have e := col_hi j c5
    by_cases c6 : j.val < 7168
    · exact piece_at b s j y 6 2048 5136 5120 (by omega) (by omega) (by omega) (by omega) _ (slice_at y _ b s) _ _ (Nat.lt_of_lt_of_eq (m := 8) (by decide) rfl) rfl rfl
    · exact piece_at b s j y 7 2048 7184 7168 (by omega) (by omega) (by omega) (by omega) _ (slice_at y _ b s) _ _ (Nat.lt_of_lt_of_eq (m := 8) (by decide) rfl) rfl rfl

/-- The first result at row `n` and column `j`. -/
theorem v38_at (n : Fin 8192) (j : Fin 9216) :
    val_main_v38 (F := Ideal) x0 x1 x2 x3 (ix2 n j) = proj x0 x1 x2 x3 ⟨n.val / 2048, by omega⟩ ⟨n.val % 2048, by omega⟩ (col j) := by
  rw [← v37_at]
  unfold val_main_v38
  generalize val_main_v37 (F := Ideal) x0 x1 x2 x3 = y
  pointwise

/-- The second result at row `n` and column `j`. -/
theorem v39_at (n : Fin 8192) (j : Fin 16) :
    val_main_v39 (F := Ideal) x0 x1 x2 x3 (ix2 n j) = proj x0 x1 x2 x3 ⟨n.val / 2048, by omega⟩ ⟨n.val % 2048, by omega⟩ ⟨5120 + j.val, by omega⟩ := by
  rw [← v27_at]
  unfold val_main_v39 val_main_v34
  generalize val_main_v27 (F := Ideal) x0 x1 x2 x3 = y
  pointwise

end InP

end
-- ==== Proof.InP.Arrays.lean ====
/- The kernel's blocks read at an index, and the two result arrays after the run. -/
module

public import proofs.«01_k».proof.Proof.InP.Body
public import proofs.«01_k».proof.Proof.InP.RefAt
import Idealize.ShloMosaic.Lib.Pipeline.ValueKit

@[expose] public section

set_option maxRecDepth 65536

noncomputable section

namespace InP

open Idealize.ShloMosaic Idealize.ShloMosaic.TcCoe Idealize.ShloMosaic.Tactic Idealize.SL.Sem
open Cert.Kernel6Ideal Cert.Kernel6Ideal.Gen

/-- The first row of the weights' block at column tile `n`: the sixteen rows from 5120 on are left out. -/
def wrow (n : Nat) : Nat := if n < 10 then 512 * n else 512 * n + 16

theorem idx : ∀ t : Fin cfg0.N, win0_0.index t = ![0, 0] ∧ win0_1.index t = ![0, 1] ∧ win0_2.index t = ![0, 0] ∧ win0_3.index t = ![wrow (t.val % 18), 0] ∧ win0_4.index t = ![320, 0]
    ∧ win0_5.index t = ![t.val / 18, t.val % 18] ∧ win0_6.index t = ![t.val / 18, 0] := by
  decide +kernel

variable (m : (ℓ : Loc nD τ sig) → Buf (Elt Ideal) ℓ) (c : Dev nD) (t : Fin cfg0.N)

theorem lt4 : t.val / 18 < 4 := by
  have := lt_of_lt_of_eq t.isLt N_0
  omega

theorem lt18 : t.val % 18 < 18 := Nat.mod_lt _ (by decide)

/-- The arguments the reference takes. -/
abbrev A0 : FVec Ideal S4x2048x2048 .f32 := m ((c : Thread nD τ).loc main_arg0)
abbrev A1 : FVec Ideal S132x6144 .f32 := m ((c : Thread nD τ).loc main_arg1)
abbrev A2 : FVec Ideal S1x2048 .f32 := m ((c : Thread nD τ).loc main_arg2)
abbrev A3 : FVec Ideal S1x2048x9232 .f32 := m ((c : Thread nD τ).loc main_arg3)

theorem x_at (x : FVec Ideal S4x2048x2048 .f32) (n : Fin 8192) (d : Fin 2048) :
    shapeCast S8192x2048 x shapeCasts_S4x2048x2048_S8192x2048 (ix2 n d) = x (ix3 ⟨n.val / 2048, by omega⟩ ⟨n.val % 2048, by omega⟩ d) := by
  pointwise

theorem w_at (x : FVec Ideal S1x2048x9232 .f32) (j : Fin 9232) (d : Fin 2048) :
    shapeCast S9232x2048 (transpose S1x9232x2048 [0, 2, 1] x transposes_S1x2048x9232_S1x9232x2048_0_2_1) shapeCasts_S1x9232x2048_S9232x2048 (ix2 j d) = x (ix3 0 d j) := by
  pointwise

theorem blk0 (r : Fin 132) (d : Fin 2048) : (iblk m c 0 t : Vec Ideal S132x2048 .f32) (ix2 r d) = A1 m c (ix2 r ⟨d.val, by omega⟩) := by
  blk_ext [iblk, V, idx t]

theorem blk1 (r : Fin 132) (d : Fin 2048) : (iblk m c 1 t : Vec Ideal S132x2048 .f32) (ix2 r d) = A1 m c (ix2 r ⟨2048 + d.val, by omega⟩) := by
  blk_ext [iblk, V, idx t]

theorem blk2 (r : Fin 1) (d : Fin 2048) : (iblk m c 2 t : Vec Ideal S1x2048 .f32) (ix2 r d) = A2 m c (ix2 r d) := by
  blk_ext [iblk, V, idx t]

theorem wrow_lt (n : Nat) (h : n < 18) (r : Fin 512) : wrow n + r.val < 9232 := by
  unfold wrow
  split <;> omega

theorem V_w : @Eq (FVec Ideal S9232x2048 .f32) (V m c main_v1)
    (shapeCast S9232x2048 (transpose S1x9232x2048 [0, 2, 1] (A3 m c) transposes_S1x2048x9232_S1x9232x2048_0_2_1) shapeCasts_S1x9232x2048_S9232x2048) := rfl

theorem V_x : @Eq (FVec Ideal S8192x2048 .f32) (V m c main_v2) (shapeCast S8192x2048 (A0 m c) shapeCasts_S4x2048x2048_S8192x2048) := rfl

theorem blk3 (r : Fin 512) (d : Fin 2048) : (iblk m c 3 t : Vec Ideal S512x2048 .f32) (ix2 r d)
    = A3 m c (ix3 0 d ⟨wrow (t.val % 18) + r.val, wrow_lt (t.val % 18) (lt18 t) r⟩) := by
  have ht := wrow_lt (t.val % 18) (lt18 t) r
  have e : (iblk m c 3 t : Vec Ideal S512x2048 .f32) (ix2 r d) = (V m c main_v1 : Vec Ideal S9232x2048 .f32) (ix2 ⟨wrow (t.val % 18) + r.val, ht⟩ d) := by
    have hi := (idx t).2.2.2.1
    blk_ext [iblk, idx t]
    · refine (show _ = win0_3.index t 0 + 1 * r.val from rfl).trans ?_
      rw [hi]
      show wrow (t.val % 18) + 1 * r.val = _
      omega
    · refine (show _ = win0_3.index t 1 + 1 * d.val from rfl).trans ?_
      rw [hi]
      show 0 + 1 * d.val = _
      omega
  exact (e.trans (congrFun (V_w m c) _)).trans (w_at _ _ _)

theorem blk4 (r : Fin 16) (d : Fin 2048) : (iblk m c 4 t : Vec Ideal S16x2048 .f32) (ix2 r d) = A3 m c (ix3 0 d ⟨5120 + r.val, by omega⟩) := by
  have e : (iblk m c 4 t : Vec Ideal S16x2048 .f32) (ix2 r d) = (V m c main_v1 : Vec Ideal S9232x2048 .f32) (ix2 ⟨5120 + r.val, by omega⟩ d) := by
    blk_ext [iblk, idx t]
  exact (e.trans (congrFun (V_w m c) _)).trans (w_at _ _ _)

/-- Row `n` of the sequence a grid point's rows are taken from. -/
theorem xN_at (q : Nat) (hq : q < 4) (n : Fin 2048) (d : Fin 2048) : xN (F := Ideal) m c q (ix2 n d) = A0 m c (ix3 ⟨q, hq⟩ n d) := by
  have hr : 2048 * q + n.val < 8192 := by omega
  have e : xN (F := Ideal) m c q (ix2 n d) = (V m c main_v2 : FVec Ideal S8192x2048 .f32) (ix2 ⟨2048 * q + n.val, hr⟩ d) := by
    refine congrArg (V m c main_v2 : FVec Ideal S8192x2048 .f32) ?_
    funext a
    fin_cases a
    · refine Fin.ext ?_
      show 2048 * (q % 4) + 1 * n.val = 2048 * q + n.val
      omega
    · refine Fin.ext ?_
      show 0 + 1 * d.val = d.val
      omega
  refine (e.trans ((congrFun (V_x m c) _).trans (x_at _ _ _))).trans ?_
  have h1 : (⟨(2048 * q + n.val) / 2048, by omega⟩ : Fin 4) = ⟨q, hq⟩ := Fin.ext (by show (2048 * q + n.val) / 2048 = q; omega)
  have h2 : (⟨(2048 * q + n.val) % 2048, by omega⟩ : Fin 2048) = n := Fin.ext (by show (2048 * q + n.val) % 2048 = n.val; omega)
  exact congrArg₂ (fun (i : Fin 4) (j : Fin 2048) => A0 m c (ix3 i j d)) h1 h2

/-- Row `n` of the kernel's normalised and modulated rows is the reference's. -/
theorem hN_row (q : Nat) (hq : q < 4) (n : Fin 2048) (d : Fin 2048) : hN m c q (ix2 n d) = hRow (A0 m c) (A1 m c) (A2 m c) ⟨q, hq⟩ n d := by
  have hs : (seqOf q).val = q := Nat.mod_eq_of_lt hq
  have row (X : Fin 2048 → Fin 132 → EReal) : (fun k : Fin 2048 => X k ⟨(seqOf q).val, by omega⟩) = fun k : Fin 2048 => X k ⟨q, by omega⟩ := by
    funext k
    exact congrArg (X k) (Fin.ext hs)
  unfold hN hRow
  refine (hval_at _ _ _ _ _ n d).trans ?_
  exact congr (congr (congr (congr (congrArg modulated (funext fun k => xN_at m c q hq n k)) ((funext fun k => blk1 m c p0 _ k).trans (row fun k j => A1 m c (ix2 j ⟨2048 + k.val, by omega⟩))))
    ((funext fun k => blk0 m c p0 _ k).trans (row fun k j => A1 m c (ix2 j ⟨k.val, by omega⟩)))) (funext fun k => blk2 m c p0 _ k)) rfl

/-- The two results the reference's stages name. -/
abbrev G38 : FVec Ideal S8192x9216 .f32 := Cert.Reference6Ideal.Read.val_main_v38 (F := Ideal) (A0 m c) (A1 m c) (A2 m c) (A3 m c)
abbrev G39 : FVec Ideal S8192x16 .f32 := Cert.Reference6Ideal.Read.val_main_v39 (F := Ideal) (A0 m c) (A1 m c) (A2 m c) (A3 m c)

/-- Column `p` of a grid point's tile of the first result. -/
def tcol (p : Fin 512) : Fin 9216 := ⟨t.val % 18 * 512 + p.val, by omega⟩

/-- Row `r` of a grid point's tile of either result. -/
def trow (r : Fin 2048) : Fin 8192 := ⟨t.val / 18 * 2048 + r.val, by have := lt4 t; omega⟩

theorem trow_div (r : Fin 2048) : (⟨(trow t r).val / 2048, by omega⟩ : Fin 4) = ⟨t.val / 18, lt4 t⟩ :=
  Fin.ext (by show (t.val / 18 * 2048 + r.val) / 2048 = t.val / 18; omega)

theorem trow_mod (r : Fin 2048) : (⟨(trow t r).val % 2048, by omega⟩ : Fin 2048) = r :=
  Fin.ext (by show (t.val / 18 * 2048 + r.val) % 2048 = r.val; omega)

theorem col_tcol (p : Fin 512) : (col (tcol t p)).val = wrow (t.val % 18) + p.val := by
  by_cases h : t.val % 18 < 10
  · rw [col_lo _ (by show t.val % 18 * 512 + p.val < 5120; omega)]
    unfold wrow
    rw [if_pos h]
    show t.val % 18 * 512 + p.val = _
    omega
  · rw [col_hi _ (by show ¬ t.val % 18 * 512 + p.val < 5120; omega)]
    unfold wrow
    rw [if_neg h]
    show t.val % 18 * 512 + p.val + 16 = _
    omega

theorem out5 (r : Fin 2048) (p : Fin 512) : k0_pay4 (F := Ideal) (hN m c (t.val / 18)) (iblk m c 3 t) (ix2 r p) = G38 m c (ix2 (trow t r) (tcol t p)) := by
  refine (pay4_at _ _ r p).trans (Eq.trans ?_ (v38_at _ _ _ _ (trow t r) (tcol t p)).symm)
  rw [trow_div, trow_mod]
  refine Finset.sum_congr rfl fun d _ => congrArg₂ (· * ·) (hN_row m c _ (lt4 t) r d) ((blk3 m c t p d).trans ?_)
  exact congrArg (fun q : Fin 9232 => A3 m c (ix3 0 d q)) (Fin.ext (col_tcol t p).symm)

theorem out6 (r : Fin 2048) (p : Fin 16) : k0_pay2 (F := Ideal) (hN m c (t.val / 18)) (iblk m c 4 p0) (ix2 r p) = G39 m c (ix2 (trow t r) p) := by
  refine (pay2_at _ _ r p).trans (Eq.trans ?_ (v39_at _ _ _ _ (trow t r) p).symm)
  rw [trow_div, trow_mod]
  exact Finset.sum_congr rfl fun d _ => congrArg₂ (· * ·) (hN_row m c _ (lt4 t) r d) (blk4 m c p0 p d)

theorem arr5 : (dats m 0 c).arrAt 5 cfg0.N = G38 m c := by
  refine (dats m 0 c).arrAt_eq_of_covers 5 _ (by decide +kernel) fun t hf y => ?_
  blk_simp
  rw [after0_5]
  obtain ⟨r, p, rfl⟩ : ∃ (r : Fin 2048) (p : Fin 512), y = ix2 r p := ⟨y 0, y 1, by funext a; fin_cases a <;> rfl⟩
  refine (out5 m c t r p).trans ?_
  refine congrArg (G38 m c) ?_
  unfold tcol trow
  blk_ext [idx t]

theorem arr6 : (dats m 0 c).arrAt 6 cfg0.N = G39 m c := by
  refine (dats m 0 c).arrAt_eq_of_covers 6 _ (by decide +kernel) fun t hf y => ?_
  blk_simp
  rw [after0_6]
  obtain ⟨r, p, rfl⟩ : ∃ (r : Fin 2048) (p : Fin 16), y = ix2 r p := ⟨y 0, y 1, by funext a; fin_cases a <;> rfl⟩
  refine (out6 m c t r p).trans ?_
  refine congrArg (G39 m c) ?_
  unfold trow
  blk_ext [idx t]

end InP

end
-- ==== Proof.InP.Claims.lean ====
/- The claims about the input projection. -/
module

public import proofs.«01_k».proof.Defs
public import proofs.«01_k».proof.Proof.InP.Arrays
public import proofs.«01_k».proof.Proof.Gen.Kernel6
public import proofs.«01_k».proof.Proof.Gen.Reference6Ideal.Read
public import Idealize.ShloMosaic.Lib.Quiescent

@[expose] public section

set_option maxRecDepth 65536

noncomputable section

namespace InP

open Idealize.ShloMosaic Idealize.ShloMosaic.TcCoe Idealize.ShloMosaic.Tactic Idealize.SL.Sem

theorem frame_ideal : Cert.quiescent_Kernel6Ideal := fun m ρ _ => frame (F := Ideal) m ρ

/-- The body tables of the two programs are one. -/
theorem defs₀_eq : Cert.Kernel6.defs₀ (F := Bits) = Cert.Kernel6Ideal.defs₀ (F := Bits) := by
  unfold Cert.Kernel6.defs₀ Cert.Kernel6Ideal.defs₀
  refine congrArg Defs.onTc ?_
  funext l a
  match l, a with
  | 0, (t, s) => rfl
  | ⟨n + 1, h⟩, x => exact absurd h (Nat.not_lt.2 (Nat.le_add_left _ _))

theorem defs_eq : Cert.Kernel6.defs (F := Bits) = Cert.Kernel6Ideal.defs (F := Bits) :=
  congrArg (Pipeline.defs (Cert.Kernel6Ideal.pcfgs (F := Bits))) defs₀_eq

/-- The program as compiled has the ideal program's text: its frame is the ideal one's, over machine floats. -/
theorem frame_kernel : Cert.quiescent_Kernel6 := fun m ρ _ => by
  rw [defs_eq]
  exact frame (F := Bits) m ρ

/-- The reference's run read at the arguments; it has no semaphore. -/
theorem frame_reference : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

/-- The kernel's run with its two results named. -/
theorem run_results (m : (ℓ : Loc Cert.Kernel6Ideal.nD Cert.Kernel6Ideal.τ Cert.Kernel6Ideal.sig) → Buf (Elt Ideal) ℓ) (ρ : Dev Cert.Kernel6Ideal.nD → PrngReg) :
    θ_run Cert.Kernel6Ideal.defs (onTc (τ := Cert.Kernel6Ideal.τ) (Cert.Kernel6Ideal.main (F := Ideal))) ⟨m, fun _ => 0, ρ⟩ (fun r => ∀ c : Dev Cert.Kernel6Ideal.nD,
      r.2.mem ((c.tc : Thread Cert.Kernel6Ideal.nD Cert.Kernel6Ideal.τ).loc Cert.Kernel6Ideal.main_v3_0) = G38 m c
      ∧ r.2.mem ((c.tc : Thread Cert.Kernel6Ideal.nD Cert.Kernel6Ideal.τ).loc Cert.Kernel6Ideal.main_v3_1) = G39 m c
      ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)) :=
  (θ_run Cert.Kernel6Ideal.defs _ _).mono (fun _ h c => ⟨((h.1 c).1 5).trans (arr5 m c), ((h.1 c).1 6).trans (arr6 m c), args_kept m _ h c⟩) (run_main (F := Ideal) m ρ)

/-- Kernel and reference, run from equal arguments, leave the same two results. -/
theorem algebraic : Cert.algebraic_Kernel6Ideal_Reference6Ideal := by
  intro m ρ m' ρ' hpre hagree
  refine ⟨fun c => G38 m c, fun c => G39 m c, run_results m ρ, ?_⟩
  refine (θ_run Cert.Reference6Ideal.defs _ _).mono (fun r h c => ?_) (Cert.Reference6Ideal.Value.run (F := Ideal) m' ρ')
  obtain ⟨a0, a1, a2, a3⟩ := hagree c
  refine ⟨?_, ?_, (h c).2.2⟩
  · refine ((h c).1.trans (Cert.Reference6Ideal.Read.val_main_v38_eq (F := Ideal) m' c)).trans ?_
    rw [a0, a1, a2, a3]
  · refine ((h c).2.1.trans (Cert.Reference6Ideal.Read.val_main_v39_eq (F := Ideal) _ _ _ _)).trans ?_
    rw [a0, a1, a2, a3]

theorem preserves : Cert.preserves_Kernel6_Kernel6Ideal := trivial

end InP

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_gates_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gla.Claims
public import proofs.«01_k».proof.Proof.InProj.Claims
public import proofs.«01_k».proof.Proof.OutP.Claims
public import proofs.«01_k».proof.Proof.OutS.Claims
public import proofs.«01_k».proof.Proof.Mod.Claims
public import proofs.«01_k».proof.Proof.InP.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_gates_finite.Gen.facts,
  Gla.frame_kernel, Gla.frame_ideal, Gla.frame_ideal_pre, Gla.frame_reference, Gla.frame_reference_pre,
  InProj.frame_kernel, InProj.frame_ideal, InProj.frame_reference,
  OutP.frame_kernel, OutP.frame_ideal, OutP.frame_reference,
  OutS.frame_kernel, OutS.frame_ideal, OutS.frame_reference,
  Mod.frame_kernel, Mod.frame_ideal, Mod.frame_reference,
  InP.frame_kernel, InP.frame_ideal, InP.frame_reference,
  Gla.preserves, Gla.algebraic, InProj.preserves, InProj.algebraic, OutP.preserves, OutP.algebraic,
  OutS.preserves, OutS.algebraic, Mod.preserves, Mod.algebraic, InP.preserves, InP.algebraic⟩

end Cert.Proof

end
